-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_QkvInGrad (m : (ℓ : Loc Cert.QkvInGrad.nD Cert.QkvInGrad.τ Cert.QkvInGrad.sig) → Buf (Elt Bits) ℓ) : Prop :=
  True

def Pre_QkvInGradIdeal (m : (ℓ : Loc Cert.QkvInGradIdeal.nD Cert.QkvInGradIdeal.τ Cert.QkvInGradIdeal.sig) → Buf (Elt Ideal) ℓ) : Prop :=
  True

def Pre_QkvInGradRefIdeal (m : (ℓ : Loc Cert.QkvInGradRefIdeal.nD Cert.QkvInGradRefIdeal.τ Cert.QkvInGradRefIdeal.sig) → Buf (Elt Ideal) ℓ) : Prop :=
  True

def Pre_QkvGrad (m : (ℓ : Loc Cert.QkvGrad.nD Cert.QkvGrad.τ Cert.QkvGrad.sig) → Buf (Elt Bits) ℓ) : Prop :=
  True

def Pre_QkvGradIdeal (m : (ℓ : Loc Cert.QkvGradIdeal.nD Cert.QkvGradIdeal.τ Cert.QkvGradIdeal.sig) → Buf (Elt Ideal) ℓ) : Prop :=
  True

def Pre_QkvGradRefIdeal (m : (ℓ : Loc Cert.QkvGradRefIdeal.nD Cert.QkvGradRefIdeal.τ Cert.QkvGradRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamRank (m : (ℓ : Loc Cert.AdamRank.nD Cert.AdamRank.τ Cert.AdamRank.sig) → Buf (Elt Bits) ℓ) : Prop :=
  True

def Pre_AdamRankIdeal (m : (ℓ : Loc Cert.AdamRankIdeal.nD Cert.AdamRankIdeal.τ Cert.AdamRankIdeal.sig) → Buf (Elt Ideal) ℓ) : Prop :=
  True

def Pre_AdamRankRefIdeal (m : (ℓ : Loc Cert.AdamRankRefIdeal.nD Cert.AdamRankRefIdeal.τ Cert.AdamRankRefIdeal.sig) → Buf (Elt Ideal) ℓ) : Prop :=
  True

def Pre_AdamCond (m : (ℓ : Loc Cert.AdamCond.nD Cert.AdamCond.τ Cert.AdamCond.sig) → Buf (Elt Bits) ℓ) : Prop :=
  True

def Pre_AdamCondIdeal (m : (ℓ : Loc Cert.AdamCondIdeal.nD Cert.AdamCondIdeal.τ Cert.AdamCondIdeal.sig) → Buf (Elt Ideal) ℓ) : Prop :=
  True

def Pre_AdamCondRefIdeal (m : (ℓ : Loc Cert.AdamCondRefIdeal.nD Cert.AdamCondRefIdeal.τ Cert.AdamCondRefIdeal.sig) → Buf (Elt Ideal) ℓ) : Prop :=
  True

def Pre_AdamShift (m : (ℓ : Loc Cert.AdamShift.nD Cert.AdamShift.τ Cert.AdamShift.sig) → Buf (Elt Bits) ℓ) : Prop :=
  True

def Pre_AdamShiftIdeal (m : (ℓ : Loc Cert.AdamShiftIdeal.nD Cert.AdamShiftIdeal.τ Cert.AdamShiftIdeal.sig) → Buf (Elt Ideal) ℓ) : Prop :=
  True

def Pre_AdamShiftRefIdeal (m : (ℓ : Loc Cert.AdamShiftRefIdeal.nD Cert.AdamShiftRefIdeal.τ Cert.AdamShiftRefIdeal.sig) → Buf (Elt Ideal) ℓ) : Prop :=
  True

def Pre_AdamMixIn (m : (ℓ : Loc Cert.AdamMixIn.nD Cert.AdamMixIn.τ Cert.AdamMixIn.sig) → Buf (Elt Bits) ℓ) : Prop :=
  True

def Pre_AdamMixInIdeal (m : (ℓ : Loc Cert.AdamMixInIdeal.nD Cert.AdamMixInIdeal.τ Cert.AdamMixInIdeal.sig) → Buf (Elt Ideal) ℓ) : Prop :=
  True

def Pre_AdamMixInRefIdeal (m : (ℓ : Loc Cert.AdamMixInRefIdeal.nD Cert.AdamMixInRefIdeal.τ Cert.AdamMixInRefIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixRefIdeal (m : (ℓ : Loc Cert.AdamMixRefIdeal.nD Cert.AdamMixRefIdeal.τ Cert.AdamMixRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamBonus (m : (ℓ : Loc Cert.AdamBonus.nD Cert.AdamBonus.τ Cert.AdamBonus.sig) → Buf (Elt Bits) ℓ) : Prop :=
  True

def Pre_AdamBonusIdeal (m : (ℓ : Loc Cert.AdamBonusIdeal.nD Cert.AdamBonusIdeal.τ Cert.AdamBonusIdeal.sig) → Buf (Elt Ideal) ℓ) : Prop :=
  True

def Pre_AdamBonusRefIdeal (m : (ℓ : Loc Cert.AdamBonusRefIdeal.nD Cert.AdamBonusRefIdeal.τ Cert.AdamBonusRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamMixOut (m : (ℓ : Loc Cert.AdamMixOut.nD Cert.AdamMixOut.τ Cert.AdamMixOut.sig) → Buf (Elt Bits) ℓ) : Prop :=
  True

def Pre_AdamMixOutIdeal (m : (ℓ : Loc Cert.AdamMixOutIdeal.nD Cert.AdamMixOutIdeal.τ Cert.AdamMixOutIdeal.sig) → Buf (Elt Ideal) ℓ) : Prop :=
  True

def Pre_AdamMixOutRefIdeal (m : (ℓ : Loc Cert.AdamMixOutRefIdeal.nD Cert.AdamMixOutRefIdeal.τ Cert.AdamMixOutRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamAttOut (m : (ℓ : Loc Cert.AdamAttOut.nD Cert.AdamAttOut.τ Cert.AdamAttOut.sig) → Buf (Elt Bits) ℓ) : Prop :=
  True

def Pre_AdamAttOutIdeal (m : (ℓ : Loc Cert.AdamAttOutIdeal.nD Cert.AdamAttOutIdeal.τ Cert.AdamAttOutIdeal.sig) → Buf (Elt Ideal) ℓ) : Prop :=
  True

def Pre_AdamAttOutRefIdeal (m : (ℓ : Loc Cert.AdamAttOutRefIdeal.nD Cert.AdamAttOutRefIdeal.τ Cert.AdamAttOutRefIdeal.sig) → Buf (Elt Ideal) ℓ) : Prop :=
  True

def Pre_AdamRel (m : (ℓ : Loc Cert.AdamRel.nD Cert.AdamRel.τ Cert.AdamRel.sig) → Buf (Elt Bits) ℓ) : Prop :=
  True

def Pre_AdamRelIdeal (m : (ℓ : Loc Cert.AdamRelIdeal.nD Cert.AdamRelIdeal.τ Cert.AdamRelIdeal.sig) → Buf (Elt Ideal) ℓ) : Prop :=
  True

def Pre_AdamRelRefIdeal (m : (ℓ : Loc Cert.AdamRelRefIdeal.nD Cert.AdamRelRefIdeal.τ Cert.AdamRelRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_QkvInGrad [hQkvInGrad : Cert.QkvInGrad.Facts] : Prop :=
  ∀ (m : (ℓ : Loc Cert.QkvInGrad.nD Cert.QkvInGrad.τ Cert.QkvInGrad.sig) → Buf (Elt Bits) ℓ) (g : Dev Cert.QkvInGrad.nD → PrngReg), Pre_QkvInGrad m →
    θ_run (Cert.QkvInGrad.defs (F := Bits)) (onTc (τ := Cert.QkvInGrad.τ) (Cert.QkvInGrad.main (F := Bits))) ⟨m, fun _ => 0, g⟩ (fun r => (∀ c : Dev Cert.QkvInGrad.nD,
      r.2.mem ((c.tc : Thread Cert.QkvInGrad.nD Cert.QkvInGrad.τ).loc Cert.QkvInGrad.main_arg0) = m ((c.tc : Thread Cert.QkvInGrad.nD Cert.QkvInGrad.τ).loc Cert.QkvInGrad.main_arg0)
      ∧ r.2.mem ((c.tc : Thread Cert.QkvInGrad.nD Cert.QkvInGrad.τ).loc Cert.QkvInGrad.main_arg1) = m ((c.tc : Thread Cert.QkvInGrad.nD Cert.QkvInGrad.τ).loc Cert.QkvInGrad.main_arg1))
      ∧ r.2.sem = fun _ => 0)

def quiescent_QkvInGradIdeal [hQkvInGradIdeal : Cert.QkvInGradIdeal.Facts] : Prop :=
  ∀ (m : (ℓ : Loc Cert.QkvInGradIdeal.nD Cert.QkvInGradIdeal.τ Cert.QkvInGradIdeal.sig) → Buf (Elt Ideal) ℓ) (g : Dev Cert.QkvInGradIdeal.nD → PrngReg), Pre_QkvInGradIdeal m →
    θ_run (Cert.QkvInGradIdeal.defs (F := Ideal)) (onTc (τ := Cert.QkvInGradIdeal.τ) (Cert.QkvInGradIdeal.main (F := Ideal))) ⟨m, fun _ => 0, g⟩ (fun r => (∀ c : Dev Cert.QkvInGradIdeal.nD,
      r.2.mem ((c.tc : Thread Cert.QkvInGradIdeal.nD Cert.QkvInGradIdeal.τ).loc Cert.QkvInGradIdeal.main_arg0) = m ((c.tc : Thread Cert.QkvInGradIdeal.nD Cert.QkvInGradIdeal.τ).loc Cert.QkvInGradIdeal.main_arg0)
      ∧ r.2.mem ((c.tc : Thread Cert.QkvInGradIdeal.nD Cert.QkvInGradIdeal.τ).loc Cert.QkvInGradIdeal.main_arg1) = m ((c.tc : Thread Cert.QkvInGradIdeal.nD Cert.QkvInGradIdeal.τ).loc Cert.QkvInGradIdeal.main_arg1))
      ∧ r.2.sem = fun _ => 0)

def quiescent_QkvInGradRefIdeal [hQkvInGradRefIdeal : Cert.QkvInGradRefIdeal.Facts] : Prop :=
  ∀ (m : (ℓ : Loc Cert.QkvInGradRefIdeal.nD Cert.QkvInGradRefIdeal.τ Cert.QkvInGradRefIdeal.sig) → Buf (Elt Ideal) ℓ) (g : Dev Cert.QkvInGradRefIdeal.nD → PrngReg), Pre_QkvInGradRefIdeal m →
    θ_run (Cert.QkvInGradRefIdeal.defs (F := Ideal)) (onTc (τ := Cert.QkvInGradRefIdeal.τ) (Cert.QkvInGradRefIdeal.main (F := Ideal))) ⟨m, fun _ => 0, g⟩ (fun r => (∀ c : Dev Cert.QkvInGradRefIdeal.nD,
      r.2.mem ((c.tc : Thread Cert.QkvInGradRefIdeal.nD Cert.QkvInGradRefIdeal.τ).loc Cert.QkvInGradRefIdeal.main_arg0) = m ((c.tc : Thread Cert.QkvInGradRefIdeal.nD Cert.QkvInGradRefIdeal.τ).loc Cert.QkvInGradRefIdeal.main_arg0)
      ∧ r.2.mem ((c.tc : Thread Cert.QkvInGradRefIdeal.nD Cert.QkvInGradRefIdeal.τ).loc Cert.QkvInGradRefIdeal.main_arg1) = m ((c.tc : Thread Cert.QkvInGradRefIdeal.nD Cert.QkvInGradRefIdeal.τ).loc Cert.QkvInGradRefIdeal.main_arg1))
      ∧ r.2.sem = fun _ => 0)

def quiescent_QkvGrad [hQkvGrad : Cert.QkvGrad.Facts] : Prop :=
  ∀ (m : (ℓ : Loc Cert.QkvGrad.nD Cert.QkvGrad.τ Cert.QkvGrad.sig) → Buf (Elt Bits) ℓ) (g : Dev Cert.QkvGrad.nD → PrngReg), Pre_QkvGrad m →
    θ_run (Cert.QkvGrad.defs (F := Bits)) (onTc (τ := Cert.QkvGrad.τ) (Cert.QkvGrad.main (F := Bits))) ⟨m, fun _ => 0, g⟩ (fun r => (∀ c : Dev Cert.QkvGrad.nD,
      r.2.mem ((c.tc : Thread Cert.QkvGrad.nD Cert.QkvGrad.τ).loc Cert.QkvGrad.main_arg0) = m ((c.tc : Thread Cert.QkvGrad.nD Cert.QkvGrad.τ).loc Cert.QkvGrad.main_arg0)
      ∧ r.2.mem ((c.tc : Thread Cert.QkvGrad.nD Cert.QkvGrad.τ).loc Cert.QkvGrad.main_arg1) = m ((c.tc : Thread Cert.QkvGrad.nD Cert.QkvGrad.τ).loc Cert.QkvGrad.main_arg1))
      ∧ r.2.sem = fun _ => 0)

def quiescent_QkvGradIdeal [hQkvGradIdeal : Cert.QkvGradIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg), Pre_QkvGradIdeal m →
    θ_run (Cert.QkvGradIdeal.defs (F := Ideal)) (onTc (τ := Cert.QkvGradIdeal.τ) (Cert.QkvGradIdeal.main (F := Ideal))) ⟨m, fun _ => 0, g⟩ (fun r => (∀ c : Dev Cert.QkvGradIdeal.nD,
      r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
      ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ r.2.sem = fun _ => 0)

def quiescent_QkvGradRefIdeal [hQkvGradRefIdeal : Cert.QkvGradRefIdeal.Facts] : Prop :=
  ∀ (m : (ℓ : Loc Cert.QkvGradRefIdeal.nD Cert.QkvGradRefIdeal.τ Cert.QkvGradRefIdeal.sig) → Buf (Elt Ideal) ℓ) (g : Dev Cert.QkvGradRefIdeal.nD → PrngReg), Pre_QkvGradRefIdeal m →
    θ_run (Cert.QkvGradRefIdeal.defs (F := Ideal)) (onTc (τ := Cert.QkvGradRefIdeal.τ) (Cert.QkvGradRefIdeal.main (F := Ideal))) ⟨m, fun _ => 0, g⟩ (fun r => (∀ c : Dev Cert.QkvGradRefIdeal.nD,
      r.2.mem ((c.tc : Thread Cert.QkvGradRefIdeal.nD Cert.QkvGradRefIdeal.τ).loc Cert.QkvGradRefIdeal.main_arg0) = m ((c.tc : Thread Cert.QkvGradRefIdeal.nD Cert.QkvGradRefIdeal.τ).loc Cert.QkvGradRefIdeal.main_arg0)
      ∧ r.2.mem ((c.tc : Thread Cert.QkvGradRefIdeal.nD Cert.QkvGradRefIdeal.τ).loc Cert.QkvGradRefIdeal.main_arg1) = m ((c.tc : Thread Cert.QkvGradRefIdeal.nD Cert.QkvGradRefIdeal.τ).loc Cert.QkvGradRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamRank [hAdamRank : Cert.AdamRank.Facts] : Prop :=
  ∀ (m : (ℓ : Loc Cert.AdamRank.nD Cert.AdamRank.τ Cert.AdamRank.sig) → Buf (Elt Bits) ℓ) (g : Dev Cert.AdamRank.nD → PrngReg), Pre_AdamRank m →
    θ_run (Cert.AdamRank.defs (F := Bits)) (onTc (τ := Cert.AdamRank.τ) (Cert.AdamRank.main (F := Bits))) ⟨m, fun _ => 0, g⟩ (fun r => (∀ c : Dev Cert.AdamRank.nD,
      r.2.mem ((c.tc : Thread Cert.AdamRank.nD Cert.AdamRank.τ).loc Cert.AdamRank.main_arg0) = m ((c.tc : Thread Cert.AdamRank.nD Cert.AdamRank.τ).loc Cert.AdamRank.main_arg0)
      ∧ r.2.mem ((c.tc : Thread Cert.AdamRank.nD Cert.AdamRank.τ).loc Cert.AdamRank.main_arg1) = m ((c.tc : Thread Cert.AdamRank.nD Cert.AdamRank.τ).loc Cert.AdamRank.main_arg1)
      ∧ r.2.mem ((c.tc : Thread Cert.AdamRank.nD Cert.AdamRank.τ).loc Cert.AdamRank.main_arg2) = m ((c.tc : Thread Cert.AdamRank.nD Cert.AdamRank.τ).loc Cert.AdamRank.main_arg2)
      ∧ r.2.mem ((c.tc : Thread Cert.AdamRank.nD Cert.AdamRank.τ).loc Cert.AdamRank.main_arg3) = m ((c.tc : Thread Cert.AdamRank.nD Cert.AdamRank.τ).loc Cert.AdamRank.main_arg3))
      ∧ r.2.sem = fun _ => 0)

def quiescent_AdamRankIdeal [hAdamRankIdeal : Cert.AdamRankIdeal.Facts] : Prop :=
  ∀ (m : (ℓ : Loc Cert.AdamRankIdeal.nD Cert.AdamRankIdeal.τ Cert.AdamRankIdeal.sig) → Buf (Elt Ideal) ℓ) (g : Dev Cert.AdamRankIdeal.nD → PrngReg), Pre_AdamRankIdeal m →
    θ_run (Cert.AdamRankIdeal.defs (F := Ideal)) (onTc (τ := Cert.AdamRankIdeal.τ) (Cert.AdamRankIdeal.main (F := Ideal))) ⟨m, fun _ => 0, g⟩ (fun r => (∀ c : Dev Cert.AdamRankIdeal.nD,
      r.2.mem ((c.tc : Thread Cert.AdamRankIdeal.nD Cert.AdamRankIdeal.τ).loc Cert.AdamRankIdeal.main_arg0) = m ((c.tc : Thread Cert.AdamRankIdeal.nD Cert.AdamRankIdeal.τ).loc Cert.AdamRankIdeal.main_arg0)
      ∧ r.2.mem ((c.tc : Thread Cert.AdamRankIdeal.nD Cert.AdamRankIdeal.τ).loc Cert.AdamRankIdeal.main_arg1) = m ((c.tc : Thread Cert.AdamRankIdeal.nD Cert.AdamRankIdeal.τ).loc Cert.AdamRankIdeal.main_arg1)
      ∧ r.2.mem ((c.tc : Thread Cert.AdamRankIdeal.nD Cert.AdamRankIdeal.τ).loc Cert.AdamRankIdeal.main_arg2) = m ((c.tc : Thread Cert.AdamRankIdeal.nD Cert.AdamRankIdeal.τ).loc Cert.AdamRankIdeal.main_arg2)
      ∧ r.2.mem ((c.tc : Thread Cert.AdamRankIdeal.nD Cert.AdamRankIdeal.τ).loc Cert.AdamRankIdeal.main_arg3) = m ((c.tc : Thread Cert.AdamRankIdeal.nD Cert.AdamRankIdeal.τ).loc Cert.AdamRankIdeal.main_arg3))
      ∧ r.2.sem = fun _ => 0)

def quiescent_AdamRankRefIdeal [hAdamRankRefIdeal : Cert.AdamRankRefIdeal.Facts] : Prop :=
  ∀ (m : (ℓ : Loc Cert.AdamRankRefIdeal.nD Cert.AdamRankRefIdeal.τ Cert.AdamRankRefIdeal.sig) → Buf (Elt Ideal) ℓ) (g : Dev Cert.AdamRankRefIdeal.nD → PrngReg), Pre_AdamRankRefIdeal m →
    θ_run (Cert.AdamRankRefIdeal.defs (F := Ideal)) (onTc (τ := Cert.AdamRankRefIdeal.τ) (Cert.AdamRankRefIdeal.main (F := Ideal))) ⟨m, fun _ => 0, g⟩ (fun r => (∀ c : Dev Cert.AdamRankRefIdeal.nD,
      r.2.mem ((c.tc : Thread Cert.AdamRankRefIdeal.nD Cert.AdamRankRefIdeal.τ).loc Cert.AdamRankRefIdeal.main_arg0) = m ((c.tc : Thread Cert.AdamRankRefIdeal.nD Cert.AdamRankRefIdeal.τ).loc Cert.AdamRankRefIdeal.main_arg0)
      ∧ r.2.mem ((c.tc : Thread Cert.AdamRankRefIdeal.nD Cert.AdamRankRefIdeal.τ).loc Cert.AdamRankRefIdeal.main_arg1) = m ((c.tc : Thread Cert.AdamRankRefIdeal.nD Cert.AdamRankRefIdeal.τ).loc Cert.AdamRankRefIdeal.main_arg1)
      ∧ r.2.mem ((c.tc : Thread Cert.AdamRankRefIdeal.nD Cert.AdamRankRefIdeal.τ).loc Cert.AdamRankRefIdeal.main_arg2) = m ((c.tc : Thread Cert.AdamRankRefIdeal.nD Cert.AdamRankRefIdeal.τ).loc Cert.AdamRankRefIdeal.main_arg2)
      ∧ r.2.mem ((c.tc : Thread Cert.AdamRankRefIdeal.nD Cert.AdamRankRefIdeal.τ).loc Cert.AdamRankRefIdeal.main_arg3) = m ((c.tc : Thread Cert.AdamRankRefIdeal.nD Cert.AdamRankRefIdeal.τ).loc Cert.AdamRankRefIdeal.main_arg3))
      ∧ r.2.sem = fun _ => 0)

def quiescent_AdamCond [hAdamCond : Cert.AdamCond.Facts] : Prop :=
  ∀ (m : (ℓ : Loc Cert.AdamCond.nD Cert.AdamCond.τ Cert.AdamCond.sig) → Buf (Elt Bits) ℓ) (g : Dev Cert.AdamCond.nD → PrngReg), Pre_AdamCond m →
    θ_run (Cert.AdamCond.defs (F := Bits)) (onTc (τ := Cert.AdamCond.τ) (Cert.AdamCond.main (F := Bits))) ⟨m, fun _ => 0, g⟩ (fun r => (∀ c : Dev Cert.AdamCond.nD,
      r.2.mem ((c.tc : Thread Cert.AdamCond.nD Cert.AdamCond.τ).loc Cert.AdamCond.main_arg0) = m ((c.tc : Thread Cert.AdamCond.nD Cert.AdamCond.τ).loc Cert.AdamCond.main_arg0)
      ∧ r.2.mem ((c.tc : Thread Cert.AdamCond.nD Cert.AdamCond.τ).loc Cert.AdamCond.main_arg1) = m ((c.tc : Thread Cert.AdamCond.nD Cert.AdamCond.τ).loc Cert.AdamCond.main_arg1)
      ∧ r.2.mem ((c.tc : Thread Cert.AdamCond.nD Cert.AdamCond.τ).loc Cert.AdamCond.main_arg2) = m ((c.tc : Thread Cert.AdamCond.nD Cert.AdamCond.τ).loc Cert.AdamCond.main_arg2)
      ∧ r.2.mem ((c.tc : Thread Cert.AdamCond.nD Cert.AdamCond.τ).loc Cert.AdamCond.main_arg3) = m ((c.tc : Thread Cert.AdamCond.nD Cert.AdamCond.τ).loc Cert.AdamCond.main_arg3))
      ∧ r.2.sem = fun _ => 0)

def quiescent_AdamCondIdeal [hAdamCondIdeal : Cert.AdamCondIdeal.Facts] : Prop :=
  ∀ (m : (ℓ : Loc Cert.AdamCondIdeal.nD Cert.AdamCondIdeal.τ Cert.AdamCondIdeal.sig) → Buf (Elt Ideal) ℓ) (g : Dev Cert.AdamCondIdeal.nD → PrngReg), Pre_AdamCondIdeal m →
    θ_run (Cert.AdamCondIdeal.defs (F := Ideal)) (onTc (τ := Cert.AdamCondIdeal.τ) (Cert.AdamCondIdeal.main (F := Ideal))) ⟨m, fun _ => 0, g⟩ (fun r => (∀ c : Dev Cert.AdamCondIdeal.nD,
      r.2.mem ((c.tc : Thread Cert.AdamCondIdeal.nD Cert.AdamCondIdeal.τ).loc Cert.AdamCondIdeal.main_arg0) = m ((c.tc : Thread Cert.AdamCondIdeal.nD Cert.AdamCondIdeal.τ).loc Cert.AdamCondIdeal.main_arg0)
      ∧ r.2.mem ((c.tc : Thread Cert.AdamCondIdeal.nD Cert.AdamCondIdeal.τ).loc Cert.AdamCondIdeal.main_arg1) = m ((c.tc : Thread Cert.AdamCondIdeal.nD Cert.AdamCondIdeal.τ).loc Cert.AdamCondIdeal.main_arg1)
      ∧ r.2.mem ((c.tc : Thread Cert.AdamCondIdeal.nD Cert.AdamCondIdeal.τ).loc Cert.AdamCondIdeal.main_arg2) = m ((c.tc : Thread Cert.AdamCondIdeal.nD Cert.AdamCondIdeal.τ).loc Cert.AdamCondIdeal.main_arg2)
      ∧ r.2.mem ((c.tc : Thread Cert.AdamCondIdeal.nD Cert.AdamCondIdeal.τ).loc Cert.AdamCondIdeal.main_arg3) = m ((c.tc : Thread Cert.AdamCondIdeal.nD Cert.AdamCondIdeal.τ).loc Cert.AdamCondIdeal.main_arg3))
      ∧ r.2.sem = fun _ => 0)

def quiescent_AdamCondRefIdeal [hAdamCondRefIdeal : Cert.AdamCondRefIdeal.Facts] : Prop :=
  ∀ (m : (ℓ : Loc Cert.AdamCondRefIdeal.nD Cert.AdamCondRefIdeal.τ Cert.AdamCondRefIdeal.sig) → Buf (Elt Ideal) ℓ) (g : Dev Cert.AdamCondRefIdeal.nD → PrngReg), Pre_AdamCondRefIdeal m →
    θ_run (Cert.AdamCondRefIdeal.defs (F := Ideal)) (onTc (τ := Cert.AdamCondRefIdeal.τ) (Cert.AdamCondRefIdeal.main (F := Ideal))) ⟨m, fun _ => 0, g⟩ (fun r => (∀ c : Dev Cert.AdamCondRefIdeal.nD,
      r.2.mem ((c.tc : Thread Cert.AdamCondRefIdeal.nD Cert.AdamCondRefIdeal.τ).loc Cert.AdamCondRefIdeal.main_arg0) = m ((c.tc : Thread Cert.AdamCondRefIdeal.nD Cert.AdamCondRefIdeal.τ).loc Cert.AdamCondRefIdeal.main_arg0)
      ∧ r.2.mem ((c.tc : Thread Cert.AdamCondRefIdeal.nD Cert.AdamCondRefIdeal.τ).loc Cert.AdamCondRefIdeal.main_arg1) = m ((c.tc : Thread Cert.AdamCondRefIdeal.nD Cert.AdamCondRefIdeal.τ).loc Cert.AdamCondRefIdeal.main_arg1)
      ∧ r.2.mem ((c.tc : Thread Cert.AdamCondRefIdeal.nD Cert.AdamCondRefIdeal.τ).loc Cert.AdamCondRefIdeal.main_arg2) = m ((c.tc : Thread Cert.AdamCondRefIdeal.nD Cert.AdamCondRefIdeal.τ).loc Cert.AdamCondRefIdeal.main_arg2)
      ∧ r.2.mem ((c.tc : Thread Cert.AdamCondRefIdeal.nD Cert.AdamCondRefIdeal.τ).loc Cert.AdamCondRefIdeal.main_arg3) = m ((c.tc : Thread Cert.AdamCondRefIdeal.nD Cert.AdamCondRefIdeal.τ).loc Cert.AdamCondRefIdeal.main_arg3))
      ∧ r.2.sem = fun _ => 0)

def quiescent_AdamShift [hAdamShift : Cert.AdamShift.Facts] : Prop :=
  ∀ (m : (ℓ : Loc Cert.AdamShift.nD Cert.AdamShift.τ Cert.AdamShift.sig) → Buf (Elt Bits) ℓ) (g : Dev Cert.AdamShift.nD → PrngReg), Pre_AdamShift m →
    θ_run (Cert.AdamShift.defs (F := Bits)) (onTc (τ := Cert.AdamShift.τ) (Cert.AdamShift.main (F := Bits))) ⟨m, fun _ => 0, g⟩ (fun r => (∀ c : Dev Cert.AdamShift.nD,
      r.2.mem ((c.tc : Thread Cert.AdamShift.nD Cert.AdamShift.τ).loc Cert.AdamShift.main_arg0) = m ((c.tc : Thread Cert.AdamShift.nD Cert.AdamShift.τ).loc Cert.AdamShift.main_arg0)
      ∧ r.2.mem ((c.tc : Thread Cert.AdamShift.nD Cert.AdamShift.τ).loc Cert.AdamShift.main_arg1) = m ((c.tc : Thread Cert.AdamShift.nD Cert.AdamShift.τ).loc Cert.AdamShift.main_arg1)
      ∧ r.2.mem ((c.tc : Thread Cert.AdamShift.nD Cert.AdamShift.τ).loc Cert.AdamShift.main_arg2) = m ((c.tc : Thread Cert.AdamShift.nD Cert.AdamShift.τ).loc Cert.AdamShift.main_arg2)
      ∧ r.2.mem ((c.tc : Thread Cert.AdamShift.nD Cert.AdamShift.τ).loc Cert.AdamShift.main_arg3) = m ((c.tc : Thread Cert.AdamShift.nD Cert.AdamShift.τ).loc Cert.AdamShift.main_arg3))
      ∧ r.2.sem = fun _ => 0)

def quiescent_AdamShiftIdeal [hAdamShiftIdeal : Cert.AdamShiftIdeal.Facts] : Prop :=
  ∀ (m : (ℓ : Loc Cert.AdamShiftIdeal.nD Cert.AdamShiftIdeal.τ Cert.AdamShiftIdeal.sig) → Buf (Elt Ideal) ℓ) (g : Dev Cert.AdamShiftIdeal.nD → PrngReg), Pre_AdamShiftIdeal m →
    θ_run (Cert.AdamShiftIdeal.defs (F := Ideal)) (onTc (τ := Cert.AdamShiftIdeal.τ) (Cert.AdamShiftIdeal.main (F := Ideal))) ⟨m, fun _ => 0, g⟩ (fun r => (∀ c : Dev Cert.AdamShiftIdeal.nD,
      r.2.mem ((c.tc : Thread Cert.AdamShiftIdeal.nD Cert.AdamShiftIdeal.τ).loc Cert.AdamShiftIdeal.main_arg0) = m ((c.tc : Thread Cert.AdamShiftIdeal.nD Cert.AdamShiftIdeal.τ).loc Cert.AdamShiftIdeal.main_arg0)
      ∧ r.2.mem ((c.tc : Thread Cert.AdamShiftIdeal.nD Cert.AdamShiftIdeal.τ).loc Cert.AdamShiftIdeal.main_arg1) = m ((c.tc : Thread Cert.AdamShiftIdeal.nD Cert.AdamShiftIdeal.τ).loc Cert.AdamShiftIdeal.main_arg1)
      ∧ r.2.mem ((c.tc : Thread Cert.AdamShiftIdeal.nD Cert.AdamShiftIdeal.τ).loc Cert.AdamShiftIdeal.main_arg2) = m ((c.tc : Thread Cert.AdamShiftIdeal.nD Cert.AdamShiftIdeal.τ).loc Cert.AdamShiftIdeal.main_arg2)
      ∧ r.2.mem ((c.tc : Thread Cert.AdamShiftIdeal.nD Cert.AdamShiftIdeal.τ).loc Cert.AdamShiftIdeal.main_arg3) = m ((c.tc : Thread Cert.AdamShiftIdeal.nD Cert.AdamShiftIdeal.τ).loc Cert.AdamShiftIdeal.main_arg3))
      ∧ r.2.sem = fun _ => 0)

def quiescent_AdamShiftRefIdeal [hAdamShiftRefIdeal : Cert.AdamShiftRefIdeal.Facts] : Prop :=
  ∀ (m : (ℓ : Loc Cert.AdamShiftRefIdeal.nD Cert.AdamShiftRefIdeal.τ Cert.AdamShiftRefIdeal.sig) → Buf (Elt Ideal) ℓ) (g : Dev Cert.AdamShiftRefIdeal.nD → PrngReg), Pre_AdamShiftRefIdeal m →
    θ_run (Cert.AdamShiftRefIdeal.defs (F := Ideal)) (onTc (τ := Cert.AdamShiftRefIdeal.τ) (Cert.AdamShiftRefIdeal.main (F := Ideal))) ⟨m, fun _ => 0, g⟩ (fun r => (∀ c : Dev Cert.AdamShiftRefIdeal.nD,
      r.2.mem ((c.tc : Thread Cert.AdamShiftRefIdeal.nD Cert.AdamShiftRefIdeal.τ).loc Cert.AdamShiftRefIdeal.main_arg0) = m ((c.tc : Thread Cert.AdamShiftRefIdeal.nD Cert.AdamShiftRefIdeal.τ).loc Cert.AdamShiftRefIdeal.main_arg0)
      ∧ r.2.mem ((c.tc : Thread Cert.AdamShiftRefIdeal.nD Cert.AdamShiftRefIdeal.τ).loc Cert.AdamShiftRefIdeal.main_arg1) = m ((c.tc : Thread Cert.AdamShiftRefIdeal.nD Cert.AdamShiftRefIdeal.τ).loc Cert.AdamShiftRefIdeal.main_arg1)
      ∧ r.2.mem ((c.tc : Thread Cert.AdamShiftRefIdeal.nD Cert.AdamShiftRefIdeal.τ).loc Cert.AdamShiftRefIdeal.main_arg2) = m ((c.tc : Thread Cert.AdamShiftRefIdeal.nD Cert.AdamShiftRefIdeal.τ).loc Cert.AdamShiftRefIdeal.main_arg2)
      ∧ r.2.mem ((c.tc : Thread Cert.AdamShiftRefIdeal.nD Cert.AdamShiftRefIdeal.τ).loc Cert.AdamShiftRefIdeal.main_arg3) = m ((c.tc : Thread Cert.AdamShiftRefIdeal.nD Cert.AdamShiftRefIdeal.τ).loc Cert.AdamShiftRefIdeal.main_arg3))
      ∧ r.2.sem = fun _ => 0)

def quiescent_AdamMixIn [hAdamMixIn : Cert.AdamMixIn.Facts] : Prop :=
  ∀ (m : (ℓ : Loc Cert.AdamMixIn.nD Cert.AdamMixIn.τ Cert.AdamMixIn.sig) → Buf (Elt Bits) ℓ) (g : Dev Cert.AdamMixIn.nD → PrngReg), Pre_AdamMixIn m →
    θ_run (Cert.AdamMixIn.defs (F := Bits)) (onTc (τ := Cert.AdamMixIn.τ) (Cert.AdamMixIn.main (F := Bits))) ⟨m, fun _ => 0, g⟩ (fun r => (∀ c : Dev Cert.AdamMixIn.nD,
      r.2.mem ((c.tc : Thread Cert.AdamMixIn.nD Cert.AdamMixIn.τ).loc Cert.AdamMixIn.main_arg0) = m ((c.tc : Thread Cert.AdamMixIn.nD Cert.AdamMixIn.τ).loc Cert.AdamMixIn.main_arg0)
      ∧ r.2.mem ((c.tc : Thread Cert.AdamMixIn.nD Cert.AdamMixIn.τ).loc Cert.AdamMixIn.main_arg1) = m ((c.tc : Thread Cert.AdamMixIn.nD Cert.AdamMixIn.τ).loc Cert.AdamMixIn.main_arg1)
      ∧ r.2.mem ((c.tc : Thread Cert.AdamMixIn.nD Cert.AdamMixIn.τ).loc Cert.AdamMixIn.main_arg2) = m ((c.tc : Thread Cert.AdamMixIn.nD Cert.AdamMixIn.τ).loc Cert.AdamMixIn.main_arg2)
      ∧ r.2.mem ((c.tc : Thread Cert.AdamMixIn.nD Cert.AdamMixIn.τ).loc Cert.AdamMixIn.main_arg3) = m ((c.tc : Thread Cert.AdamMixIn.nD Cert.AdamMixIn.τ).loc Cert.AdamMixIn.main_arg3))
      ∧ r.2.sem = fun _ => 0)

def quiescent_AdamMixInIdeal [hAdamMixInIdeal : Cert.AdamMixInIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg), Pre_AdamMixInIdeal m →
    θ_run (Cert.AdamMixInIdeal.defs (F := Ideal)) (onTc (τ := Cert.AdamMixInIdeal.τ) (Cert.AdamMixInIdeal.main (F := Ideal))) ⟨m, fun _ => 0, g⟩ (fun r => (∀ c : Dev Cert.AdamMixInIdeal.nD,
      r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
      ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
      ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
      ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ r.2.sem = fun _ => 0)

def quiescent_AdamMixInRefIdeal [hAdamMixInRefIdeal : Cert.AdamMixInRefIdeal.Facts] : Prop :=
  ∀ (m : (ℓ : Loc Cert.AdamMixInRefIdeal.nD Cert.AdamMixInRefIdeal.τ Cert.AdamMixInRefIdeal.sig) → Buf (Elt Ideal) ℓ) (g : Dev Cert.AdamMixInRefIdeal.nD → PrngReg), Pre_AdamMixInRefIdeal m →
    θ_run (Cert.AdamMixInRefIdeal.defs (F := Ideal)) (onTc (τ := Cert.AdamMixInRefIdeal.τ) (Cert.AdamMixInRefIdeal.main (F := Ideal))) ⟨m, fun _ => 0, g⟩ (fun r => (∀ c : Dev Cert.AdamMixInRefIdeal.nD,
      r.2.mem ((c.tc : Thread Cert.AdamMixInRefIdeal.nD Cert.AdamMixInRefIdeal.τ).loc Cert.AdamMixInRefIdeal.main_arg0) = m ((c.tc : Thread Cert.AdamMixInRefIdeal.nD Cert.AdamMixInRefIdeal.τ).loc Cert.AdamMixInRefIdeal.main_arg0)
      ∧ r.2.mem ((c.tc : Thread Cert.AdamMixInRefIdeal.nD Cert.AdamMixInRefIdeal.τ).loc Cert.AdamMixInRefIdeal.main_arg1) = m ((c.tc : Thread Cert.AdamMixInRefIdeal.nD Cert.AdamMixInRefIdeal.τ).loc Cert.AdamMixInRefIdeal.main_arg1)
      ∧ r.2.mem ((c.tc : Thread Cert.AdamMixInRefIdeal.nD Cert.AdamMixInRefIdeal.τ).loc Cert.AdamMixInRefIdeal.main_arg2) = m ((c.tc : Thread Cert.AdamMixInRefIdeal.nD Cert.AdamMixInRefIdeal.τ).loc Cert.AdamMixInRefIdeal.main_arg2)
      ∧ r.2.mem ((c.tc : Thread Cert.AdamMixInRefIdeal.nD Cert.AdamMixInRefIdeal.τ).loc Cert.AdamMixInRefIdeal.main_arg3) = m ((c.tc : Thread Cert.AdamMixInRefIdeal.nD Cert.AdamMixInRefIdeal.τ).loc Cert.AdamMixInRefIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixRefIdeal [hAdamMixRefIdeal : Cert.AdamMixRefIdeal.Facts] : Prop :=
  ∀ (m : (ℓ : Loc Cert.AdamMixRefIdeal.nD Cert.AdamMixRefIdeal.τ Cert.AdamMixRefIdeal.sig) → Buf (Elt Ideal) ℓ) (g : Dev Cert.AdamMixRefIdeal.nD → PrngReg), Pre_AdamMixRefIdeal m →
    θ_run (Cert.AdamMixRefIdeal.defs (F := Ideal)) (onTc (τ := Cert.AdamMixRefIdeal.τ) (Cert.AdamMixRefIdeal.main (F := Ideal))) ⟨m, fun _ => 0, g⟩ (fun r => (∀ c : Dev Cert.AdamMixRefIdeal.nD,
      r.2.mem ((c.tc : Thread Cert.AdamMixRefIdeal.nD Cert.AdamMixRefIdeal.τ).loc Cert.AdamMixRefIdeal.main_arg0) = m ((c.tc : Thread Cert.AdamMixRefIdeal.nD Cert.AdamMixRefIdeal.τ).loc Cert.AdamMixRefIdeal.main_arg0)
      ∧ r.2.mem ((c.tc : Thread Cert.AdamMixRefIdeal.nD Cert.AdamMixRefIdeal.τ).loc Cert.AdamMixRefIdeal.main_arg1) = m ((c.tc : Thread Cert.AdamMixRefIdeal.nD Cert.AdamMixRefIdeal.τ).loc Cert.AdamMixRefIdeal.main_arg1)
      ∧ r.2.mem ((c.tc : Thread Cert.AdamMixRefIdeal.nD Cert.AdamMixRefIdeal.τ).loc Cert.AdamMixRefIdeal.main_arg2) = m ((c.tc : Thread Cert.AdamMixRefIdeal.nD Cert.AdamMixRefIdeal.τ).loc Cert.AdamMixRefIdeal.main_arg2)
      ∧ r.2.mem ((c.tc : Thread Cert.AdamMixRefIdeal.nD Cert.AdamMixRefIdeal.τ).loc Cert.AdamMixRefIdeal.main_arg3) = m ((c.tc : Thread Cert.AdamMixRefIdeal.nD Cert.AdamMixRefIdeal.τ).loc Cert.AdamMixRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamBonus [hAdamBonus : Cert.AdamBonus.Facts] : Prop :=
  ∀ (m : (ℓ : Loc Cert.AdamBonus.nD Cert.AdamBonus.τ Cert.AdamBonus.sig) → Buf (Elt Bits) ℓ) (g : Dev Cert.AdamBonus.nD → PrngReg), Pre_AdamBonus m →
    θ_run (Cert.AdamBonus.defs (F := Bits)) (onTc (τ := Cert.AdamBonus.τ) (Cert.AdamBonus.main (F := Bits))) ⟨m, fun _ => 0, g⟩ (fun r => (∀ c : Dev Cert.AdamBonus.nD,
      r.2.mem ((c.tc : Thread Cert.AdamBonus.nD Cert.AdamBonus.τ).loc Cert.AdamBonus.main_arg0) = m ((c.tc : Thread Cert.AdamBonus.nD Cert.AdamBonus.τ).loc Cert.AdamBonus.main_arg0)
      ∧ r.2.mem ((c.tc : Thread Cert.AdamBonus.nD Cert.AdamBonus.τ).loc Cert.AdamBonus.main_arg1) = m ((c.tc : Thread Cert.AdamBonus.nD Cert.AdamBonus.τ).loc Cert.AdamBonus.main_arg1)
      ∧ r.2.mem ((c.tc : Thread Cert.AdamBonus.nD Cert.AdamBonus.τ).loc Cert.AdamBonus.main_arg2) = m ((c.tc : Thread Cert.AdamBonus.nD Cert.AdamBonus.τ).loc Cert.AdamBonus.main_arg2)
      ∧ r.2.mem ((c.tc : Thread Cert.AdamBonus.nD Cert.AdamBonus.τ).loc Cert.AdamBonus.main_arg3) = m ((c.tc : Thread Cert.AdamBonus.nD Cert.AdamBonus.τ).loc Cert.AdamBonus.main_arg3))
      ∧ r.2.sem = fun _ => 0)

def quiescent_AdamBonusIdeal [hAdamBonusIdeal : Cert.AdamBonusIdeal.Facts] : Prop :=
  ∀ (m : (ℓ : Loc Cert.AdamBonusIdeal.nD Cert.AdamBonusIdeal.τ Cert.AdamBonusIdeal.sig) → Buf (Elt Ideal) ℓ) (g : Dev Cert.AdamBonusIdeal.nD → PrngReg), Pre_AdamBonusIdeal m →
    θ_run (Cert.AdamBonusIdeal.defs (F := Ideal)) (onTc (τ := Cert.AdamBonusIdeal.τ) (Cert.AdamBonusIdeal.main (F := Ideal))) ⟨m, fun _ => 0, g⟩ (fun r => (∀ c : Dev Cert.AdamBonusIdeal.nD,
      r.2.mem ((c.tc : Thread Cert.AdamBonusIdeal.nD Cert.AdamBonusIdeal.τ).loc Cert.AdamBonusIdeal.main_arg0) = m ((c.tc : Thread Cert.AdamBonusIdeal.nD Cert.AdamBonusIdeal.τ).loc Cert.AdamBonusIdeal.main_arg0)
      ∧ r.2.mem ((c.tc : Thread Cert.AdamBonusIdeal.nD Cert.AdamBonusIdeal.τ).loc Cert.AdamBonusIdeal.main_arg1) = m ((c.tc : Thread Cert.AdamBonusIdeal.nD Cert.AdamBonusIdeal.τ).loc Cert.AdamBonusIdeal.main_arg1)
      ∧ r.2.mem ((c.tc : Thread Cert.AdamBonusIdeal.nD Cert.AdamBonusIdeal.τ).loc Cert.AdamBonusIdeal.main_arg2) = m ((c.tc : Thread Cert.AdamBonusIdeal.nD Cert.AdamBonusIdeal.τ).loc Cert.AdamBonusIdeal.main_arg2)
      ∧ r.2.mem ((c.tc : Thread Cert.AdamBonusIdeal.nD Cert.AdamBonusIdeal.τ).loc Cert.AdamBonusIdeal.main_arg3) = m ((c.tc : Thread Cert.AdamBonusIdeal.nD Cert.AdamBonusIdeal.τ).loc Cert.AdamBonusIdeal.main_arg3))
      ∧ r.2.sem = fun _ => 0)

def quiescent_AdamBonusRefIdeal [hAdamBonusRefIdeal : Cert.AdamBonusRefIdeal.Facts] : Prop :=
  ∀ (m : (ℓ : Loc Cert.AdamBonusRefIdeal.nD Cert.AdamBonusRefIdeal.τ Cert.AdamBonusRefIdeal.sig) → Buf (Elt Ideal) ℓ) (g : Dev Cert.AdamBonusRefIdeal.nD → PrngReg), Pre_AdamBonusRefIdeal m →
    θ_run (Cert.AdamBonusRefIdeal.defs (F := Ideal)) (onTc (τ := Cert.AdamBonusRefIdeal.τ) (Cert.AdamBonusRefIdeal.main (F := Ideal))) ⟨m, fun _ => 0, g⟩ (fun r => (∀ c : Dev Cert.AdamBonusRefIdeal.nD,
      r.2.mem ((c.tc : Thread Cert.AdamBonusRefIdeal.nD Cert.AdamBonusRefIdeal.τ).loc Cert.AdamBonusRefIdeal.main_arg0) = m ((c.tc : Thread Cert.AdamBonusRefIdeal.nD Cert.AdamBonusRefIdeal.τ).loc Cert.AdamBonusRefIdeal.main_arg0)
      ∧ r.2.mem ((c.tc : Thread Cert.AdamBonusRefIdeal.nD Cert.AdamBonusRefIdeal.τ).loc Cert.AdamBonusRefIdeal.main_arg1) = m ((c.tc : Thread Cert.AdamBonusRefIdeal.nD Cert.AdamBonusRefIdeal.τ).loc Cert.AdamBonusRefIdeal.main_arg1)
      ∧ r.2.mem ((c.tc : Thread Cert.AdamBonusRefIdeal.nD Cert.AdamBonusRefIdeal.τ).loc Cert.AdamBonusRefIdeal.main_arg2) = m ((c.tc : Thread Cert.AdamBonusRefIdeal.nD Cert.AdamBonusRefIdeal.τ).loc Cert.AdamBonusRefIdeal.main_arg2)
      ∧ r.2.mem ((c.tc : Thread Cert.AdamBonusRefIdeal.nD Cert.AdamBonusRefIdeal.τ).loc Cert.AdamBonusRefIdeal.main_arg3) = m ((c.tc : Thread Cert.AdamBonusRefIdeal.nD Cert.AdamBonusRefIdeal.τ).loc Cert.AdamBonusRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamMixOut [hAdamMixOut : Cert.AdamMixOut.Facts] : Prop :=
  ∀ (m : (ℓ : Loc Cert.AdamMixOut.nD Cert.AdamMixOut.τ Cert.AdamMixOut.sig) → Buf (Elt Bits) ℓ) (g : Dev Cert.AdamMixOut.nD → PrngReg), Pre_AdamMixOut m →
    θ_run (Cert.AdamMixOut.defs (F := Bits)) (onTc (τ := Cert.AdamMixOut.τ) (Cert.AdamMixOut.main (F := Bits))) ⟨m, fun _ => 0, g⟩ (fun r => (∀ c : Dev Cert.AdamMixOut.nD,
      r.2.mem ((c.tc : Thread Cert.AdamMixOut.nD Cert.AdamMixOut.τ).loc Cert.AdamMixOut.main_arg0) = m ((c.tc : Thread Cert.AdamMixOut.nD Cert.AdamMixOut.τ).loc Cert.AdamMixOut.main_arg0)
      ∧ r.2.mem ((c.tc : Thread Cert.AdamMixOut.nD Cert.AdamMixOut.τ).loc Cert.AdamMixOut.main_arg1) = m ((c.tc : Thread Cert.AdamMixOut.nD Cert.AdamMixOut.τ).loc Cert.AdamMixOut.main_arg1)
      ∧ r.2.mem ((c.tc : Thread Cert.AdamMixOut.nD Cert.AdamMixOut.τ).loc Cert.AdamMixOut.main_arg2) = m ((c.tc : Thread Cert.AdamMixOut.nD Cert.AdamMixOut.τ).loc Cert.AdamMixOut.main_arg2)
      ∧ r.2.mem ((c.tc : Thread Cert.AdamMixOut.nD Cert.AdamMixOut.τ).loc Cert.AdamMixOut.main_arg3) = m ((c.tc : Thread Cert.AdamMixOut.nD Cert.AdamMixOut.τ).loc Cert.AdamMixOut.main_arg3))
      ∧ r.2.sem = fun _ => 0)

def quiescent_AdamMixOutIdeal [hAdamMixOutIdeal : Cert.AdamMixOutIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg), Pre_AdamMixOutIdeal m →
    θ_run (Cert.AdamMixOutIdeal.defs (F := Ideal)) (onTc (τ := Cert.AdamMixOutIdeal.τ) (Cert.AdamMixOutIdeal.main (F := Ideal))) ⟨m, fun _ => 0, g⟩ (fun r => (∀ c : Dev Cert.AdamMixOutIdeal.nD,
      r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
      ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
      ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
      ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ r.2.sem = fun _ => 0)

def quiescent_AdamMixOutRefIdeal [hAdamMixOutRefIdeal : Cert.AdamMixOutRefIdeal.Facts] : Prop :=
  ∀ (m : (ℓ : Loc Cert.AdamMixOutRefIdeal.nD Cert.AdamMixOutRefIdeal.τ Cert.AdamMixOutRefIdeal.sig) → Buf (Elt Ideal) ℓ) (g : Dev Cert.AdamMixOutRefIdeal.nD → PrngReg), Pre_AdamMixOutRefIdeal m →
    θ_run (Cert.AdamMixOutRefIdeal.defs (F := Ideal)) (onTc (τ := Cert.AdamMixOutRefIdeal.τ) (Cert.AdamMixOutRefIdeal.main (F := Ideal))) ⟨m, fun _ => 0, g⟩ (fun r => (∀ c : Dev Cert.AdamMixOutRefIdeal.nD,
      r.2.mem ((c.tc : Thread Cert.AdamMixOutRefIdeal.nD Cert.AdamMixOutRefIdeal.τ).loc Cert.AdamMixOutRefIdeal.main_arg0) = m ((c.tc : Thread Cert.AdamMixOutRefIdeal.nD Cert.AdamMixOutRefIdeal.τ).loc Cert.AdamMixOutRefIdeal.main_arg0)
      ∧ r.2.mem ((c.tc : Thread Cert.AdamMixOutRefIdeal.nD Cert.AdamMixOutRefIdeal.τ).loc Cert.AdamMixOutRefIdeal.main_arg1) = m ((c.tc : Thread Cert.AdamMixOutRefIdeal.nD Cert.AdamMixOutRefIdeal.τ).loc Cert.AdamMixOutRefIdeal.main_arg1)
      ∧ r.2.mem ((c.tc : Thread Cert.AdamMixOutRefIdeal.nD Cert.AdamMixOutRefIdeal.τ).loc Cert.AdamMixOutRefIdeal.main_arg2) = m ((c.tc : Thread Cert.AdamMixOutRefIdeal.nD Cert.AdamMixOutRefIdeal.τ).loc Cert.AdamMixOutRefIdeal.main_arg2)
      ∧ r.2.mem ((c.tc : Thread Cert.AdamMixOutRefIdeal.nD Cert.AdamMixOutRefIdeal.τ).loc Cert.AdamMixOutRefIdeal.main_arg3) = m ((c.tc : Thread Cert.AdamMixOutRefIdeal.nD Cert.AdamMixOutRefIdeal.τ).loc Cert.AdamMixOutRefIdeal.main_arg3))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamAttOut [hAdamAttOut : Cert.AdamAttOut.Facts] : Prop :=
  ∀ (m : (ℓ : Loc Cert.AdamAttOut.nD Cert.AdamAttOut.τ Cert.AdamAttOut.sig) → Buf (Elt Bits) ℓ) (g : Dev Cert.AdamAttOut.nD → PrngReg), Pre_AdamAttOut m →
    θ_run (Cert.AdamAttOut.defs (F := Bits)) (onTc (τ := Cert.AdamAttOut.τ) (Cert.AdamAttOut.main (F := Bits))) ⟨m, fun _ => 0, g⟩ (fun r => (∀ c : Dev Cert.AdamAttOut.nD,
      r.2.mem ((c.tc : Thread Cert.AdamAttOut.nD Cert.AdamAttOut.τ).loc Cert.AdamAttOut.main_arg0) = m ((c.tc : Thread Cert.AdamAttOut.nD Cert.AdamAttOut.τ).loc Cert.AdamAttOut.main_arg0)
      ∧ r.2.mem ((c.tc : Thread Cert.AdamAttOut.nD Cert.AdamAttOut.τ).loc Cert.AdamAttOut.main_arg1) = m ((c.tc : Thread Cert.AdamAttOut.nD Cert.AdamAttOut.τ).loc Cert.AdamAttOut.main_arg1)
      ∧ r.2.mem ((c.tc : Thread Cert.AdamAttOut.nD Cert.AdamAttOut.τ).loc Cert.AdamAttOut.main_arg2) = m ((c.tc : Thread Cert.AdamAttOut.nD Cert.AdamAttOut.τ).loc Cert.AdamAttOut.main_arg2)
      ∧ r.2.mem ((c.tc : Thread Cert.AdamAttOut.nD Cert.AdamAttOut.τ).loc Cert.AdamAttOut.main_arg3) = m ((c.tc : Thread Cert.AdamAttOut.nD Cert.AdamAttOut.τ).loc Cert.AdamAttOut.main_arg3))
      ∧ r.2.sem = fun _ => 0)

def quiescent_AdamAttOutIdeal [hAdamAttOutIdeal : Cert.AdamAttOutIdeal.Facts] : Prop :=
  ∀ (m : (ℓ : Loc Cert.AdamAttOutIdeal.nD Cert.AdamAttOutIdeal.τ Cert.AdamAttOutIdeal.sig) → Buf (Elt Ideal) ℓ) (g : Dev Cert.AdamAttOutIdeal.nD → PrngReg), Pre_AdamAttOutIdeal m →
    θ_run (Cert.AdamAttOutIdeal.defs (F := Ideal)) (onTc (τ := Cert.AdamAttOutIdeal.τ) (Cert.AdamAttOutIdeal.main (F := Ideal))) ⟨m, fun _ => 0, g⟩ (fun r => (∀ c : Dev Cert.AdamAttOutIdeal.nD,
      r.2.mem ((c.tc : Thread Cert.AdamAttOutIdeal.nD Cert.AdamAttOutIdeal.τ).loc Cert.AdamAttOutIdeal.main_arg0) = m ((c.tc : Thread Cert.AdamAttOutIdeal.nD Cert.AdamAttOutIdeal.τ).loc Cert.AdamAttOutIdeal.main_arg0)
      ∧ r.2.mem ((c.tc : Thread Cert.AdamAttOutIdeal.nD Cert.AdamAttOutIdeal.τ).loc Cert.AdamAttOutIdeal.main_arg1) = m ((c.tc : Thread Cert.AdamAttOutIdeal.nD Cert.AdamAttOutIdeal.τ).loc Cert.AdamAttOutIdeal.main_arg1)
      ∧ r.2.mem ((c.tc : Thread Cert.AdamAttOutIdeal.nD Cert.AdamAttOutIdeal.τ).loc Cert.AdamAttOutIdeal.main_arg2) = m ((c.tc : Thread Cert.AdamAttOutIdeal.nD Cert.AdamAttOutIdeal.τ).loc Cert.AdamAttOutIdeal.main_arg2)
      ∧ r.2.mem ((c.tc : Thread Cert.AdamAttOutIdeal.nD Cert.AdamAttOutIdeal.τ).loc Cert.AdamAttOutIdeal.main_arg3) = m ((c.tc : Thread Cert.AdamAttOutIdeal.nD Cert.AdamAttOutIdeal.τ).loc Cert.AdamAttOutIdeal.main_arg3))
      ∧ r.2.sem = fun _ => 0)

def quiescent_AdamAttOutRefIdeal [hAdamAttOutRefIdeal : Cert.AdamAttOutRefIdeal.Facts] : Prop :=
  ∀ (m : (ℓ : Loc Cert.AdamAttOutRefIdeal.nD Cert.AdamAttOutRefIdeal.τ Cert.AdamAttOutRefIdeal.sig) → Buf (Elt Ideal) ℓ) (g : Dev Cert.AdamAttOutRefIdeal.nD → PrngReg), Pre_AdamAttOutRefIdeal m →
    θ_run (Cert.AdamAttOutRefIdeal.defs (F := Ideal)) (onTc (τ := Cert.AdamAttOutRefIdeal.τ) (Cert.AdamAttOutRefIdeal.main (F := Ideal))) ⟨m, fun _ => 0, g⟩ (fun r => (∀ c : Dev Cert.AdamAttOutRefIdeal.nD,
      r.2.mem ((c.tc : Thread Cert.AdamAttOutRefIdeal.nD Cert.AdamAttOutRefIdeal.τ).loc Cert.AdamAttOutRefIdeal.main_arg0) = m ((c.tc : Thread Cert.AdamAttOutRefIdeal.nD Cert.AdamAttOutRefIdeal.τ).loc Cert.AdamAttOutRefIdeal.main_arg0)
      ∧ r.2.mem ((c.tc : Thread Cert.AdamAttOutRefIdeal.nD Cert.AdamAttOutRefIdeal.τ).loc Cert.AdamAttOutRefIdeal.main_arg1) = m ((c.tc : Thread Cert.AdamAttOutRefIdeal.nD Cert.AdamAttOutRefIdeal.τ).loc Cert.AdamAttOutRefIdeal.main_arg1)
      ∧ r.2.mem ((c.tc : Thread Cert.AdamAttOutRefIdeal.nD Cert.AdamAttOutRefIdeal.τ).loc Cert.AdamAttOutRefIdeal.main_arg2) = m ((c.tc : Thread Cert.AdamAttOutRefIdeal.nD Cert.AdamAttOutRefIdeal.τ).loc Cert.AdamAttOutRefIdeal.main_arg2)
      ∧ r.2.mem ((c.tc : Thread Cert.AdamAttOutRefIdeal.nD Cert.AdamAttOutRefIdeal.τ).loc Cert.AdamAttOutRefIdeal.main_arg3) = m ((c.tc : Thread Cert.AdamAttOutRefIdeal.nD Cert.AdamAttOutRefIdeal.τ).loc Cert.AdamAttOutRefIdeal.main_arg3))
      ∧ r.2.sem = fun _ => 0)

def quiescent_AdamRel [hAdamRel : Cert.AdamRel.Facts] : Prop :=
  ∀ (m : (ℓ : Loc Cert.AdamRel.nD Cert.AdamRel.τ Cert.AdamRel.sig) → Buf (Elt Bits) ℓ) (g : Dev Cert.AdamRel.nD → PrngReg), Pre_AdamRel m →
    θ_run (Cert.AdamRel.defs (F := Bits)) (onTc (τ := Cert.AdamRel.τ) (Cert.AdamRel.main (F := Bits))) ⟨m, fun _ => 0, g⟩ (fun r => (∀ c : Dev Cert.AdamRel.nD,
      r.2.mem ((c.tc : Thread Cert.AdamRel.nD Cert.AdamRel.τ).loc Cert.AdamRel.main_arg0) = m ((c.tc : Thread Cert.AdamRel.nD Cert.AdamRel.τ).loc Cert.AdamRel.main_arg0)
      ∧ r.2.mem ((c.tc : Thread Cert.AdamRel.nD Cert.AdamRel.τ).loc Cert.AdamRel.main_arg1) = m ((c.tc : Thread Cert.AdamRel.nD Cert.AdamRel.τ).loc Cert.AdamRel.main_arg1)
      ∧ r.2.mem ((c.tc : Thread Cert.AdamRel.nD Cert.AdamRel.τ).loc Cert.AdamRel.main_arg2) = m ((c.tc : Thread Cert.AdamRel.nD Cert.AdamRel.τ).loc Cert.AdamRel.main_arg2)
      ∧ r.2.mem ((c.tc : Thread Cert.AdamRel.nD Cert.AdamRel.τ).loc Cert.AdamRel.main_arg3) = m ((c.tc : Thread Cert.AdamRel.nD Cert.AdamRel.τ).loc Cert.AdamRel.main_arg3))
      ∧ r.2.sem = fun _ => 0)

def quiescent_AdamRelIdeal [hAdamRelIdeal : Cert.AdamRelIdeal.Facts] : Prop :=
  ∀ (m : (ℓ : Loc Cert.AdamRelIdeal.nD Cert.AdamRelIdeal.τ Cert.AdamRelIdeal.sig) → Buf (Elt Ideal) ℓ) (g : Dev Cert.AdamRelIdeal.nD → PrngReg), Pre_AdamRelIdeal m →
    θ_run (Cert.AdamRelIdeal.defs (F := Ideal)) (onTc (τ := Cert.AdamRelIdeal.τ) (Cert.AdamRelIdeal.main (F := Ideal))) ⟨m, fun _ => 0, g⟩ (fun r => (∀ c : Dev Cert.AdamRelIdeal.nD,
      r.2.mem ((c.tc : Thread Cert.AdamRelIdeal.nD Cert.AdamRelIdeal.τ).loc Cert.AdamRelIdeal.main_arg0) = m ((c.tc : Thread Cert.AdamRelIdeal.nD Cert.AdamRelIdeal.τ).loc Cert.AdamRelIdeal.main_arg0)
      ∧ r.2.mem ((c.tc : Thread Cert.AdamRelIdeal.nD Cert.AdamRelIdeal.τ).loc Cert.AdamRelIdeal.main_arg1) = m ((c.tc : Thread Cert.AdamRelIdeal.nD Cert.AdamRelIdeal.τ).loc Cert.AdamRelIdeal.main_arg1)
      ∧ r.2.mem ((c.tc : Thread Cert.AdamRelIdeal.nD Cert.AdamRelIdeal.τ).loc Cert.AdamRelIdeal.main_arg2) = m ((c.tc : Thread Cert.AdamRelIdeal.nD Cert.AdamRelIdeal.τ).loc Cert.AdamRelIdeal.main_arg2)
      ∧ r.2.mem ((c.tc : Thread Cert.AdamRelIdeal.nD Cert.AdamRelIdeal.τ).loc Cert.AdamRelIdeal.main_arg3) = m ((c.tc : Thread Cert.AdamRelIdeal.nD Cert.AdamRelIdeal.τ).loc Cert.AdamRelIdeal.main_arg3))
      ∧ r.2.sem = fun _ => 0)

def quiescent_AdamRelRefIdeal [hAdamRelRefIdeal : Cert.AdamRelRefIdeal.Facts] : Prop :=
  ∀ (m : (ℓ : Loc Cert.AdamRelRefIdeal.nD Cert.AdamRelRefIdeal.τ Cert.AdamRelRefIdeal.sig) → Buf (Elt Ideal) ℓ) (g : Dev Cert.AdamRelRefIdeal.nD → PrngReg), Pre_AdamRelRefIdeal m →
    θ_run (Cert.AdamRelRefIdeal.defs (F := Ideal)) (onTc (τ := Cert.AdamRelRefIdeal.τ) (Cert.AdamRelRefIdeal.main (F := Ideal))) ⟨m, fun _ => 0, g⟩ (fun r => (∀ c : Dev Cert.AdamRelRefIdeal.nD,
      r.2.mem ((c.tc : Thread Cert.AdamRelRefIdeal.nD Cert.AdamRelRefIdeal.τ).loc Cert.AdamRelRefIdeal.main_arg0) = m ((c.tc : Thread Cert.AdamRelRefIdeal.nD Cert.AdamRelRefIdeal.τ).loc Cert.AdamRelRefIdeal.main_arg0)
      ∧ r.2.mem ((c.tc : Thread Cert.AdamRelRefIdeal.nD Cert.AdamRelRefIdeal.τ).loc Cert.AdamRelRefIdeal.main_arg1) = m ((c.tc : Thread Cert.AdamRelRefIdeal.nD Cert.AdamRelRefIdeal.τ).loc Cert.AdamRelRefIdeal.main_arg1)
      ∧ r.2.mem ((c.tc : Thread Cert.AdamRelRefIdeal.nD Cert.AdamRelRefIdeal.τ).loc Cert.AdamRelRefIdeal.main_arg2) = m ((c.tc : Thread Cert.AdamRelRefIdeal.nD Cert.AdamRelRefIdeal.τ).loc Cert.AdamRelRefIdeal.main_arg2)
      ∧ r.2.mem ((c.tc : Thread Cert.AdamRelRefIdeal.nD Cert.AdamRelRefIdeal.τ).loc Cert.AdamRelRefIdeal.main_arg3) = m ((c.tc : Thread Cert.AdamRelRefIdeal.nD Cert.AdamRelRefIdeal.τ).loc Cert.AdamRelRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v100_0)) (v1 : (c : Dev Cert.KernelIdeal.nD) → Buf (Elt Ideal) ((c.tc : Thread Cert.KernelIdeal.nD Cert.KernelIdeal.τ).loc Cert.KernelIdeal.main_v100_1)) (v2 : (c : Dev Cert.KernelIdeal.nD) → Buf (Elt Ideal) ((c.tc : Thread Cert.KernelIdeal.nD Cert.KernelIdeal.τ).loc Cert.KernelIdeal.main_v100_2)) (v3 : (c : Dev Cert.KernelIdeal.nD) → Buf (Elt Ideal) ((c.tc : Thread Cert.KernelIdeal.nD Cert.KernelIdeal.τ).loc Cert.KernelIdeal.main_v100_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100_0) = v0 c
          ∧ r.2.mem ((c.tc : Thread Cert.KernelIdeal.nD Cert.KernelIdeal.τ).loc Cert.KernelIdeal.main_v100_1) = v1 c
          ∧ r.2.mem ((c.tc : Thread Cert.KernelIdeal.nD Cert.KernelIdeal.τ).loc Cert.KernelIdeal.main_v100_2) = v2 c
          ∧ r.2.mem ((c.tc : Thread Cert.KernelIdeal.nD Cert.KernelIdeal.τ).loc Cert.KernelIdeal.main_v100_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_v143) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GateGrad_GateGradIdeal : Prop :=
  True

def algebraic_GateGradIdeal_GateGradRefIdeal [hGateGradIdeal : Cert.GateGradIdeal.Facts] [hGateGradRefIdeal : Cert.GateGradRefIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)
      ∧ m' ((c.tc : Thread Cert.GateGradRefIdeal.nD Cert.GateGradRefIdeal.τ).loc Cert.GateGradRefIdeal.main_arg2) = m ((c.tc : Thread Cert.GateGradIdeal.nD Cert.GateGradIdeal.τ).loc Cert.GateGradIdeal.main_arg2)) →
    ∃ (v0 : (c : Dev Cert.GateGradIdeal.nD) → Buf (Elt Ideal) ((c.tc : Thread Cert.GateGradIdeal.nD Cert.GateGradIdeal.τ).loc Cert.GateGradIdeal.main_v1)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v1) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v11) = v0 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1)
          ∧ r.2.mem ((c.tc : Thread Cert.GateGradRefIdeal.nD Cert.GateGradRefIdeal.τ).loc Cert.GateGradRefIdeal.main_arg2) = m' ((c.tc : Thread Cert.GateGradRefIdeal.nD Cert.GateGradRefIdeal.τ).loc Cert.GateGradRefIdeal.main_arg2))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v1) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v2) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v4) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v3)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v3) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v6) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_QkvInGrad_QkvInGradIdeal : Prop :=
  True

def algebraic_QkvInGradIdeal_QkvInGradRefIdeal [hQkvInGradIdeal : Cert.QkvInGradIdeal.Facts] [hQkvInGradRefIdeal : Cert.QkvInGradRefIdeal.Facts] : Prop :=
  ∀ (m : (ℓ : Loc Cert.QkvInGradIdeal.nD Cert.QkvInGradIdeal.τ Cert.QkvInGradIdeal.sig) → Buf (Elt Ideal) ℓ) (g : Dev Cert.QkvInGradIdeal.nD → PrngReg)
    (m' : (ℓ : Loc Cert.QkvInGradRefIdeal.nD Cert.QkvInGradRefIdeal.τ Cert.QkvInGradRefIdeal.sig) → Buf (Elt Ideal) ℓ) (g' : Dev Cert.QkvInGradRefIdeal.nD → PrngReg), Pre_QkvInGradIdeal m →
    (∀ c : Dev Cert.QkvInGradIdeal.nD,
      m' ((c.tc : Thread Cert.QkvInGradRefIdeal.nD Cert.QkvInGradRefIdeal.τ).loc Cert.QkvInGradRefIdeal.main_arg0) = m ((c.tc : Thread Cert.QkvInGradIdeal.nD Cert.QkvInGradIdeal.τ).loc Cert.QkvInGradIdeal.main_arg0)
      ∧ m' ((c.tc : Thread Cert.QkvInGradRefIdeal.nD Cert.QkvInGradRefIdeal.τ).loc Cert.QkvInGradRefIdeal.main_arg1) = m ((c.tc : Thread Cert.QkvInGradIdeal.nD Cert.QkvInGradIdeal.τ).loc Cert.QkvInGradIdeal.main_arg1)) →
    ∃ (v0 : (c : Dev Cert.QkvInGradIdeal.nD) → Buf (Elt Ideal) ((c.tc : Thread Cert.QkvInGradIdeal.nD Cert.QkvInGradIdeal.τ).loc Cert.QkvInGradIdeal.main_v1)),
      θ_run (Cert.QkvInGradIdeal.defs (F := Ideal)) (onTc (τ := Cert.QkvInGradIdeal.τ) (Cert.QkvInGradIdeal.main (F := Ideal))) ⟨m, fun _ => 0, g⟩ (fun r => ∀ c : Dev Cert.QkvInGradIdeal.nD,
          r.2.mem ((c.tc : Thread Cert.QkvInGradIdeal.nD Cert.QkvInGradIdeal.τ).loc Cert.QkvInGradIdeal.main_v1) = v0 c
          ∧ r.2.mem ((c.tc : Thread Cert.QkvInGradIdeal.nD Cert.QkvInGradIdeal.τ).loc Cert.QkvInGradIdeal.main_arg0) = m ((c.tc : Thread Cert.QkvInGradIdeal.nD Cert.QkvInGradIdeal.τ).loc Cert.QkvInGradIdeal.main_arg0)
          ∧ r.2.mem ((c.tc : Thread Cert.QkvInGradIdeal.nD Cert.QkvInGradIdeal.τ).loc Cert.QkvInGradIdeal.main_arg1) = m ((c.tc : Thread Cert.QkvInGradIdeal.nD Cert.QkvInGradIdeal.τ).loc Cert.QkvInGradIdeal.main_arg1))
      ∧ θ_run (Cert.QkvInGradRefIdeal.defs (F := Ideal)) (onTc (τ := Cert.QkvInGradRefIdeal.τ) (Cert.QkvInGradRefIdeal.main (F := Ideal))) ⟨m', fun _ => 0, g'⟩ (fun r => ∀ c : Dev Cert.QkvInGradRefIdeal.nD,
          r.2.mem ((c.tc : Thread Cert.QkvInGradRefIdeal.nD Cert.QkvInGradRefIdeal.τ).loc Cert.QkvInGradRefIdeal.main_v2) = v0 c
          ∧ r.2.mem ((c.tc : Thread Cert.QkvInGradRefIdeal.nD Cert.QkvInGradRefIdeal.τ).loc Cert.QkvInGradRefIdeal.main_arg0) = m' ((c.tc : Thread Cert.QkvInGradRefIdeal.nD Cert.QkvInGradRefIdeal.τ).loc Cert.QkvInGradRefIdeal.main_arg0)
          ∧ r.2.mem ((c.tc : Thread Cert.QkvInGradRefIdeal.nD Cert.QkvInGradRefIdeal.τ).loc Cert.QkvInGradRefIdeal.main_arg1) = m' ((c.tc : Thread Cert.QkvInGradRefIdeal.nD Cert.QkvInGradRefIdeal.τ).loc Cert.QkvInGradRefIdeal.main_arg1))

def preserves_QkvGrad_QkvGradIdeal : Prop :=
  True

def algebraic_QkvGradIdeal_QkvGradRefIdeal [hQkvGradIdeal : Cert.QkvGradIdeal.Facts] [hQkvGradRefIdeal : Cert.QkvGradRefIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg)
    (m' : (ℓ : Loc Cert.QkvGradRefIdeal.nD Cert.QkvGradRefIdeal.τ Cert.QkvGradRefIdeal.sig) → Buf (Elt Ideal) ℓ) (g' : Dev Cert.QkvGradRefIdeal.nD → PrngReg), Pre_QkvGradIdeal m →
    (∀ c : Dev Cert.QkvGradIdeal.nD,
      m' ((c.tc : Thread Cert.QkvGradRefIdeal.nD Cert.QkvGradRefIdeal.τ).loc Cert.QkvGradRefIdeal.main_arg0) = m ((c.tc : Thread Cert.QkvGradIdeal.nD Cert.QkvGradIdeal.τ).loc Cert.QkvGradIdeal.main_arg0)
      ∧ m' ((c.tc : Thread Cert.QkvGradRefIdeal.nD Cert.QkvGradRefIdeal.τ).loc Cert.QkvGradRefIdeal.main_arg1) = m ((c.tc : Thread Cert.QkvGradIdeal.nD Cert.QkvGradIdeal.τ).loc Cert.QkvGradIdeal.main_arg1)) →
    ∃ (v0 : (c : Dev Cert.QkvGradIdeal.nD) → Buf (Elt Ideal) ((c.tc : Thread Cert.QkvGradIdeal.nD Cert.QkvGradIdeal.τ).loc Cert.QkvGradIdeal.main_v0)),
      θ_run (Cert.QkvGradIdeal.defs (F := Ideal)) (onTc (τ := Cert.QkvGradIdeal.τ) (Cert.QkvGradIdeal.main (F := Ideal))) ⟨m, fun _ => 0, g⟩ (fun r => ∀ c : Dev Cert.QkvGradIdeal.nD,
          r.2.mem ((c.tc : Thread Cert.QkvGradIdeal.nD Cert.QkvGradIdeal.τ).loc Cert.QkvGradIdeal.main_v0) = v0 c
          ∧ r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
          ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ θ_run (Cert.QkvGradRefIdeal.defs (F := Ideal)) (onTc (τ := Cert.QkvGradRefIdeal.τ) (Cert.QkvGradRefIdeal.main (F := Ideal))) ⟨m', fun _ => 0, g'⟩ (fun r => ∀ c : Dev Cert.QkvGradRefIdeal.nD,
          r.2.mem ((c.tc : Thread Cert.QkvGradRefIdeal.nD Cert.QkvGradRefIdeal.τ).loc Cert.QkvGradRefIdeal.main_v4) = v0 c
          ∧ r.2.mem ((c.tc : Thread Cert.QkvGradRefIdeal.nD Cert.QkvGradRefIdeal.τ).loc Cert.QkvGradRefIdeal.main_arg0) = m' ((c.tc : Thread Cert.QkvGradRefIdeal.nD Cert.QkvGradRefIdeal.τ).loc Cert.QkvGradRefIdeal.main_arg0)
          ∧ r.2.mem ((c.tc : Thread Cert.QkvGradRefIdeal.nD Cert.QkvGradRefIdeal.τ).loc Cert.QkvGradRefIdeal.main_arg1) = m' ((c.tc : Thread Cert.QkvGradRefIdeal.nD Cert.QkvGradRefIdeal.τ).loc Cert.QkvGradRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_v3) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_AdamMlp_AdamMlpIdeal : Prop :=
  IdealRules.named_const.Statement Cert.AdamMlpIdeal.κ "c1" .f32 0x3FC48605#32 ((8388608 / 5463681 : ℝ) : EReal)
  ∧ IdealRules.named_const.Statement Cert.AdamMlpIdeal.κ "c2" .f32 0x42C8E6D3#32 ((268435456 / 2672307 : ℝ) : EReal)

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)) →
    ∃ (v0 : (c : Dev Cert.AdamMlpIdeal.nD) → Buf (Elt Ideal) ((c.tc : Thread Cert.AdamMlpIdeal.nD Cert.AdamMlpIdeal.τ).loc Cert.AdamMlpIdeal.main_v4_0)) (v1 : (c : Dev Cert.AdamMlpIdeal.nD) → Buf (Elt Ideal) ((c.tc : Thread Cert.AdamMlpIdeal.nD Cert.AdamMlpIdeal.τ).loc Cert.AdamMlpIdeal.main_v4_1)) (v2 : (c : Dev Cert.AdamMlpIdeal.nD) → Buf (Elt Ideal) ((c.tc : Thread Cert.AdamMlpIdeal.nD Cert.AdamMlpIdeal.τ).loc Cert.AdamMlpIdeal.main_v4_2)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v4_0) = v0 c
          ∧ r.2.mem ((c.tc : Thread Cert.AdamMlpIdeal.nD Cert.AdamMlpIdeal.τ).loc Cert.AdamMlpIdeal.main_v4_1) = v1 c
          ∧ r.2.mem ((c.tc : Thread Cert.AdamMlpIdeal.nD Cert.AdamMlpIdeal.τ).loc Cert.AdamMlpIdeal.main_v4_2) = v2 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v24) = v0 c
          ∧ r.2.mem ((c.tc : Thread Cert.AdamMlpRefIdeal.nD Cert.AdamMlpRefIdeal.τ).loc Cert.AdamMlpRefIdeal.main_v25) = v1 c
          ∧ r.2.mem ((c.tc : Thread Cert.AdamMlpRefIdeal.nD Cert.AdamMlpRefIdeal.τ).loc Cert.AdamMlpRefIdeal.main_v26) = v2 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3))

def preserves_AdamRow_AdamRowIdeal : Prop :=
  IdealRules.named_const.Statement Cert.AdamRowIdeal.κ "c1" .f32 0x3FC48605#32 ((8388608 / 5463681 : ℝ) : EReal)
  ∧ IdealRules.named_const.Statement Cert.AdamRowIdeal.κ "c2" .f32 0x42C8E6D3#32 ((268435456 / 2672307 : ℝ) : EReal)

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v23) = v0 c
          ∧ r.2.mem ((c.tc : Thread Cert.AdamRowRefIdeal.nD Cert.AdamRowRefIdeal.τ).loc Cert.AdamRowRefIdeal.main_v4) = v1 c
          ∧ r.2.mem ((c.tc : Thread Cert.AdamRowRefIdeal.nD Cert.AdamRowRefIdeal.τ).loc Cert.AdamRowRefIdeal.main_v10) = v2 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3))

def preserves_AdamNorm_AdamNormIdeal : Prop :=
  IdealRules.named_const.Statement Cert.AdamNormIdeal.κ "c1" .f32 0x3FC48605#32 ((8388608 / 5463681 : ℝ) : EReal)
  ∧ IdealRules.named_const.Statement Cert.AdamNormIdeal.κ "c2" .f32 0x42C8E6D3#32 ((268435456 / 2672307 : ℝ) : EReal)

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v4_0)) (v1 : (c : Dev Cert.AdamNormIdeal.nD) → Buf (Elt Ideal) ((c.tc : Thread Cert.AdamNormIdeal.nD Cert.AdamNormIdeal.τ).loc Cert.AdamNormIdeal.main_v4_1)) (v2 : (c : Dev Cert.AdamNormIdeal.nD) → Buf (Elt Ideal) ((c.tc : Thread Cert.AdamNormIdeal.nD Cert.AdamNormIdeal.τ).loc Cert.AdamNormIdeal.main_v4_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v4_0) = v0 c
          ∧ r.2.mem ((c.tc : Thread Cert.AdamNormIdeal.nD Cert.AdamNormIdeal.τ).loc Cert.AdamNormIdeal.main_v4_1) = v1 c
          ∧ r.2.mem ((c.tc : Thread Cert.AdamNormIdeal.nD Cert.AdamNormIdeal.τ).loc Cert.AdamNormIdeal.main_v4_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v24) = v0 c
          ∧ r.2.mem ((c.tc : Thread Cert.AdamNormRefIdeal.nD Cert.AdamNormRefIdeal.τ).loc Cert.AdamNormRefIdeal.main_v25) = v1 c
          ∧ r.2.mem ((c.tc : Thread Cert.AdamNormRefIdeal.nD Cert.AdamNormRefIdeal.τ).loc Cert.AdamNormRefIdeal.main_v26) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamRank_AdamRankIdeal : Prop :=
  IdealRules.named_const.Statement Cert.AdamRankIdeal.κ "c1" .f32 0x3FC48605#32 ((8388608 / 5463681 : ℝ) : EReal)
  ∧ IdealRules.named_const.Statement Cert.AdamRankIdeal.κ "c2" .f32 0x42C8E6D3#32 ((268435456 / 2672307 : ℝ) : EReal)

def algebraic_AdamRankIdeal_AdamRankRefIdeal [hAdamRankIdeal : Cert.AdamRankIdeal.Facts] [hAdamRankRefIdeal : Cert.AdamRankRefIdeal.Facts] : Prop :=
  ∀ (m : (ℓ : Loc Cert.AdamRankIdeal.nD Cert.AdamRankIdeal.τ Cert.AdamRankIdeal.sig) → Buf (Elt Ideal) ℓ) (g : Dev Cert.AdamRankIdeal.nD → PrngReg)
    (m' : (ℓ : Loc Cert.AdamRankRefIdeal.nD Cert.AdamRankRefIdeal.τ Cert.AdamRankRefIdeal.sig) → Buf (Elt Ideal) ℓ) (g' : Dev Cert.AdamRankRefIdeal.nD → PrngReg), Pre_AdamRankIdeal m →
    (∀ c : Dev Cert.AdamRankIdeal.nD,
      m' ((c.tc : Thread Cert.AdamRankRefIdeal.nD Cert.AdamRankRefIdeal.τ).loc Cert.AdamRankRefIdeal.main_arg0) = m ((c.tc : Thread Cert.AdamRankIdeal.nD Cert.AdamRankIdeal.τ).loc Cert.AdamRankIdeal.main_arg0)
      ∧ m' ((c.tc : Thread Cert.AdamRankRefIdeal.nD Cert.AdamRankRefIdeal.τ).loc Cert.AdamRankRefIdeal.main_arg1) = m ((c.tc : Thread Cert.AdamRankIdeal.nD Cert.AdamRankIdeal.τ).loc Cert.AdamRankIdeal.main_arg1)
      ∧ m' ((c.tc : Thread Cert.AdamRankRefIdeal.nD Cert.AdamRankRefIdeal.τ).loc Cert.AdamRankRefIdeal.main_arg2) = m ((c.tc : Thread Cert.AdamRankIdeal.nD Cert.AdamRankIdeal.τ).loc Cert.AdamRankIdeal.main_arg2)
      ∧ m' ((c.tc : Thread Cert.AdamRankRefIdeal.nD Cert.AdamRankRefIdeal.τ).loc Cert.AdamRankRefIdeal.main_arg3) = m ((c.tc : Thread Cert.AdamRankIdeal.nD Cert.AdamRankIdeal.τ).loc Cert.AdamRankIdeal.main_arg3)) →
    ∃ (v0 : (c : Dev Cert.AdamRankIdeal.nD) → Buf (Elt Ideal) ((c.tc : Thread Cert.AdamRankIdeal.nD Cert.AdamRankIdeal.τ).loc Cert.AdamRankIdeal.main_v4_0)) (v1 : (c : Dev Cert.AdamRankIdeal.nD) → Buf (Elt Ideal) ((c.tc : Thread Cert.AdamRankIdeal.nD Cert.AdamRankIdeal.τ).loc Cert.AdamRankIdeal.main_v4_1)) (v2 : (c : Dev Cert.AdamRankIdeal.nD) → Buf (Elt Ideal) ((c.tc : Thread Cert.AdamRankIdeal.nD Cert.AdamRankIdeal.τ).loc Cert.AdamRankIdeal.main_v4_2)),
      θ_run (Cert.AdamRankIdeal.defs (F := Ideal)) (onTc (τ := Cert.AdamRankIdeal.τ) (Cert.AdamRankIdeal.main (F := Ideal))) ⟨m, fun _ => 0, g⟩ (fun r => ∀ c : Dev Cert.AdamRankIdeal.nD,
          r.2.mem ((c.tc : Thread Cert.AdamRankIdeal.nD Cert.AdamRankIdeal.τ).loc Cert.AdamRankIdeal.main_v4_0) = v0 c
          ∧ r.2.mem ((c.tc : Thread Cert.AdamRankIdeal.nD Cert.AdamRankIdeal.τ).loc Cert.AdamRankIdeal.main_v4_1) = v1 c
          ∧ r.2.mem ((c.tc : Thread Cert.AdamRankIdeal.nD Cert.AdamRankIdeal.τ).loc Cert.AdamRankIdeal.main_v4_2) = v2 c
          ∧ r.2.mem ((c.tc : Thread Cert.AdamRankIdeal.nD Cert.AdamRankIdeal.τ).loc Cert.AdamRankIdeal.main_arg0) = m ((c.tc : Thread Cert.AdamRankIdeal.nD Cert.AdamRankIdeal.τ).loc Cert.AdamRankIdeal.main_arg0)
          ∧ r.2.mem ((c.tc : Thread Cert.AdamRankIdeal.nD Cert.AdamRankIdeal.τ).loc Cert.AdamRankIdeal.main_arg1) = m ((c.tc : Thread Cert.AdamRankIdeal.nD Cert.AdamRankIdeal.τ).loc Cert.AdamRankIdeal.main_arg1)
          ∧ r.2.mem ((c.tc : Thread Cert.AdamRankIdeal.nD Cert.AdamRankIdeal.τ).loc Cert.AdamRankIdeal.main_arg2) = m ((c.tc : Thread Cert.AdamRankIdeal.nD Cert.AdamRankIdeal.τ).loc Cert.AdamRankIdeal.main_arg2)
          ∧ r.2.mem ((c.tc : Thread Cert.AdamRankIdeal.nD Cert.AdamRankIdeal.τ).loc Cert.AdamRankIdeal.main_arg3) = m ((c.tc : Thread Cert.AdamRankIdeal.nD Cert.AdamRankIdeal.τ).loc Cert.AdamRankIdeal.main_arg3))
      ∧ θ_run (Cert.AdamRankRefIdeal.defs (F := Ideal)) (onTc (τ := Cert.AdamRankRefIdeal.τ) (Cert.AdamRankRefIdeal.main (F := Ideal))) ⟨m', fun _ => 0, g'⟩ (fun r => ∀ c : Dev Cert.AdamRankRefIdeal.nD,
          r.2.mem ((c.tc : Thread Cert.AdamRankRefIdeal.nD Cert.AdamRankRefIdeal.τ).loc Cert.AdamRankRefIdeal.main_v24) = v0 c
          ∧ r.2.mem ((c.tc : Thread Cert.AdamRankRefIdeal.nD Cert.AdamRankRefIdeal.τ).loc Cert.AdamRankRefIdeal.main_v25) = v1 c
          ∧ r.2.mem ((c.tc : Thread Cert.AdamRankRefIdeal.nD Cert.AdamRankRefIdeal.τ).loc Cert.AdamRankRefIdeal.main_v26) = v2 c
          ∧ r.2.mem ((c.tc : Thread Cert.AdamRankRefIdeal.nD Cert.AdamRankRefIdeal.τ).loc Cert.AdamRankRefIdeal.main_arg0) = m' ((c.tc : Thread Cert.AdamRankRefIdeal.nD Cert.AdamRankRefIdeal.τ).loc Cert.AdamRankRefIdeal.main_arg0)
          ∧ r.2.mem ((c.tc : Thread Cert.AdamRankRefIdeal.nD Cert.AdamRankRefIdeal.τ).loc Cert.AdamRankRefIdeal.main_arg1) = m' ((c.tc : Thread Cert.AdamRankRefIdeal.nD Cert.AdamRankRefIdeal.τ).loc Cert.AdamRankRefIdeal.main_arg1)
          ∧ r.2.mem ((c.tc : Thread Cert.AdamRankRefIdeal.nD Cert.AdamRankRefIdeal.τ).loc Cert.AdamRankRefIdeal.main_arg2) = m' ((c.tc : Thread Cert.AdamRankRefIdeal.nD Cert.AdamRankRefIdeal.τ).loc Cert.AdamRankRefIdeal.main_arg2)
          ∧ r.2.mem ((c.tc : Thread Cert.AdamRankRefIdeal.nD Cert.AdamRankRefIdeal.τ).loc Cert.AdamRankRefIdeal.main_arg3) = m' ((c.tc : Thread Cert.AdamRankRefIdeal.nD Cert.AdamRankRefIdeal.τ).loc Cert.AdamRankRefIdeal.main_arg3))

def preserves_AdamCond_AdamCondIdeal : Prop :=
  IdealRules.named_const.Statement Cert.AdamCondIdeal.κ "c1" .f32 0x3FC48605#32 ((8388608 / 5463681 : ℝ) : EReal)
  ∧ IdealRules.named_const.Statement Cert.AdamCondIdeal.κ "c2" .f32 0x42C8E6D3#32 ((268435456 / 2672307 : ℝ) : EReal)

def algebraic_AdamCondIdeal_AdamCondRefIdeal [hAdamCondIdeal : Cert.AdamCondIdeal.Facts] [hAdamCondRefIdeal : Cert.AdamCondRefIdeal.Facts] : Prop :=
  ∀ (m : (ℓ : Loc Cert.AdamCondIdeal.nD Cert.AdamCondIdeal.τ Cert.AdamCondIdeal.sig) → Buf (Elt Ideal) ℓ) (g : Dev Cert.AdamCondIdeal.nD → PrngReg)
    (m' : (ℓ : Loc Cert.AdamCondRefIdeal.nD Cert.AdamCondRefIdeal.τ Cert.AdamCondRefIdeal.sig) → Buf (Elt Ideal) ℓ) (g' : Dev Cert.AdamCondRefIdeal.nD → PrngReg), Pre_AdamCondIdeal m →
    (∀ c : Dev Cert.AdamCondIdeal.nD,
      m' ((c.tc : Thread Cert.AdamCondRefIdeal.nD Cert.AdamCondRefIdeal.τ).loc Cert.AdamCondRefIdeal.main_arg0) = m ((c.tc : Thread Cert.AdamCondIdeal.nD Cert.AdamCondIdeal.τ).loc Cert.AdamCondIdeal.main_arg0)
      ∧ m' ((c.tc : Thread Cert.AdamCondRefIdeal.nD Cert.AdamCondRefIdeal.τ).loc Cert.AdamCondRefIdeal.main_arg1) = m ((c.tc : Thread Cert.AdamCondIdeal.nD Cert.AdamCondIdeal.τ).loc Cert.AdamCondIdeal.main_arg1)
      ∧ m' ((c.tc : Thread Cert.AdamCondRefIdeal.nD Cert.AdamCondRefIdeal.τ).loc Cert.AdamCondRefIdeal.main_arg2) = m ((c.tc : Thread Cert.AdamCondIdeal.nD Cert.AdamCondIdeal.τ).loc Cert.AdamCondIdeal.main_arg2)
      ∧ m' ((c.tc : Thread Cert.AdamCondRefIdeal.nD Cert.AdamCondRefIdeal.τ).loc Cert.AdamCondRefIdeal.main_arg3) = m ((c.tc : Thread Cert.AdamCondIdeal.nD Cert.AdamCondIdeal.τ).loc Cert.AdamCondIdeal.main_arg3)) →
    ∃ (v0 : (c : Dev Cert.AdamCondIdeal.nD) → Buf (Elt Ideal) ((c.tc : Thread Cert.AdamCondIdeal.nD Cert.AdamCondIdeal.τ).loc Cert.AdamCondIdeal.main_v4_0)) (v1 : (c : Dev Cert.AdamCondIdeal.nD) → Buf (Elt Ideal) ((c.tc : Thread Cert.AdamCondIdeal.nD Cert.AdamCondIdeal.τ).loc Cert.AdamCondIdeal.main_v4_1)) (v2 : (c : Dev Cert.AdamCondIdeal.nD) → Buf (Elt Ideal) ((c.tc : Thread Cert.AdamCondIdeal.nD Cert.AdamCondIdeal.τ).loc Cert.AdamCondIdeal.main_v4_2)),
      θ_run (Cert.AdamCondIdeal.defs (F := Ideal)) (onTc (τ := Cert.AdamCondIdeal.τ) (Cert.AdamCondIdeal.main (F := Ideal))) ⟨m, fun _ => 0, g⟩ (fun r => ∀ c : Dev Cert.AdamCondIdeal.nD,
          r.2.mem ((c.tc : Thread Cert.AdamCondIdeal.nD Cert.AdamCondIdeal.τ).loc Cert.AdamCondIdeal.main_v4_0) = v0 c
          ∧ r.2.mem ((c.tc : Thread Cert.AdamCondIdeal.nD Cert.AdamCondIdeal.τ).loc Cert.AdamCondIdeal.main_v4_1) = v1 c
          ∧ r.2.mem ((c.tc : Thread Cert.AdamCondIdeal.nD Cert.AdamCondIdeal.τ).loc Cert.AdamCondIdeal.main_v4_2) = v2 c
          ∧ r.2.mem ((c.tc : Thread Cert.AdamCondIdeal.nD Cert.AdamCondIdeal.τ).loc Cert.AdamCondIdeal.main_arg0) = m ((c.tc : Thread Cert.AdamCondIdeal.nD Cert.AdamCondIdeal.τ).loc Cert.AdamCondIdeal.main_arg0)
          ∧ r.2.mem ((c.tc : Thread Cert.AdamCondIdeal.nD Cert.AdamCondIdeal.τ).loc Cert.AdamCondIdeal.main_arg1) = m ((c.tc : Thread Cert.AdamCondIdeal.nD Cert.AdamCondIdeal.τ).loc Cert.AdamCondIdeal.main_arg1)
          ∧ r.2.mem ((c.tc : Thread Cert.AdamCondIdeal.nD Cert.AdamCondIdeal.τ).loc Cert.AdamCondIdeal.main_arg2) = m ((c.tc : Thread Cert.AdamCondIdeal.nD Cert.AdamCondIdeal.τ).loc Cert.AdamCondIdeal.main_arg2)
          ∧ r.2.mem ((c.tc : Thread Cert.AdamCondIdeal.nD Cert.AdamCondIdeal.τ).loc Cert.AdamCondIdeal.main_arg3) = m ((c.tc : Thread Cert.AdamCondIdeal.nD Cert.AdamCondIdeal.τ).loc Cert.AdamCondIdeal.main_arg3))
      ∧ θ_run (Cert.AdamCondRefIdeal.defs (F := Ideal)) (onTc (τ := Cert.AdamCondRefIdeal.τ) (Cert.AdamCondRefIdeal.main (F := Ideal))) ⟨m', fun _ => 0, g'⟩ (fun r => ∀ c : Dev Cert.AdamCondRefIdeal.nD,
          r.2.mem ((c.tc : Thread Cert.AdamCondRefIdeal.nD Cert.AdamCondRefIdeal.τ).loc Cert.AdamCondRefIdeal.main_v24) = v0 c
          ∧ r.2.mem ((c.tc : Thread Cert.AdamCondRefIdeal.nD Cert.AdamCondRefIdeal.τ).loc Cert.AdamCondRefIdeal.main_v25) = v1 c
          ∧ r.2.mem ((c.tc : Thread Cert.AdamCondRefIdeal.nD Cert.AdamCondRefIdeal.τ).loc Cert.AdamCondRefIdeal.main_v26) = v2 c
          ∧ r.2.mem ((c.tc : Thread Cert.AdamCondRefIdeal.nD Cert.AdamCondRefIdeal.τ).loc Cert.AdamCondRefIdeal.main_arg0) = m' ((c.tc : Thread Cert.AdamCondRefIdeal.nD Cert.AdamCondRefIdeal.τ).loc Cert.AdamCondRefIdeal.main_arg0)
          ∧ r.2.mem ((c.tc : Thread Cert.AdamCondRefIdeal.nD Cert.AdamCondRefIdeal.τ).loc Cert.AdamCondRefIdeal.main_arg1) = m' ((c.tc : Thread Cert.AdamCondRefIdeal.nD Cert.AdamCondRefIdeal.τ).loc Cert.AdamCondRefIdeal.main_arg1)
          ∧ r.2.mem ((c.tc : Thread Cert.AdamCondRefIdeal.nD Cert.AdamCondRefIdeal.τ).loc Cert.AdamCondRefIdeal.main_arg2) = m' ((c.tc : Thread Cert.AdamCondRefIdeal.nD Cert.AdamCondRefIdeal.τ).loc Cert.AdamCondRefIdeal.main_arg2)
          ∧ r.2.mem ((c.tc : Thread Cert.AdamCondRefIdeal.nD Cert.AdamCondRefIdeal.τ).loc Cert.AdamCondRefIdeal.main_arg3) = m' ((c.tc : Thread Cert.AdamCondRefIdeal.nD Cert.AdamCondRefIdeal.τ).loc Cert.AdamCondRefIdeal.main_arg3))

def preserves_AdamShift_AdamShiftIdeal : Prop :=
  IdealRules.named_const.Statement Cert.AdamShiftIdeal.κ "c1" .f32 0x3FC48605#32 ((8388608 / 5463681 : ℝ) : EReal)
  ∧ IdealRules.named_const.Statement Cert.AdamShiftIdeal.κ "c2" .f32 0x42C8E6D3#32 ((268435456 / 2672307 : ℝ) : EReal)

def algebraic_AdamShiftIdeal_AdamShiftRefIdeal [hAdamShiftIdeal : Cert.AdamShiftIdeal.Facts] [hAdamShiftRefIdeal : Cert.AdamShiftRefIdeal.Facts] : Prop :=
  ∀ (m : (ℓ : Loc Cert.AdamShiftIdeal.nD Cert.AdamShiftIdeal.τ Cert.AdamShiftIdeal.sig) → Buf (Elt Ideal) ℓ) (g : Dev Cert.AdamShiftIdeal.nD → PrngReg)
    (m' : (ℓ : Loc Cert.AdamShiftRefIdeal.nD Cert.AdamShiftRefIdeal.τ Cert.AdamShiftRefIdeal.sig) → Buf (Elt Ideal) ℓ) (g' : Dev Cert.AdamShiftRefIdeal.nD → PrngReg), Pre_AdamShiftIdeal m →
    (∀ c : Dev Cert.AdamShiftIdeal.nD,
      m' ((c.tc : Thread Cert.AdamShiftRefIdeal.nD Cert.AdamShiftRefIdeal.τ).loc Cert.AdamShiftRefIdeal.main_arg0) = m ((c.tc : Thread Cert.AdamShiftIdeal.nD Cert.AdamShiftIdeal.τ).loc Cert.AdamShiftIdeal.main_arg0)
      ∧ m' ((c.tc : Thread Cert.AdamShiftRefIdeal.nD Cert.AdamShiftRefIdeal.τ).loc Cert.AdamShiftRefIdeal.main_arg1) = m ((c.tc : Thread Cert.AdamShiftIdeal.nD Cert.AdamShiftIdeal.τ).loc Cert.AdamShiftIdeal.main_arg1)
      ∧ m' ((c.tc : Thread Cert.AdamShiftRefIdeal.nD Cert.AdamShiftRefIdeal.τ).loc Cert.AdamShiftRefIdeal.main_arg2) = m ((c.tc : Thread Cert.AdamShiftIdeal.nD Cert.AdamShiftIdeal.τ).loc Cert.AdamShiftIdeal.main_arg2)
      ∧ m' ((c.tc : Thread Cert.AdamShiftRefIdeal.nD Cert.AdamShiftRefIdeal.τ).loc Cert.AdamShiftRefIdeal.main_arg3) = m ((c.tc : Thread Cert.AdamShiftIdeal.nD Cert.AdamShiftIdeal.τ).loc Cert.AdamShiftIdeal.main_arg3)) →
    ∃ (v0 : (c : Dev Cert.AdamShiftIdeal.nD) → Buf (Elt Ideal) ((c.tc : Thread Cert.AdamShiftIdeal.nD Cert.AdamShiftIdeal.τ).loc Cert.AdamShiftIdeal.main_v0_0)) (v1 : (c : Dev Cert.AdamShiftIdeal.nD) → Buf (Elt Ideal) ((c.tc : Thread Cert.AdamShiftIdeal.nD Cert.AdamShiftIdeal.τ).loc Cert.AdamShiftIdeal.main_v0_1)) (v2 : (c : Dev Cert.AdamShiftIdeal.nD) → Buf (Elt Ideal) ((c.tc : Thread Cert.AdamShiftIdeal.nD Cert.AdamShiftIdeal.τ).loc Cert.AdamShiftIdeal.main_v0_2)),
      θ_run (Cert.AdamShiftIdeal.defs (F := Ideal)) (onTc (τ := Cert.AdamShiftIdeal.τ) (Cert.AdamShiftIdeal.main (F := Ideal))) ⟨m, fun _ => 0, g⟩ (fun r => ∀ c : Dev Cert.AdamShiftIdeal.nD,
          r.2.mem ((c.tc : Thread Cert.AdamShiftIdeal.nD Cert.AdamShiftIdeal.τ).loc Cert.AdamShiftIdeal.main_v0_0) = v0 c
          ∧ r.2.mem ((c.tc : Thread Cert.AdamShiftIdeal.nD Cert.AdamShiftIdeal.τ).loc Cert.AdamShiftIdeal.main_v0_1) = v1 c
          ∧ r.2.mem ((c.tc : Thread Cert.AdamShiftIdeal.nD Cert.AdamShiftIdeal.τ).loc Cert.AdamShiftIdeal.main_v0_2) = v2 c
          ∧ r.2.mem ((c.tc : Thread Cert.AdamShiftIdeal.nD Cert.AdamShiftIdeal.τ).loc Cert.AdamShiftIdeal.main_arg0) = m ((c.tc : Thread Cert.AdamShiftIdeal.nD Cert.AdamShiftIdeal.τ).loc Cert.AdamShiftIdeal.main_arg0)
          ∧ r.2.mem ((c.tc : Thread Cert.AdamShiftIdeal.nD Cert.AdamShiftIdeal.τ).loc Cert.AdamShiftIdeal.main_arg1) = m ((c.tc : Thread Cert.AdamShiftIdeal.nD Cert.AdamShiftIdeal.τ).loc Cert.AdamShiftIdeal.main_arg1)
          ∧ r.2.mem ((c.tc : Thread Cert.AdamShiftIdeal.nD Cert.AdamShiftIdeal.τ).loc Cert.AdamShiftIdeal.main_arg2) = m ((c.tc : Thread Cert.AdamShiftIdeal.nD Cert.AdamShiftIdeal.τ).loc Cert.AdamShiftIdeal.main_arg2)
          ∧ r.2.mem ((c.tc : Thread Cert.AdamShiftIdeal.nD Cert.AdamShiftIdeal.τ).loc Cert.AdamShiftIdeal.main_arg3) = m ((c.tc : Thread Cert.AdamShiftIdeal.nD Cert.AdamShiftIdeal.τ).loc Cert.AdamShiftIdeal.main_arg3))
      ∧ θ_run (Cert.AdamShiftRefIdeal.defs (F := Ideal)) (onTc (τ := Cert.AdamShiftRefIdeal.τ) (Cert.AdamShiftRefIdeal.main (F := Ideal))) ⟨m', fun _ => 0, g'⟩ (fun r => ∀ c : Dev Cert.AdamShiftRefIdeal.nD,
          r.2.mem ((c.tc : Thread Cert.AdamShiftRefIdeal.nD Cert.AdamShiftRefIdeal.τ).loc Cert.AdamShiftRefIdeal.main_v23) = v0 c
          ∧ r.2.mem ((c.tc : Thread Cert.AdamShiftRefIdeal.nD Cert.AdamShiftRefIdeal.τ).loc Cert.AdamShiftRefIdeal.main_v4) = v1 c
          ∧ r.2.mem ((c.tc : Thread Cert.AdamShiftRefIdeal.nD Cert.AdamShiftRefIdeal.τ).loc Cert.AdamShiftRefIdeal.main_v10) = v2 c
          ∧ r.2.mem ((c.tc : Thread Cert.AdamShiftRefIdeal.nD Cert.AdamShiftRefIdeal.τ).loc Cert.AdamShiftRefIdeal.main_arg0) = m' ((c.tc : Thread Cert.AdamShiftRefIdeal.nD Cert.AdamShiftRefIdeal.τ).loc Cert.AdamShiftRefIdeal.main_arg0)
          ∧ r.2.mem ((c.tc : Thread Cert.AdamShiftRefIdeal.nD Cert.AdamShiftRefIdeal.τ).loc Cert.AdamShiftRefIdeal.main_arg1) = m' ((c.tc : Thread Cert.AdamShiftRefIdeal.nD Cert.AdamShiftRefIdeal.τ).loc Cert.AdamShiftRefIdeal.main_arg1)
          ∧ r.2.mem ((c.tc : Thread Cert.AdamShiftRefIdeal.nD Cert.AdamShiftRefIdeal.τ).loc Cert.AdamShiftRefIdeal.main_arg2) = m' ((c.tc : Thread Cert.AdamShiftRefIdeal.nD Cert.AdamShiftRefIdeal.τ).loc Cert.AdamShiftRefIdeal.main_arg2)
          ∧ r.2.mem ((c.tc : Thread Cert.AdamShiftRefIdeal.nD Cert.AdamShiftRefIdeal.τ).loc Cert.AdamShiftRefIdeal.main_arg3) = m' ((c.tc : Thread Cert.AdamShiftRefIdeal.nD Cert.AdamShiftRefIdeal.τ).loc Cert.AdamShiftRefIdeal.main_arg3))

def preserves_AdamMixIn_AdamMixInIdeal : Prop :=
  IdealRules.named_const.Statement Cert.AdamMixInIdeal.κ "c1" .f32 0x3FC48605#32 ((8388608 / 5463681 : ℝ) : EReal)
  ∧ IdealRules.named_const.Statement Cert.AdamMixInIdeal.κ "c2" .f32 0x42C8E6D3#32 ((268435456 / 2672307 : ℝ) : EReal)

def algebraic_AdamMixInIdeal_AdamMixInRefIdeal [hAdamMixInIdeal : Cert.AdamMixInIdeal.Facts] [hAdamMixInRefIdeal : Cert.AdamMixInRefIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg)
    (m' : (ℓ : Loc Cert.AdamMixInRefIdeal.nD Cert.AdamMixInRefIdeal.τ Cert.AdamMixInRefIdeal.sig) → Buf (Elt Ideal) ℓ) (g' : Dev Cert.AdamMixInRefIdeal.nD → PrngReg), Pre_AdamMixInIdeal m →
    (∀ c : Dev Cert.AdamMixInIdeal.nD,
      m' ((c.tc : Thread Cert.AdamMixInRefIdeal.nD Cert.AdamMixInRefIdeal.τ).loc Cert.AdamMixInRefIdeal.main_arg0) = m ((c.tc : Thread Cert.AdamMixInIdeal.nD Cert.AdamMixInIdeal.τ).loc Cert.AdamMixInIdeal.main_arg0)
      ∧ m' ((c.tc : Thread Cert.AdamMixInRefIdeal.nD Cert.AdamMixInRefIdeal.τ).loc Cert.AdamMixInRefIdeal.main_arg1) = m ((c.tc : Thread Cert.AdamMixInIdeal.nD Cert.AdamMixInIdeal.τ).loc Cert.AdamMixInIdeal.main_arg1)
      ∧ m' ((c.tc : Thread Cert.AdamMixInRefIdeal.nD Cert.AdamMixInRefIdeal.τ).loc Cert.AdamMixInRefIdeal.main_arg2) = m ((c.tc : Thread Cert.AdamMixInIdeal.nD Cert.AdamMixInIdeal.τ).loc Cert.AdamMixInIdeal.main_arg2)
      ∧ m' ((c.tc : Thread Cert.AdamMixInRefIdeal.nD Cert.AdamMixInRefIdeal.τ).loc Cert.AdamMixInRefIdeal.main_arg3) = m ((c.tc : Thread Cert.AdamMixInIdeal.nD Cert.AdamMixInIdeal.τ).loc Cert.AdamMixInIdeal.main_arg3)) →
    ∃ (v0 : (c : Dev Cert.AdamMixInIdeal.nD) → Buf (Elt Ideal) ((c.tc : Thread Cert.AdamMixInIdeal.nD Cert.AdamMixInIdeal.τ).loc Cert.AdamMixInIdeal.main_v4_0)) (v1 : (c : Dev Cert.AdamMixInIdeal.nD) → Buf (Elt Ideal) ((c.tc : Thread Cert.AdamMixInIdeal.nD Cert.AdamMixInIdeal.τ).loc Cert.AdamMixInIdeal.main_v4_1)) (v2 : (c : Dev Cert.AdamMixInIdeal.nD) → Buf (Elt Ideal) ((c.tc : Thread Cert.AdamMixInIdeal.nD Cert.AdamMixInIdeal.τ).loc Cert.AdamMixInIdeal.main_v4_2)),
      θ_run (Cert.AdamMixInIdeal.defs (F := Ideal)) (onTc (τ := Cert.AdamMixInIdeal.τ) (Cert.AdamMixInIdeal.main (F := Ideal))) ⟨m, fun _ => 0, g⟩ (fun r => ∀ c : Dev Cert.AdamMixInIdeal.nD,
          r.2.mem ((c.tc : Thread Cert.AdamMixInIdeal.nD Cert.AdamMixInIdeal.τ).loc Cert.AdamMixInIdeal.main_v4_0) = v0 c
          ∧ r.2.mem ((c.tc : Thread Cert.AdamMixInIdeal.nD Cert.AdamMixInIdeal.τ).loc Cert.AdamMixInIdeal.main_v4_1) = v1 c
          ∧ r.2.mem ((c.tc : Thread Cert.AdamMixInIdeal.nD Cert.AdamMixInIdeal.τ).loc Cert.AdamMixInIdeal.main_v4_2) = v2 c
          ∧ r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
          ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
          ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
          ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ θ_run (Cert.AdamMixInRefIdeal.defs (F := Ideal)) (onTc (τ := Cert.AdamMixInRefIdeal.τ) (Cert.AdamMixInRefIdeal.main (F := Ideal))) ⟨m', fun _ => 0, g'⟩ (fun r => ∀ c : Dev Cert.AdamMixInRefIdeal.nD,
          r.2.mem ((c.tc : Thread Cert.AdamMixInRefIdeal.nD Cert.AdamMixInRefIdeal.τ).loc Cert.AdamMixInRefIdeal.main_v24) = v0 c
          ∧ r.2.mem ((c.tc : Thread Cert.AdamMixInRefIdeal.nD Cert.AdamMixInRefIdeal.τ).loc Cert.AdamMixInRefIdeal.main_v25) = v1 c
          ∧ r.2.mem ((c.tc : Thread Cert.AdamMixInRefIdeal.nD Cert.AdamMixInRefIdeal.τ).loc Cert.AdamMixInRefIdeal.main_v26) = v2 c
          ∧ r.2.mem ((c.tc : Thread Cert.AdamMixInRefIdeal.nD Cert.AdamMixInRefIdeal.τ).loc Cert.AdamMixInRefIdeal.main_arg0) = m' ((c.tc : Thread Cert.AdamMixInRefIdeal.nD Cert.AdamMixInRefIdeal.τ).loc Cert.AdamMixInRefIdeal.main_arg0)
          ∧ r.2.mem ((c.tc : Thread Cert.AdamMixInRefIdeal.nD Cert.AdamMixInRefIdeal.τ).loc Cert.AdamMixInRefIdeal.main_arg1) = m' ((c.tc : Thread Cert.AdamMixInRefIdeal.nD Cert.AdamMixInRefIdeal.τ).loc Cert.AdamMixInRefIdeal.main_arg1)
          ∧ r.2.mem ((c.tc : Thread Cert.AdamMixInRefIdeal.nD Cert.AdamMixInRefIdeal.τ).loc Cert.AdamMixInRefIdeal.main_arg2) = m' ((c.tc : Thread Cert.AdamMixInRefIdeal.nD Cert.AdamMixInRefIdeal.τ).loc Cert.AdamMixInRefIdeal.main_arg2)
          ∧ r.2.mem ((c.tc : Thread Cert.AdamMixInRefIdeal.nD Cert.AdamMixInRefIdeal.τ).loc Cert.AdamMixInRefIdeal.main_arg3) = m' ((c.tc : Thread Cert.AdamMixInRefIdeal.nD Cert.AdamMixInRefIdeal.τ).loc Cert.AdamMixInRefIdeal.main_arg3))

def preserves_AdamMix_AdamMixIdeal : Prop :=
  IdealRules.named_const.Statement Cert.AdamMixIdeal.κ "c1" .f32 0x3FC48605#32 ((8388608 / 5463681 : ℝ) : EReal)
  ∧ IdealRules.named_const.Statement Cert.AdamMixIdeal.κ "c2" .f32 0x42C8E6D3#32 ((268435456 / 2672307 : ℝ) : EReal)

def algebraic_AdamMixIdeal_AdamMixRefIdeal [hAdamMixIdeal : Cert.AdamMixIdeal.Facts] [hAdamMixRefIdeal : Cert.AdamMixRefIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixRefIdeal.nD Cert.AdamMixRefIdeal.τ Cert.AdamMixRefIdeal.sig) → Buf (Elt Ideal) ℓ) (g' : Dev Cert.AdamMixRefIdeal.nD → PrngReg), Pre_AdamMixIdeal m →
    (∀ c : Dev Cert.AdamMixIdeal.nD,
      m' ((c.tc : Thread Cert.AdamMixRefIdeal.nD Cert.AdamMixRefIdeal.τ).loc Cert.AdamMixRefIdeal.main_arg0) = m ((c.tc : Thread Cert.AdamMixIdeal.nD Cert.AdamMixIdeal.τ).loc Cert.AdamMixIdeal.main_arg0)
      ∧ m' ((c.tc : Thread Cert.AdamMixRefIdeal.nD Cert.AdamMixRefIdeal.τ).loc Cert.AdamMixRefIdeal.main_arg1) = m ((c.tc : Thread Cert.AdamMixIdeal.nD Cert.AdamMixIdeal.τ).loc Cert.AdamMixIdeal.main_arg1)
      ∧ m' ((c.tc : Thread Cert.AdamMixRefIdeal.nD Cert.AdamMixRefIdeal.τ).loc Cert.AdamMixRefIdeal.main_arg2) = m ((c.tc : Thread Cert.AdamMixIdeal.nD Cert.AdamMixIdeal.τ).loc Cert.AdamMixIdeal.main_arg2)
      ∧ m' ((c.tc : Thread Cert.AdamMixRefIdeal.nD Cert.AdamMixRefIdeal.τ).loc Cert.AdamMixRefIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixRefIdeal.defs (F := Ideal)) (onTc (τ := Cert.AdamMixRefIdeal.τ) (Cert.AdamMixRefIdeal.main (F := Ideal))) ⟨m', fun _ => 0, g'⟩ (fun r => ∀ c : Dev Cert.AdamMixRefIdeal.nD,
          r.2.mem ((c.tc : Thread Cert.AdamMixRefIdeal.nD Cert.AdamMixRefIdeal.τ).loc Cert.AdamMixRefIdeal.main_v23) = v0 c
          ∧ r.2.mem ((c.tc : Thread Cert.AdamMixRefIdeal.nD Cert.AdamMixRefIdeal.τ).loc Cert.AdamMixRefIdeal.main_v4) = v1 c
          ∧ r.2.mem ((c.tc : Thread Cert.AdamMixRefIdeal.nD Cert.AdamMixRefIdeal.τ).loc Cert.AdamMixRefIdeal.main_v10) = v2 c
          ∧ r.2.mem ((c.tc : Thread Cert.AdamMixRefIdeal.nD Cert.AdamMixRefIdeal.τ).loc Cert.AdamMixRefIdeal.main_arg0) = m' ((c.tc : Thread Cert.AdamMixRefIdeal.nD Cert.AdamMixRefIdeal.τ).loc Cert.AdamMixRefIdeal.main_arg0)
          ∧ r.2.mem ((c.tc : Thread Cert.AdamMixRefIdeal.nD Cert.AdamMixRefIdeal.τ).loc Cert.AdamMixRefIdeal.main_arg1) = m' ((c.tc : Thread Cert.AdamMixRefIdeal.nD Cert.AdamMixRefIdeal.τ).loc Cert.AdamMixRefIdeal.main_arg1)
          ∧ r.2.mem ((c.tc : Thread Cert.AdamMixRefIdeal.nD Cert.AdamMixRefIdeal.τ).loc Cert.AdamMixRefIdeal.main_arg2) = m' ((c.tc : Thread Cert.AdamMixRefIdeal.nD Cert.AdamMixRefIdeal.τ).loc Cert.AdamMixRefIdeal.main_arg2)
          ∧ r.2.mem ((c.tc : Thread Cert.AdamMixRefIdeal.nD Cert.AdamMixRefIdeal.τ).loc Cert.AdamMixRefIdeal.main_arg3) = m' ((c.tc : Thread Cert.AdamMixRefIdeal.nD Cert.AdamMixRefIdeal.τ).loc Cert.AdamMixRefIdeal.main_arg3))

def preserves_AdamGate_AdamGateIdeal : Prop :=
  IdealRules.named_const.Statement Cert.AdamGateIdeal.κ "c1" .f32 0x3FC48605#32 ((8388608 / 5463681 : ℝ) : EReal)
  ∧ IdealRules.named_const.Statement Cert.AdamGateIdeal.κ "c2" .f32 0x42C8E6D3#32 ((268435456 / 2672307 : ℝ) : EReal)

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v4_0)) (v1 : (c : Dev Cert.AdamGateIdeal.nD) → Buf (Elt Ideal) ((c.tc : Thread Cert.AdamGateIdeal.nD Cert.AdamGateIdeal.τ).loc Cert.AdamGateIdeal.main_v4_1)) (v2 : (c : Dev Cert.AdamGateIdeal.nD) → Buf (Elt Ideal) ((c.tc : Thread Cert.AdamGateIdeal.nD Cert.AdamGateIdeal.τ).loc Cert.AdamGateIdeal.main_v4_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v4_0) = v0 c
          ∧ r.2.mem ((c.tc : Thread Cert.AdamGateIdeal.nD Cert.AdamGateIdeal.τ).loc Cert.AdamGateIdeal.main_v4_1) = v1 c
          ∧ r.2.mem ((c.tc : Thread Cert.AdamGateIdeal.nD Cert.AdamGateIdeal.τ).loc Cert.AdamGateIdeal.main_v4_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v24) = v0 c
          ∧ r.2.mem ((c.tc : Thread Cert.AdamGateRefIdeal.nD Cert.AdamGateRefIdeal.τ).loc Cert.AdamGateRefIdeal.main_v25) = v1 c
          ∧ r.2.mem ((c.tc : Thread Cert.AdamGateRefIdeal.nD Cert.AdamGateRefIdeal.τ).loc Cert.AdamGateRefIdeal.main_v26) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamBonus_AdamBonusIdeal : Prop :=
  IdealRules.named_const.Statement Cert.AdamBonusIdeal.κ "c1" .f32 0x3FC48605#32 ((8388608 / 5463681 : ℝ) : EReal)
  ∧ IdealRules.named_const.Statement Cert.AdamBonusIdeal.κ "c2" .f32 0x42C8E6D3#32 ((268435456 / 2672307 : ℝ) : EReal)

def algebraic_AdamBonusIdeal_AdamBonusRefIdeal [hAdamBonusIdeal : Cert.AdamBonusIdeal.Facts] [hAdamBonusRefIdeal : Cert.AdamBonusRefIdeal.Facts] : Prop :=
  ∀ (m : (ℓ : Loc Cert.AdamBonusIdeal.nD Cert.AdamBonusIdeal.τ Cert.AdamBonusIdeal.sig) → Buf (Elt Ideal) ℓ) (g : Dev Cert.AdamBonusIdeal.nD → PrngReg)
    (m' : (ℓ : Loc Cert.AdamBonusRefIdeal.nD Cert.AdamBonusRefIdeal.τ Cert.AdamBonusRefIdeal.sig) → Buf (Elt Ideal) ℓ) (g' : Dev Cert.AdamBonusRefIdeal.nD → PrngReg), Pre_AdamBonusIdeal m →
    (∀ c : Dev Cert.AdamBonusIdeal.nD,
      m' ((c.tc : Thread Cert.AdamBonusRefIdeal.nD Cert.AdamBonusRefIdeal.τ).loc Cert.AdamBonusRefIdeal.main_arg0) = m ((c.tc : Thread Cert.AdamBonusIdeal.nD Cert.AdamBonusIdeal.τ).loc Cert.AdamBonusIdeal.main_arg0)
      ∧ m' ((c.tc : Thread Cert.AdamBonusRefIdeal.nD Cert.AdamBonusRefIdeal.τ).loc Cert.AdamBonusRefIdeal.main_arg1) = m ((c.tc : Thread Cert.AdamBonusIdeal.nD Cert.AdamBonusIdeal.τ).loc Cert.AdamBonusIdeal.main_arg1)
      ∧ m' ((c.tc : Thread Cert.AdamBonusRefIdeal.nD Cert.AdamBonusRefIdeal.τ).loc Cert.AdamBonusRefIdeal.main_arg2) = m ((c.tc : Thread Cert.AdamBonusIdeal.nD Cert.AdamBonusIdeal.τ).loc Cert.AdamBonusIdeal.main_arg2)
      ∧ m' ((c.tc : Thread Cert.AdamBonusRefIdeal.nD Cert.AdamBonusRefIdeal.τ).loc Cert.AdamBonusRefIdeal.main_arg3) = m ((c.tc : Thread Cert.AdamBonusIdeal.nD Cert.AdamBonusIdeal.τ).loc Cert.AdamBonusIdeal.main_arg3)) →
    ∃ (v0 : (c : Dev Cert.AdamBonusIdeal.nD) → Buf (Elt Ideal) ((c.tc : Thread Cert.AdamBonusIdeal.nD Cert.AdamBonusIdeal.τ).loc Cert.AdamBonusIdeal.main_v4_0)) (v1 : (c : Dev Cert.AdamBonusIdeal.nD) → Buf (Elt Ideal) ((c.tc : Thread Cert.AdamBonusIdeal.nD Cert.AdamBonusIdeal.τ).loc Cert.AdamBonusIdeal.main_v4_1)) (v2 : (c : Dev Cert.AdamBonusIdeal.nD) → Buf (Elt Ideal) ((c.tc : Thread Cert.AdamBonusIdeal.nD Cert.AdamBonusIdeal.τ).loc Cert.AdamBonusIdeal.main_v4_2)),
      θ_run (Cert.AdamBonusIdeal.defs (F := Ideal)) (onTc (τ := Cert.AdamBonusIdeal.τ) (Cert.AdamBonusIdeal.main (F := Ideal))) ⟨m, fun _ => 0, g⟩ (fun r => ∀ c : Dev Cert.AdamBonusIdeal.nD,
          r.2.mem ((c.tc : Thread Cert.AdamBonusIdeal.nD Cert.AdamBonusIdeal.τ).loc Cert.AdamBonusIdeal.main_v4_0) = v0 c
          ∧ r.2.mem ((c.tc : Thread Cert.AdamBonusIdeal.nD Cert.AdamBonusIdeal.τ).loc Cert.AdamBonusIdeal.main_v4_1) = v1 c
          ∧ r.2.mem ((c.tc : Thread Cert.AdamBonusIdeal.nD Cert.AdamBonusIdeal.τ).loc Cert.AdamBonusIdeal.main_v4_2) = v2 c
          ∧ r.2.mem ((c.tc : Thread Cert.AdamBonusIdeal.nD Cert.AdamBonusIdeal.τ).loc Cert.AdamBonusIdeal.main_arg0) = m ((c.tc : Thread Cert.AdamBonusIdeal.nD Cert.AdamBonusIdeal.τ).loc Cert.AdamBonusIdeal.main_arg0)
          ∧ r.2.mem ((c.tc : Thread Cert.AdamBonusIdeal.nD Cert.AdamBonusIdeal.τ).loc Cert.AdamBonusIdeal.main_arg1) = m ((c.tc : Thread Cert.AdamBonusIdeal.nD Cert.AdamBonusIdeal.τ).loc Cert.AdamBonusIdeal.main_arg1)
          ∧ r.2.mem ((c.tc : Thread Cert.AdamBonusIdeal.nD Cert.AdamBonusIdeal.τ).loc Cert.AdamBonusIdeal.main_arg2) = m ((c.tc : Thread Cert.AdamBonusIdeal.nD Cert.AdamBonusIdeal.τ).loc Cert.AdamBonusIdeal.main_arg2)
          ∧ r.2.mem ((c.tc : Thread Cert.AdamBonusIdeal.nD Cert.AdamBonusIdeal.τ).loc Cert.AdamBonusIdeal.main_arg3) = m ((c.tc : Thread Cert.AdamBonusIdeal.nD Cert.AdamBonusIdeal.τ).loc Cert.AdamBonusIdeal.main_arg3))
      ∧ θ_run (Cert.AdamBonusRefIdeal.defs (F := Ideal)) (onTc (τ := Cert.AdamBonusRefIdeal.τ) (Cert.AdamBonusRefIdeal.main (F := Ideal))) ⟨m', fun _ => 0, g'⟩ (fun r => ∀ c : Dev Cert.AdamBonusRefIdeal.nD,
          r.2.mem ((c.tc : Thread Cert.AdamBonusRefIdeal.nD Cert.AdamBonusRefIdeal.τ).loc Cert.AdamBonusRefIdeal.main_v24) = v0 c
          ∧ r.2.mem ((c.tc : Thread Cert.AdamBonusRefIdeal.nD Cert.AdamBonusRefIdeal.τ).loc Cert.AdamBonusRefIdeal.main_v25) = v1 c
          ∧ r.2.mem ((c.tc : Thread Cert.AdamBonusRefIdeal.nD Cert.AdamBonusRefIdeal.τ).loc Cert.AdamBonusRefIdeal.main_v26) = v2 c
          ∧ r.2.mem ((c.tc : Thread Cert.AdamBonusRefIdeal.nD Cert.AdamBonusRefIdeal.τ).loc Cert.AdamBonusRefIdeal.main_arg0) = m' ((c.tc : Thread Cert.AdamBonusRefIdeal.nD Cert.AdamBonusRefIdeal.τ).loc Cert.AdamBonusRefIdeal.main_arg0)
          ∧ r.2.mem ((c.tc : Thread Cert.AdamBonusRefIdeal.nD Cert.AdamBonusRefIdeal.τ).loc Cert.AdamBonusRefIdeal.main_arg1) = m' ((c.tc : Thread Cert.AdamBonusRefIdeal.nD Cert.AdamBonusRefIdeal.τ).loc Cert.AdamBonusRefIdeal.main_arg1)
          ∧ r.2.mem ((c.tc : Thread Cert.AdamBonusRefIdeal.nD Cert.AdamBonusRefIdeal.τ).loc Cert.AdamBonusRefIdeal.main_arg2) = m' ((c.tc : Thread Cert.AdamBonusRefIdeal.nD Cert.AdamBonusRefIdeal.τ).loc Cert.AdamBonusRefIdeal.main_arg2)
          ∧ r.2.mem ((c.tc : Thread Cert.AdamBonusRefIdeal.nD Cert.AdamBonusRefIdeal.τ).loc Cert.AdamBonusRefIdeal.main_arg3) = m' ((c.tc : Thread Cert.AdamBonusRefIdeal.nD Cert.AdamBonusRefIdeal.τ).loc Cert.AdamBonusRefIdeal.main_arg3))

def preserves_AdamConv_AdamConvIdeal : Prop :=
  IdealRules.named_const.Statement Cert.AdamConvIdeal.κ "c1" .f32 0x3FC48605#32 ((8388608 / 5463681 : ℝ) : EReal)
  ∧ IdealRules.named_const.Statement Cert.AdamConvIdeal.κ "c2" .f32 0x42C8E6D3#32 ((268435456 / 2672307 : ℝ) : EReal)

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v4_0)) (v1 : (c : Dev Cert.AdamConvIdeal.nD) → Buf (Elt Ideal) ((c.tc : Thread Cert.AdamConvIdeal.nD Cert.AdamConvIdeal.τ).loc Cert.AdamConvIdeal.main_v4_1)) (v2 : (c : Dev Cert.AdamConvIdeal.nD) → Buf (Elt Ideal) ((c.tc : Thread Cert.AdamConvIdeal.nD Cert.AdamConvIdeal.τ).loc Cert.AdamConvIdeal.main_v4_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v4_0) = v0 c
          ∧ r.2.mem ((c.tc : Thread Cert.AdamConvIdeal.nD Cert.AdamConvIdeal.τ).loc Cert.AdamConvIdeal.main_v4_1) = v1 c
          ∧ r.2.mem ((c.tc : Thread Cert.AdamConvIdeal.nD Cert.AdamConvIdeal.τ).loc Cert.AdamConvIdeal.main_v4_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v24) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v26) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamMixOut_AdamMixOutIdeal : Prop :=
  IdealRules.named_const.Statement Cert.AdamMixOutIdeal.κ "c1" .f32 0x3FC48605#32 ((8388608 / 5463681 : ℝ) : EReal)
  ∧ IdealRules.named_const.Statement Cert.AdamMixOutIdeal.κ "c2" .f32 0x42C8E6D3#32 ((268435456 / 2672307 : ℝ) : EReal)

def algebraic_AdamMixOutIdeal_AdamMixOutRefIdeal [hAdamMixOutIdeal : Cert.AdamMixOutIdeal.Facts] [hAdamMixOutRefIdeal : Cert.AdamMixOutRefIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg)
    (m' : (ℓ : Loc Cert.AdamMixOutRefIdeal.nD Cert.AdamMixOutRefIdeal.τ Cert.AdamMixOutRefIdeal.sig) → Buf (Elt Ideal) ℓ) (g' : Dev Cert.AdamMixOutRefIdeal.nD → PrngReg), Pre_AdamMixOutIdeal m →
    (∀ c : Dev Cert.AdamMixOutIdeal.nD,
      m' ((c.tc : Thread Cert.AdamMixOutRefIdeal.nD Cert.AdamMixOutRefIdeal.τ).loc Cert.AdamMixOutRefIdeal.main_arg0) = m ((c.tc : Thread Cert.AdamMixOutIdeal.nD Cert.AdamMixOutIdeal.τ).loc Cert.AdamMixOutIdeal.main_arg0)
      ∧ m' ((c.tc : Thread Cert.AdamMixOutRefIdeal.nD Cert.AdamMixOutRefIdeal.τ).loc Cert.AdamMixOutRefIdeal.main_arg1) = m ((c.tc : Thread Cert.AdamMixOutIdeal.nD Cert.AdamMixOutIdeal.τ).loc Cert.AdamMixOutIdeal.main_arg1)
      ∧ m' ((c.tc : Thread Cert.AdamMixOutRefIdeal.nD Cert.AdamMixOutRefIdeal.τ).loc Cert.AdamMixOutRefIdeal.main_arg2) = m ((c.tc : Thread Cert.AdamMixOutIdeal.nD Cert.AdamMixOutIdeal.τ).loc Cert.AdamMixOutIdeal.main_arg2)
      ∧ m' ((c.tc : Thread Cert.AdamMixOutRefIdeal.nD Cert.AdamMixOutRefIdeal.τ).loc Cert.AdamMixOutRefIdeal.main_arg3) = m ((c.tc : Thread Cert.AdamMixOutIdeal.nD Cert.AdamMixOutIdeal.τ).loc Cert.AdamMixOutIdeal.main_arg3)) →
    ∃ (v0 : (c : Dev Cert.AdamMixOutIdeal.nD) → Buf (Elt Ideal) ((c.tc : Thread Cert.AdamMixOutIdeal.nD Cert.AdamMixOutIdeal.τ).loc Cert.AdamMixOutIdeal.main_v4_0)) (v1 : (c : Dev Cert.AdamMixOutIdeal.nD) → Buf (Elt Ideal) ((c.tc : Thread Cert.AdamMixOutIdeal.nD Cert.AdamMixOutIdeal.τ).loc Cert.AdamMixOutIdeal.main_v4_1)) (v2 : (c : Dev Cert.AdamMixOutIdeal.nD) → Buf (Elt Ideal) ((c.tc : Thread Cert.AdamMixOutIdeal.nD Cert.AdamMixOutIdeal.τ).loc Cert.AdamMixOutIdeal.main_v4_2)),
      θ_run (Cert.AdamMixOutIdeal.defs (F := Ideal)) (onTc (τ := Cert.AdamMixOutIdeal.τ) (Cert.AdamMixOutIdeal.main (F := Ideal))) ⟨m, fun _ => 0, g⟩ (fun r => ∀ c : Dev Cert.AdamMixOutIdeal.nD,
          r.2.mem ((c.tc : Thread Cert.AdamMixOutIdeal.nD Cert.AdamMixOutIdeal.τ).loc Cert.AdamMixOutIdeal.main_v4_0) = v0 c
          ∧ r.2.mem ((c.tc : Thread Cert.AdamMixOutIdeal.nD Cert.AdamMixOutIdeal.τ).loc Cert.AdamMixOutIdeal.main_v4_1) = v1 c
          ∧ r.2.mem ((c.tc : Thread Cert.AdamMixOutIdeal.nD Cert.AdamMixOutIdeal.τ).loc Cert.AdamMixOutIdeal.main_v4_2) = v2 c
          ∧ r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
          ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
          ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
          ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ θ_run (Cert.AdamMixOutRefIdeal.defs (F := Ideal)) (onTc (τ := Cert.AdamMixOutRefIdeal.τ) (Cert.AdamMixOutRefIdeal.main (F := Ideal))) ⟨m', fun _ => 0, g'⟩ (fun r => ∀ c : Dev Cert.AdamMixOutRefIdeal.nD,
          r.2.mem ((c.tc : Thread Cert.AdamMixOutRefIdeal.nD Cert.AdamMixOutRefIdeal.τ).loc Cert.AdamMixOutRefIdeal.main_v24) = v0 c
          ∧ r.2.mem ((c.tc : Thread Cert.AdamMixOutRefIdeal.nD Cert.AdamMixOutRefIdeal.τ).loc Cert.AdamMixOutRefIdeal.main_v25) = v1 c
          ∧ r.2.mem ((c.tc : Thread Cert.AdamMixOutRefIdeal.nD Cert.AdamMixOutRefIdeal.τ).loc Cert.AdamMixOutRefIdeal.main_v26) = v2 c
          ∧ r.2.mem ((c.tc : Thread Cert.AdamMixOutRefIdeal.nD Cert.AdamMixOutRefIdeal.τ).loc Cert.AdamMixOutRefIdeal.main_arg0) = m' ((c.tc : Thread Cert.AdamMixOutRefIdeal.nD Cert.AdamMixOutRefIdeal.τ).loc Cert.AdamMixOutRefIdeal.main_arg0)
          ∧ r.2.mem ((c.tc : Thread Cert.AdamMixOutRefIdeal.nD Cert.AdamMixOutRefIdeal.τ).loc Cert.AdamMixOutRefIdeal.main_arg1) = m' ((c.tc : Thread Cert.AdamMixOutRefIdeal.nD Cert.AdamMixOutRefIdeal.τ).loc Cert.AdamMixOutRefIdeal.main_arg1)
          ∧ r.2.mem ((c.tc : Thread Cert.AdamMixOutRefIdeal.nD Cert.AdamMixOutRefIdeal.τ).loc Cert.AdamMixOutRefIdeal.main_arg2) = m' ((c.tc : Thread Cert.AdamMixOutRefIdeal.nD Cert.AdamMixOutRefIdeal.τ).loc Cert.AdamMixOutRefIdeal.main_arg2)
          ∧ r.2.mem ((c.tc : Thread Cert.AdamMixOutRefIdeal.nD Cert.AdamMixOutRefIdeal.τ).loc Cert.AdamMixOutRefIdeal.main_arg3) = m' ((c.tc : Thread Cert.AdamMixOutRefIdeal.nD Cert.AdamMixOutRefIdeal.τ).loc Cert.AdamMixOutRefIdeal.main_arg3))

def preserves_AdamQkv_AdamQkvIdeal : Prop :=
  IdealRules.named_const.Statement Cert.AdamQkvIdeal.κ "c1" .f32 0x3FC48605#32 ((8388608 / 5463681 : ℝ) : EReal)
  ∧ IdealRules.named_const.Statement Cert.AdamQkvIdeal.κ "c2" .f32 0x42C8E6D3#32 ((268435456 / 2672307 : ℝ) : EReal)

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v4_0)) (v1 : (c : Dev Cert.AdamQkvIdeal.nD) → Buf (Elt Ideal) ((c.tc : Thread Cert.AdamQkvIdeal.nD Cert.AdamQkvIdeal.τ).loc Cert.AdamQkvIdeal.main_v4_1)) (v2 : (c : Dev Cert.AdamQkvIdeal.nD) → Buf (Elt Ideal) ((c.tc : Thread Cert.AdamQkvIdeal.nD Cert.AdamQkvIdeal.τ).loc Cert.AdamQkvIdeal.main_v4_2)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v4_0) = v0 c
          ∧ r.2.mem ((c.tc : Thread Cert.AdamQkvIdeal.nD Cert.AdamQkvIdeal.τ).loc Cert.AdamQkvIdeal.main_v4_1) = v1 c
          ∧ r.2.mem ((c.tc : Thread Cert.AdamQkvIdeal.nD Cert.AdamQkvIdeal.τ).loc Cert.AdamQkvIdeal.main_v4_2) = v2 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v24) = v0 c
          ∧ r.2.mem ((c.tc : Thread Cert.AdamQkvRefIdeal.nD Cert.AdamQkvRefIdeal.τ).loc Cert.AdamQkvRefIdeal.main_v25) = v1 c
          ∧ r.2.mem ((c.tc : Thread Cert.AdamQkvRefIdeal.nD Cert.AdamQkvRefIdeal.τ).loc Cert.AdamQkvRefIdeal.main_v26) = v2 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamAttOut_AdamAttOutIdeal : Prop :=
  IdealRules.named_const.Statement Cert.AdamAttOutIdeal.κ "c1" .f32 0x3FC48605#32 ((8388608 / 5463681 : ℝ) : EReal)
  ∧ IdealRules.named_const.Statement Cert.AdamAttOutIdeal.κ "c2" .f32 0x42C8E6D3#32 ((268435456 / 2672307 : ℝ) : EReal)

def algebraic_AdamAttOutIdeal_AdamAttOutRefIdeal [hAdamAttOutIdeal : Cert.AdamAttOutIdeal.Facts] [hAdamAttOutRefIdeal : Cert.AdamAttOutRefIdeal.Facts] : Prop :=
  ∀ (m : (ℓ : Loc Cert.AdamAttOutIdeal.nD Cert.AdamAttOutIdeal.τ Cert.AdamAttOutIdeal.sig) → Buf (Elt Ideal) ℓ) (g : Dev Cert.AdamAttOutIdeal.nD → PrngReg)
    (m' : (ℓ : Loc Cert.AdamAttOutRefIdeal.nD Cert.AdamAttOutRefIdeal.τ Cert.AdamAttOutRefIdeal.sig) → Buf (Elt Ideal) ℓ) (g' : Dev Cert.AdamAttOutRefIdeal.nD → PrngReg), Pre_AdamAttOutIdeal m →
    (∀ c : Dev Cert.AdamAttOutIdeal.nD,
      m' ((c.tc : Thread Cert.AdamAttOutRefIdeal.nD Cert.AdamAttOutRefIdeal.τ).loc Cert.AdamAttOutRefIdeal.main_arg0) = m ((c.tc : Thread Cert.AdamAttOutIdeal.nD Cert.AdamAttOutIdeal.τ).loc Cert.AdamAttOutIdeal.main_arg0)
      ∧ m' ((c.tc : Thread Cert.AdamAttOutRefIdeal.nD Cert.AdamAttOutRefIdeal.τ).loc Cert.AdamAttOutRefIdeal.main_arg1) = m ((c.tc : Thread Cert.AdamAttOutIdeal.nD Cert.AdamAttOutIdeal.τ).loc Cert.AdamAttOutIdeal.main_arg1)
      ∧ m' ((c.tc : Thread Cert.AdamAttOutRefIdeal.nD Cert.AdamAttOutRefIdeal.τ).loc Cert.AdamAttOutRefIdeal.main_arg2) = m ((c.tc : Thread Cert.AdamAttOutIdeal.nD Cert.AdamAttOutIdeal.τ).loc Cert.AdamAttOutIdeal.main_arg2)
      ∧ m' ((c.tc : Thread Cert.AdamAttOutRefIdeal.nD Cert.AdamAttOutRefIdeal.τ).loc Cert.AdamAttOutRefIdeal.main_arg3) = m ((c.tc : Thread Cert.AdamAttOutIdeal.nD Cert.AdamAttOutIdeal.τ).loc Cert.AdamAttOutIdeal.main_arg3)) →
    ∃ (v0 : (c : Dev Cert.AdamAttOutIdeal.nD) → Buf (Elt Ideal) ((c.tc : Thread Cert.AdamAttOutIdeal.nD Cert.AdamAttOutIdeal.τ).loc Cert.AdamAttOutIdeal.main_v4_0)) (v1 : (c : Dev Cert.AdamAttOutIdeal.nD) → Buf (Elt Ideal) ((c.tc : Thread Cert.AdamAttOutIdeal.nD Cert.AdamAttOutIdeal.τ).loc Cert.AdamAttOutIdeal.main_v4_1)) (v2 : (c : Dev Cert.AdamAttOutIdeal.nD) → Buf (Elt Ideal) ((c.tc : Thread Cert.AdamAttOutIdeal.nD Cert.AdamAttOutIdeal.τ).loc Cert.AdamAttOutIdeal.main_v4_2)),
      θ_run (Cert.AdamAttOutIdeal.defs (F := Ideal)) (onTc (τ := Cert.AdamAttOutIdeal.τ) (Cert.AdamAttOutIdeal.main (F := Ideal))) ⟨m, fun _ => 0, g⟩ (fun r => ∀ c : Dev Cert.AdamAttOutIdeal.nD,
          r.2.mem ((c.tc : Thread Cert.AdamAttOutIdeal.nD Cert.AdamAttOutIdeal.τ).loc Cert.AdamAttOutIdeal.main_v4_0) = v0 c
          ∧ r.2.mem ((c.tc : Thread Cert.AdamAttOutIdeal.nD Cert.AdamAttOutIdeal.τ).loc Cert.AdamAttOutIdeal.main_v4_1) = v1 c
          ∧ r.2.mem ((c.tc : Thread Cert.AdamAttOutIdeal.nD Cert.AdamAttOutIdeal.τ).loc Cert.AdamAttOutIdeal.main_v4_2) = v2 c
          ∧ r.2.mem ((c.tc : Thread Cert.AdamAttOutIdeal.nD Cert.AdamAttOutIdeal.τ).loc Cert.AdamAttOutIdeal.main_arg0) = m ((c.tc : Thread Cert.AdamAttOutIdeal.nD Cert.AdamAttOutIdeal.τ).loc Cert.AdamAttOutIdeal.main_arg0)
          ∧ r.2.mem ((c.tc : Thread Cert.AdamAttOutIdeal.nD Cert.AdamAttOutIdeal.τ).loc Cert.AdamAttOutIdeal.main_arg1) = m ((c.tc : Thread Cert.AdamAttOutIdeal.nD Cert.AdamAttOutIdeal.τ).loc Cert.AdamAttOutIdeal.main_arg1)
          ∧ r.2.mem ((c.tc : Thread Cert.AdamAttOutIdeal.nD Cert.AdamAttOutIdeal.τ).loc Cert.AdamAttOutIdeal.main_arg2) = m ((c.tc : Thread Cert.AdamAttOutIdeal.nD Cert.AdamAttOutIdeal.τ).loc Cert.AdamAttOutIdeal.main_arg2)
          ∧ r.2.mem ((c.tc : Thread Cert.AdamAttOutIdeal.nD Cert.AdamAttOutIdeal.τ).loc Cert.AdamAttOutIdeal.main_arg3) = m ((c.tc : Thread Cert.AdamAttOutIdeal.nD Cert.AdamAttOutIdeal.τ).loc Cert.AdamAttOutIdeal.main_arg3))
      ∧ θ_run (Cert.AdamAttOutRefIdeal.defs (F := Ideal)) (onTc (τ := Cert.AdamAttOutRefIdeal.τ) (Cert.AdamAttOutRefIdeal.main (F := Ideal))) ⟨m', fun _ => 0, g'⟩ (fun r => ∀ c : Dev Cert.AdamAttOutRefIdeal.nD,
          r.2.mem ((c.tc : Thread Cert.AdamAttOutRefIdeal.nD Cert.AdamAttOutRefIdeal.τ).loc Cert.AdamAttOutRefIdeal.main_v24) = v0 c
          ∧ r.2.mem ((c.tc : Thread Cert.AdamAttOutRefIdeal.nD Cert.AdamAttOutRefIdeal.τ).loc Cert.AdamAttOutRefIdeal.main_v25) = v1 c
          ∧ r.2.mem ((c.tc : Thread Cert.AdamAttOutRefIdeal.nD Cert.AdamAttOutRefIdeal.τ).loc Cert.AdamAttOutRefIdeal.main_v26) = v2 c
          ∧ r.2.mem ((c.tc : Thread Cert.AdamAttOutRefIdeal.nD Cert.AdamAttOutRefIdeal.τ).loc Cert.AdamAttOutRefIdeal.main_arg0) = m' ((c.tc : Thread Cert.AdamAttOutRefIdeal.nD Cert.AdamAttOutRefIdeal.τ).loc Cert.AdamAttOutRefIdeal.main_arg0)
          ∧ r.2.mem ((c.tc : Thread Cert.AdamAttOutRefIdeal.nD Cert.AdamAttOutRefIdeal.τ).loc Cert.AdamAttOutRefIdeal.main_arg1) = m' ((c.tc : Thread Cert.AdamAttOutRefIdeal.nD Cert.AdamAttOutRefIdeal.τ).loc Cert.AdamAttOutRefIdeal.main_arg1)
          ∧ r.2.mem ((c.tc : Thread Cert.AdamAttOutRefIdeal.nD Cert.AdamAttOutRefIdeal.τ).loc Cert.AdamAttOutRefIdeal.main_arg2) = m' ((c.tc : Thread Cert.AdamAttOutRefIdeal.nD Cert.AdamAttOutRefIdeal.τ).loc Cert.AdamAttOutRefIdeal.main_arg2)
          ∧ r.2.mem ((c.tc : Thread Cert.AdamAttOutRefIdeal.nD Cert.AdamAttOutRefIdeal.τ).loc Cert.AdamAttOutRefIdeal.main_arg3) = m' ((c.tc : Thread Cert.AdamAttOutRefIdeal.nD Cert.AdamAttOutRefIdeal.τ).loc Cert.AdamAttOutRefIdeal.main_arg3))

def preserves_AdamRel_AdamRelIdeal : Prop :=
  IdealRules.named_const.Statement Cert.AdamRelIdeal.κ "c1" .f32 0x3FC48605#32 ((8388608 / 5463681 : ℝ) : EReal)
  ∧ IdealRules.named_const.Statement Cert.AdamRelIdeal.κ "c2" .f32 0x42C8E6D3#32 ((268435456 / 2672307 : ℝ) : EReal)

def algebraic_AdamRelIdeal_AdamRelRefIdeal [hAdamRelIdeal : Cert.AdamRelIdeal.Facts] [hAdamRelRefIdeal : Cert.AdamRelRefIdeal.Facts] : Prop :=
  ∀ (m : (ℓ : Loc Cert.AdamRelIdeal.nD Cert.AdamRelIdeal.τ Cert.AdamRelIdeal.sig) → Buf (Elt Ideal) ℓ) (g : Dev Cert.AdamRelIdeal.nD → PrngReg)
    (m' : (ℓ : Loc Cert.AdamRelRefIdeal.nD Cert.AdamRelRefIdeal.τ Cert.AdamRelRefIdeal.sig) → Buf (Elt Ideal) ℓ) (g' : Dev Cert.AdamRelRefIdeal.nD → PrngReg), Pre_AdamRelIdeal m →
    (∀ c : Dev Cert.AdamRelIdeal.nD,
      m' ((c.tc : Thread Cert.AdamRelRefIdeal.nD Cert.AdamRelRefIdeal.τ).loc Cert.AdamRelRefIdeal.main_arg0) = m ((c.tc : Thread Cert.AdamRelIdeal.nD Cert.AdamRelIdeal.τ).loc Cert.AdamRelIdeal.main_arg0)
      ∧ m' ((c.tc : Thread Cert.AdamRelRefIdeal.nD Cert.AdamRelRefIdeal.τ).loc Cert.AdamRelRefIdeal.main_arg1) = m ((c.tc : Thread Cert.AdamRelIdeal.nD Cert.AdamRelIdeal.τ).loc Cert.AdamRelIdeal.main_arg1)
      ∧ m' ((c.tc : Thread Cert.AdamRelRefIdeal.nD Cert.AdamRelRefIdeal.τ).loc Cert.AdamRelRefIdeal.main_arg2) = m ((c.tc : Thread Cert.AdamRelIdeal.nD Cert.AdamRelIdeal.τ).loc Cert.AdamRelIdeal.main_arg2)
      ∧ m' ((c.tc : Thread Cert.AdamRelRefIdeal.nD Cert.AdamRelRefIdeal.τ).loc Cert.AdamRelRefIdeal.main_arg3) = m ((c.tc : Thread Cert.AdamRelIdeal.nD Cert.AdamRelIdeal.τ).loc Cert.AdamRelIdeal.main_arg3)) →
    ∃ (v0 : (c : Dev Cert.AdamRelIdeal.nD) → Buf (Elt Ideal) ((c.tc : Thread Cert.AdamRelIdeal.nD Cert.AdamRelIdeal.τ).loc Cert.AdamRelIdeal.main_v0_0)) (v1 : (c : Dev Cert.AdamRelIdeal.nD) → Buf (Elt Ideal) ((c.tc : Thread Cert.AdamRelIdeal.nD Cert.AdamRelIdeal.τ).loc Cert.AdamRelIdeal.main_v0_1)) (v2 : (c : Dev Cert.AdamRelIdeal.nD) → Buf (Elt Ideal) ((c.tc : Thread Cert.AdamRelIdeal.nD Cert.AdamRelIdeal.τ).loc Cert.AdamRelIdeal.main_v0_2)),
      θ_run (Cert.AdamRelIdeal.defs (F := Ideal)) (onTc (τ := Cert.AdamRelIdeal.τ) (Cert.AdamRelIdeal.main (F := Ideal))) ⟨m, fun _ => 0, g⟩ (fun r => ∀ c : Dev Cert.AdamRelIdeal.nD,
          r.2.mem ((c.tc : Thread Cert.AdamRelIdeal.nD Cert.AdamRelIdeal.τ).loc Cert.AdamRelIdeal.main_v0_0) = v0 c
          ∧ r.2.mem ((c.tc : Thread Cert.AdamRelIdeal.nD Cert.AdamRelIdeal.τ).loc Cert.AdamRelIdeal.main_v0_1) = v1 c
          ∧ r.2.mem ((c.tc : Thread Cert.AdamRelIdeal.nD Cert.AdamRelIdeal.τ).loc Cert.AdamRelIdeal.main_v0_2) = v2 c
          ∧ r.2.mem ((c.tc : Thread Cert.AdamRelIdeal.nD Cert.AdamRelIdeal.τ).loc Cert.AdamRelIdeal.main_arg0) = m ((c.tc : Thread Cert.AdamRelIdeal.nD Cert.AdamRelIdeal.τ).loc Cert.AdamRelIdeal.main_arg0)
          ∧ r.2.mem ((c.tc : Thread Cert.AdamRelIdeal.nD Cert.AdamRelIdeal.τ).loc Cert.AdamRelIdeal.main_arg1) = m ((c.tc : Thread Cert.AdamRelIdeal.nD Cert.AdamRelIdeal.τ).loc Cert.AdamRelIdeal.main_arg1)
          ∧ r.2.mem ((c.tc : Thread Cert.AdamRelIdeal.nD Cert.AdamRelIdeal.τ).loc Cert.AdamRelIdeal.main_arg2) = m ((c.tc : Thread Cert.AdamRelIdeal.nD Cert.AdamRelIdeal.τ).loc Cert.AdamRelIdeal.main_arg2)
          ∧ r.2.mem ((c.tc : Thread Cert.AdamRelIdeal.nD Cert.AdamRelIdeal.τ).loc Cert.AdamRelIdeal.main_arg3) = m ((c.tc : Thread Cert.AdamRelIdeal.nD Cert.AdamRelIdeal.τ).loc Cert.AdamRelIdeal.main_arg3))
      ∧ θ_run (Cert.AdamRelRefIdeal.defs (F := Ideal)) (onTc (τ := Cert.AdamRelRefIdeal.τ) (Cert.AdamRelRefIdeal.main (F := Ideal))) ⟨m', fun _ => 0, g'⟩ (fun r => ∀ c : Dev Cert.AdamRelRefIdeal.nD,
          r.2.mem ((c.tc : Thread Cert.AdamRelRefIdeal.nD Cert.AdamRelRefIdeal.τ).loc Cert.AdamRelRefIdeal.main_v23) = v0 c
          ∧ r.2.mem ((c.tc : Thread Cert.AdamRelRefIdeal.nD Cert.AdamRelRefIdeal.τ).loc Cert.AdamRelRefIdeal.main_v4) = v1 c
          ∧ r.2.mem ((c.tc : Thread Cert.AdamRelRefIdeal.nD Cert.AdamRelRefIdeal.τ).loc Cert.AdamRelRefIdeal.main_v10) = v2 c
          ∧ r.2.mem ((c.tc : Thread Cert.AdamRelRefIdeal.nD Cert.AdamRelRefIdeal.τ).loc Cert.AdamRelRefIdeal.main_arg0) = m' ((c.tc : Thread Cert.AdamRelRefIdeal.nD Cert.AdamRelRefIdeal.τ).loc Cert.AdamRelRefIdeal.main_arg0)
          ∧ r.2.mem ((c.tc : Thread Cert.AdamRelRefIdeal.nD Cert.AdamRelRefIdeal.τ).loc Cert.AdamRelRefIdeal.main_arg1) = m' ((c.tc : Thread Cert.AdamRelRefIdeal.nD Cert.AdamRelRefIdeal.τ).loc Cert.AdamRelRefIdeal.main_arg1)
          ∧ r.2.mem ((c.tc : Thread Cert.AdamRelRefIdeal.nD Cert.AdamRelRefIdeal.τ).loc Cert.AdamRelRefIdeal.main_arg2) = m' ((c.tc : Thread Cert.AdamRelRefIdeal.nD Cert.AdamRelRefIdeal.τ).loc Cert.AdamRelRefIdeal.main_arg2)
          ∧ r.2.mem ((c.tc : Thread Cert.AdamRelRefIdeal.nD Cert.AdamRelRefIdeal.τ).loc Cert.AdamRelRefIdeal.main_arg3) = m' ((c.tc : Thread Cert.AdamRelRefIdeal.nD Cert.AdamRelRefIdeal.τ).loc Cert.AdamRelRefIdeal.main_arg3))

def Claim : Prop :=
  ∃ (hKernel : Cert.Kernel.Facts) (hKernelIdeal : Cert.KernelIdeal.Facts) (hReferenceIdeal : Cert.ReferenceIdeal.Facts) (hGateGrad : Cert.GateGrad.Facts) (hGateGradIdeal : Cert.GateGradIdeal.Facts) (hGateGradRefIdeal : Cert.GateGradRefIdeal.Facts) (hInGrad : Cert.InGrad.Facts) (hInGradIdeal : Cert.InGradIdeal.Facts) (hInGradRefIdeal : Cert.InGradRefIdeal.Facts) (hUpGrad : Cert.UpGrad.Facts) (hUpGradIdeal : Cert.UpGradIdeal.Facts) (hUpGradRefIdeal : Cert.UpGradRefIdeal.Facts) (hDownGrad : Cert.DownGrad.Facts) (hDownGradIdeal : Cert.DownGradIdeal.Facts) (hDownGradRefIdeal : Cert.DownGradRefIdeal.Facts) (hQkvInGrad : Cert.QkvInGrad.Facts) (hQkvInGradIdeal : Cert.QkvInGradIdeal.Facts) (hQkvInGradRefIdeal : Cert.QkvInGradRefIdeal.Facts) (hQkvGrad : Cert.QkvGrad.Facts) (hQkvGradIdeal : Cert.QkvGradIdeal.Facts) (hQkvGradRefIdeal : Cert.QkvGradRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hAdamMlp : Cert.AdamMlp.Facts) (hAdamMlpIdeal : Cert.AdamMlpIdeal.Facts) (hAdamMlpRefIdeal : Cert.AdamMlpRefIdeal.Facts) (hAdamRow : Cert.AdamRow.Facts) (hAdamRowIdeal : Cert.AdamRowIdeal.Facts) (hAdamRowRefIdeal : Cert.AdamRowRefIdeal.Facts) (hAdamNorm : Cert.AdamNorm.Facts) (hAdamNormIdeal : Cert.AdamNormIdeal.Facts) (hAdamNormRefIdeal : Cert.AdamNormRefIdeal.Facts) (hAdamRank : Cert.AdamRank.Facts) (hAdamRankIdeal : Cert.AdamRankIdeal.Facts) (hAdamRankRefIdeal : Cert.AdamRankRefIdeal.Facts) (hAdamCond : Cert.AdamCond.Facts) (hAdamCondIdeal : Cert.AdamCondIdeal.Facts) (hAdamCondRefIdeal : Cert.AdamCondRefIdeal.Facts) (hAdamShift : Cert.AdamShift.Facts) (hAdamShiftIdeal : Cert.AdamShiftIdeal.Facts) (hAdamShiftRefIdeal : Cert.AdamShiftRefIdeal.Facts) (hAdamMixIn : Cert.AdamMixIn.Facts) (hAdamMixInIdeal : Cert.AdamMixInIdeal.Facts) (hAdamMixInRefIdeal : Cert.AdamMixInRefIdeal.Facts) (hAdamMix : Cert.AdamMix.Facts) (hAdamMixIdeal : Cert.AdamMixIdeal.Facts) (hAdamMixRefIdeal : Cert.AdamMixRefIdeal.Facts) (hAdamGate : Cert.AdamGate.Facts) (hAdamGateIdeal : Cert.AdamGateIdeal.Facts) (hAdamGateRefIdeal : Cert.AdamGateRefIdeal.Facts) (hAdamBonus : Cert.AdamBonus.Facts) (hAdamBonusIdeal : Cert.AdamBonusIdeal.Facts) (hAdamBonusRefIdeal : Cert.AdamBonusRefIdeal.Facts) (hAdamConv : Cert.AdamConv.Facts) (hAdamConvIdeal : Cert.AdamConvIdeal.Facts) (hAdamConvRefIdeal : Cert.AdamConvRefIdeal.Facts) (hAdamMixOut : Cert.AdamMixOut.Facts) (hAdamMixOutIdeal : Cert.AdamMixOutIdeal.Facts) (hAdamMixOutRefIdeal : Cert.AdamMixOutRefIdeal.Facts) (hAdamQkv : Cert.AdamQkv.Facts) (hAdamQkvIdeal : Cert.AdamQkvIdeal.Facts) (hAdamQkvRefIdeal : Cert.AdamQkvRefIdeal.Facts) (hAdamAttOut : Cert.AdamAttOut.Facts) (hAdamAttOutIdeal : Cert.AdamAttOutIdeal.Facts) (hAdamAttOutRefIdeal : Cert.AdamAttOutRefIdeal.Facts) (hAdamRel : Cert.AdamRel.Facts) (hAdamRelIdeal : Cert.AdamRelIdeal.Facts) (hAdamRelRefIdeal : Cert.AdamRelRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateGrad (hGateGrad := hGateGrad)
    ∧ quiescent_GateGradIdeal (hGateGradIdeal := hGateGradIdeal)
    ∧ quiescent_GateGradRefIdeal (hGateGradRefIdeal := hGateGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_QkvInGrad (hQkvInGrad := hQkvInGrad)
    ∧ quiescent_QkvInGradIdeal (hQkvInGradIdeal := hQkvInGradIdeal)
    ∧ quiescent_QkvInGradRefIdeal (hQkvInGradRefIdeal := hQkvInGradRefIdeal)
    ∧ quiescent_QkvGrad (hQkvGrad := hQkvGrad)
    ∧ quiescent_QkvGradIdeal (hQkvGradIdeal := hQkvGradIdeal)
    ∧ quiescent_QkvGradRefIdeal (hQkvGradRefIdeal := hQkvGradRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamRank (hAdamRank := hAdamRank)
    ∧ quiescent_AdamRankIdeal (hAdamRankIdeal := hAdamRankIdeal)
    ∧ quiescent_AdamRankRefIdeal (hAdamRankRefIdeal := hAdamRankRefIdeal)
    ∧ quiescent_AdamCond (hAdamCond := hAdamCond)
    ∧ quiescent_AdamCondIdeal (hAdamCondIdeal := hAdamCondIdeal)
    ∧ quiescent_AdamCondRefIdeal (hAdamCondRefIdeal := hAdamCondRefIdeal)
    ∧ quiescent_AdamShift (hAdamShift := hAdamShift)
    ∧ quiescent_AdamShiftIdeal (hAdamShiftIdeal := hAdamShiftIdeal)
    ∧ quiescent_AdamShiftRefIdeal (hAdamShiftRefIdeal := hAdamShiftRefIdeal)
    ∧ quiescent_AdamMixIn (hAdamMixIn := hAdamMixIn)
    ∧ quiescent_AdamMixInIdeal (hAdamMixInIdeal := hAdamMixInIdeal)
    ∧ quiescent_AdamMixInRefIdeal (hAdamMixInRefIdeal := hAdamMixInRefIdeal)
    ∧ quiescent_AdamMix (hAdamMix := hAdamMix)
    ∧ quiescent_AdamMixIdeal (hAdamMixIdeal := hAdamMixIdeal)
    ∧ quiescent_AdamMixRefIdeal (hAdamMixRefIdeal := hAdamMixRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamBonus (hAdamBonus := hAdamBonus)
    ∧ quiescent_AdamBonusIdeal (hAdamBonusIdeal := hAdamBonusIdeal)
    ∧ quiescent_AdamBonusRefIdeal (hAdamBonusRefIdeal := hAdamBonusRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamMixOut (hAdamMixOut := hAdamMixOut)
    ∧ quiescent_AdamMixOutIdeal (hAdamMixOutIdeal := hAdamMixOutIdeal)
    ∧ quiescent_AdamMixOutRefIdeal (hAdamMixOutRefIdeal := hAdamMixOutRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamAttOut (hAdamAttOut := hAdamAttOut)
    ∧ quiescent_AdamAttOutIdeal (hAdamAttOutIdeal := hAdamAttOutIdeal)
    ∧ quiescent_AdamAttOutRefIdeal (hAdamAttOutRefIdeal := hAdamAttOutRefIdeal)
    ∧ quiescent_AdamRel (hAdamRel := hAdamRel)
    ∧ quiescent_AdamRelIdeal (hAdamRelIdeal := hAdamRelIdeal)
    ∧ quiescent_AdamRelRefIdeal (hAdamRelRefIdeal := hAdamRelRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GateGrad_GateGradIdeal
    ∧ algebraic_GateGradIdeal_GateGradRefIdeal (hGateGradIdeal := hGateGradIdeal) (hGateGradRefIdeal := hGateGradRefIdeal)
    ∧ preserves_InGrad_InGradIdeal
    ∧ algebraic_InGradIdeal_InGradRefIdeal (hInGradIdeal := hInGradIdeal) (hInGradRefIdeal := hInGradRefIdeal)
    ∧ preserves_UpGrad_UpGradIdeal
    ∧ algebraic_UpGradIdeal_UpGradRefIdeal (hUpGradIdeal := hUpGradIdeal) (hUpGradRefIdeal := hUpGradRefIdeal)
    ∧ preserves_DownGrad_DownGradIdeal
    ∧ algebraic_DownGradIdeal_DownGradRefIdeal (hDownGradIdeal := hDownGradIdeal) (hDownGradRefIdeal := hDownGradRefIdeal)
    ∧ preserves_QkvInGrad_QkvInGradIdeal
    ∧ algebraic_QkvInGradIdeal_QkvInGradRefIdeal (hQkvInGradIdeal := hQkvInGradIdeal) (hQkvInGradRefIdeal := hQkvInGradRefIdeal)
    ∧ preserves_QkvGrad_QkvGradIdeal
    ∧ algebraic_QkvGradIdeal_QkvGradRefIdeal (hQkvGradIdeal := hQkvGradIdeal) (hQkvGradRefIdeal := hQkvGradRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdamRow_AdamRowIdeal
    ∧ algebraic_AdamRowIdeal_AdamRowRefIdeal (hAdamRowIdeal := hAdamRowIdeal) (hAdamRowRefIdeal := hAdamRowRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamRank_AdamRankIdeal
    ∧ algebraic_AdamRankIdeal_AdamRankRefIdeal (hAdamRankIdeal := hAdamRankIdeal) (hAdamRankRefIdeal := hAdamRankRefIdeal)
    ∧ preserves_AdamCond_AdamCondIdeal
    ∧ algebraic_AdamCondIdeal_AdamCondRefIdeal (hAdamCondIdeal := hAdamCondIdeal) (hAdamCondRefIdeal := hAdamCondRefIdeal)
    ∧ preserves_AdamShift_AdamShiftIdeal
    ∧ algebraic_AdamShiftIdeal_AdamShiftRefIdeal (hAdamShiftIdeal := hAdamShiftIdeal) (hAdamShiftRefIdeal := hAdamShiftRefIdeal)
    ∧ preserves_AdamMixIn_AdamMixInIdeal
    ∧ algebraic_AdamMixInIdeal_AdamMixInRefIdeal (hAdamMixInIdeal := hAdamMixInIdeal) (hAdamMixInRefIdeal := hAdamMixInRefIdeal)
    ∧ preserves_AdamMix_AdamMixIdeal
    ∧ algebraic_AdamMixIdeal_AdamMixRefIdeal (hAdamMixIdeal := hAdamMixIdeal) (hAdamMixRefIdeal := hAdamMixRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamBonus_AdamBonusIdeal
    ∧ algebraic_AdamBonusIdeal_AdamBonusRefIdeal (hAdamBonusIdeal := hAdamBonusIdeal) (hAdamBonusRefIdeal := hAdamBonusRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamMixOut_AdamMixOutIdeal
    ∧ algebraic_AdamMixOutIdeal_AdamMixOutRefIdeal (hAdamMixOutIdeal := hAdamMixOutIdeal) (hAdamMixOutRefIdeal := hAdamMixOutRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamAttOut_AdamAttOutIdeal
    ∧ algebraic_AdamAttOutIdeal_AdamAttOutRefIdeal (hAdamAttOutIdeal := hAdamAttOutIdeal) (hAdamAttOutRefIdeal := hAdamAttOutRefIdeal)
    ∧ preserves_AdamRel_AdamRelIdeal
    ∧ algebraic_AdamRelIdeal_AdamRelRefIdeal (hAdamRelIdeal := hAdamRelIdeal) (hAdamRelRefIdeal := hAdamRelRefIdeal)
-- ==== Pre_finite.lean ====
abbrev S2048x1536 : Shape := ⟨2, ![2048, 1536]⟩
abbrev S8x128x256 : Shape := ⟨3, ![8, 128, 256]⟩
abbrev S2048x512 : Shape := ⟨2, ![2048, 512]⟩
abbrev S8x2048x128 : Shape := ⟨3, ![8, 2048, 128]⟩
abbrev S_ : Shape := ⟨0, ![]⟩

class Facts : Prop where
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S8x128x256 : S_.BroadcastsInDim S8x128x256 (![] : Fin 0 → Fin S8x128x256.rank)
  reducesTo_S8x128x256_S_d0_1_2 : S8x128x256.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn_part1 {F : FTy → Type} [FloatOps F] (main_v13 : IVec S_ 1) (main_v16 : IVec S8x2048x128 1) : IVec S_ 1 :=
  let main_c_5 : IVec S_ 1 := constantI S_ 1 1#1
  let main_v17 : IVec S_ 1 := (fun x v => Host.reduce IntOp.andi x v reducesTo_S8x2048x128_S_d0_1_2 h_S_) main_v16 main_c_5
  let main_v18 : IVec S_ 1 := andi main_v13 main_v17
  main_v18

def fn {F : FTy → Type} [FloatOps F] (main_arg0 : FVec F S2048x1536 .f32) (main_arg1 : FVec F S8x128x256 .f32) (main_arg2 : FVec F S2048x512 .f32) (main_arg3 : FVec F S8x2048x128 .f32) : IVec S_ 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_c : IVec S_ 1 := constantI S_ 1 1#1
  let main_v3 : IVec S_ 1 := (fun x v => Host.reduce IntOp.andi x v reducesTo_S2048x1536_S_d0_1 h_S_) main_v2 main_c
  let main_v4 : FVec F S8x128x256 .f32 := Host.absf main_arg1
  let main_cst_0 : FVec F S_ .f32 := constant S_ .f32 0x7F800000#32
  let main_v5 : FVec F S8x128x256 .f32 := broadcastInDim S8x128x256 ![] bcast_S_S8x128x256 main_cst_0
  let main_v6 : IVec S8x128x256 1 := cmpf .olt main_v4 main_v5
  let main_c_1 : IVec S_ 1 := constantI S_ 1 1#1
  let main_v7 : IVec S_ 1 := (fun x v => Host.reduce IntOp.andi x v reducesTo_S8x128x256_S_d0_1_2 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S8x2048x128 .f32 := Host.absf main_arg3
  let main_cst_4 : FVec F S_ .f32 := constant S_ .f32 0x7F800000#32
  let main_v15 : FVec F S8x2048x128 .f32 := broadcastInDim S8x2048x128 ![] bcast_S_S8x2048x128 main_cst_4
  let main_v16 : IVec S8x2048x128 1 := cmpf .olt main_v14 main_v15
  fn_part1 (F := F) main_v13 main_v16
-- ==== Kernel.lean ====
abbrev S2048x1536 : Shape := ⟨2, ![2048, 1536]⟩
abbrev S8x128x256 : Shape := ⟨3, ![8, 128, 256]⟩
abbrev S2048x512 : Shape := ⟨2, ![2048, 512]⟩
abbrev S8x2048x128 : Shape := ⟨3, ![8, 2048, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x2048x8x64 : Shape := ⟨4, ![1, 2048, 8, 64]⟩
abbrev S1x128x16x8x64 : Shape := ⟨5, ![1, 128, 16, 8, 64]⟩
abbrev S1x16x128x8x64 : Shape := ⟨5, ![1, 16, 128, 8, 64]⟩
abbrev S1x16x1x128x8x64 : Shape := ⟨6, ![1, 16, 1, 128, 8, 64]⟩
abbrev S1x16x0x128x8x64 : Shape := ⟨6, ![1, 16, 0, 128, 8, 64]⟩
abbrev S1x16x1x256x8x64 : Shape := ⟨6, ![1, 16, 1, 256, 8, 64]⟩
abbrev S1x16x1x8x128x256 : Shape := ⟨6, ![1, 16, 1, 8, 128, 256]⟩
abbrev S1x1x1x8x128x256 : Shape := ⟨6, ![1, 1, 1, 8, 128, 256]⟩
abbrev S1 : Shape := ⟨1, ![1]⟩
abbrev S1x1x1 : Shape := ⟨3, ![1, 1, 1]⟩
abbrev S1x1x256 : Shape := ⟨3, ![1, 1, 256]⟩
abbrev S1x128x256 : Shape := ⟨3, ![1, 128, 256]⟩
abbrev S1x1x1x1x128x256 : Shape := ⟨6, ![1, 1, 1, 1, 128, 256]⟩
abbrev S1x16x1x8x128 : Shape := ⟨5, ![1, 16, 1, 8, 128]⟩
abbrev S1x16x1x8x128x1 : Shape := ⟨6, ![1, 16, 1, 8, 128, 1]⟩
abbrev S1x16x1x8x64x128 : Shape := ⟨6, ![1, 16, 1, 8, 64, 128]⟩
abbrev S1x16x1x128x8 : Shape := ⟨5, ![1, 16, 1, 128, 8]⟩
abbrev S1x16x128x8 : Shape := ⟨4, ![1, 16, 128, 8]⟩
abbrev S1x128x16x8 : Shape := ⟨4, ![1, 128, 16, 8]⟩
abbrev S1x2048x8 : Shape := ⟨3, ![1, 2048, 8]⟩
abbrev S8x2048x1 : Shape := ⟨3, ![8, 2048, 1]⟩
abbrev S128x16x1536 : Shape := ⟨3, ![128, 16, 1536]⟩
abbrev S16x128x1536 : Shape := ⟨3, ![16, 128, 1536]⟩
abbrev S128x16x512 : Shape := ⟨3, ![128, 16, 512]⟩
abbrev S16x128x512 : Shape := ⟨3, ![16, 128, 512]⟩
abbrev S8x128x16x128 : Shape := ⟨4, ![8, 128, 16, 128]⟩
abbrev S8x16x128x128 : Shape := ⟨4, ![8, 16, 128, 128]⟩
abbrev S128x512 : Shape := ⟨2, ![128, 512]⟩
abbrev S8x128x128 : Shape := ⟨3, ![8, 128, 128]⟩
abbrev S128x128 : Shape := ⟨2, ![128, 128]⟩
abbrev S1x128 : Shape := ⟨2, ![1, 128]⟩
abbrev S1x128x128 : Shape := ⟨3, ![1, 128, 128]⟩

abbrev nBuf : Space → Nat
  | .hbm => 128
  | .vmem => 33
  | .smem => 0
  | _ => 0

abbrev bufTy : (tb : Table) → Fin (tcTables nBuf tb) → BufTy
  | .hbm, ⟨0, _⟩ => ⟨S2048x1536, .f32⟩
  | .hbm, ⟨1, _⟩ => ⟨S8x128x256, .f32⟩
  | .hbm, ⟨2, _⟩ => ⟨S2048x512, .f32⟩
  | .hbm, ⟨3, _⟩ => ⟨S8x2048x128, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S128, .i32⟩
  | .hbm, ⟨8, _⟩ => ⟨S128x1, .i32⟩
  | .hbm, ⟨9, _⟩ => ⟨S256, .i32⟩
  | .hbm, ⟨10, _⟩ => ⟨S1x256, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x256, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S128x256, .i1⟩
  | .hbm, ⟨24, _⟩ => ⟨S1x2048x8x64, .f32⟩
  | .hbm, ⟨25, _⟩ => ⟨S1x2048x8x64, .f32⟩
  | .hbm, ⟨26, _⟩ => ⟨S1x2048x8x64, .f32⟩
  | .hbm, ⟨27, _⟩ => ⟨S1x128x16x8x64, .f32⟩
  | .hbm, ⟨28, _⟩ => ⟨S1x16x128x8x64, .f32⟩
  | .hbm, ⟨29, _⟩ => ⟨S_, .i32⟩
  | .hbm, ⟨30, _⟩ => ⟨S_, .f32⟩
  | .hbm, ⟨31, _⟩ => ⟨S1x16x128x8x64, .f32⟩
  | .hbm, ⟨32, _⟩ => ⟨S1x16x1x128x8x64, .f32⟩
  | .hbm, ⟨33, _⟩ => ⟨S1x128x16x8x64, .f32⟩
  | .hbm, ⟨34, _⟩ => ⟨S1x16x128x8x64, .f32⟩
  | .hbm, ⟨35, _⟩ => ⟨S_, .i32⟩
  | .hbm, ⟨36, _⟩ => ⟨S_, .f32⟩
  | .hbm, ⟨37, _⟩ => ⟨S1x16x128x8x64, .f32⟩
  | .hbm, ⟨38, _⟩ => ⟨S1x16x1x128x8x64, .f32⟩
  | .hbm, ⟨39, _⟩ => ⟨S_, .f32⟩
  | .hbm, ⟨40, _⟩ => ⟨S1x16x1x128x8x64, .f32⟩
  | .hbm, ⟨41, _⟩ => ⟨S1x16x0x128x8x64, .f32⟩
  | .hbm, ⟨42, _⟩ => ⟨S1x16x1x128x8x64, .f32⟩
  | .hbm, ⟨43, _⟩ => ⟨S1x16x1x256x8x64, .f32⟩
  | .hbm, ⟨44, _⟩ => ⟨S1x128x16x8x64, .f32⟩
  | .hbm, ⟨45, _⟩ => ⟨S1x16x128x8x64, .f32⟩
  | .hbm, ⟨46, _⟩ => ⟨S_, .i32⟩
  | .hbm, ⟨47, _⟩ => ⟨S_, .f32⟩
  | .hbm, ⟨48, _⟩ => ⟨S1x16x128x8x64, .f32⟩
  | .hbm, ⟨49, _⟩ => ⟨S1x16x1x128x8x64, .f32⟩
  | .hbm, ⟨50, _⟩ => ⟨S_, .f32⟩
  | .hbm, ⟨51, _⟩ => ⟨S1x16x1x128x8x64, .f32⟩
  | .hbm, ⟨52, _⟩ => ⟨S1x16x0x128x8x64, .f32⟩
  | .hbm, ⟨53, _⟩ => ⟨S1x16x1x128x8x64, .f32⟩
  | .hbm, ⟨54, _⟩ => ⟨S1x16x1x256x8x64, .f32⟩
  | .hbm, ⟨55, _⟩ => ⟨S1x16x1x8x128x256, .f32⟩
  | .hbm, ⟨56, _⟩ => ⟨S_, .f32⟩
  | .hbm, ⟨57, _⟩ => ⟨S1x16x1x8x128x256, .f32⟩
  | .hbm, ⟨58, _⟩ => ⟨S1x16x1x8x128x256, .f32⟩
  | .hbm, ⟨59, _⟩ => ⟨S1x1x1x8x128x256, .f32⟩
  | .hbm, ⟨60, _⟩ => ⟨S1x16x1x8x128x256, .f32⟩
  | .hbm, ⟨61, _⟩ => ⟨S1x16x1x8x128x256, .f32⟩
  | .hbm, ⟨62, _⟩ => ⟨S256, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S1, .i1⟩
  | .hbm, ⟨67, _⟩ => ⟨S1x1x1, .i1⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S1x1x256, .i1⟩
  | .hbm, ⟨72, _⟩ => ⟨S1x1x256, .i1⟩
  | .hbm, ⟨73, _⟩ => ⟨S1x1x256, .i1⟩
  | .hbm, ⟨74, _⟩ => ⟨S1x128x256, .i1⟩
  | .hbm, ⟨75, _⟩ => ⟨S1x128x256, .i1⟩
  | .hbm, ⟨76, _⟩ => ⟨S1x128x256, .i1⟩
  | .hbm, ⟨77, _⟩ => ⟨S1x1x1x1x128x256, .i1⟩
  | .hbm, ⟨78, _⟩ => ⟨S_, .f32⟩
  | .hbm, ⟨79, _⟩ => ⟨S_, .f32⟩
  | .hbm, ⟨80, _⟩ => ⟨S1x16x1x8x128x256, .i1⟩
  | .hbm, ⟨81, _⟩ => ⟨S1x16x1x8x128x256, .f32⟩
  | .hbm, ⟨82, _⟩ => ⟨S1x16x1x8x128x256, .f32⟩
  | .hbm, ⟨83, _⟩ => ⟨S_, .f32⟩
  | .hbm, ⟨84, _⟩ => ⟨S1x16x1x8x128, .f32⟩
  | .hbm, ⟨85, _⟩ => ⟨S1x16x1x8x128x1, .f32⟩
  | .hbm, ⟨86, _⟩ => ⟨S1x16x1x8x128x256, .f32⟩
  | .hbm, ⟨87, _⟩ => ⟨S1x16x1x8x128x256, .f32⟩
  | .hbm, ⟨88, _⟩ => ⟨S1x16x1x8x128x256, .f32⟩
  | .hbm, ⟨89, _⟩ => ⟨S_, .f32⟩
  | .hbm, ⟨90, _⟩ => ⟨S1x16x1x8x128, .f32⟩
  | .hbm, ⟨91, _⟩ => ⟨S1x16x1x8x128x1, .f32⟩
  | .hbm, ⟨92, _⟩ => ⟨S1x16x1x8x128x256, .f32⟩
  | .hbm, ⟨93, _⟩ => ⟨S1x16x1x8x128x256, .f32⟩
  | .hbm, ⟨94, _⟩ => ⟨S1x16x1x8x64x128, .f32⟩
  | .hbm, ⟨95, _⟩ => ⟨S1x16x1x128x8x64, .f32⟩
  | .hbm, ⟨96, _⟩ => ⟨S1x16x1x8x128x1, .f32⟩
  | .hbm, ⟨97, _⟩ => ⟨S1x16x1x8x128x1, .f32⟩
  | .hbm, ⟨98, _⟩ => ⟨S1x16x1x8x128, .f32⟩
  | .hbm, ⟨99, _⟩ => ⟨S1x16x1x128x8, .f32⟩
  | .hbm, ⟨100, _⟩ => ⟨S1x16x128x8x64, .f32⟩
  | .hbm, ⟨101, _⟩ => ⟨S1x128x16x8x64, .f32⟩
  | .hbm, ⟨102, _⟩ => ⟨S1x2048x8x64, .f32⟩
  | .hbm, ⟨103, _⟩ => ⟨S1x16x128x8, .f32⟩
  | .hbm, ⟨104, _⟩ => ⟨S1x128x16x8, .f32⟩
  | .hbm, ⟨105, _⟩ => ⟨S1x2048x8, .f32⟩
  | .hbm, ⟨106, _⟩ => ⟨S2048x512, .f32⟩
  | .hbm, ⟨107, _⟩ => ⟨S8x2048x1, .f32⟩
  | .hbm, ⟨108, _⟩ => ⟨S8x2048x128, .f32⟩
  | .hbm, ⟨109, _⟩ => ⟨S128x16x1536, .f32⟩
  | .hbm, ⟨110, _⟩ => ⟨S16x128x1536, .f32⟩
  | .hbm, ⟨111, _⟩ => ⟨S2048x1536, .f32⟩
  | .hbm, ⟨112, _⟩ => ⟨S128x16x512, .f32⟩
  | .hbm, ⟨113, _⟩ => ⟨S16x128x512, .f32⟩
  | .hbm, ⟨114, _⟩ => ⟨S2048x512, .f32⟩
  | .hbm, ⟨115, _⟩ => ⟨S8x128x16x128, .f32⟩
  | .hbm, ⟨116, _⟩ => ⟨S8x16x128x128, .f32⟩
  | .hbm, ⟨117, _⟩ => ⟨S8x2048x128, .f32⟩
  | .hbm, ⟨118, _⟩ => ⟨S128x16x512, .f32⟩
  | .hbm, ⟨119, _⟩ => ⟨S16x128x512, .f32⟩
  | .hbm, ⟨120, _⟩ => ⟨S2048x512, .f32⟩
  | .hbm, ⟨121, _⟩ => ⟨S8x128x16x128, .f32⟩
  | .hbm, ⟨122, _⟩ => ⟨S8x16x128x128, .f32⟩
  | .hbm, ⟨123, _⟩ => ⟨S8x2048x128, .f32⟩
  | .hbm, ⟨124, _⟩ => ⟨S2048x512, .f32⟩
  | .hbm, ⟨125, _⟩ => ⟨S2048x512, .f32⟩
  | .hbm, ⟨126, _⟩ => ⟨S2048x512, .f32⟩
  | .hbm, ⟨127, _⟩ => ⟨S8x128x256, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | .local _ .vmem, ⟨19, _⟩ => ⟨S8x128x128, .f32⟩
  | .local _ .vmem, ⟨20, _⟩ => ⟨S8x128x128, .f32⟩
  | .local _ .vmem, ⟨21, _⟩ => ⟨S8x128x128, .f32⟩
  | .local _ .vmem, ⟨22, _⟩ => ⟨S8x128x128, .f32⟩
  | .local _ .vmem, ⟨23, _⟩ => ⟨S8x128x128, .f32⟩
  | .local _ .vmem, ⟨24, _⟩ => ⟨S8x128x256, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S128x512, .f32⟩
  | .local _ .vmem, ⟨31, _⟩ => ⟨S8x128x256, .f32⟩
  | .local _ .vmem, ⟨32, _⟩ => ⟨S128x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_call2_v0 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100_0 : Ref sig .tc := ⟨.hbm, 124, rfl⟩
abbrev main_v100_1 : Ref sig .tc := ⟨.hbm, 125, rfl⟩
abbrev main_v100_2 : Ref sig .tc := ⟨.hbm, 126, rfl⟩
abbrev main_v100_3 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi arg1 c1_i32_0
  let c0_i32 : BitVec 32 := 0#32
  let v2 : BitVec 32 := Scalar.minsi v1 c0_i32
  let v3 : BitVec 32 := Scalar.addi v0 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi arg1 c1_i32_0
  let c0_i32 : BitVec 32 := 0#32
  let v2 : BitVec 32 := Scalar.minsi v1 c0_i32
  let v3 : BitVec 32 := Scalar.addi v0 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi arg1 c1_i32_0
  let c0_i32 : BitVec 32 := 0#32
  let v2 : BitVec 32 := Scalar.minsi v1 c0_i32
  let v3 : BitVec 32 := Scalar.addi v0 v2
  let c0_i32_1 : BitVec 32 := 0#32
  let c0_i32_2 : BitVec 32 := 0#32
  ![v3.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi arg1 c1_i32_0
  let c0_i32 : BitVec 32 := 0#32
  let v2 : BitVec 32 := Scalar.minsi v1 c0_i32
  let v3 : BitVec 32 := Scalar.addi v0 v2
  let c0_i32_1 : BitVec 32 := 0#32
  let c0_i32_2 : BitVec 32 := 0#32
  let c0_i32_3 : BitVec 32 := 0#32
  ![c0_i32_1.toNat, v3.toNat, c0_i32_2.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi arg1 c1_i32_0
  let c0_i32 : BitVec 32 := 0#32
  let v2 : BitVec 32 := Scalar.minsi v1 c0_i32
  let v3 : BitVec 32 := Scalar.addi v0 v2
  let c0_i32_1 : BitVec 32 := 0#32
  let c0_i32_2 : BitVec 32 := 0#32
  let c0_i32_3 : BitVec 32 := 0#32
  ![c0_i32_1.toNat, v3.toNat, c0_i32_2.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S8x128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== ReferenceIdeal.lean ====
abbrev S2048x1536 : Shape := ⟨2, ![2048, 1536]⟩
abbrev S8x128x256 : Shape := ⟨3, ![8, 128, 256]⟩
abbrev S2048x512 : Shape := ⟨2, ![2048, 512]⟩
abbrev S8x2048x128 : Shape := ⟨3, ![8, 2048, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x2048x8x64 : Shape := ⟨4, ![1, 2048, 8, 64]⟩
abbrev S1x128x16x8x64 : Shape := ⟨5, ![1, 128, 16, 8, 64]⟩
abbrev S1x16x128x8x64 : Shape := ⟨5, ![1, 16, 128, 8, 64]⟩
abbrev S1x16x1x128x8x64 : Shape := ⟨6, ![1, 16, 1, 128, 8, 64]⟩
abbrev S1x16x0x128x8x64 : Shape := ⟨6, ![1, 16, 0, 128, 8, 64]⟩
abbrev S1x16x1x256x8x64 : Shape := ⟨6, ![1, 16, 1, 256, 8, 64]⟩
abbrev S1x16x1x8x128x256 : Shape := ⟨6, ![1, 16, 1, 8, 128, 256]⟩
abbrev S1x1x1x8x128x256 : Shape := ⟨6, ![1, 1, 1, 8, 128, 256]⟩
abbrev S1 : Shape := ⟨1, ![1]⟩
abbrev S1x1x1 : Shape := ⟨3, ![1, 1, 1]⟩
abbrev S1x1x256 : Shape := ⟨3, ![1, 1, 256]⟩
abbrev S1x128x256 : Shape := ⟨3, ![1, 128, 256]⟩
abbrev S1x1x1x1x128x256 : Shape := ⟨6, ![1, 1, 1, 1, 128, 256]⟩
abbrev S1x16x1x8x128 : Shape := ⟨5, ![1, 16, 1, 8, 128]⟩
abbrev S1x16x1x8x128x1 : Shape := ⟨6, ![1, 16, 1, 8, 128, 1]⟩
abbrev S1x16x1x8x64x128 : Shape := ⟨6, ![1, 16, 1, 8, 64, 128]⟩
abbrev S1x16x1x128x8 : Shape := ⟨5, ![1, 16, 1, 128, 8]⟩
abbrev S1x16x128x8 : Shape := ⟨4, ![1, 16, 128, 8]⟩
abbrev S1x128x16x8 : Shape := ⟨4, ![1, 128, 16, 8]⟩
abbrev S1x2048x8 : Shape := ⟨3, ![1, 2048, 8]⟩
abbrev S2048x8 : Shape := ⟨2, ![2048, 8]⟩
abbrev S8x2048 : Shape := ⟨2, ![8, 2048]⟩
abbrev S8x2048x1 : Shape := ⟨3, ![8, 2048, 1]⟩
abbrev S1x16x1x8x64x256 : Shape := ⟨6, ![1, 16, 1, 8, 64, 256]⟩
abbrev S16x8x128 : Shape := ⟨3, ![16, 8, 128]⟩
abbrev S1x1x8x128x256 : Shape := ⟨5, ![1, 1, 8, 128, 256]⟩
abbrev S1x16x1x8x256x64 : Shape := ⟨6, ![1, 16, 1, 8, 256, 64]⟩
abbrev S1x16x1x8x128x64 : Shape := ⟨6, ![1, 16, 1, 8, 128, 64]⟩
abbrev S1x2048x512 : Shape := ⟨3, ![1, 2048, 512]⟩
abbrev S1x128x16x512 : Shape := ⟨4, ![1, 128, 16, 512]⟩
abbrev S1x16x128x512 : Shape := ⟨4, ![1, 16, 128, 512]⟩
abbrev S1x16x1x128x512 : Shape := ⟨5, ![1, 16, 1, 128, 512]⟩

abbrev nBuf : Space → Nat
  | .hbm => 253
  | .vmem => 0
  | .smem => 0
  | _ => 0

abbrev hbmTy0_0 (i : Nat) : BufTy := match i % 128 with
  | 0 => ⟨S2048x1536, .f32⟩
  | 1 => ⟨S8x128x256, .f32⟩
  | 2 => ⟨S2048x512, .f32⟩
  | 3 => ⟨S8x2048x128, .f32⟩
  | 4 => ⟨S2048x512, .f32⟩
  | 5 => ⟨S2048x512, .f32⟩
  | 6 => ⟨S2048x512, .f32⟩
  | 7 => ⟨S128, .i32⟩
  | 8 => ⟨S128x1, .i32⟩
  | 9 => ⟨S256, .i32⟩
  | 10 => ⟨S1x256, .i32⟩
  | 11 => ⟨S_, .i32⟩
  | 12 => ⟨S128x1, .i32⟩
  | 13 => ⟨S128x1, .i32⟩
  | 14 => ⟨S128x256, .i32⟩
  | 15 => ⟨S128x256, .i32⟩
  | 16 => ⟨S128x256, .i32⟩
  | 17 => ⟨S_, .i32⟩
  | 18 => ⟨S128x256, .i32⟩
  | 19 => ⟨S128x256, .i1⟩
  | 20 => ⟨S_, .i32⟩
  | 21 => ⟨S128x256, .i32⟩
  | 22 => ⟨S128x256, .i1⟩
  | 23 => ⟨S128x256, .i1⟩
  | 24 => ⟨S1x2048x8x64, .f32⟩
  | 25 => ⟨S1x2048x8x64, .f32⟩
  | 26 => ⟨S1x2048x8x64, .f32⟩
  | 27 => ⟨S1x128x16x8x64, .f32⟩
  | 28 => ⟨S1x16x128x8x64, .f32⟩
  | 29 => ⟨S_, .i32⟩
  | 30 => ⟨S_, .f32⟩
  | 31 => ⟨S1x16x128x8x64, .f32⟩
  | 32 => ⟨S_, .f32⟩
  | 33 => ⟨S1x16x1x128x8x64, .f32⟩
  | 34 => ⟨S1x128x16x8x64, .f32⟩
  | 35 => ⟨S1x16x128x8x64, .f32⟩
  | 36 => ⟨S_, .i32⟩
  | 37 => ⟨S_, .f32⟩
  | 38 => ⟨S1x16x128x8x64, .f32⟩
  | 39 => ⟨S_, .f32⟩
  | 40 => ⟨S1x16x1x128x8x64, .f32⟩
  | 41 => ⟨S_, .f32⟩
  | 42 => ⟨S1x16x1x128x8x64, .f32⟩
  | 43 => ⟨S1x16x0x128x8x64, .f32⟩
  | 44 => ⟨S1x16x1x128x8x64, .f32⟩
  | 45 => ⟨S_, .f32⟩
  | 46 => ⟨S1x16x1x128x8x64, .f32⟩
  | 47 => ⟨S1x16x1x256x8x64, .f32⟩
  | 48 => ⟨S1x128x16x8x64, .f32⟩
  | 49 => ⟨S1x16x128x8x64, .f32⟩
  | 50 => ⟨S_, .i32⟩
  | 51 => ⟨S_, .f32⟩
  | 52 => ⟨S1x16x128x8x64, .f32⟩
  | 53 => ⟨S_, .f32⟩
  | 54 => ⟨S1x16x1x128x8x64, .f32⟩
  | 55 => ⟨S_, .f32⟩
  | 56 => ⟨S1x16x1x128x8x64, .f32⟩
  | 57 => ⟨S1x16x0x128x8x64, .f32⟩
  | 58 => ⟨S1x16x1x128x8x64, .f32⟩
  | 59 => ⟨S_, .f32⟩
  | 60 => ⟨S1x16x1x128x8x64, .f32⟩
  | 61 => ⟨S1x16x1x256x8x64, .f32⟩
  | 62 => ⟨S1x16x1x8x128x256, .f32⟩
  | 63 => ⟨S_, .f32⟩
  | 64 => ⟨S1x16x1x8x128x256, .f32⟩
  | 65 => ⟨S1x16x1x8x128x256, .f32⟩
  | 66 => ⟨S1x1x1x8x128x256, .f32⟩
  | 67 => ⟨S1x16x1x8x128x256, .f32⟩
  | 68 => ⟨S1x16x1x8x128x256, .f32⟩
  | 69 => ⟨S256, .i32⟩
  | 70 => ⟨S1, .i32⟩
  | 71 => ⟨S_, .i32⟩
  | 72 => ⟨S1, .i32⟩
  | 73 => ⟨S1, .i1⟩
  | 74 => ⟨S1x1x1, .i1⟩
  | 75 => ⟨S_, .i32⟩
  | 76 => ⟨S256, .i32⟩
  | 77 => ⟨S256, .i1⟩
  | 78 => ⟨S1x1x256, .i1⟩
  | 79 => ⟨S1x1x256, .i1⟩
  | 80 => ⟨S1x1x256, .i1⟩
  | 81 => ⟨S1x128x256, .i1⟩
  | 82 => ⟨S1x128x256, .i1⟩
  | 83 => ⟨S1x128x256, .i1⟩
  | 84 => ⟨S1x1x1x1x128x256, .i1⟩
  | 85 => ⟨S_, .f32⟩
  | 86 => ⟨S_, .f32⟩
  | 87 => ⟨S1x16x1x8x128x256, .i1⟩
  | 88 => ⟨S1x16x1x8x128x256, .f32⟩
  | 89 => ⟨S1x16x1x8x128x256, .f32⟩
  | 90 => ⟨S_, .f32⟩
  | 91 => ⟨S1x16x1x8x128x256, .f32⟩
  | 92 => ⟨S_, .f32⟩
  | 93 => ⟨S1x16x1x8x128, .f32⟩
  | 94 => ⟨S1x16x1x8x128x1, .f32⟩
  | 95 => ⟨S1x16x1x8x128x256, .f32⟩
  | 96 => ⟨S1x16x1x8x128x256, .i1⟩
  | 97 => ⟨S1x16x1x8x128x256, .f32⟩
  | 98 => ⟨S_, .f32⟩
  | 99 => ⟨S1x16x1x8x128, .f32⟩
  | 100 => ⟨S1x16x1x8x128x1, .f32⟩
  | 101 => ⟨S1x16x1x8x128x256, .f32⟩
  | 102 => ⟨S1x16x1x8x128x256, .f32⟩
  | 103 => ⟨S1x16x1x8x128x256, .f32⟩
  | 104 => ⟨S_, .f32⟩
  | 105 => ⟨S1x16x1x8x128, .f32⟩
  | 106 => ⟨S1x16x1x8x128x1, .f32⟩
  | 107 => ⟨S1x16x1x8x128x256, .f32⟩
  | 108 => ⟨S1x16x1x8x128x256, .f32⟩
  | 109 => ⟨S1x16x1x8x128x1, .f32⟩
  | 110 => ⟨S_, .f32⟩
  | 111 => ⟨S1x16x1x8x128x1, .f32⟩
  | 112 => ⟨S1x16x1x8x128x1, .f32⟩
  | 113 => ⟨S1x16x1x8x64x128, .f32⟩
  | 114 => ⟨S1x16x1x128x8x64, .f32⟩
  | 115 => ⟨S1x16x1x8x128x1, .f32⟩
  | 116 => ⟨S1x16x1x8x128x1, .f32⟩
  | 117 => ⟨S1x16x1x8x128, .f32⟩
  | 118 => ⟨S1x16x1x128x8, .f32⟩
  | 119 => ⟨S1x16x128x8x64, .f32⟩
  | 120 => ⟨S1x128x16x8x64, .f32⟩
  | 121 => ⟨S1x2048x8x64, .f32⟩
  | 122 => ⟨S1x16x128x8, .f32⟩
  | 123 => ⟨S1x128x16x8, .f32⟩
  | 124 => ⟨S1x2048x8, .f32⟩
  | 125 => ⟨S2048x512, .f32⟩
  | 126 => ⟨S2048x8, .f32⟩
  | 127 => ⟨S8x2048, .f32⟩
  | _ => ⟨S2048x1536, .f32⟩

abbrev hbmTy0_1 (i : Nat) : BufTy := match i % 128 with
  | 0 => ⟨S8x2048x1, .f32⟩
  | 1 => ⟨S8x2048x128, .f32⟩
  | 2 => ⟨S_, .f32⟩
  | 3 => ⟨S8x2048, .f32⟩
  | 4 => ⟨S8x2048x1, .f32⟩
  | 5 => ⟨S_, .f32⟩
  | 6 => ⟨S8x2048, .f32⟩
  | 7 => ⟨S2048x8, .f32⟩
  | 8 => ⟨S1x2048x8, .f32⟩
  | 9 => ⟨S1x2048x8x64, .f32⟩
  | 10 => ⟨S1x128x16x8, .f32⟩
  | 11 => ⟨S1x16x128x8, .f32⟩
  | 12 => ⟨S1x16x1x128x8, .f32⟩
  | 13 => ⟨S1x128x16x8x64, .f32⟩
  | 14 => ⟨S1x16x128x8x64, .f32⟩
  | 15 => ⟨S1x16x1x128x8x64, .f32⟩
  | 16 => ⟨S1x16x1x8x128, .f32⟩
  | 17 => ⟨S1x16x1x8x128x1, .f32⟩
  | 18 => ⟨S1x16x1x8x128x1, .f32⟩
  | 19 => ⟨S1x16x1x8x64x128, .f32⟩
  | 20 => ⟨S1x16x1x8x128x256, .f32⟩
  | 21 => ⟨S1x16x1x8x64x256, .f32⟩
  | 22 => ⟨S1x16x1x256x8x64, .f32⟩
  | 23 => ⟨S1x16x1x8x128x256, .f32⟩
  | 24 => ⟨S1x16x1x8x128x256, .f32⟩
  | 25 => ⟨S1x16x1x8x128x256, .f32⟩
  | 26 => ⟨S_, .f32⟩
  | 27 => ⟨S1x16x1x8x128, .f32⟩
  | 28 => ⟨S1x16x1x8x128x1, .f32⟩
  | 29 => ⟨S1x16x1x8x128x1, .f32⟩
  | 30 => ⟨S1x16x1x8x128x1, .f32⟩
  | 31 => ⟨S1x16x1x8x128x256, .f32⟩
  | 32 => ⟨S1x16x1x8x128x256, .f32⟩
  | 33 => ⟨S_, .f32⟩
  | 34 => ⟨S16x8x128, .f32⟩
  | 35 => ⟨S1x16x1x8x128, .f32⟩
  | 36 => ⟨S1x16x1x8x128x256, .f32⟩
  | 37 => ⟨S1x16x1x8x128x256, .f32⟩
  | 38 => ⟨S1x16x1x8x128x256, .f32⟩
  | 39 => ⟨S1x16x1x8x128x256, .f32⟩
  | 40 => ⟨S_, .f32⟩
  | 41 => ⟨S1x16x1x8x128, .f32⟩
  | 42 => ⟨S1x16x1x8x128x1, .f32⟩
  | 43 => ⟨S1x16x1x8x128x1, .f32⟩
  | 44 => ⟨S_, .f32⟩
  | 45 => ⟨S16x8x128, .f32⟩
  | 46 => ⟨S1x16x1x8x128, .f32⟩
  | 47 => ⟨S1x16x1x8x128, .f32⟩
  | 48 => ⟨S1x16x1x8x128x256, .f32⟩
  | 49 => ⟨S1x16x1x8x128x256, .f32⟩
  | 50 => ⟨S1x16x1x8x128x256, .f32⟩
  | 51 => ⟨S_, .f32⟩
  | 52 => ⟨S1x16x1x8x128x256, .f32⟩
  | 53 => ⟨S1x16x1x8x128x256, .f32⟩
  | 54 => ⟨S_, .f32⟩
  | 55 => ⟨S1x1x8x128x256, .f32⟩
  | 56 => ⟨S1x1x1x8x128x256, .f32⟩
  | 57 => ⟨S_, .f32⟩
  | 58 => ⟨S8x128x256, .f32⟩
  | 59 => ⟨S_, .f32⟩
  | 60 => ⟨S1x16x1x8x128x256, .f32⟩
  | 61 => ⟨S1x16x1x8x128x256, .f32⟩
  | 62 => ⟨S1x16x1x8x256x64, .f32⟩
  | 63 => ⟨S1x16x1x256x8x64, .f32⟩
  | 64 => ⟨S1x16x1x8x128x64, .f32⟩
  | 65 => ⟨S1x16x1x128x8x64, .f32⟩
  | 66 => ⟨S1x16x1x128x8x64, .f32⟩
  | 67 => ⟨S1x16x1x128x8x64, .f32⟩
  | 68 => ⟨S1x16x1x128x8x64, .f32⟩
  | 69 => ⟨S1x16x0x128x8x64, .f32⟩
  | 70 => ⟨S_, .f32⟩
  | 71 => ⟨S1x16x1x128x8x64, .f32⟩
  | 72 => ⟨S1x16x1x128x8x64, .f32⟩
  | 73 => ⟨S1x16x128x8x64, .f32⟩
  | 74 => ⟨S_, .f32⟩
  | 75 => ⟨S1x16x128x8x64, .f32⟩
  | 76 => ⟨S1x16x128x8x64, .f32⟩
  | 77 => ⟨S1x128x16x8x64, .f32⟩
  | 78 => ⟨S1x2048x8x64, .f32⟩
  | 79 => ⟨S1x16x1x128x8x64, .f32⟩
  | 80 => ⟨S1x16x1x128x8x64, .f32⟩
  | 81 => ⟨S1x16x1x128x8x64, .f32⟩
  | 82 => ⟨S1x16x0x128x8x64, .f32⟩
  | 83 => ⟨S_, .f32⟩
  | 84 => ⟨S1x16x1x128x8x64, .f32⟩
  | 85 => ⟨S1x16x1x128x8x64, .f32⟩
  | 86 => ⟨S1x16x128x8x64, .f32⟩
  | 87 => ⟨S_, .f32⟩
  | 88 => ⟨S1x16x128x8x64, .f32⟩
  | 89 => ⟨S1x16x128x8x64, .f32⟩
  | 90 => ⟨S1x128x16x8x64, .f32⟩
  | 91 => ⟨S1x2048x8x64, .f32⟩
  | 92 => ⟨S1x16x128x8x64, .f32⟩
  | 93 => ⟨S_, .f32⟩
  | 94 => ⟨S1x16x128x8x64, .f32⟩
  | 95 => ⟨S1x16x128x8x64, .f32⟩
  | 96 => ⟨S1x128x16x8x64, .f32⟩
  | 97 => ⟨S1x2048x8x64, .f32⟩
  | 98 => ⟨S2048x512, .f32⟩
  | 99 => ⟨S2048x512, .f32⟩
  | 100 => ⟨S2048x512, .f32⟩
  | 101 => ⟨S1x2048x512, .f32⟩
  | 102 => ⟨S1x128x16x512, .f32⟩
  | 103 => ⟨S1x16x128x512, .f32⟩
  | 104 => ⟨S_, .i32⟩
  | 105 => ⟨S_, .f32⟩
  | 106 => ⟨S1x16x128x512, .f32⟩
  | 107 => ⟨S1x16x1x128x512, .f32⟩
  | 108 => ⟨S2048x512, .f32⟩
  | 109 => ⟨S1x2048x512, .f32⟩
  | 110 => ⟨S1x128x16x512, .f32⟩
  | 111 => ⟨S1x16x128x512, .f32⟩
  | 112 => ⟨S_, .i32⟩
  | 113 => ⟨S_, .f32⟩
  | 114 => ⟨S1x16x128x512, .f32⟩
  | 115 => ⟨S1x16x1x128x512, .f32⟩
  | 116 => ⟨S2048x512, .f32⟩
  | 117 => ⟨S1x2048x512, .f32⟩
  | 118 => ⟨S1x128x16x512, .f32⟩
  | 119 => ⟨S1x16x128x512, .f32⟩
  | 120 => ⟨S_, .i32⟩
  | 121 => ⟨S_, .f32⟩
  | 122 => ⟨S1x16x128x512, .f32⟩
  | 123 => ⟨S1x16x1x128x512, .f32⟩
  | 124 => ⟨S2048x512, .f32⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_call0_v0 : Ref sig .tc := ⟨.hbm, 30, rfl⟩
abbrev main_v22_0 : Ref sig .tc := ⟨.hbm, 31, rfl⟩
abbrev main_v22_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_call1_v0 : Ref sig .tc := ⟨.hbm, 37, rfl⟩
abbrev main_v26_0 : Ref sig .tc := ⟨.hbm, 38, rfl⟩
abbrev main_v26_1 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_call2_v0 : Ref sig .tc := ⟨.hbm, 51, rfl⟩
abbrev main_v35_0 : Ref sig .tc := ⟨.hbm, 52, rfl⟩
abbrev main_v35_1 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_call3_v0 : Ref sig .tc := ⟨.hbm, 86, rfl⟩
abbrev main_v62_1 : Ref sig .tc := ⟨.hbm, 87, rfl⟩
abbrev main_call3_v2 : Ref sig .tc := ⟨.hbm, 88, rfl⟩
abbrev main_v62_0 : Ref sig .tc := ⟨.hbm, 89, rfl⟩
abbrev main_call3_cst : Ref sig .tc := ⟨.hbm, 90, rfl⟩
abbrev main_v62_2 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_16 : Ref sig .tc := ⟨.hbm, 130, rfl⟩
abbrev main_v97 : Ref sig .tc := ⟨.hbm, 131, rfl⟩
abbrev main_v98 : Ref sig .tc := ⟨.hbm, 132, rfl⟩
abbrev main_cst_17 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_18 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_19 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_20 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_21 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_call4_cst : Ref sig .tc := ⟨.hbm, 179, rfl⟩
abbrev main_call4_v0 : Ref sig .tc := ⟨.hbm, 180, rfl⟩
abbrev main_v140 : Ref sig .tc := ⟨.hbm, 181, rfl⟩
abbrev main_cst_22 : Ref sig .tc := ⟨.hbm, 182, rfl⟩
abbrev main_v141 : Ref sig .tc := ⟨.hbm, 183, rfl⟩
abbrev main_v142 : Ref sig .tc := ⟨.hbm, 184, rfl⟩
abbrev main_cst_23 : Ref sig .tc := ⟨.hbm, 185, rfl⟩
abbrev main_v143 : Ref sig .tc := ⟨.hbm, 186, rfl⟩
abbrev main_cst_24 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_25 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_call5_cst : Ref sig .tc := ⟨.hbm, 202, rfl⟩
abbrev main_call5_v0 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_26 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_call6_cst : Ref sig .tc := ⟨.hbm, 215, rfl⟩
abbrev main_call6_v0 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_call7_cst : Ref sig .tc := ⟨.hbm, 221, rfl⟩
abbrev main_call7_v0 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_c_27 : Ref sig .tc := ⟨.hbm, 232, rfl⟩
abbrev main_call8_v0 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_c_28 : Ref sig .tc := ⟨.hbm, 240, rfl⟩
abbrev main_call9_v0 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_c_29 : Ref sig .tc := ⟨.hbm, 248, rfl⟩
abbrev main_call10_v0 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩

abbrev nD : Nat := 1
abbrev τ : Topo := Topo.v7x

variable {F : FTy → Type} [FloatOps F]
-- ==== GateGrad.lean ====
abbrev S2048x1024 : Shape := ⟨2, ![2048, 1024]⟩
abbrev S4096x1024 : Shape := ⟨2, ![4096, 1024]⟩
abbrev S2048x4096 : Shape := ⟨2, ![2048, 4096]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S4096x1024, .bf16⟩
  | .hbm, ⟨4, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateGradRefIdeal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== InGrad.lean ====
abbrev S2048x4096 : Shape := ⟨2, ![2048, 4096]⟩
abbrev S1024x4096 : Shape := ⟨2, ![1024, 4096]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S1024x4096, .f32⟩
  | .hbm, ⟨2, _⟩ => ⟨S1024x4096, .bf16⟩
  | .hbm, ⟨3, _⟩ => ⟨S2048x1024, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c1_i32 : BitVec 32 := 1#32
  let v9 : BitVec 1 := Scalar.cmpi .slt arg2 c1_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradRefIdeal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1024x4096, .f32⟩
  | .hbm, ⟨2, _⟩ => ⟨S_, .f32⟩
  | .hbm, ⟨3, _⟩ => ⟨S2048x1024, .f32⟩
  | .hbm, ⟨4, _⟩ => ⟨S2048x4096, .f32⟩
  | .hbm, ⟨5, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpGrad.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownGrad.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== QkvInGrad.lean ====
abbrev S2048x1536 : Shape := ⟨2, ![2048, 1536]⟩
abbrev S1024x1536 : Shape := ⟨2, ![1024, 1536]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S1024x1536, .f32⟩
  | .hbm, ⟨2, _⟩ => ⟨S1024x1536, .bf16⟩
  | .hbm, ⟨3, _⟩ => ⟨S2048x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c2_i32 : BitVec 32 := 2#32
  let v9 : BitVec 1 := Scalar.cmpi .slt arg2 c2_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvInGradRefIdeal.lean ====
abbrev S2048x1536 : Shape := ⟨2, ![2048, 1536]⟩
abbrev S1024x1536 : Shape := ⟨2, ![1024, 1536]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S1024x1536, .f32⟩
  | .hbm, ⟨2, _⟩ => ⟨S_, .f32⟩
  | .hbm, ⟨3, _⟩ => ⟨S2048x1024, .f32⟩
  | .hbm, ⟨4, _⟩ => ⟨S2048x1536, .f32⟩
  | .hbm, ⟨5, _⟩ => ⟨S2048x1024, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QkvGrad.lean ====
abbrev S2048x1024 : Shape := ⟨2, ![2048, 1024]⟩
abbrev S2048x1536 : Shape := ⟨2, ![2048, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1536, .f32⟩
  | .hbm, ⟨2, _⟩ => ⟨S1024x1536, .bf16⟩
  | .local _ .vmem, ⟨0, _⟩ => ⟨S1024x1024, .f32⟩
  | .local _ .vmem, ⟨1, _⟩ => ⟨S1024x1024, .f32⟩
  | .local _ .vmem, ⟨2, _⟩ => ⟨S1024x768, .f32⟩
  | .local _ .vmem, ⟨3, _⟩ => ⟨S1024x768, .f32⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvGradRefIdeal.lean ====
abbrev S2048x1024 : Shape := ⟨2, ![2048, 1024]⟩
abbrev S2048x1536 : Shape := ⟨2, ![2048, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1536, .f32⟩
  | .hbm, ⟨2, _⟩ => ⟨S_, .f32⟩
  | .hbm, ⟨3, _⟩ => ⟨S1024x1536, .f32⟩
  | .hbm, ⟨4, _⟩ => ⟨S2048x1536, .f32⟩
  | .hbm, ⟨5, _⟩ => ⟨S1536x1024, .f32⟩
  | .hbm, ⟨6, _⟩ => ⟨S1024x1536, .f32⟩
  | .hbm, ⟨7, _⟩ => ⟨S1024x1536, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .bf16⟩
  | .hbm, ⟨3, _⟩ => ⟨S2048x4096, .f32⟩
  | .hbm, ⟨4, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Down.lean ====
abbrev S2048x4096 : Shape := ⟨2, ![2048, 4096]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S4096x1024, .bf16⟩
  | .hbm, ⟨8, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c1_i32 : BitVec 32 := 1#32
  let v9 : BitVec 1 := Scalar.cmpi .slt arg2 c1_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x4096 : Shape := ⟨2, ![2048, 4096]⟩
abbrev S4096x1024 : Shape := ⟨2, ![4096, 1024]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Qkv.lean ====
abbrev S2048x1024 : Shape := ⟨2, ![2048, 1024]⟩
abbrev S1024x1536 : Shape := ⟨2, ![1024, 1536]⟩
abbrev S2048x1536 : Shape := ⟨2, ![2048, 1536]⟩
abbrev S1024x1024 : Shape := ⟨2, ![1024, 1024]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1536, .f32⟩
  | .hbm, ⟨2, _⟩ => ⟨S1024x1536, .bf16⟩
  | .hbm, ⟨3, _⟩ => ⟨S2048x1536, .f32⟩
  | .local _ .vmem, ⟨0, _⟩ => ⟨S1024x1024, .f32⟩
  | .local _ .vmem, ⟨1, _⟩ => ⟨S1024x1024, .f32⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1536, .f32⟩
  | .hbm, ⟨2, _⟩ => ⟨S2048x1536, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamMlp.lean ====
abbrev S2x1024x1024 : Shape := ⟨3, ![2, 1024, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpIdeal.lean ====
abbrev S2x1024x1024 : Shape := ⟨3, ![2, 1024, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpRefIdeal.lean ====
abbrev S2x1024x1024 : Shape := ⟨3, ![2, 1024, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRow.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S2x2x256 : Shape := ⟨3, ![2, 2, 256]⟩
abbrev S4x256 : Shape := ⟨2, ![4, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x2x256, .f32⟩
  | .hbm, ⟨1, _⟩ => ⟨S2x2x256, .f32⟩
  | .hbm, ⟨2, _⟩ => ⟨S2x2x256, .f32⟩
  | .hbm, ⟨3, _⟩ => ⟨S2x2x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .hbm, ⟨8, _⟩ => ⟨S4x256, .f32⟩
  | .hbm, ⟨9, _⟩ => ⟨S4x256, .f32⟩
  | .hbm, ⟨10, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S2x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S2x2x256 : Shape := ⟨3, ![2, 2, 256]⟩
abbrev S4x256 : Shape := ⟨2, ![4, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x2x256, .f32⟩
  | .hbm, ⟨1, _⟩ => ⟨S2x2x256, .f32⟩
  | .hbm, ⟨2, _⟩ => ⟨S2x2x256, .f32⟩
  | .hbm, ⟨3, _⟩ => ⟨S2x2x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .hbm, ⟨8, _⟩ => ⟨S4x256, .f32⟩
  | .hbm, ⟨9, _⟩ => ⟨S4x256, .f32⟩
  | .hbm, ⟨10, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S2x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S2x2x256 : Shape := ⟨3, ![2, 2, 256]⟩
abbrev S_ : Shape := ⟨0, ![]⟩
abbrev S4x256 : Shape := ⟨2, ![4, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x2x256, .f32⟩
  | .hbm, ⟨1, _⟩ => ⟨S2x2x256, .f32⟩
  | .hbm, ⟨2, _⟩ => ⟨S2x2x256, .f32⟩
  | .hbm, ⟨3, _⟩ => ⟨S2x2x256, .f32⟩
  | .hbm, ⟨4, _⟩ => ⟨S_, .f32⟩
  | .hbm, ⟨5, _⟩ => ⟨S2x2x256, .f32⟩
  | .hbm, ⟨6, _⟩ => ⟨S2x2x256, .f32⟩
  | .hbm, ⟨7, _⟩ => ⟨S_, .f32⟩
  | .hbm, ⟨8, _⟩ => ⟨S2x2x256, .f32⟩
  | .hbm, ⟨9, _⟩ => ⟨S2x2x256, .f32⟩
  | .hbm, ⟨10, _⟩ => ⟨S2x2x256, .f32⟩
  | .hbm, ⟨11, _⟩ => ⟨S_, .f32⟩
  | .hbm, ⟨12, _⟩ => ⟨S2x2x256, .f32⟩
  | .hbm, ⟨13, _⟩ => ⟨S2x2x256, .f32⟩
  | .hbm, ⟨14, _⟩ => ⟨S2x2x256, .f32⟩
  | .hbm, ⟨15, _⟩ => ⟨S_, .f32⟩
  | .hbm, ⟨16, _⟩ => ⟨S2x2x256, .f32⟩
  | .hbm, ⟨17, _⟩ => ⟨S2x2x256, .f32⟩
  | .hbm, ⟨18, _⟩ => ⟨S2x2x256, .f32⟩
  | .hbm, ⟨19, _⟩ => ⟨S_, .f32⟩
  | .hbm, ⟨20, _⟩ => ⟨S2x2x256, .f32⟩
  | .hbm, ⟨21, _⟩ => ⟨S2x2x256, .f32⟩
  | .hbm, ⟨22, _⟩ => ⟨S_, .f32⟩
  | .hbm, ⟨23, _⟩ => ⟨S2x2x256, .f32⟩
  | .hbm, ⟨24, _⟩ => ⟨S2x2x256, .f32⟩
  | .hbm, ⟨25, _⟩ => ⟨S2x2x256, .f32⟩
  | .hbm, ⟨26, _⟩ => ⟨S_, .f32⟩
  | .hbm, ⟨27, _⟩ => ⟨S2x2x256, .f32⟩
  | .hbm, ⟨28, _⟩ => ⟨S2x2x256, .f32⟩
  | .hbm, ⟨29, _⟩ => ⟨S2x2x256, .f32⟩
  | .hbm, ⟨30, _⟩ => ⟨S_, .f32⟩
  | .hbm, ⟨31, _⟩ => ⟨S2x2x256, .f32⟩
  | .hbm, ⟨32, _⟩ => ⟨S2x2x256, .f32⟩
  | .hbm, ⟨33, _⟩ => ⟨S2x2x256, .f32⟩
  | .hbm, ⟨34, _⟩ => ⟨S_, .f32⟩
  | .hbm, ⟨35, _⟩ => ⟨S2x2x256, .f32⟩
  | .hbm, ⟨36, _⟩ => ⟨S2x2x256, .f32⟩
  | .hbm, ⟨37, _⟩ => ⟨S4x256, .f32⟩
  | .hbm, ⟨38, _⟩ => ⟨S4x256, .f32⟩
  | .hbm, ⟨39, _⟩ => ⟨S4x256, .f32⟩
  | _, _ => ⟨S2x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRank.lean ====
abbrev S1x64x128 : Shape := ⟨3, ![1, 64, 128]⟩
abbrev S64x128 : Shape := ⟨2, ![64, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x64x128, .f32⟩
  | .hbm, ⟨1, _⟩ => ⟨S1x64x128, .f32⟩
  | .hbm, ⟨2, _⟩ => ⟨S1x64x128, .f32⟩
  | .hbm, ⟨3, _⟩ => ⟨S1x64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x128, .f32⟩
  | .hbm, ⟨9, _⟩ => ⟨S64x128, .f32⟩
  | .hbm, ⟨10, _⟩ => ⟨S64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | _, _ => ⟨S1x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRankIdeal.lean ====
abbrev S1x64x128 : Shape := ⟨3, ![1, 64, 128]⟩
abbrev S64x128 : Shape := ⟨2, ![64, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x64x128, .f32⟩
  | .hbm, ⟨1, _⟩ => ⟨S1x64x128, .f32⟩
  | .hbm, ⟨2, _⟩ => ⟨S1x64x128, .f32⟩
  | .hbm, ⟨3, _⟩ => ⟨S1x64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x128, .f32⟩
  | .hbm, ⟨9, _⟩ => ⟨S64x128, .f32⟩
  | .hbm, ⟨10, _⟩ => ⟨S64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | _, _ => ⟨S1x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRankRefIdeal.lean ====
abbrev S1x64x128 : Shape := ⟨3, ![1, 64, 128]⟩
abbrev S_ : Shape := ⟨0, ![]⟩
abbrev S64x128 : Shape := ⟨2, ![64, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x64x128, .f32⟩
  | .hbm, ⟨1, _⟩ => ⟨S1x64x128, .f32⟩
  | .hbm, ⟨2, _⟩ => ⟨S1x64x128, .f32⟩
  | .hbm, ⟨3, _⟩ => ⟨S1x64x128, .f32⟩
  | .hbm, ⟨4, _⟩ => ⟨S_, .f32⟩
  | .hbm, ⟨5, _⟩ => ⟨S1x64x128, .f32⟩
  | .hbm, ⟨6, _⟩ => ⟨S1x64x128, .f32⟩
  | .hbm, ⟨7, _⟩ => ⟨S_, .f32⟩
  | .hbm, ⟨8, _⟩ => ⟨S1x64x128, .f32⟩
  | .hbm, ⟨9, _⟩ => ⟨S1x64x128, .f32⟩
  | .hbm, ⟨10, _⟩ => ⟨S1x64x128, .f32⟩
  | .hbm, ⟨11, _⟩ => ⟨S_, .f32⟩
  | .hbm, ⟨12, _⟩ => ⟨S1x64x128, .f32⟩
  | .hbm, ⟨13, _⟩ => ⟨S1x64x128, .f32⟩
  | .hbm, ⟨14, _⟩ => ⟨S1x64x128, .f32⟩
  | .hbm, ⟨15, _⟩ => ⟨S_, .f32⟩
  | .hbm, ⟨16, _⟩ => ⟨S1x64x128, .f32⟩
  | .hbm, ⟨17, _⟩ => ⟨S1x64x128, .f32⟩
  | .hbm, ⟨18, _⟩ => ⟨S1x64x128, .f32⟩
  | .hbm, ⟨19, _⟩ => ⟨S_, .f32⟩
  | .hbm, ⟨20, _⟩ => ⟨S1x64x128, .f32⟩
  | .hbm, ⟨21, _⟩ => ⟨S1x64x128, .f32⟩
  | .hbm, ⟨22, _⟩ => ⟨S_, .f32⟩
  | .hbm, ⟨23, _⟩ => ⟨S1x64x128, .f32⟩
  | .hbm, ⟨24, _⟩ => ⟨S1x64x128, .f32⟩
  | .hbm, ⟨25, _⟩ => ⟨S1x64x128, .f32⟩
  | .hbm, ⟨26, _⟩ => ⟨S_, .f32⟩
  | .hbm, ⟨27, _⟩ => ⟨S1x64x128, .f32⟩
  | .hbm, ⟨28, _⟩ => ⟨S1x64x128, .f32⟩
  | .hbm, ⟨29, _⟩ => ⟨S1x64x128, .f32⟩
  | .hbm, ⟨30, _⟩ => ⟨S_, .f32⟩
  | .hbm, ⟨31, _⟩ => ⟨S1x64x128, .f32⟩
  | .hbm, ⟨32, _⟩ => ⟨S1x64x128, .f32⟩
  | .hbm, ⟨33, _⟩ => ⟨S1x64x128, .f32⟩
  | .hbm, ⟨34, _⟩ => ⟨S_, .f32⟩
  | .hbm, ⟨35, _⟩ => ⟨S1x64x128, .f32⟩
  | .hbm, ⟨36, _⟩ => ⟨S1x64x128, .f32⟩
  | .hbm, ⟨37, _⟩ => ⟨S64x128, .f32⟩
  | .hbm, ⟨38, _⟩ => ⟨S64x128, .f32⟩
  | .hbm, ⟨39, _⟩ => ⟨S64x128, .f32⟩
  | _, _ => ⟨S1x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamCond.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCondIdeal.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCondRefIdeal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamShift.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShiftIdeal.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShiftRefIdeal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixIn.lean ====
abbrev S1x1024x840 : Shape := ⟨3, ![1, 1024, 840]⟩
abbrev S1024x840 : Shape := ⟨2, ![1024, 840]⟩
abbrev S256x840 : Shape := ⟨2, ![256, 840]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x840, .f32⟩
  | .hbm, ⟨1, _⟩ => ⟨S1x1024x840, .f32⟩
  | .hbm, ⟨2, _⟩ => ⟨S1x1024x840, .f32⟩
  | .hbm, ⟨3, _⟩ => ⟨S1x1024x840, .f32⟩
  | .hbm, ⟨4, _⟩ => ⟨S1024x840, .f32⟩
  | .hbm, ⟨5, _⟩ => ⟨S1024x840, .f32⟩
  | .hbm, ⟨6, _⟩ => ⟨S1024x840, .f32⟩
  | .hbm, ⟨7, _⟩ => ⟨S1024x840, .f32⟩
  | .hbm, ⟨8, _⟩ => ⟨S1024x840, .f32⟩
  | .hbm, ⟨9, _⟩ => ⟨S1024x840, .f32⟩
  | .hbm, ⟨10, _⟩ => ⟨S1024x840, .f32⟩
  | .local _ .vmem, ⟨0, _⟩ => ⟨S256x840, .f32⟩
  | .local _ .vmem, ⟨1, _⟩ => ⟨S256x840, .f32⟩
  | .local _ .vmem, ⟨2, _⟩ => ⟨S256x840, .f32⟩
  | .local _ .vmem, ⟨3, _⟩ => ⟨S256x840, .f32⟩
  | .local _ .vmem, ⟨4, _⟩ => ⟨S256x840, .f32⟩
  | .local _ .vmem, ⟨5, _⟩ => ⟨S256x840, .f32⟩
  | .local _ .vmem, ⟨6, _⟩ => ⟨S256x840, .f32⟩
  | .local _ .vmem, ⟨7, _⟩ => ⟨S256x840, .f32⟩
  | .local _ .vmem, ⟨8, _⟩ => ⟨S256x840, .f32⟩
  | .local _ .vmem, ⟨9, _⟩ => ⟨S256x840, .f32⟩
  | .local _ .vmem, ⟨10, _⟩ => ⟨S256x840, .f32⟩
  | .local _ .vmem, ⟨11, _⟩ => ⟨S256x840, .f32⟩
  | .local _ .vmem, ⟨12, _⟩ => ⟨S256x840, .f32⟩
  | .local _ .vmem, ⟨13, _⟩ => ⟨S256x840, .f32⟩
  | _, _ => ⟨S1x1024x840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x840 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x840 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x840 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixInIdeal.lean ====
abbrev S1x1024x840 : Shape := ⟨3, ![1, 1024, 840]⟩
abbrev S1024x840 : Shape := ⟨2, ![1024, 840]⟩
abbrev S256x840 : Shape := ⟨2, ![256, 840]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x840, .f32⟩
  | .hbm, ⟨1, _⟩ => ⟨S1x1024x840, .f32⟩
  | .hbm, ⟨2, _⟩ => ⟨S1x1024x840, .f32⟩
  | .hbm, ⟨3, _⟩ => ⟨S1x1024x840, .f32⟩
  | .hbm, ⟨4, _⟩ => ⟨S1024x840, .f32⟩
  | .hbm, ⟨5, _⟩ => ⟨S1024x840, .f32⟩
  | .hbm, ⟨6, _⟩ => ⟨S1024x840, .f32⟩
  | .hbm, ⟨7, _⟩ => ⟨S1024x840, .f32⟩
  | .hbm, ⟨8, _⟩ => ⟨S1024x840, .f32⟩
  | .hbm, ⟨9, _⟩ => ⟨S1024x840, .f32⟩
  | .hbm, ⟨10, _⟩ => ⟨S1024x840, .f32⟩
  | .local _ .vmem, ⟨0, _⟩ => ⟨S256x840, .f32⟩
  | .local _ .vmem, ⟨1, _⟩ => ⟨S256x840, .f32⟩
  | .local _ .vmem, ⟨2, _⟩ => ⟨S256x840, .f32⟩
  | .local _ .vmem, ⟨3, _⟩ => ⟨S256x840, .f32⟩
  | .local _ .vmem, ⟨4, _⟩ => ⟨S256x840, .f32⟩
  | .local _ .vmem, ⟨5, _⟩ => ⟨S256x840, .f32⟩
  | .local _ .vmem, ⟨6, _⟩ => ⟨S256x840, .f32⟩
  | .local _ .vmem, ⟨7, _⟩ => ⟨S256x840, .f32⟩
  | .local _ .vmem, ⟨8, _⟩ => ⟨S256x840, .f32⟩
  | .local _ .vmem, ⟨9, _⟩ => ⟨S256x840, .f32⟩
  | .local _ .vmem, ⟨10, _⟩ => ⟨S256x840, .f32⟩
  | .local _ .vmem, ⟨11, _⟩ => ⟨S256x840, .f32⟩
  | .local _ .vmem, ⟨12, _⟩ => ⟨S256x840, .f32⟩
  | .local _ .vmem, ⟨13, _⟩ => ⟨S256x840, .f32⟩
  | _, _ => ⟨S1x1024x840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x840 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x840 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x840 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixInRefIdeal.lean ====
abbrev S1x1024x840 : Shape := ⟨3, ![1, 1024, 840]⟩
abbrev S_ : Shape := ⟨0, ![]⟩
abbrev S1024x840 : Shape := ⟨2, ![1024, 840]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x840, .f32⟩
  | .hbm, ⟨1, _⟩ => ⟨S1x1024x840, .f32⟩
  | .hbm, ⟨2, _⟩ => ⟨S1x1024x840, .f32⟩
  | .hbm, ⟨3, _⟩ => ⟨S1x1024x840, .f32⟩
  | .hbm, ⟨4, _⟩ => ⟨S_, .f32⟩
  | .hbm, ⟨5, _⟩ => ⟨S1x1024x840, .f32⟩
  | .hbm, ⟨6, _⟩ => ⟨S1x1024x840, .f32⟩
  | .hbm, ⟨7, _⟩ => ⟨S_, .f32⟩
  | .hbm, ⟨8, _⟩ => ⟨S1x1024x840, .f32⟩
  | .hbm, ⟨9, _⟩ => ⟨S1x1024x840, .f32⟩
  | .hbm, ⟨10, _⟩ => ⟨S1x1024x840, .f32⟩
  | .hbm, ⟨11, _⟩ => ⟨S_, .f32⟩
  | .hbm, ⟨12, _⟩ => ⟨S1x1024x840, .f32⟩
  | .hbm, ⟨13, _⟩ => ⟨S1x1024x840, .f32⟩
  | .hbm, ⟨14, _⟩ => ⟨S1x1024x840, .f32⟩
  | .hbm, ⟨15, _⟩ => ⟨S_, .f32⟩
  | .hbm, ⟨16, _⟩ => ⟨S1x1024x840, .f32⟩
  | .hbm, ⟨17, _⟩ => ⟨S1x1024x840, .f32⟩
  | .hbm, ⟨18, _⟩ => ⟨S1x1024x840, .f32⟩
  | .hbm, ⟨19, _⟩ => ⟨S_, .f32⟩
  | .hbm, ⟨20, _⟩ => ⟨S1x1024x840, .f32⟩
  | .hbm, ⟨21, _⟩ => ⟨S1x1024x840, .f32⟩
  | .hbm, ⟨22, _⟩ => ⟨S_, .f32⟩
  | .hbm, ⟨23, _⟩ => ⟨S1x1024x840, .f32⟩
  | .hbm, ⟨24, _⟩ => ⟨S1x1024x840, .f32⟩
  | .hbm, ⟨25, _⟩ => ⟨S1x1024x840, .f32⟩
  | .hbm, ⟨26, _⟩ => ⟨S_, .f32⟩
  | .hbm, ⟨27, _⟩ => ⟨S1x1024x840, .f32⟩
  | .hbm, ⟨28, _⟩ => ⟨S1x1024x840, .f32⟩
  | .hbm, ⟨29, _⟩ => ⟨S1x1024x840, .f32⟩
  | .hbm, ⟨30, _⟩ => ⟨S_, .f32⟩
  | .hbm, ⟨31, _⟩ => ⟨S1x1024x840, .f32⟩
  | .hbm, ⟨32, _⟩ => ⟨S1x1024x840, .f32⟩
  | .hbm, ⟨33, _⟩ => ⟨S1x1024x840, .f32⟩
  | .hbm, ⟨34, _⟩ => ⟨S_, .f32⟩
  | .hbm, ⟨35, _⟩ => ⟨S1x1024x840, .f32⟩
  | .hbm, ⟨36, _⟩ => ⟨S1x1024x840, .f32⟩
  | .hbm, ⟨37, _⟩ => ⟨S1024x840, .f32⟩
  | .hbm, ⟨38, _⟩ => ⟨S1024x840, .f32⟩
  | .hbm, ⟨39, _⟩ => ⟨S1024x840, .f32⟩
  | _, _ => ⟨S1x1024x840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMix.lean ====
abbrev S1x1824 : Shape := ⟨2, ![1, 1824]⟩

abbrev nBuf : Space → Nat
  | .hbm => 7
  | .vmem => 7
  | .smem => 0
  | _ => 0

abbrev bufTy : (tb : Table) → Fin (tcTables nBuf tb) → BufTy
  | .hbm, ⟨0, _⟩ => ⟨S1x1824, .f32⟩
  | .hbm, ⟨1, _⟩ => ⟨S1x1824, .f32⟩
  | .hbm, ⟨2, _⟩ => ⟨S1x1824, .f32⟩
  | .hbm, ⟨3, _⟩ => ⟨S1x1824, .f32⟩
  | .hbm, ⟨4, _⟩ => ⟨S1x1824, .f32⟩
  | .hbm, ⟨5, _⟩ => ⟨S1x1824, .f32⟩
  | .hbm, ⟨6, _⟩ => ⟨S1x1824, .f32⟩
  | .local _ .vmem, ⟨0, _⟩ => ⟨S1x1824, .f32⟩
  | .local _ .vmem, ⟨1, _⟩ => ⟨S1x1824, .f32⟩
  | .local _ .vmem, ⟨2, _⟩ => ⟨S1x1824, .f32⟩
  | .local _ .vmem, ⟨3, _⟩ => ⟨S1x1824, .f32⟩
  | .local _ .vmem, ⟨4, _⟩ => ⟨S1x1824, .f32⟩
  | .local _ .vmem, ⟨5, _⟩ => ⟨S1x1824, .f32⟩
  | .local _ .vmem, ⟨6, _⟩ => ⟨S1x1824, .f32⟩
  | _, _ => ⟨S1x1824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1824 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1824 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1824 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1824 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1824 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1824 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1824 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixIdeal.lean ====
abbrev S1x1824 : Shape := ⟨2, ![1, 1824]⟩

abbrev nBuf : Space → Nat
  | .hbm => 7
  | .vmem => 7
  | .smem => 0
  | _ => 0

abbrev bufTy : (tb : Table) → Fin (tcTables nBuf tb) → BufTy
  | .hbm, ⟨0, _⟩ => ⟨S1x1824, .f32⟩
  | .hbm, ⟨1, _⟩ => ⟨S1x1824, .f32⟩
  | .hbm, ⟨2, _⟩ => ⟨S1x1824, .f32⟩
  | .hbm, ⟨3, _⟩ => ⟨S1x1824, .f32⟩
  | .hbm, ⟨4, _⟩ => ⟨S1x1824, .f32⟩
  | .hbm, ⟨5, _⟩ => ⟨S1x1824, .f32⟩
  | .hbm, ⟨6, _⟩ => ⟨S1x1824, .f32⟩
  | .local _ .vmem, ⟨0, _⟩ => ⟨S1x1824, .f32⟩
  | .local _ .vmem, ⟨1, _⟩ => ⟨S1x1824, .f32⟩
  | .local _ .vmem, ⟨2, _⟩ => ⟨S1x1824, .f32⟩
  | .local _ .vmem, ⟨3, _⟩ => ⟨S1x1824, .f32⟩
  | .local _ .vmem, ⟨4, _⟩ => ⟨S1x1824, .f32⟩
  | .local _ .vmem, ⟨5, _⟩ => ⟨S1x1824, .f32⟩
  | .local _ .vmem, ⟨6, _⟩ => ⟨S1x1824, .f32⟩
  | _, _ => ⟨S1x1824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1824 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1824 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1824 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1824 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1824 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1824 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1824 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixRefIdeal.lean ====
abbrev S1x1824 : Shape := ⟨2, ![1, 1824]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1824, .f32⟩
  | .hbm, ⟨1, _⟩ => ⟨S1x1824, .f32⟩
  | .hbm, ⟨2, _⟩ => ⟨S1x1824, .f32⟩
  | .hbm, ⟨3, _⟩ => ⟨S1x1824, .f32⟩
  | .hbm, ⟨4, _⟩ => ⟨S_, .f32⟩
  | .hbm, ⟨5, _⟩ => ⟨S1x1824, .f32⟩
  | .hbm, ⟨6, _⟩ => ⟨S1x1824, .f32⟩
  | .hbm, ⟨7, _⟩ => ⟨S_, .f32⟩
  | .hbm, ⟨8, _⟩ => ⟨S1x1824, .f32⟩
  | .hbm, ⟨9, _⟩ => ⟨S1x1824, .f32⟩
  | .hbm, ⟨10, _⟩ => ⟨S1x1824, .f32⟩
  | .hbm, ⟨11, _⟩ => ⟨S_, .f32⟩
  | .hbm, ⟨12, _⟩ => ⟨S1x1824, .f32⟩
  | .hbm, ⟨13, _⟩ => ⟨S1x1824, .f32⟩
  | .hbm, ⟨14, _⟩ => ⟨S1x1824, .f32⟩
  | .hbm, ⟨15, _⟩ => ⟨S_, .f32⟩
  | .hbm, ⟨16, _⟩ => ⟨S1x1824, .f32⟩
  | .hbm, ⟨17, _⟩ => ⟨S1x1824, .f32⟩
  | .hbm, ⟨18, _⟩ => ⟨S1x1824, .f32⟩
  | .hbm, ⟨19, _⟩ => ⟨S_, .f32⟩
  | .hbm, ⟨20, _⟩ => ⟨S1x1824, .f32⟩
  | .hbm, ⟨21, _⟩ => ⟨S1x1824, .f32⟩
  | .hbm, ⟨22, _⟩ => ⟨S_, .f32⟩
  | .hbm, ⟨23, _⟩ => ⟨S1x1824, .f32⟩
  | .hbm, ⟨24, _⟩ => ⟨S1x1824, .f32⟩
  | .hbm, ⟨25, _⟩ => ⟨S1x1824, .f32⟩
  | .hbm, ⟨26, _⟩ => ⟨S_, .f32⟩
  | .hbm, ⟨27, _⟩ => ⟨S1x1824, .f32⟩
  | .hbm, ⟨28, _⟩ => ⟨S1x1824, .f32⟩
  | .hbm, ⟨29, _⟩ => ⟨S1x1824, .f32⟩
  | .hbm, ⟨30, _⟩ => ⟨S_, .f32⟩
  | .hbm, ⟨31, _⟩ => ⟨S1x1824, .f32⟩
  | .hbm, ⟨32, _⟩ => ⟨S1x1824, .f32⟩
  | .hbm, ⟨33, _⟩ => ⟨S1x1824, .f32⟩
  | .hbm, ⟨34, _⟩ => ⟨S_, .f32⟩
  | .hbm, ⟨35, _⟩ => ⟨S1x1824, .f32⟩
  | .hbm, ⟨36, _⟩ => ⟨S1x1824, .f32⟩
  | _, _ => ⟨S1x1824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S1x160x128 : Shape := ⟨3, ![1, 160, 128]⟩
abbrev S160x128 : Shape := ⟨2, ![160, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x160x128, .f32⟩
  | .hbm, ⟨1, _⟩ => ⟨S1x160x128, .f32⟩
  | .hbm, ⟨2, _⟩ => ⟨S1x160x128, .f32⟩
  | .hbm, ⟨3, _⟩ => ⟨S1x160x128, .f32⟩
  | .hbm, ⟨4, _⟩ => ⟨S160x128, .f32⟩
  | .hbm, ⟨5, _⟩ => ⟨S160x128, .f32⟩
  | .hbm, ⟨6, _⟩ => ⟨S160x128, .f32⟩
  | .hbm, ⟨7, _⟩ => ⟨S160x128, .f32⟩
  | .hbm, ⟨8, _⟩ => ⟨S160x128, .f32⟩
  | .hbm, ⟨9, _⟩ => ⟨S160x128, .f32⟩
  | .hbm, ⟨10, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | _, _ => ⟨S1x160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateIdeal.lean ====
abbrev S1x160x128 : Shape := ⟨3, ![1, 160, 128]⟩
abbrev S160x128 : Shape := ⟨2, ![160, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x160x128, .f32⟩
  | .hbm, ⟨1, _⟩ => ⟨S1x160x128, .f32⟩
  | .hbm, ⟨2, _⟩ => ⟨S1x160x128, .f32⟩
  | .hbm, ⟨3, _⟩ => ⟨S1x160x128, .f32⟩
  | .hbm, ⟨4, _⟩ => ⟨S160x128, .f32⟩
  | .hbm, ⟨5, _⟩ => ⟨S160x128, .f32⟩
  | .hbm, ⟨6, _⟩ => ⟨S160x128, .f32⟩
  | .hbm, ⟨7, _⟩ => ⟨S160x128, .f32⟩
  | .hbm, ⟨8, _⟩ => ⟨S160x128, .f32⟩
  | .hbm, ⟨9, _⟩ => ⟨S160x128, .f32⟩
  | .hbm, ⟨10, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | _, _ => ⟨S1x160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateRefIdeal.lean ====
abbrev S1x160x128 : Shape := ⟨3, ![1, 160, 128]⟩
abbrev S_ : Shape := ⟨0, ![]⟩
abbrev S160x128 : Shape := ⟨2, ![160, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x160x128, .f32⟩
  | .hbm, ⟨1, _⟩ => ⟨S1x160x128, .f32⟩
  | .hbm, ⟨2, _⟩ => ⟨S1x160x128, .f32⟩
  | .hbm, ⟨3, _⟩ => ⟨S1x160x128, .f32⟩
  | .hbm, ⟨4, _⟩ => ⟨S_, .f32⟩
  | .hbm, ⟨5, _⟩ => ⟨S1x160x128, .f32⟩
  | .hbm, ⟨6, _⟩ => ⟨S1x160x128, .f32⟩
  | .hbm, ⟨7, _⟩ => ⟨S_, .f32⟩
  | .hbm, ⟨8, _⟩ => ⟨S1x160x128, .f32⟩
  | .hbm, ⟨9, _⟩ => ⟨S1x160x128, .f32⟩
  | .hbm, ⟨10, _⟩ => ⟨S1x160x128, .f32⟩
  | .hbm, ⟨11, _⟩ => ⟨S_, .f32⟩
  | .hbm, ⟨12, _⟩ => ⟨S1x160x128, .f32⟩
  | .hbm, ⟨13, _⟩ => ⟨S1x160x128, .f32⟩
  | .hbm, ⟨14, _⟩ => ⟨S1x160x128, .f32⟩
  | .hbm, ⟨15, _⟩ => ⟨S_, .f32⟩
  | .hbm, ⟨16, _⟩ => ⟨S1x160x128, .f32⟩
  | .hbm, ⟨17, _⟩ => ⟨S1x160x128, .f32⟩
  | .hbm, ⟨18, _⟩ => ⟨S1x160x128, .f32⟩
  | .hbm, ⟨19, _⟩ => ⟨S_, .f32⟩
  | .hbm, ⟨20, _⟩ => ⟨S1x160x128, .f32⟩
  | .hbm, ⟨21, _⟩ => ⟨S1x160x128, .f32⟩
  | .hbm, ⟨22, _⟩ => ⟨S_, .f32⟩
  | .hbm, ⟨23, _⟩ => ⟨S1x160x128, .f32⟩
  | .hbm, ⟨24, _⟩ => ⟨S1x160x128, .f32⟩
  | .hbm, ⟨25, _⟩ => ⟨S1x160x128, .f32⟩
  | .hbm, ⟨26, _⟩ => ⟨S_, .f32⟩
  | .hbm, ⟨27, _⟩ => ⟨S1x160x128, .f32⟩
  | .hbm, ⟨28, _⟩ => ⟨S1x160x128, .f32⟩
  | .hbm, ⟨29, _⟩ => ⟨S1x160x128, .f32⟩
  | .hbm, ⟨30, _⟩ => ⟨S_, .f32⟩
  | .hbm, ⟨31, _⟩ => ⟨S1x160x128, .f32⟩
  | .hbm, ⟨32, _⟩ => ⟨S1x160x128, .f32⟩
  | .hbm, ⟨33, _⟩ => ⟨S1x160x128, .f32⟩
  | .hbm, ⟨34, _⟩ => ⟨S_, .f32⟩
  | .hbm, ⟨35, _⟩ => ⟨S1x160x128, .f32⟩
  | .hbm, ⟨36, _⟩ => ⟨S1x160x128, .f32⟩
  | .hbm, ⟨37, _⟩ => ⟨S160x128, .f32⟩
  | .hbm, ⟨38, _⟩ => ⟨S160x128, .f32⟩
  | .hbm, ⟨39, _⟩ => ⟨S160x128, .f32⟩
  | _, _ => ⟨S1x160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBonus.lean ====
abbrev S1x8x64 : Shape := ⟨3, ![1, 8, 64]⟩
abbrev S8x64 : Shape := ⟨2, ![8, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S8x64, .f32⟩
  | .hbm, ⟨5, _⟩ => ⟨S8x64, .f32⟩
  | .hbm, ⟨6, _⟩ => ⟨S8x64, .f32⟩
  | .hbm, ⟨7, _⟩ => ⟨S8x64, .f32⟩
  | .hbm, ⟨8, _⟩ => ⟨S8x64, .f32⟩
  | .hbm, ⟨9, _⟩ => ⟨S8x64, .f32⟩
  | .hbm, ⟨10, _⟩ => ⟨S8x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBonusIdeal.lean ====
abbrev S1x8x64 : Shape := ⟨3, ![1, 8, 64]⟩
abbrev S8x64 : Shape := ⟨2, ![8, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S8x64, .f32⟩
  | .hbm, ⟨5, _⟩ => ⟨S8x64, .f32⟩
  | .hbm, ⟨6, _⟩ => ⟨S8x64, .f32⟩
  | .hbm, ⟨7, _⟩ => ⟨S8x64, .f32⟩
  | .hbm, ⟨8, _⟩ => ⟨S8x64, .f32⟩
  | .hbm, ⟨9, _⟩ => ⟨S8x64, .f32⟩
  | .hbm, ⟨10, _⟩ => ⟨S8x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBonusRefIdeal.lean ====
abbrev S1x8x64 : Shape := ⟨3, ![1, 8, 64]⟩
abbrev S_ : Shape := ⟨0, ![]⟩
abbrev S8x64 : Shape := ⟨2, ![8, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S_, .f32⟩
  | .hbm, ⟨5, _⟩ => ⟨S1x8x64, .f32⟩
  | .hbm, ⟨6, _⟩ => ⟨S1x8x64, .f32⟩
  | .hbm, ⟨7, _⟩ => ⟨S_, .f32⟩
  | .hbm, ⟨8, _⟩ => ⟨S1x8x64, .f32⟩
  | .hbm, ⟨9, _⟩ => ⟨S1x8x64, .f32⟩
  | .hbm, ⟨10, _⟩ => ⟨S1x8x64, .f32⟩
  | .hbm, ⟨11, _⟩ => ⟨S_, .f32⟩
  | .hbm, ⟨12, _⟩ => ⟨S1x8x64, .f32⟩
  | .hbm, ⟨13, _⟩ => ⟨S1x8x64, .f32⟩
  | .hbm, ⟨14, _⟩ => ⟨S1x8x64, .f32⟩
  | .hbm, ⟨15, _⟩ => ⟨S_, .f32⟩
  | .hbm, ⟨16, _⟩ => ⟨S1x8x64, .f32⟩
  | .hbm, ⟨17, _⟩ => ⟨S1x8x64, .f32⟩
  | .hbm, ⟨18, _⟩ => ⟨S1x8x64, .f32⟩
  | .hbm, ⟨19, _⟩ => ⟨S_, .f32⟩
  | .hbm, ⟨20, _⟩ => ⟨S1x8x64, .f32⟩
  | .hbm, ⟨21, _⟩ => ⟨S1x8x64, .f32⟩
  | .hbm, ⟨22, _⟩ => ⟨S_, .f32⟩
  | .hbm, ⟨23, _⟩ => ⟨S1x8x64, .f32⟩
  | .hbm, ⟨24, _⟩ => ⟨S1x8x64, .f32⟩
  | .hbm, ⟨25, _⟩ => ⟨S1x8x64, .f32⟩
  | .hbm, ⟨26, _⟩ => ⟨S_, .f32⟩
  | .hbm, ⟨27, _⟩ => ⟨S1x8x64, .f32⟩
  | .hbm, ⟨28, _⟩ => ⟨S1x8x64, .f32⟩
  | .hbm, ⟨29, _⟩ => ⟨S1x8x64, .f32⟩
  | .hbm, ⟨30, _⟩ => ⟨S_, .f32⟩
  | .hbm, ⟨31, _⟩ => ⟨S1x8x64, .f32⟩
  | .hbm, ⟨32, _⟩ => ⟨S1x8x64, .f32⟩
  | .hbm, ⟨33, _⟩ => ⟨S1x8x64, .f32⟩
  | .hbm, ⟨34, _⟩ => ⟨S_, .f32⟩
  | .hbm, ⟨35, _⟩ => ⟨S1x8x64, .f32⟩
  | .hbm, ⟨36, _⟩ => ⟨S1x8x64, .f32⟩
  | .hbm, ⟨37, _⟩ => ⟨S8x64, .f32⟩
  | .hbm, ⟨38, _⟩ => ⟨S8x64, .f32⟩
  | .hbm, ⟨39, _⟩ => ⟨S8x64, .f32⟩
  | _, _ => ⟨S1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConv.lean ====
abbrev S1x3x128 : Shape := ⟨3, ![1, 3, 128]⟩
abbrev S3x128 : Shape := ⟨2, ![3, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S3x128, .f32⟩
  | .hbm, ⟨9, _⟩ => ⟨S3x128, .f32⟩
  | .hbm, ⟨10, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S1x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S1x3x128 : Shape := ⟨3, ![1, 3, 128]⟩
abbrev S3x128 : Shape := ⟨2, ![3, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S3x128, .f32⟩
  | .hbm, ⟨9, _⟩ => ⟨S3x128, .f32⟩
  | .hbm, ⟨10, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S1x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S1x3x128 : Shape := ⟨3, ![1, 3, 128]⟩
abbrev S_ : Shape := ⟨0, ![]⟩
abbrev S3x128 : Shape := ⟨2, ![3, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S_, .f32⟩
  | .hbm, ⟨5, _⟩ => ⟨S1x3x128, .f32⟩
  | .hbm, ⟨6, _⟩ => ⟨S1x3x128, .f32⟩
  | .hbm, ⟨7, _⟩ => ⟨S_, .f32⟩
  | .hbm, ⟨8, _⟩ => ⟨S1x3x128, .f32⟩
  | .hbm, ⟨9, _⟩ => ⟨S1x3x128, .f32⟩
  | .hbm, ⟨10, _⟩ => ⟨S1x3x128, .f32⟩
  | .hbm, ⟨11, _⟩ => ⟨S_, .f32⟩
  | .hbm, ⟨12, _⟩ => ⟨S1x3x128, .f32⟩
  | .hbm, ⟨13, _⟩ => ⟨S1x3x128, .f32⟩
  | .hbm, ⟨14, _⟩ => ⟨S1x3x128, .f32⟩
  | .hbm, ⟨15, _⟩ => ⟨S_, .f32⟩
  | .hbm, ⟨16, _⟩ => ⟨S1x3x128, .f32⟩
  | .hbm, ⟨17, _⟩ => ⟨S1x3x128, .f32⟩
  | .hbm, ⟨18, _⟩ => ⟨S1x3x128, .f32⟩
  | .hbm, ⟨19, _⟩ => ⟨S_, .f32⟩
  | .hbm, ⟨20, _⟩ => ⟨S1x3x128, .f32⟩
  | .hbm, ⟨21, _⟩ => ⟨S1x3x128, .f32⟩
  | .hbm, ⟨22, _⟩ => ⟨S_, .f32⟩
  | .hbm, ⟨23, _⟩ => ⟨S1x3x128, .f32⟩
  | .hbm, ⟨24, _⟩ => ⟨S1x3x128, .f32⟩
  | .hbm, ⟨25, _⟩ => ⟨S1x3x128, .f32⟩
  | .hbm, ⟨26, _⟩ => ⟨S_, .f32⟩
  | .hbm, ⟨27, _⟩ => ⟨S1x3x128, .f32⟩
  | .hbm, ⟨28, _⟩ => ⟨S1x3x128, .f32⟩
  | .hbm, ⟨29, _⟩ => ⟨S1x3x128, .f32⟩
  | .hbm, ⟨30, _⟩ => ⟨S_, .f32⟩
  | .hbm, ⟨31, _⟩ => ⟨S1x3x128, .f32⟩
  | .hbm, ⟨32, _⟩ => ⟨S1x3x128, .f32⟩
  | .hbm, ⟨33, _⟩ => ⟨S1x3x128, .f32⟩
  | .hbm, ⟨34, _⟩ => ⟨S_, .f32⟩
  | .hbm, ⟨35, _⟩ => ⟨S1x3x128, .f32⟩
  | .hbm, ⟨36, _⟩ => ⟨S1x3x128, .f32⟩
  | .hbm, ⟨37, _⟩ => ⟨S3x128, .f32⟩
  | .hbm, ⟨38, _⟩ => ⟨S3x128, .f32⟩
  | .hbm, ⟨39, _⟩ => ⟨S3x128, .f32⟩
  | _, _ => ⟨S1x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMixOut.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixOutIdeal.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixOutRefIdeal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamQkv.lean ====
abbrev S1x1024x1152 : Shape := ⟨3, ![1, 1024, 1152]⟩
abbrev S1024x1152 : Shape := ⟨2, ![1024, 1152]⟩
abbrev S256x1152 : Shape := ⟨2, ![256, 1152]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1152, .f32⟩
  | .hbm, ⟨1, _⟩ => ⟨S1x1024x1152, .f32⟩
  | .hbm, ⟨2, _⟩ => ⟨S1x1024x1152, .f32⟩
  | .hbm, ⟨3, _⟩ => ⟨S1x1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .hbm, ⟨9, _⟩ => ⟨S1024x1152, .f32⟩
  | .hbm, ⟨10, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S1x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvIdeal.lean ====
abbrev S1x1024x1152 : Shape := ⟨3, ![1, 1024, 1152]⟩
abbrev S1024x1152 : Shape := ⟨2, ![1024, 1152]⟩
abbrev S256x1152 : Shape := ⟨2, ![256, 1152]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1152, .f32⟩
  | .hbm, ⟨1, _⟩ => ⟨S1x1024x1152, .f32⟩
  | .hbm, ⟨2, _⟩ => ⟨S1x1024x1152, .f32⟩
  | .hbm, ⟨3, _⟩ => ⟨S1x1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .hbm, ⟨9, _⟩ => ⟨S1024x1152, .f32⟩
  | .hbm, ⟨10, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S1x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvRefIdeal.lean ====
abbrev S1x1024x1152 : Shape := ⟨3, ![1, 1024, 1152]⟩
abbrev S_ : Shape := ⟨0, ![]⟩
abbrev S1024x1152 : Shape := ⟨2, ![1024, 1152]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1152, .f32⟩
  | .hbm, ⟨1, _⟩ => ⟨S1x1024x1152, .f32⟩
  | .hbm, ⟨2, _⟩ => ⟨S1x1024x1152, .f32⟩
  | .hbm, ⟨3, _⟩ => ⟨S1x1024x1152, .f32⟩
  | .hbm, ⟨4, _⟩ => ⟨S_, .f32⟩
  | .hbm, ⟨5, _⟩ => ⟨S1x1024x1152, .f32⟩
  | .hbm, ⟨6, _⟩ => ⟨S1x1024x1152, .f32⟩
  | .hbm, ⟨7, _⟩ => ⟨S_, .f32⟩
  | .hbm, ⟨8, _⟩ => ⟨S1x1024x1152, .f32⟩
  | .hbm, ⟨9, _⟩ => ⟨S1x1024x1152, .f32⟩
  | .hbm, ⟨10, _⟩ => ⟨S1x1024x1152, .f32⟩
  | .hbm, ⟨11, _⟩ => ⟨S_, .f32⟩
  | .hbm, ⟨12, _⟩ => ⟨S1x1024x1152, .f32⟩
  | .hbm, ⟨13, _⟩ => ⟨S1x1024x1152, .f32⟩
  | .hbm, ⟨14, _⟩ => ⟨S1x1024x1152, .f32⟩
  | .hbm, ⟨15, _⟩ => ⟨S_, .f32⟩
  | .hbm, ⟨16, _⟩ => ⟨S1x1024x1152, .f32⟩
  | .hbm, ⟨17, _⟩ => ⟨S1x1024x1152, .f32⟩
  | .hbm, ⟨18, _⟩ => ⟨S1x1024x1152, .f32⟩
  | .hbm, ⟨19, _⟩ => ⟨S_, .f32⟩
  | .hbm, ⟨20, _⟩ => ⟨S1x1024x1152, .f32⟩
  | .hbm, ⟨21, _⟩ => ⟨S1x1024x1152, .f32⟩
  | .hbm, ⟨22, _⟩ => ⟨S_, .f32⟩
  | .hbm, ⟨23, _⟩ => ⟨S1x1024x1152, .f32⟩
  | .hbm, ⟨24, _⟩ => ⟨S1x1024x1152, .f32⟩
  | .hbm, ⟨25, _⟩ => ⟨S1x1024x1152, .f32⟩
  | .hbm, ⟨26, _⟩ => ⟨S_, .f32⟩
  | .hbm, ⟨27, _⟩ => ⟨S1x1024x1152, .f32⟩
  | .hbm, ⟨28, _⟩ => ⟨S1x1024x1152, .f32⟩
  | .hbm, ⟨29, _⟩ => ⟨S1x1024x1152, .f32⟩
  | .hbm, ⟨30, _⟩ => ⟨S_, .f32⟩
  | .hbm, ⟨31, _⟩ => ⟨S1x1024x1152, .f32⟩
  | .hbm, ⟨32, _⟩ => ⟨S1x1024x1152, .f32⟩
  | .hbm, ⟨33, _⟩ => ⟨S1x1024x1152, .f32⟩
  | .hbm, ⟨34, _⟩ => ⟨S_, .f32⟩
  | .hbm, ⟨35, _⟩ => ⟨S1x1024x1152, .f32⟩
  | .hbm, ⟨36, _⟩ => ⟨S1x1024x1152, .f32⟩
  | .hbm, ⟨37, _⟩ => ⟨S1024x1152, .f32⟩
  | .hbm, ⟨38, _⟩ => ⟨S1024x1152, .f32⟩
  | .hbm, ⟨39, _⟩ => ⟨S1024x1152, .f32⟩
  | _, _ => ⟨S1x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamAttOut.lean ====
abbrev S1x512x256 : Shape := ⟨3, ![1, 512, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAttOutIdeal.lean ====
abbrev S1x512x256 : Shape := ⟨3, ![1, 512, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAttOutRefIdeal.lean ====
abbrev S1x512x256 : Shape := ⟨3, ![1, 512, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S_, .f32⟩
  | .hbm, ⟨5, _⟩ => ⟨S1x512x256, .f32⟩
  | .hbm, ⟨6, _⟩ => ⟨S1x512x256, .f32⟩
  | .hbm, ⟨7, _⟩ => ⟨S_, .f32⟩
  | .hbm, ⟨8, _⟩ => ⟨S1x512x256, .f32⟩
  | .hbm, ⟨9, _⟩ => ⟨S1x512x256, .f32⟩
  | .hbm, ⟨10, _⟩ => ⟨S1x512x256, .f32⟩
  | .hbm, ⟨11, _⟩ => ⟨S_, .f32⟩
  | .hbm, ⟨12, _⟩ => ⟨S1x512x256, .f32⟩
  | .hbm, ⟨13, _⟩ => ⟨S1x512x256, .f32⟩
  | .hbm, ⟨14, _⟩ => ⟨S1x512x256, .f32⟩
  | .hbm, ⟨15, _⟩ => ⟨S_, .f32⟩
  | .hbm, ⟨16, _⟩ => ⟨S1x512x256, .f32⟩
  | .hbm, ⟨17, _⟩ => ⟨S1x512x256, .f32⟩
  | .hbm, ⟨18, _⟩ => ⟨S1x512x256, .f32⟩
  | .hbm, ⟨19, _⟩ => ⟨S_, .f32⟩
  | .hbm, ⟨20, _⟩ => ⟨S1x512x256, .f32⟩
  | .hbm, ⟨21, _⟩ => ⟨S1x512x256, .f32⟩
  | .hbm, ⟨22, _⟩ => ⟨S_, .f32⟩
  | .hbm, ⟨23, _⟩ => ⟨S1x512x256, .f32⟩
  | .hbm, ⟨24, _⟩ => ⟨S1x512x256, .f32⟩
  | .hbm, ⟨25, _⟩ => ⟨S1x512x256, .f32⟩
  | .hbm, ⟨26, _⟩ => ⟨S_, .f32⟩
  | .hbm, ⟨27, _⟩ => ⟨S1x512x256, .f32⟩
  | .hbm, ⟨28, _⟩ => ⟨S1x512x256, .f32⟩
  | .hbm, ⟨29, _⟩ => ⟨S1x512x256, .f32⟩
  | .hbm, ⟨30, _⟩ => ⟨S_, .f32⟩
  | .hbm, ⟨31, _⟩ => ⟨S1x512x256, .f32⟩
  | .hbm, ⟨32, _⟩ => ⟨S1x512x256, .f32⟩
  | .hbm, ⟨33, _⟩ => ⟨S1x512x256, .f32⟩
  | .hbm, ⟨34, _⟩ => ⟨S_, .f32⟩
  | .hbm, ⟨35, _⟩ => ⟨S1x512x256, .f32⟩
  | .hbm, ⟨36, _⟩ => ⟨S1x512x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRel.lean ====
abbrev S32x24 : Shape := ⟨2, ![32, 24]⟩

abbrev nBuf : Space → Nat
  | .hbm => 7
  | .vmem => 7
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S32x24, .f32⟩
  | .local _ .vmem, ⟨0, _⟩ => ⟨S32x24, .f32⟩
  | .local _ .vmem, ⟨1, _⟩ => ⟨S32x24, .f32⟩
  | .local _ .vmem, ⟨2, _⟩ => ⟨S32x24, .f32⟩
  | .local _ .vmem, ⟨3, _⟩ => ⟨S32x24, .f32⟩
  | .local _ .vmem, ⟨4, _⟩ => ⟨S32x24, .f32⟩
  | .local _ .vmem, ⟨5, _⟩ => ⟨S32x24, .f32⟩
  | .local _ .vmem, ⟨6, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRelIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamRelRefIdeal.lean ====
abbrev S32x24 : Shape := ⟨2, ![32, 24]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S_, .f32⟩
  | .hbm, ⟨5, _⟩ => ⟨S32x24, .f32⟩
  | .hbm, ⟨6, _⟩ => ⟨S32x24, .f32⟩
  | .hbm, ⟨7, _⟩ => ⟨S_, .f32⟩
  | .hbm, ⟨8, _⟩ => ⟨S32x24, .f32⟩
  | .hbm, ⟨9, _⟩ => ⟨S32x24, .f32⟩
  | .hbm, ⟨10, _⟩ => ⟨S32x24, .f32⟩
  | .hbm, ⟨11, _⟩ => ⟨S_, .f32⟩
  | .hbm, ⟨12, _⟩ => ⟨S32x24, .f32⟩
  | .hbm, ⟨13, _⟩ => ⟨S32x24, .f32⟩
  | .hbm, ⟨14, _⟩ => ⟨S32x24, .f32⟩
  | .hbm, ⟨15, _⟩ => ⟨S_, .f32⟩
  | .hbm, ⟨16, _⟩ => ⟨S32x24, .f32⟩
  | .hbm, ⟨17, _⟩ => ⟨S32x24, .f32⟩
  | .hbm, ⟨18, _⟩ => ⟨S32x24, .f32⟩
  | .hbm, ⟨19, _⟩ => ⟨S_, .f32⟩
  | .hbm, ⟨20, _⟩ => ⟨S32x24, .f32⟩
  | .hbm, ⟨21, _⟩ => ⟨S32x24, .f32⟩
  | .hbm, ⟨22, _⟩ => ⟨S_, .f32⟩
  | .hbm, ⟨23, _⟩ => ⟨S32x24, .f32⟩
  | .hbm, ⟨24, _⟩ => ⟨S32x24, .f32⟩
  | .hbm, ⟨25, _⟩ => ⟨S32x24, .f32⟩
  | .hbm, ⟨26, _⟩ => ⟨S_, .f32⟩
  | .hbm, ⟨27, _⟩ => ⟨S32x24, .f32⟩
  | .hbm, ⟨28, _⟩ => ⟨S32x24, .f32⟩
  | .hbm, ⟨29, _⟩ => ⟨S32x24, .f32⟩
  | .hbm, ⟨30, _⟩ => ⟨S_, .f32⟩
  | .hbm, ⟨31, _⟩ => ⟨S32x24, .f32⟩
  | .hbm, ⟨32, _⟩ => ⟨S32x24, .f32⟩
  | .hbm, ⟨33, _⟩ => ⟨S32x24, .f32⟩
  | .hbm, ⟨34, _⟩ => ⟨S_, .f32⟩
  | .hbm, ⟨35, _⟩ => ⟨S32x24, .f32⟩
  | .hbm, ⟨36, _⟩ => ⟨S32x24, .f32⟩
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Mlp.GateGrad.lean ====
/-
  The product that carries a gradient back through the second layer of the feed-forward part, scaled by the derivative of
  the squared rectifier: the kernel program's run and the reference's.
-/
module

public import proofs.«01_k».proof.Proof.Gen.GateGradIdeal.Value
public import proofs.«01_k».proof.Proof.Gen.GateGradRefIdeal.Read
public import Idealize.ShloMosaic.Lib.Pipeline.ValueKit
public import Idealize.ShloMosaic.Lib.Pointwise

@[expose] public section

set_option maxRecDepth 16384

noncomputable section

namespace Cert.Mlp.GateGrad

open Idealize.ShloMosaic Idealize.ShloMosaic.TcCoe Idealize.ShloMosaic.StableHlo Idealize.SL.Sem
open Cert.GateGradRefIdeal.Read

/-! ### The kernel program -/

section Kernel

open Cert.GateGradIdeal Cert.GateGradIdeal.Gen

variable (m : (ℓ : Loc nD τ sig) → Buf (Elt Ideal) ℓ)

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- The body's stored value at an index: the product's sum times twice the rectified input. -/
theorem pay_apply (x0 : FVec Ideal S1024x1024 .f32) (x1 : FVec Ideal S1024x1024 .bf16)
    (x2 : FVec Ideal S1024x1024 .f32) (y : S1024x1024.Idx) :
    k0_pay1 (F := Ideal) x0 x1 x2 y
      = (∑ k : Fin 1024, x0 (ix2 (y 0) k) * x1 (ix2 (y 1) k) : EReal) * (Ideal.ofBits .f32 0x40000000#32 * max (x2 y) 0) := by
  pointwise [k0_pay1]

/-- The kernel's result, index by index. -/
def G (x0 : FVec Ideal S2048x1024 .f32) (x1 : FVec Ideal S4096x1024 .f32) (x2 : FVec Ideal S2048x4096 .f32) :
    FVec Ideal S2048x4096 .f32 := fun i =>
  (∑ k : Fin 1024, x0 (ix2 (i 0) k) * x1 (ix2 (i 1) k)) * (Ideal.ofBits .f32 0x40000000#32 * max (x2 i) 0)

theorem final (c : Dev nD) : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]; frame_out
  rw [pay_apply]
  unfold G
  blk_point [iblk, V, idx t]

end Kernel

/-! ### The reference -/

theorem ref_eq (x0 : FVec Ideal Cert.GateGradRefIdeal.S2048x1024 .f32) (x1 : FVec Ideal Cert.GateGradRefIdeal.S4096x1024 .f32)
    (x2 : FVec Ideal Cert.GateGradRefIdeal.S2048x4096 .f32) : G x0 x1 x2 = val_main_v11 (F := Ideal) x0 x1 x2 := by
  funext i
  rw [val_main_v11_apply, val_main_v9_apply, val_main_v8_apply, val_main_v6_apply, val_main_v0_apply, val_main_v2_apply,
    val_main_v10_apply, val_main_v5_apply, val_main_v1_apply, val_main_call0_v0_apply, val_main_cst_1_apply,
    val_main_cst_apply, val_main_cst_2_apply, val_main_call0_cst_apply]
  have z : (FloatOps.ofBits .f32 0x00000000#32 : Ideal .f32) = (0 : EReal) := Ideal.ofBits_zero_f32
  rw [z]
  unfold G
  have l : (fun k : Fin 1024 => lidx_main_v8 i k) = fun k => ix2 (i 0) k := funext fun k => funext fun a => by
    match a with
    | ⟨0, _⟩ => rfl
    | ⟨1, _⟩ => rfl
  have r : (fun k : Fin 1024 => ridx_main_v8 i k) = fun k => ix2 (i 1) k := funext fun k => funext fun a => by
    match a with
    | ⟨0, _⟩ => rfl
    | ⟨1, _⟩ => rfl
  have s : (∑ k : Fin 1024, x0 (lidx_main_v8 i k) * x1 (ridx_main_v8 i k) : EReal)
      = ∑ k : Fin 1024, x0 (ix2 (i 0) k) * x1 (ix2 (i 1) k) :=
    Finset.sum_congr rfl fun k _ => congrArg₂ (· * ·) (congrArg x0 (congrFun l k)) (congrArg x1 (congrFun r k))
  refine Eq.trans ?_ (congrArg (fun p : EReal => Scalar.select (FloatOps.cmpf (F := Ideal) (φ := .f32) .ogt (x2 i) (0 : EReal))
      (p * (Ideal.ofBits .f32 0x40000000#32 * max (x2 i : EReal) 0)) (0 : EReal)) s.symm)
  generalize (∑ k : Fin 1024, x0 (ix2 (i 0) k) * x1 (ix2 (i 1) k) : EReal) = p
  show p * (Ideal.ofBits .f32 0x40000000#32 * max (x2 i : EReal) 0) = Scalar.select (BitVec.ofBool (decide ((0 : EReal) < x2 i))) _ _
  by_cases h : (0 : EReal) < x2 i
  · simp [Scalar.select, h]
  · have e : max (x2 i : EReal) 0 = 0 := max_eq_right (not_lt.mp h)
    simp [Scalar.select, h, e]

section KernelRun

open Cert.GateGradIdeal Cert.GateGradIdeal.Gen

/-- The kernel program's run: its result is the reference's last line over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = val_main_v11 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((final m c).trans (ref_eq _ _ _)), (h c).2⟩)
    (Cert.GateGradIdeal.Value.run_blocks m g)

end KernelRun

section ReferenceRun

open Cert.GateGradRefIdeal

variable (m : (ℓ : Loc nD τ sig) → Buf (Elt Ideal) ℓ) (g : Dev nD → PrngReg)

/-- The reference's run: its result is its last line over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v11) = val_main_v11 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v11_eq _ _ _), (h c).2⟩)
    (Cert.GateGradRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (reference_run m g)

end ReferenceRun

end Cert.Mlp.GateGrad

end
-- ==== Proof.Mlp.InGrad.lean ====
/-
  The product that carries a gradient back through the first layer of the feed-forward part: the kernel program adds two
  parts of every sum into its result block, the reference takes the whole sum at once.
-/
module

public import proofs.«01_k».proof.Proof.Gen.InGradIdeal.Value
public import proofs.«01_k».proof.Proof.Gen.InGradRefIdeal.Read
public import Idealize.ShloMosaic.Lib.Pipeline.ValueKit
public import Idealize.ShloMosaic.Lib.Pointwise

@[expose] public section

set_option maxRecDepth 16384

noncomputable section

namespace Cert.Mlp.InGrad

open Idealize.ShloMosaic Idealize.ShloMosaic.TcCoe Idealize.ShloMosaic.StableHlo Idealize.SL.Sem
open Cert.InGradRefIdeal.Read

/-! ### The kernel program -/

section Kernel

open Cert.InGradIdeal Cert.InGradIdeal.Gen

variable (m : (ℓ : Loc nD τ sig) → Buf (Elt Ideal) ℓ)

theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

/-- The first part of a sum. -/
theorem first_apply (x0 : FVec Ideal S1024x2048 .f32) (x1 : FVec Ideal S1024x2048 .bf16) (y : S1024x1024.Idx) :
    k0_pay1 (F := Ideal) x0 x1 y = 0 + (∑ k : Fin 2048, x0 (ix2 (y 0) k) * x1 (ix2 (y 1) k) : EReal) := by
  rw [zero_add]
  pointwise [k0_pay1]

/-- A further part is added to what the block holds. -/
theorem next_apply (x0 : FVec Ideal S1024x2048 .f32) (x1 : FVec Ideal S1024x2048 .bf16) (a : FVec Ideal S1024x1024 .f32) (y : S1024x1024.Idx) :
    k0_pay3 (F := Ideal) x0 x1 a y = a y + (∑ k : Fin 2048, x0 (ix2 (y 0) k) * x1 (ix2 (y 1) k) : EReal) := by
  pointwise [k0_pay3, k0_pay1]

/-- The kernel's result, index by index. -/
def G (x0 : FVec Ideal S2048x4096 .f32) (x1 : FVec Ideal S1024x4096 .f32) : FVec Ideal S2048x1024 .f32 := fun i =>
  ∑ k : Fin 4096, x0 (ix2 (i 0) k) * x1 (ix2 (i 1) k)

theorem final (c : Dev nD) : (dats m 0 c).arrAt 2 cfg0.N
    = G (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first_apply])
    (fun t h j => by rw [outsAt0_B m c t h (by omega)]; frame_out; rw [next_apply])
    t ((flush0_2 t).mp hf) _, zero_add]
  unfold G
  refine Fin.sum_mul_add_congr fun s k hl => ?_
  blk_point [iblk, V, idx t, idx ⟨_, Pipeline.run_point_lt_of_flush t ((flush0_2 t).mp hf) s⟩]

end Kernel

/-! ### The reference -/

theorem ref_eq (x0 : FVec Ideal Cert.InGradRefIdeal.S2048x4096 .f32) (x1 : FVec Ideal Cert.InGradRefIdeal.S1024x4096 .f32) :
    G x0 x1 = val_main_v2 (F := Ideal) x0 x1 := by
  funext i
  rw [val_main_v2_apply]
  refine Finset.sum_congr rfl fun k _ => congrArg₂ (fun a b : EReal => a * b) (congrArg x0 ?_) (congrArg x1 ?_) <;>
  · funext a
    match a with
    | ⟨0, _⟩ => rfl
    | ⟨1, _⟩ => rfl

section KernelRun

open Cert.InGradIdeal Cert.InGradIdeal.Gen

/-- The kernel program's run: its result is the reference's last line over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = val_main_v2 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (ref_eq _ _)), (h c).2⟩)
    (Cert.InGradIdeal.Value.run_blocks m g)

end KernelRun

section ReferenceRun

open Cert.InGradRefIdeal

variable (m : (ℓ : Loc nD τ sig) → Buf (Elt Ideal) ℓ) (g : Dev nD → PrngReg)

/-- The reference's run: its result is its last line over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v2) = val_main_v2 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v2_eq _ _), (h c).2⟩)
    (Cert.InGradRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (reference_run m g)

end ReferenceRun

end Cert.Mlp.InGrad

end
-- ==== Proof.Mlp.Sum.lean ====
/- A sum over 2048 terms is the sum of its first 1024 and of its last 1024. -/
module

public import Mathlib.Data.EReal.Operations
public import Mathlib.Algebra.BigOperators.Fin

@[expose] public section

namespace Cert.Mlp

theorem sum_halves (f : Fin 2048 → EReal) :
    (∑ k : Fin 1024, f ⟨k.val, by omega⟩) + ∑ k : Fin 1024, f ⟨1024 + k.val, by omega⟩ = ∑ k, f k :=
  (Fin.sum_univ_add (a := 1024) (b := 1024) f).symm

end Cert.Mlp
-- ==== Proof.Mlp.UpGrad.lean ====
/-
  The gradient of the first weight of the feed-forward part: the kernel program keeps the first half of every sum in a
  scratch buffer and adds the second half to it, the reference takes the whole sum at once, factors exchanged.
-/
module

public import proofs.«01_k».proof.Proof.Gen.UpGradIdeal.Value
public import proofs.«01_k».proof.Proof.Gen.UpGradRefIdeal.Read
public import Idealize.ShloMosaic.Lib.Pipeline.ValueKit
public import proofs.«01_k».proof.Proof.Mlp.Sum
public import Idealize.ShloMosaic.Lib.Pointwise
public import Idealize.ShloMosaic.Lib.Pipeline.ReadBack

@[expose] public section

set_option maxRecDepth 16384

noncomputable section

namespace Cert.Mlp.UpGrad

open Idealize.ShloMosaic Idealize.ShloMosaic.TcCoe Idealize.ShloMosaic.StableHlo Idealize.SL.Sem
open Cert.UpGradRefIdeal.Read

/-! ### The kernel program -/

section Kernel

open Cert.UpGradIdeal Cert.UpGradIdeal.Gen

variable (m : (ℓ : Loc nD τ sig) → Buf (Elt Ideal) ℓ)

theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

/-- The first part of a sum. -/
theorem first_apply (x0 x1 : FVec Ideal S1024x1024 .f32) (y : S1024x1024.Idx) :
    k0_pay2 (F := Ideal) x0 x1 y = ∑ k : Fin 1024, x0 (ix2 k (y 0)) * x1 (ix2 k (y 1)) := by
  pointwise [k0_pay2, k0_pay1]

/-- The second part is added to what the scratch buffer holds. -/
theorem next_apply (x0 x1 a : FVec Ideal S1024x1024 .f32) (y : S1024x1024.Idx) :
    k0_pay4 (F := Ideal) x0 x1 a y = a y + ∑ k : Fin 1024, x0 (ix2 k (y 0)) * x1 (ix2 k (y 1)) := by
  pointwise [k0_pay4, k0_pay1]

/-- The kernel's result, index by index. -/
def G (x0 : FVec Ideal S2048x1024 .f32) (x1 : FVec Ideal S2048x4096 .f32) : FVec Ideal S1024x4096 .bf16 := fun i =>
  (∑ k : Fin 2048, x0 (ix2 k (i 0)) * x1 (ix2 k (i 1)) : EReal)

/-- What the scratch buffer holds after a first part. -/
theorem scratch_apply (c : Dev nD) (t : Fin cfg0.N) (h : t.val % 2 = 0) (y : S1024x1024.Idx) :
    (outsAt0 m c t.val t.isLt).2 y = k0_pay2 (F := Ideal) (iblk m c 0 t) (iblk m c 1 t) y := by
  rw [outsAt0_A m c t h (by omega)]
  frame_out

theorem final (c : Dev nD) : (dats m 0 c).arrAt 2 cfg0.N
    = G (m ((c.tc : Thread nD τ).loc main_arg0)) (m ((c.tc : Thread nD τ).loc main_arg1)) := by
  refine (dats m 0 c).arrAt_eq_of_covers 2 _ (by decide +kernel) fun t hf y => ?_
  blk_simp
  have h := (flush0_2 t).mp hf
  rw [after0_2, outsAt0_B m c t (by omega) h]
  frame_out
  rw [read_unread_whole, next_apply]
  have p : t.val - 1 < cfg0.N := Nat.lt_of_le_of_lt (Nat.sub_le _ _) t.isLt
  rw [show (outsAt0 m c (t.val - 1) p).2 = k0_pay2 (F := Ideal) (iblk m c 0 ⟨t.val - 1, p⟩) (iblk m c 1 ⟨t.val - 1, p⟩) from
    funext fun y => scratch_apply m c ⟨t.val - 1, p⟩ (by show (t.val - 1) % 2 = 0; omega) y, first_apply]
  unfold G
  rw [← sum_halves]
  blk_point [iblk, V, idx t, idx ⟨t.val - 1, p⟩]

end Kernel

/-! ### The reference -/

theorem ref_eq (x0 : FVec Ideal Cert.UpGradRefIdeal.S2048x1024 .f32) (x1 : FVec Ideal Cert.UpGradRefIdeal.S2048x4096 .f32) :
    G x0 x1 = val_main_v4 (F := Ideal) x0 x1 := by
  funext i
  rw [val_main_v4_apply, val_main_v3_apply, val_main_v2_apply]
  refine Finset.sum_congr rfl fun k _ => (mul_comm _ _).trans
    (congrArg₂ (fun a b : EReal => a * b) (congrArg x1 ?_) (congrArg x0 ?_)) <;>
  · funext a
    match a with
    | ⟨0, _⟩ => rfl
    | ⟨1, _⟩ => rfl

section KernelRun

open Cert.UpGradIdeal Cert.UpGradIdeal.Gen

/-- The kernel program's run: its result is the reference's last line over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0) = val_main_v4 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (ref_eq _ _)), (h c).2⟩)
    (Cert.UpGradIdeal.Value.run_blocks m g)

end KernelRun

section ReferenceRun

open Cert.UpGradRefIdeal

variable (m : (ℓ : Loc nD τ sig) → Buf (Elt Ideal) ℓ) (g : Dev nD → PrngReg)

/-- The reference's run: its result is its last line over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v4) = val_main_v4 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v4_eq _ _), (h c).2⟩)
    (Cert.UpGradRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (reference_run m g)

end ReferenceRun

end Cert.Mlp.UpGrad

end
-- ==== Proof.Mlp.DownGrad.lean ====
/-
  The gradient of the second weight of the feed-forward part, from the squared rectifier of the first layer: the kernel program keeps the first half of every sum in a
  scratch buffer and adds the second half to it, the reference takes the whole sum at once, factors exchanged.
-/
module

public import proofs.«01_k».proof.Proof.Gen.DownGradIdeal.Value
public import proofs.«01_k».proof.Proof.Gen.DownGradRefIdeal.Read
public import Idealize.ShloMosaic.Lib.Pipeline.ValueKit
public import proofs.«01_k».proof.Proof.Mlp.Sum
public import Idealize.ShloMosaic.Lib.Pointwise
public import Idealize.ShloMosaic.Lib.Pipeline.ReadBack

@[expose] public section

set_option maxRecDepth 16384

noncomputable section

namespace Cert.Mlp.DownGrad

open Idealize.ShloMosaic Idealize.ShloMosaic.TcCoe Idealize.ShloMosaic.StableHlo Idealize.SL.Sem
open Cert.DownGradRefIdeal.Read

/-! ### The kernel program -/

section Kernel

open Cert.DownGradIdeal Cert.DownGradIdeal.Gen

variable (m : (ℓ : Loc nD τ sig) → Buf (Elt Ideal) ℓ)

theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The first part of a sum. -/
theorem first_apply (x0 : FVec Ideal S1024x1024 .bf16) (x1 : FVec Ideal S1024x1024 .f32) (y : S1024x1024.Idx) :
    k0_pay2 (F := Ideal) x0 x1 y = (∑ k : Fin 1024, x0 (ix2 k (y 0)) * x1 (ix2 k (y 1)) : EReal) := by
  pointwise [k0_pay2, k0_pay1]

/-- The second part is added to what the scratch buffer holds. -/
theorem next_apply (x0 : FVec Ideal S1024x1024 .bf16) (x1 a : FVec Ideal S1024x1024 .f32) (y : S1024x1024.Idx) :
    k0_pay4 (F := Ideal) x0 x1 a y = a y + (∑ k : Fin 1024, x0 (ix2 k (y 0)) * x1 (ix2 k (y 1)) : EReal) := by
  pointwise [k0_pay4, k0_pay1]

/-- The squared rectifier. -/
def act (x : FVec Ideal S2048x4096 .f32) : FVec Ideal S2048x4096 .bf16 := fun i => (max (x i) 0 * max (x i) 0 : EReal)

/-- The host code before the call leaves the squared rectifier of the first argument. -/
theorem V_act (c : Dev nD) : V m c main_v2 = act (m ((c.tc : Thread nD τ).loc main_arg0)) := by
  entry_read
  simp only [hostOps0, hostOps0_1, List.flatten, List.append, TRef.binary, TRef.nullary, TRef.unary, TRef.toBuf, TRef.ofBuf, cast_eq]
  after_results
  funext i
  pointwise [act]

/-- The first operand's block, read at an index. -/
theorem block_act (c : Dev nD) (t : Fin cfg0.N) (x : S1024x1024.Idx) :
    iblk m c 0 t x = act (m ((c.tc : Thread nD τ).loc main_arg0)) (((cfg0.win 0).blk t).view.emb x) :=
  congrFun (V_act m c) _

/-- The kernel's result, index by index. -/
def G (x0 : FVec Ideal S2048x4096 .f32) (x1 : FVec Ideal S2048x1024 .f32) : FVec Ideal S4096x1024 .bf16 := fun i =>
  (∑ k : Fin 2048, act x0 (ix2 k (i 0)) * x1 (ix2 k (i 1)) : EReal)

/-- What the scratch buffer holds after a first part. -/
theorem scratch_apply (c : Dev nD) (t : Fin cfg0.N) (h : t.val % 2 = 0) (y : S1024x1024.Idx) :
    (outsAt0 m c t.val t.isLt).2 y = k0_pay2 (F := Ideal) (iblk m c 0 t) (iblk m c 1 t) y := by
  rw [outsAt0_A m c t h (by omega)]
  frame_out

theorem final (c : Dev nD) : (dats m 0 c).arrAt 2 cfg0.N
    = G (m ((c.tc : Thread nD τ).loc main_arg0)) (m ((c.tc : Thread nD τ).loc main_arg1)) := by
  refine (dats m 0 c).arrAt_eq_of_covers 2 _ (by decide +kernel) fun t hf y => ?_
  blk_simp
  have h := (flush0_2 t).mp hf
  rw [after0_2, outsAt0_B m c t (by omega) h]
  frame_out
  rw [read_unread_whole, next_apply]
  have p : t.val - 1 < cfg0.N := Nat.lt_of_le_of_lt (Nat.sub_le _ _) t.isLt
  rw [show (outsAt0 m c (t.val - 1) p).2 = k0_pay2 (F := Ideal) (iblk m c 0 ⟨t.val - 1, p⟩) (iblk m c 1 ⟨t.val - 1, p⟩) from
    funext fun y => scratch_apply m c ⟨t.val - 1, p⟩ (by show (t.val - 1) % 2 = 0; omega) y, first_apply]
  unfold G
  rw [← sum_halves]
  refine Eq.trans (congrArg₂ (fun a b : EReal => a + b)
    (Finset.sum_congr rfl fun k _ => congrArg (fun a : EReal => a * _) (block_act m c _ _))
    (Finset.sum_congr rfl fun k _ => congrArg (fun a : EReal => a * _) (block_act m c _ _))) ?_
  blk_point [iblk, V, idx t, idx ⟨t.val - 1, p⟩]

end Kernel

/-! ### The reference -/

theorem ref_eq (x0 : FVec Ideal Cert.DownGradRefIdeal.S2048x4096 .f32) (x1 : FVec Ideal Cert.DownGradRefIdeal.S2048x1024 .f32) :
    G x0 x1 = val_main_v6 (F := Ideal) x0 x1 := by
  funext i
  rw [val_main_v6_apply, val_main_v5_apply, val_main_v4_apply]
  refine Finset.sum_congr rfl fun k _ => (mul_comm _ _).trans (congrArg₂ (fun a b : EReal => a * b) (congrArg x1 ?_) ?_)
  · funext a
    match a with
    | ⟨0, _⟩ => rfl
    | ⟨1, _⟩ => rfl
  · rw [val_main_v2_apply, val_main_v1_apply, val_main_call0_v0_apply, val_main_call0_cst_apply]
    have z : (FloatOps.ofBits .f32 0x00000000#32 : Ideal .f32) = (0 : EReal) := Ideal.ofBits_zero_f32
    rw [z]
    refine congrArg (fun a : EReal => max a 0 * max a 0) (congrArg x0 ?_)
    funext a
    match a with
    | ⟨0, _⟩ => rfl
    | ⟨1, _⟩ => rfl

section KernelRun

open Cert.DownGradIdeal Cert.DownGradIdeal.Gen

/-- The kernel program's run: its result is the reference's last line over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = val_main_v6 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (ref_eq _ _)), (h c).2⟩)
    (Cert.DownGradIdeal.Value.run_blocks m g)

end KernelRun

section ReferenceRun

open Cert.DownGradRefIdeal

variable (m : (ℓ : Loc nD τ sig) → Buf (Elt Ideal) ℓ) (g : Dev nD → PrngReg)

/-- The reference's run: its result is its last line over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v6) = val_main_v6 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v6_eq _ _), (h c).2⟩)
    (Cert.DownGradRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (reference_run m g)

end ReferenceRun

end Cert.Mlp.DownGrad

end
-- ==== Proof.Mlp.QkvInGrad.lean ====
/-
  The product that carries a gradient back through the projection to queries, keys and values: the kernel program adds
  three parts of every sum into its result block, the reference takes the whole sum at once.
-/
module

public import proofs.«01_k».proof.Proof.Gen.QkvInGradIdeal.Value
public import proofs.«01_k».proof.Proof.Gen.QkvInGradRefIdeal.Read
public import Idealize.ShloMosaic.Lib.Pipeline.ValueKit
public import Idealize.ShloMosaic.Lib.Pointwise

@[expose] public section

set_option maxRecDepth 16384

noncomputable section

namespace Cert.Mlp.QkvInGrad

open Idealize.ShloMosaic Idealize.ShloMosaic.TcCoe Idealize.ShloMosaic.StableHlo Idealize.SL.Sem
open Cert.QkvInGradRefIdeal.Read

/-! ### The kernel program -/

section Kernel

open Cert.QkvInGradIdeal Cert.QkvInGradIdeal.Gen

variable (m : (ℓ : Loc nD τ sig) → Buf (Elt Ideal) ℓ)

theorem idx : ∀ t : Fin cfg0.N, win0_0.index t = ![t.val / 3, t.val % 3] ∧ win0_1.index t = ![0, t.val % 3]
    ∧ win0_2.index t = ![t.val / 3, 0] :=
  (by decide +kernel : ∀ t : Fin grid0.N, _)

/-- The first part of a sum. -/
theorem first_apply (x0 : FVec Ideal S1024x512 .f32) (x1 : FVec Ideal S1024x512 .bf16) (y : S1024x1024.Idx) :
    k0_pay1 (F := Ideal) x0 x1 y = 0 + (∑ k : Fin 512, x0 (ix2 (y 0) k) * x1 (ix2 (y 1) k) : EReal) := by
  rw [zero_add]
  pointwise [k0_pay1]

/-- A further part is added to what the block holds. -/
theorem next_apply (x0 : FVec Ideal S1024x512 .f32) (x1 : FVec Ideal S1024x512 .bf16) (a : FVec Ideal S1024x1024 .f32) (y : S1024x1024.Idx) :
    k0_pay3 (F := Ideal) x0 x1 a y = a y + (∑ k : Fin 512, x0 (ix2 (y 0) k) * x1 (ix2 (y 1) k) : EReal) := by
  pointwise [k0_pay3, k0_pay1]

/-- The same for the part in the middle. -/
theorem mid_apply (x0 : FVec Ideal S1024x512 .f32) (x1 : FVec Ideal S1024x512 .bf16) (a : FVec Ideal S1024x1024 .f32) (y : S1024x1024.Idx) :
    k0_pay2 (F := Ideal) x0 x1 a y = a y + (∑ k : Fin 512, x0 (ix2 (y 0) k) * x1 (ix2 (y 1) k) : EReal) := by
  pointwise [k0_pay2, k0_pay1]

/-- The kernel's result, index by index. -/
def G (x0 : FVec Ideal S2048x1536 .f32) (x1 : FVec Ideal S1024x1536 .f32) : FVec Ideal S2048x1024 .f32 := fun i =>
  ∑ k : Fin 1536, x0 (ix2 (i 0) k) * x1 (ix2 (i 1) k)

theorem final (c : Dev nD) : (dats m 0 c).arrAt 2 cfg0.N
    = G (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by rw [outsAt0_A m c t h (by omega) (by omega)]; frame_out; rw [first_apply])
    (fun t h j => by
      by_cases h1 : t.val % 3 = 1
      · rw [outsAt0_B m c t h h1 (by omega)]; frame_out; rw [mid_apply]
      · rw [outsAt0_C m c t h h1 (by omega)]; frame_out; rw [next_apply])
    t ((flush0_2 t).mp hf) _, zero_add]
  unfold G
  refine Fin.sum_mul_add_congr fun s k hl => ?_
  blk_point [iblk, V, idx t, idx ⟨_, Pipeline.run_point_lt_of_flush t ((flush0_2 t).mp hf) s⟩]

end Kernel

/-! ### The reference -/

theorem ref_eq (x0 : FVec Ideal Cert.QkvInGradRefIdeal.S2048x1536 .f32) (x1 : FVec Ideal Cert.QkvInGradRefIdeal.S1024x1536 .f32) :
    G x0 x1 = val_main_v2 (F := Ideal) x0 x1 := by
  funext i
  rw [val_main_v2_apply]
  refine Finset.sum_congr rfl fun k _ => congrArg₂ (fun a b : EReal => a * b) (congrArg x0 ?_) (congrArg x1 ?_) <;>
  · funext a
    match a with
    | ⟨0, _⟩ => rfl
    | ⟨1, _⟩ => rfl

section KernelRun

open Cert.QkvInGradIdeal Cert.QkvInGradIdeal.Gen

/-- The kernel program's run: its result is the reference's last line over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = val_main_v2 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (ref_eq _ _)), (h c).2⟩)
    (Cert.QkvInGradIdeal.Value.run_blocks m g)

end KernelRun

section ReferenceRun

open Cert.QkvInGradRefIdeal

variable (m : (ℓ : Loc nD τ sig) → Buf (Elt Ideal) ℓ) (g : Dev nD → PrngReg)

/-- The reference's run: its result is its last line over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v2) = val_main_v2 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v2_eq _ _), (h c).2⟩)
    (Cert.QkvInGradRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (reference_run m g)

end ReferenceRun

end Cert.Mlp.QkvInGrad

end
-- ==== Proof.Mlp.QkvGrad.lean ====
/-
  The gradient of the weight that projects to queries, keys and values: the kernel program keeps the first half of every sum in a
  scratch buffer and adds the second half to it, the reference takes the whole sum at once, factors exchanged.
-/
module

public import proofs.«01_k».proof.Proof.Gen.QkvGradIdeal.Value
public import proofs.«01_k».proof.Proof.Gen.QkvGradRefIdeal.Read
public import Idealize.ShloMosaic.Lib.Pipeline.ValueKit
public import proofs.«01_k».proof.Proof.Mlp.Sum
public import Idealize.ShloMosaic.Lib.Pointwise
public import Idealize.ShloMosaic.Lib.Pipeline.ReadBack

@[expose] public section

set_option maxRecDepth 16384

noncomputable section

namespace Cert.Mlp.QkvGrad

open Idealize.ShloMosaic Idealize.ShloMosaic.TcCoe Idealize.ShloMosaic.StableHlo Idealize.SL.Sem
open Cert.QkvGradRefIdeal.Read

/-! ### The kernel program -/

section Kernel

open Cert.QkvGradIdeal Cert.QkvGradIdeal.Gen

variable (m : (ℓ : Loc nD τ sig) → Buf (Elt Ideal) ℓ)

theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

/-- The first part of a sum. -/
theorem first_apply (x0 : FVec Ideal S1024x1024 .f32) (x1 : FVec Ideal S1024x768 .f32) (y : S1024x768.Idx) :
    k0_pay2 (F := Ideal) x0 x1 y = ∑ k : Fin 1024, x0 (ix2 k (y 0)) * x1 (ix2 k (y 1)) := by
  pointwise [k0_pay2, k0_pay1]

/-- The second part is added to what the scratch buffer holds. -/
theorem next_apply (x0 : FVec Ideal S1024x1024 .f32) (x1 a : FVec Ideal S1024x768 .f32) (y : S1024x768.Idx) :
    k0_pay4 (F := Ideal) x0 x1 a y = a y + ∑ k : Fin 1024, x0 (ix2 k (y 0)) * x1 (ix2 k (y 1)) := by
  pointwise [k0_pay4, k0_pay1]

/-- The kernel's result, index by index. -/
def G (x0 : FVec Ideal S2048x1024 .f32) (x1 : FVec Ideal S2048x1536 .f32) : FVec Ideal S1024x1536 .bf16 := fun i =>
  (∑ k : Fin 2048, x0 (ix2 k (i 0)) * x1 (ix2 k (i 1)) : EReal)

/-- What the scratch buffer holds after a first part. -/
theorem scratch_apply (c : Dev nD) (t : Fin cfg0.N) (h : t.val % 2 = 0) (y : S1024x768.Idx) :
    (outsAt0 m c t.val t.isLt).2 y = k0_pay2 (F := Ideal) (iblk m c 0 t) (iblk m c 1 t) y := by
  rw [outsAt0_A m c t h (by omega)]
  frame_out

theorem final (c : Dev nD) : (dats m 0 c).arrAt 2 cfg0.N
    = G (m ((c.tc : Thread nD τ).loc main_arg0)) (m ((c.tc : Thread nD τ).loc main_arg1)) := by
  refine (dats m 0 c).arrAt_eq_of_covers 2 _ (by decide +kernel) fun t hf y => ?_
  blk_simp
  have h := (flush0_2 t).mp hf
  rw [after0_2, outsAt0_B m c t (by omega) h]
  frame_out
  rw [read_unread_whole, next_apply]
  have p : t.val - 1 < cfg0.N := Nat.lt_of_le_of_lt (Nat.sub_le _ _) t.isLt
  rw [show (outsAt0 m c (t.val - 1) p).2 = k0_pay2 (F := Ideal) (iblk m c 0 ⟨t.val - 1, p⟩) (iblk m c 1 ⟨t.val - 1, p⟩) from
    funext fun y => scratch_apply m c ⟨t.val - 1, p⟩ (by show (t.val - 1) % 2 = 0; omega) y, first_apply]
  unfold G
  rw [← sum_halves]
  blk_point [iblk, V, idx t, idx ⟨t.val - 1, p⟩]

end Kernel

/-! ### The reference -/

theorem ref_eq (x0 : FVec Ideal Cert.QkvGradRefIdeal.S2048x1024 .f32) (x1 : FVec Ideal Cert.QkvGradRefIdeal.S2048x1536 .f32) :
    G x0 x1 = val_main_v4 (F := Ideal) x0 x1 := by
  funext i
  rw [val_main_v4_apply, val_main_v3_apply, val_main_v2_apply]
  refine Finset.sum_congr rfl fun k _ => (mul_comm _ _).trans
    (congrArg₂ (fun a b : EReal => a * b) (congrArg x1 ?_) (congrArg x0 ?_)) <;>
  · funext a
    match a with
    | ⟨0, _⟩ => rfl
    | ⟨1, _⟩ => rfl

section KernelRun

open Cert.QkvGradIdeal Cert.QkvGradIdeal.Gen

/-- The kernel program's run: its result is the reference's last line over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0) = val_main_v4 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (ref_eq _ _)), (h c).2⟩)
    (Cert.QkvGradIdeal.Value.run_blocks m g)

end KernelRun

section ReferenceRun

open Cert.QkvGradRefIdeal

variable (m : (ℓ : Loc nD τ sig) → Buf (Elt Ideal) ℓ) (g : Dev nD → PrngReg)

/-- The reference's run: its result is its last line over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v4) = val_main_v4 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v4_eq _ _), (h c).2⟩)
    (Cert.QkvGradRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (reference_run m g)

end ReferenceRun

end Cert.Mlp.QkvGrad

end
-- ==== Proof.Mlp.Up.lean ====
/-
  The product with the first weight of the feed-forward part and the squared rectifier of it: the kernel program takes it block by block, the reference at once.
-/
module

public import proofs.«01_k».proof.Proof.Gen.UpIdeal.Value
public import proofs.«01_k».proof.Proof.Gen.UpRefIdeal.Read
public import Idealize.ShloMosaic.Lib.Pipeline.ValueKit
public import Idealize.ShloMosaic.Lib.Pointwise

@[expose] public section

set_option maxRecDepth 16384

noncomputable section

namespace Cert.Mlp.Up

open Idealize.ShloMosaic Idealize.ShloMosaic.TcCoe Idealize.ShloMosaic.StableHlo Idealize.SL.Sem
open Cert.UpRefIdeal.Read

/-! ### The kernel program -/

section Kernel

open Cert.UpIdeal Cert.UpIdeal.Gen

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The body's stored value at an index. -/
theorem pay_apply (x0 : FVec Ideal S1024x1024 .f32) (x1 : FVec Ideal S1024x1024 .bf16) (y : S1024x1024.Idx) :
    k0_pay1 (F := Ideal) x0 x1 y = (∑ k : Fin 1024, x0 (ix2 (y 0) k) * x1 (ix2 k (y 1)) : EReal) := by
  pointwise [k0_pay1]

/-- The second stored value: the square of the rectified first one. -/
theorem act_apply (x0 : FVec Ideal S1024x1024 .f32) (x1 : FVec Ideal S1024x1024 .bf16) (y : S1024x1024.Idx) :
    k0_pay2 (F := Ideal) x0 x1 y = (max (∑ k : Fin 1024, x0 (ix2 (y 0) k) * x1 (ix2 k (y 1)) : EReal) 0
      * max (∑ k : Fin 1024, x0 (ix2 (y 0) k) * x1 (ix2 k (y 1)) : EReal) 0 : EReal) := by
  pointwise [k0_pay2, k0_pay1]

/-- The kernel's first result, index by index. -/
def G (x0 : FVec Ideal S2048x1024 .f32) (x1 : FVec Ideal S1024x4096 .f32) : FVec Ideal S2048x4096 .f32 := fun i =>
  ∑ k : Fin 1024, x0 (ix2 (i 0) k) * x1 (ix2 k (i 1))

/-- The kernel's second result, index by index. -/
def H (x0 : FVec Ideal S2048x1024 .f32) (x1 : FVec Ideal S1024x4096 .f32) : FVec Ideal S2048x4096 .bf16 := fun i =>
  (max (∑ k : Fin 1024, x0 (ix2 (i 0) k) * x1 (ix2 k (i 1)) : EReal) 0
    * max (∑ k : Fin 1024, x0 (ix2 (i 0) k) * x1 (ix2 k (i 1)) : EReal) 0 : EReal)

theorem final (c : Dev nD) : (dats m 0 c).arrAt 2 cfg0.N
    = G (m ((c.tc : Thread nD τ).loc main_arg0)) (m ((c.tc : Thread nD τ).loc main_arg1)) := by
  refine (dats m 0 c).arrAt_eq_of_covers 2 _ (by decide +kernel) fun t hf y => ?_
  blk_simp
  rw [after0_2]; frame_out
  rw [pay_apply]
  unfold G
  blk_point [iblk, V, idx t]

theorem final_act (c : Dev nD) : (dats m 0 c).arrAt 3 cfg0.N
    = H (m ((c.tc : Thread nD τ).loc main_arg0)) (m ((c.tc : Thread nD τ).loc main_arg1)) := by
  refine (dats m 0 c).arrAt_eq_of_covers 3 _ (by decide +kernel) fun t hf y => ?_
  blk_simp
  rw [after0_3]; frame_out
  rw [act_apply]
  unfold H
  blk_point [iblk, V, idx t]

end Kernel

/-! ### The reference -/

theorem ref_eq (x0 : FVec Ideal Cert.UpRefIdeal.S2048x1024 .f32) (x1 : FVec Ideal Cert.UpRefIdeal.S1024x4096 .f32) :
    G x0 x1 = val_main_v0 (F := Ideal) x0 x1 := by
  funext i
  rw [val_main_v0_apply]
  refine Finset.sum_congr rfl fun k _ => congrArg₂ (fun a b : EReal => a * b) (congrArg x0 ?_) (congrArg x1 ?_) <;>
  · funext a
    match a with
    | ⟨0, _⟩ => rfl
    | ⟨1, _⟩ => rfl

theorem ref_act_eq (x0 : FVec Ideal Cert.UpRefIdeal.S2048x1024 .f32) (x1 : FVec Ideal Cert.UpRefIdeal.S1024x4096 .f32) :
    H x0 x1 = val_main_v3 (F := Ideal) x0 x1 := by
  funext i
  rw [val_main_v3_apply, val_main_v2_apply, val_main_v1_apply, val_main_call0_v0_apply, val_main_call0_cst_apply, ← ref_eq]
  have z : (FloatOps.ofBits .f32 0x00000000#32 : Ideal .f32) = (0 : EReal) := Ideal.ofBits_zero_f32
  rw [z]
  rfl

section KernelRun

open Cert.UpIdeal Cert.UpIdeal.Gen

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1_0) = val_main_v0 (F := Ideal) (m ((c.tc : Thread nD τ).loc main_arg0))
        (m ((c.tc : Thread nD τ).loc main_arg1))
      ∧ r.2.mem ((c.tc : Thread nD τ).loc main_v1_1) = val_main_v3 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (ref_eq _ _)),
    (h c).2.1.trans ((final_act m c).trans (ref_act_eq _ _)), (h c).2.2⟩)
    (Cert.UpIdeal.Value.run_blocks m g)

end KernelRun

section ReferenceRun

open Cert.UpRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v0) = val_main_v0 (F := Ideal) (m ((c.tc : Thread nD τ).loc main_arg0))
        (m ((c.tc : Thread nD τ).loc main_arg1))
      ∧ r.2.mem ((c.tc : Thread nD τ).loc main_v3) = val_main_v3 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v0_eq _ _), (h c).2.1.trans (val_main_v3_eq _ _), (h c).2.2⟩)
    (Cert.UpRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2, Idealize.ShloMosaic.sem_eq_zero_of_no_sems (by decide) r.2⟩)
    (reference_run m g)

end ReferenceRun

end Cert.Mlp.Up

end
-- ==== Proof.Mlp.Down.lean ====
/-
  The product with the second weight of the feed-forward part, of the squared rectifier of the first layer: the kernel
  program adds two parts of every sum into its result block, the reference takes the whole sum at once.
-/
module

public import proofs.«01_k».proof.Proof.Gen.DownIdeal.Value
public import proofs.«01_k».proof.Proof.Gen.DownRefIdeal.Read
public import Idealize.ShloMosaic.Lib.Pipeline.ValueKit
public import Idealize.ShloMosaic.Lib.Pointwise

@[expose] public section

set_option maxRecDepth 16384

noncomputable section

namespace Cert.Mlp.Down

open Idealize.ShloMosaic Idealize.ShloMosaic.TcCoe Idealize.ShloMosaic.StableHlo Idealize.SL.Sem
open Cert.DownRefIdeal.Read

/-! ### The kernel program -/

section Kernel

open Cert.DownIdeal Cert.DownIdeal.Gen

variable (m : (ℓ : Loc nD τ sig) → Buf (Elt Ideal) ℓ)

theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- The first part of a sum. -/
theorem first_apply (x0 : FVec Ideal S1024x2048 .bf16) (x1 : FVec Ideal S2048x1024 .bf16) (y : S1024x1024.Idx) :
    k0_pay1 (F := Ideal) x0 x1 y = 0 + (∑ k : Fin 2048, x0 (ix2 (y 0) k) * x1 (ix2 k (y 1)) : EReal) := by
  rw [zero_add]
  pointwise [k0_pay1]

/-- A further part is added to what the block holds. -/
theorem next_apply (x0 : FVec Ideal S1024x2048 .bf16) (x1 : FVec Ideal S2048x1024 .bf16) (a : FVec Ideal S1024x1024 .f32) (y : S1024x1024.Idx) :
    k0_pay3 (F := Ideal) x0 x1 a y = a y + (∑ k : Fin 2048, x0 (ix2 (y 0) k) * x1 (ix2 k (y 1)) : EReal) := by
  pointwise [k0_pay3, k0_pay1]

/-- The squared rectifier. -/
def act (x : FVec Ideal S2048x4096 .f32) : FVec Ideal S2048x4096 .bf16 := fun i => (max (x i) 0 * max (x i) 0 : EReal)

/-- The host code before the call leaves the squared rectifier of the first argument. -/
theorem V_act (c : Dev nD) : V m c main_v2 = act (m ((c.tc : Thread nD τ).loc main_arg0)) := by
  entry_read
  simp only [hostOps0, hostOps0_1, List.flatten, List.append, TRef.binary, TRef.nullary, TRef.unary, TRef.toBuf, TRef.ofBuf, cast_eq]
  after_results
  funext i
  pointwise [act]

/-- The first operand's block, read at an index. -/
theorem block_act (c : Dev nD) (t : Fin cfg0.N) (x : S1024x2048.Idx) :
    iblk m c 0 t x = act (m ((c.tc : Thread nD τ).loc main_arg0)) (((cfg0.win 0).blk t).view.emb x) :=
  congrFun (V_act m c) _

/-- The kernel's result, index by index. -/
def G (x0 : FVec Ideal S2048x4096 .f32) (x1 : FVec Ideal S4096x1024 .f32) : FVec Ideal S2048x1024 .f32 := fun i =>
  ∑ k : Fin 4096, act x0 (ix2 (i 0) k) * x1 (ix2 k (i 1))

theorem final (c : Dev nD) : (dats m 0 c).arrAt 2 cfg0.N
    = G (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first_apply])
    (fun t h j => by rw [outsAt0_B m c t h (by omega)]; frame_out; rw [next_apply])
    t ((flush0_2 t).mp hf) _, zero_add]
  unfold G
  refine Fin.sum_mul_add_congr fun s k hl => ?_
  refine Eq.trans (congrArg (fun a : EReal => a * _) (block_act m c _ _)) ?_
  blk_point [iblk, V, idx t, idx ⟨_, Pipeline.run_point_lt_of_flush t ((flush0_2 t).mp hf) s⟩]

end Kernel

/-! ### The reference -/

theorem ref_eq (x0 : FVec Ideal Cert.DownRefIdeal.S2048x4096 .f32) (x1 : FVec Ideal Cert.DownRefIdeal.S4096x1024 .f32) :
    G x0 x1 = val_main_v2 (F := Ideal) x0 x1 := by
  funext i
  rw [val_main_v2_apply]
  refine Finset.sum_congr rfl fun k _ => congrArg₂ (fun a b : EReal => a * b) ?_ (congrArg x1 ?_)
  · rw [val_main_v1_apply, val_main_v0_apply, val_main_call0_v0_apply, val_main_call0_cst_apply]
    have z : (FloatOps.ofBits .f32 0x00000000#32 : Ideal .f32) = (0 : EReal) := Ideal.ofBits_zero_f32
    rw [z]
    refine congrArg (fun a : EReal => max a 0 * max a 0) (congrArg x0 ?_)
    funext a
    match a with
    | ⟨0, _⟩ => rfl
    | ⟨1, _⟩ => rfl
  · funext a
    match a with
    | ⟨0, _⟩ => rfl
    | ⟨1, _⟩ => rfl

section KernelRun

open Cert.DownIdeal Cert.DownIdeal.Gen

/-- The kernel program's run: its result is the reference's last line over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = val_main_v2 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (ref_eq _ _)), (h c).2⟩)
    (Cert.DownIdeal.Value.run_blocks m g)

end KernelRun

section ReferenceRun

open Cert.DownRefIdeal

variable (m : (ℓ : Loc nD τ sig) → Buf (Elt Ideal) ℓ) (g : Dev nD → PrngReg)

/-- The reference's run: its result is its last line over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v2) = val_main_v2 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v2_eq _ _), (h c).2⟩)
    (Cert.DownRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (reference_run m g)

end ReferenceRun

end Cert.Mlp.Down

end
-- ==== Proof.Mlp.Qkv.lean ====
/-
  The projection to queries, keys and values: the kernel program takes it block by block, the reference at once.
-/
module

public import proofs.«01_k».proof.Proof.Gen.QkvIdeal.Value
public import proofs.«01_k».proof.Proof.Gen.QkvRefIdeal.Read
public import Idealize.ShloMosaic.Lib.Pipeline.ValueKit
public import Idealize.ShloMosaic.Lib.Pointwise

@[expose] public section

set_option maxRecDepth 16384

noncomputable section

namespace Cert.Mlp.Qkv

open Idealize.ShloMosaic Idealize.ShloMosaic.TcCoe Idealize.ShloMosaic.StableHlo Idealize.SL.Sem
open Cert.QkvRefIdeal.Read

/-! ### The kernel program -/

section Kernel

open Cert.QkvIdeal Cert.QkvIdeal.Gen

variable (m : (ℓ : Loc nD τ sig) → Buf (Elt Ideal) ℓ)

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The body's stored value at an index. -/
theorem pay_apply (x0 : FVec Ideal S1024x1024 .f32) (x1 : FVec Ideal S1024x768 .bf16) (y : S1024x768.Idx) :
    k0_pay1 (F := Ideal) x0 x1 y = (∑ k : Fin 1024, x0 (ix2 (y 0) k) * x1 (ix2 k (y 1)) : EReal) := by
  pointwise [k0_pay1]

/-- The kernel's result, index by index. -/
def G (x0 : FVec Ideal S2048x1024 .f32) (x1 : FVec Ideal S1024x1536 .f32) : FVec Ideal S2048x1536 .f32 := fun i =>
  ∑ k : Fin 1024, x0 (ix2 (i 0) k) * x1 (ix2 k (i 1))

theorem final (c : Dev nD) : (dats m 0 c).arrAt 2 cfg0.N
    = G (m ((c.tc : Thread nD τ).loc main_arg0)) (m ((c.tc : Thread nD τ).loc main_arg1)) := by
  refine (dats m 0 c).arrAt_eq_of_covers 2 _ (by decide +kernel) fun t hf y => ?_
  blk_simp
  rw [after0_2]; frame_out
  rw [pay_apply]
  unfold G
  blk_point [iblk, V, idx t]

end Kernel

/-! ### The reference -/

theorem ref_eq (x0 : FVec Ideal Cert.QkvRefIdeal.S2048x1024 .f32) (x1 : FVec Ideal Cert.QkvRefIdeal.S1024x1536 .f32) :
    G x0 x1 = val_main_v0 (F := Ideal) x0 x1 := by
  funext i
  rw [val_main_v0_apply]
  refine Finset.sum_congr rfl fun k _ => congrArg₂ (fun a b : EReal => a * b) (congrArg x0 ?_) (congrArg x1 ?_) <;>
  · funext a
    match a with
    | ⟨0, _⟩ => rfl
    | ⟨1, _⟩ => rfl

section KernelRun

open Cert.QkvIdeal Cert.QkvIdeal.Gen

/-- The kernel program's run: its result is the reference's last line over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = val_main_v0 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (ref_eq _ _)), (h c).2⟩)
    (Cert.QkvIdeal.Value.run_blocks m g)

end KernelRun

section ReferenceRun

open Cert.QkvRefIdeal

variable (m : (ℓ : Loc nD τ sig) → Buf (Elt Ideal) ℓ) (g : Dev nD → PrngReg)

/-- The reference's run: its result is its last line over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v0) = val_main_v0 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v0_eq _ _), (h c).2⟩)
    (Cert.QkvRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (reference_run m g)

end ReferenceRun

end Cert.Mlp.Qkv

end
-- ==== Proof.Opt.Step.lean ====
/-
  One step of the optimiser on one entry of a weight: the running mean of the gradient, the running mean of its square, and
  the change of the weight, which takes both means corrected for their start. The kernel multiplies by the corrections'
  reciprocals, the reference divides by the corrections.
-/
module

public import Idealize.ShloMosaic.Lib.Pipeline.ValueKit
public import Idealize.ShloMosaic.Lib.Pointwise

@[expose] public section

noncomputable section

namespace Cert.Opt

open Idealize.ShloMosaic

/-- The running mean of the gradient. -/
def mean (g m : EReal) : EReal := Ideal.ofBits .f32 0x3F666666#32 * m + Ideal.ofBits .f32 0x3DCCCCCD#32 * g

/-- The running mean of the gradient's square. -/
def meanSq (g v : EReal) : EReal := Ideal.ofBits .f32 0x3F7FBE77#32 * v + Ideal.ofBits .f32 0x3A83126F#32 * (g * g)

/-- The change of the weight, from the two means after their correction. -/
def change (w p q : EReal) : EReal :=
  Ideal.ofBits .f32 0xBA83126F#32 * (Ideal.div p (Ideal.sqrt q + Ideal.ofBits .f32 0x322BCC77#32) + Ideal.ofBits .f32 0x3C23D70A#32 * w)

/-- The first mean after its correction: the mean over what the start has kept of it. -/
def fullMean (x : EReal) : EReal := Ideal.div x (Ideal.ofBits .f32 0x3F26BD02#32)

/-- The second mean after its correction. -/
def fullMeanSq (x : EReal) : EReal := Ideal.div x (Ideal.ofBits .f32 0x3C231ACC#32)

/-- The change of the weight, from the weight, its gradient and the two means before the step. -/
def delta (w g m v : EReal) : EReal := change w (fullMean (mean g m)) (fullMeanSq (meanSq g v))

/-- A product with the correction's reciprocal is the quotient. -/
theorem fullMean_eq (x : EReal) : x * ((8388608 / 5463681 : ℝ) : EReal) = fullMean x := by
  have e : Ideal.ofBits .f32 0x3F26BD02#32 = ((5463681 / 8388608 : ℝ) : EReal) := by
    simp [Ideal.ofBits, Ideal.ieee]
    norm_cast
    norm_num
  rw [fullMean, e, Ideal.div_coe (by norm_num)]
  norm_num

/-- The same for the second mean. -/
theorem fullMeanSq_eq (x : EReal) : x * ((268435456 / 2672307 : ℝ) : EReal) = fullMeanSq x := by
  have e : Ideal.ofBits .f32 0x3C231ACC#32 = ((2672307 / 268435456 : ℝ) : EReal) := by
    simp [Ideal.ofBits, Ideal.ieee]
    norm_cast
    norm_num
  rw [fullMeanSq, e, Ideal.div_coe (by norm_num)]
  norm_num

section Kernel

variable (κ : String → Option EReal) (a : κ "c1" = some ((8388608 / 5463681 : ℝ) : EReal))
  (b : κ "c2" = some ((268435456 / 2672307 : ℝ) : EReal))

include a b in
/-- What the kernel computes of one entry is the step, in any program whose table names the two reciprocals. -/
theorem delta_kernel (w g m v : Ideal .f32) : FloatOps.mulf (Scalar.ofBits .f32 0xBA83126F#32)
    (FloatOps.addf (FloatOps.divf (FloatOps.mulf (mean g m : Ideal .f32) (Named.named κ "c1" 0x3FC48605#32))
      (FloatOps.addf (FloatOps.sqrt (FloatOps.mulf (meanSq g v : Ideal .f32) (Named.named κ "c2" 0x42C8E6D3#32)))
        (Scalar.ofBits .f32 0x322BCC77#32))) (FloatOps.mulf (Scalar.ofBits .f32 0x3C23D70A#32) w)) = delta w g m v := by
  have c1 : Named.named (F := Ideal) κ "c1" (φ := .f32) 0x3FC48605#32 = ((8388608 / 5463681 : ℝ) : EReal) :=
    IdealRules.named_const.ideal_named_scalar _ _ _ _ a
  have c2 : Named.named (F := Ideal) κ "c2" (φ := .f32) 0x42C8E6D3#32 = ((268435456 / 2672307 : ℝ) : EReal) :=
    IdealRules.named_const.ideal_named_scalar _ _ _ _ b
  rw [delta, ← fullMean_eq, ← fullMeanSq_eq, ← c1, ← c2]
  rfl

variable {S : Shape} (h : S.ShapeCasts S) (g m v w : FVec Ideal S .f32) (y : S.Idx)

/-- A block's new first mean, from blocks that the body casts to their own shape. -/
theorem mean_cast : addf (mulf (broadcast S (Scalar.ofBits .f32 0x3F666666#32)) (shapeCast S m h))
    (mulf (broadcast S (Scalar.ofBits .f32 0x3DCCCCCD#32)) (shapeCast S g h)) y = mean (g y) (m y) := by
  rw [shapeCast_self, shapeCast_self]
  rfl

/-- A block's new second mean. -/
theorem meanSq_cast : addf (mulf (broadcast S (Scalar.ofBits .f32 0x3F7FBE77#32)) (shapeCast S v h))
    (mulf (broadcast S (Scalar.ofBits .f32 0x3A83126F#32)) (mulf (shapeCast S g h) (shapeCast S g h))) y = meanSq (g y) (v y) := by
  rw [shapeCast_self, shapeCast_self]
  rfl

include a b in
/-- A block's change of the weight. -/
theorem delta_cast : mulf (broadcast S (Scalar.ofBits .f32 0xBA83126F#32)) (addf (divf
      (mulf (addf (mulf (broadcast S (Scalar.ofBits .f32 0x3F666666#32)) (shapeCast S m h))
        (mulf (broadcast S (Scalar.ofBits .f32 0x3DCCCCCD#32)) (shapeCast S g h))) (broadcast S (Named.named κ "c1" 0x3FC48605#32)))
      (addf (sqrt (mulf (addf (mulf (broadcast S (Scalar.ofBits .f32 0x3F7FBE77#32)) (shapeCast S v h))
        (mulf (broadcast S (Scalar.ofBits .f32 0x3A83126F#32)) (mulf (shapeCast S g h) (shapeCast S g h))))
        (broadcast S (Named.named κ "c2" 0x42C8E6D3#32)))) (broadcast S (Scalar.ofBits .f32 0x322BCC77#32))))
      (mulf (broadcast S (Scalar.ofBits .f32 0x3C23D70A#32)) (shapeCast S w h))) y = delta (w y) (g y) (m y) (v y) := by
  rw [shapeCast_self, shapeCast_self, shapeCast_self, shapeCast_self]
  exact delta_kernel κ a b (w y) (g y) (m y) (v y)

end Kernel

end Cert.Opt

end
-- ==== Proof.Opt.AdamMlp.lean ====
/-
  The optimiser's step on a feed-forward weight of two layers: the kernel program's run and the reference's.
-/
module

public import proofs.«01_k».proof.Proof.Gen.AdamMlpIdeal.Value
public import proofs.«01_k».proof.Proof.Gen.AdamMlpRefIdeal.Read
public import proofs.«01_k».proof.Proof.Opt.Step

@[expose] public section

set_option maxRecDepth 16384

noncomputable section

namespace Cert.Opt.AdamMlp

open Idealize.ShloMosaic Idealize.ShloMosaic.TcCoe Idealize.ShloMosaic.StableHlo Idealize.SL.Sem
open Cert.AdamMlpRefIdeal.Read

section Kernel

open Cert.AdamMlpIdeal Cert.AdamMlpIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamMlpIdeal.Value.run_blocks m g)

end Kernel

section Reference

open Cert.AdamMlpRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamMlpRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamMlp

end
-- ==== Proof.Opt.AdamRow.lean ====
/-
  The optimiser's step on a weight of one row: the kernel program's run and the reference's.
-/
module

public import proofs.«01_k».proof.Proof.Gen.AdamRowIdeal.Value
public import proofs.«01_k».proof.Proof.Gen.AdamRowRefIdeal.Read
public import proofs.«01_k».proof.Proof.Opt.Step

@[expose] public section

set_option maxRecDepth 16384

noncomputable section

namespace Cert.Opt.AdamRow

open Idealize.ShloMosaic Idealize.ShloMosaic.TcCoe Idealize.ShloMosaic.StableHlo Idealize.SL.Sem
open Cert.AdamRowRefIdeal.Read

section Kernel

open Cert.AdamRowIdeal

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = val_main_v23 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v0_1) = val_main_v4 (F := Ideal) (m ((c.tc : Thread nD τ).loc main_arg1))
        (m ((c.tc : Thread nD τ).loc main_arg2))
      ∧ r.2.mem ((c.tc : Thread nD τ).loc main_v0_2) = val_main_v10 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => delta_kernel κ rfl rfl _ _ _ _), (h c).2.1.trans rfl,
    (h c).2.2.1.trans rfl, (h c).2.2.2⟩) (Cert.AdamRowIdeal.Value.run m g)

end Kernel

section Reference

open Cert.AdamRowRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v23) = val_main_v23 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4) = val_main_v4 (F := Ideal) (m ((c.tc : Thread nD τ).loc main_arg1))
        (m ((c.tc : Thread nD τ).loc main_arg2))
      ∧ r.2.mem ((c.tc : Thread nD τ).loc main_v10) = val_main_v10 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v23_eq _ _ _ _), (h c).2.1.trans (val_main_v4_eq _ _),
    (h c).2.2.1.trans (val_main_v10_eq _ _), (h c).2.2.2⟩) (Cert.AdamRowRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamRow

end
-- ==== Proof.Opt.AdamNorm.lean ====
/-
  The optimiser's step on the gains or the shifts of the norms of two layers: the kernel program's run and the reference's.
-/
module

public import proofs.«01_k».proof.Proof.Gen.AdamNormIdeal.Value
public import proofs.«01_k».proof.Proof.Gen.AdamNormRefIdeal.Read
public import proofs.«01_k».proof.Proof.Opt.Step

@[expose] public section

set_option maxRecDepth 16384

noncomputable section

namespace Cert.Opt.AdamNorm

open Idealize.ShloMosaic Idealize.ShloMosaic.TcCoe Idealize.ShloMosaic.StableHlo Idealize.SL.Sem
open Cert.AdamNormRefIdeal.Read

section Kernel

open Cert.AdamNormIdeal Cert.AdamNormIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamNormIdeal.Value.run_blocks m g)

end Kernel

section Reference

open Cert.AdamNormRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamNormRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamNorm

end
-- ==== Proof.Opt.AdamRank.lean ====
/-
  The optimiser's step on a low-rank weight: the kernel program's run and the reference's.
-/
module

public import proofs.«01_k».proof.Proof.Gen.AdamRankIdeal.Value
public import proofs.«01_k».proof.Proof.Gen.AdamRankRefIdeal.Read
public import proofs.«01_k».proof.Proof.Opt.Step

@[expose] public section

set_option maxRecDepth 16384

noncomputable section

namespace Cert.Opt.AdamRank

open Idealize.ShloMosaic Idealize.ShloMosaic.TcCoe Idealize.ShloMosaic.StableHlo Idealize.SL.Sem
open Cert.AdamRankRefIdeal.Read

section Kernel

open Cert.AdamRankIdeal Cert.AdamRankIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamRankIdeal.Value.run_blocks m g)

end Kernel

section Reference

open Cert.AdamRankRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamRankRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamRank

end
-- ==== Proof.Opt.AdamCond.lean ====
/-
  The optimiser's step on the weight of the conditioning: the kernel program's run and the reference's.
-/
module

public import proofs.«01_k».proof.Proof.Gen.AdamCondIdeal.Value
public import proofs.«01_k».proof.Proof.Gen.AdamCondRefIdeal.Read
public import proofs.«01_k».proof.Proof.Opt.Step

@[expose] public section

set_option maxRecDepth 16384

noncomputable section

namespace Cert.Opt.AdamCond

open Idealize.ShloMosaic Idealize.ShloMosaic.TcCoe Idealize.ShloMosaic.StableHlo Idealize.SL.Sem
open Cert.AdamCondRefIdeal.Read

section Kernel

open Cert.AdamCondIdeal Cert.AdamCondIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamCondIdeal.Value.run_blocks m g)

end Kernel

section Reference

open Cert.AdamCondRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamCondRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamCond

end
-- ==== Proof.Opt.AdamShift.lean ====
/-
  The optimiser's step on the conditioning's constant: the kernel program's run and the reference's.
-/
module

public import proofs.«01_k».proof.Proof.Gen.AdamShiftIdeal.Value
public import proofs.«01_k».proof.Proof.Gen.AdamShiftRefIdeal.Read
public import proofs.«01_k».proof.Proof.Opt.Step

@[expose] public section

set_option maxRecDepth 16384

noncomputable section

namespace Cert.Opt.AdamShift

open Idealize.ShloMosaic Idealize.ShloMosaic.TcCoe Idealize.ShloMosaic.StableHlo Idealize.SL.Sem
open Cert.AdamShiftRefIdeal.Read

section Kernel

open Cert.AdamShiftIdeal

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = val_main_v23 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v0_1) = val_main_v4 (F := Ideal) (m ((c.tc : Thread nD τ).loc main_arg1))
        (m ((c.tc : Thread nD τ).loc main_arg2))
      ∧ r.2.mem ((c.tc : Thread nD τ).loc main_v0_2) = val_main_v10 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => delta_kernel κ rfl rfl _ _ _ _), (h c).2.1.trans rfl,
    (h c).2.2.1.trans rfl, (h c).2.2.2⟩) (Cert.AdamShiftIdeal.Value.run m g)

end Kernel

section Reference

open Cert.AdamShiftRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v23) = val_main_v23 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4) = val_main_v4 (F := Ideal) (m ((c.tc : Thread nD τ).loc main_arg1))
        (m ((c.tc : Thread nD τ).loc main_arg2))
      ∧ r.2.mem ((c.tc : Thread nD τ).loc main_v10) = val_main_v10 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v23_eq _ _ _ _), (h c).2.1.trans (val_main_v4_eq _ _),
    (h c).2.2.1.trans (val_main_v10_eq _ _), (h c).2.2.2⟩) (Cert.AdamShiftRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamShift

end
-- ==== Proof.Opt.AdamMixIn.lean ====
/-
  The optimiser's step on the weight into the recurrent mixer: the kernel program's run and the reference's.
-/
module

public import proofs.«01_k».proof.Proof.Gen.AdamMixInIdeal.Value
public import proofs.«01_k».proof.Proof.Gen.AdamMixInRefIdeal.Read
public import proofs.«01_k».proof.Proof.Opt.Step

@[expose] public section

set_option maxRecDepth 16384

noncomputable section

namespace Cert.Opt.AdamMixIn

open Idealize.ShloMosaic Idealize.ShloMosaic.TcCoe Idealize.ShloMosaic.StableHlo Idealize.SL.Sem
open Cert.AdamMixInRefIdeal.Read

section Kernel

open Cert.AdamMixInIdeal Cert.AdamMixInIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamMixInIdeal.Value.run_blocks m g)

end Kernel

section Reference

open Cert.AdamMixInRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamMixInRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamMixIn

end
-- ==== Proof.Opt.AdamMix.lean ====
/-
  The optimiser's step on the coefficients that mix neighbouring positions: the kernel program's run and the reference's.
-/
module

public import proofs.«01_k».proof.Proof.Gen.AdamMixIdeal.Value
public import proofs.«01_k».proof.Proof.Gen.AdamMixRefIdeal.Read
public import proofs.«01_k».proof.Proof.Opt.Step

@[expose] public section

set_option maxRecDepth 16384

noncomputable section

namespace Cert.Opt.AdamMix

open Idealize.ShloMosaic Idealize.ShloMosaic.TcCoe Idealize.ShloMosaic.StableHlo Idealize.SL.Sem
open Cert.AdamMixRefIdeal.Read

section Kernel

open Cert.AdamMixIdeal

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = val_main_v23 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v0_1) = val_main_v4 (F := Ideal) (m ((c.tc : Thread nD τ).loc main_arg1))
        (m ((c.tc : Thread nD τ).loc main_arg2))
      ∧ r.2.mem ((c.tc : Thread nD τ).loc main_v0_2) = val_main_v10 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => delta_kernel κ rfl rfl _ _ _ _), (h c).2.1.trans rfl,
    (h c).2.2.1.trans rfl, (h c).2.2.2⟩) (Cert.AdamMixIdeal.Value.run m g)

end Kernel

section Reference

open Cert.AdamMixRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v23) = val_main_v23 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4) = val_main_v4 (F := Ideal) (m ((c.tc : Thread nD τ).loc main_arg1))
        (m ((c.tc : Thread nD τ).loc main_arg2))
      ∧ r.2.mem ((c.tc : Thread nD τ).loc main_v10) = val_main_v10 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v23_eq _ _ _ _), (h c).2.1.trans (val_main_v4_eq _ _),
    (h c).2.2.1.trans (val_main_v10_eq _ _), (h c).2.2.2⟩) (Cert.AdamMixRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamMix

end
-- ==== Proof.Opt.AdamGate.lean ====
/-
  The optimiser's step on the weight of the mixer's gate: the kernel program's run and the reference's.
-/
module

public import proofs.«01_k».proof.Proof.Gen.AdamGateIdeal.Value
public import proofs.«01_k».proof.Proof.Gen.AdamGateRefIdeal.Read
public import proofs.«01_k».proof.Proof.Opt.Step

@[expose] public section

set_option maxRecDepth 16384

noncomputable section

namespace Cert.Opt.AdamGate

open Idealize.ShloMosaic Idealize.ShloMosaic.TcCoe Idealize.ShloMosaic.StableHlo Idealize.SL.Sem
open Cert.AdamGateRefIdeal.Read

section Kernel

open Cert.AdamGateIdeal Cert.AdamGateIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamGateIdeal.Value.run_blocks m g)

end Kernel

section Reference

open Cert.AdamGateRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamGateRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamGate

end
-- ==== Proof.Opt.AdamBonus.lean ====
/-
  The optimiser's step on the mixer's bonus: the kernel program's run and the reference's.
-/
module

public import proofs.«01_k».proof.Proof.Gen.AdamBonusIdeal.Value
public import proofs.«01_k».proof.Proof.Gen.AdamBonusRefIdeal.Read
public import proofs.«01_k».proof.Proof.Opt.Step

@[expose] public section

set_option maxRecDepth 16384

noncomputable section

namespace Cert.Opt.AdamBonus

open Idealize.ShloMosaic Idealize.ShloMosaic.TcCoe Idealize.ShloMosaic.StableHlo Idealize.SL.Sem
open Cert.AdamBonusRefIdeal.Read

section Kernel

open Cert.AdamBonusIdeal Cert.AdamBonusIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamBonusIdeal.Value.run_blocks m g)

end Kernel

section Reference

open Cert.AdamBonusRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamBonusRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamBonus

end
-- ==== Proof.Opt.AdamConv.lean ====
/-
  The optimiser's step on the short convolution's weight: the kernel program's run and the reference's.
-/
module

public import proofs.«01_k».proof.Proof.Gen.AdamConvIdeal.Value
public import proofs.«01_k».proof.Proof.Gen.AdamConvRefIdeal.Read
public import proofs.«01_k».proof.Proof.Opt.Step

@[expose] public section

set_option maxRecDepth 16384

noncomputable section

namespace Cert.Opt.AdamConv

open Idealize.ShloMosaic Idealize.ShloMosaic.TcCoe Idealize.ShloMosaic.StableHlo Idealize.SL.Sem
open Cert.AdamConvRefIdeal.Read

section Kernel

open Cert.AdamConvIdeal Cert.AdamConvIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamConvIdeal.Value.run_blocks m g)

end Kernel

section Reference

open Cert.AdamConvRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamConvRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamConv

end
-- ==== Proof.Opt.AdamMixOut.lean ====
/-
  The optimiser's step on the weight out of the recurrent mixer: the kernel program's run and the reference's.
-/
module

public import proofs.«01_k».proof.Proof.Gen.AdamMixOutIdeal.Value
public import proofs.«01_k».proof.Proof.Gen.AdamMixOutRefIdeal.Read
public import proofs.«01_k».proof.Proof.Opt.Step

@[expose] public section

set_option maxRecDepth 16384

noncomputable section

namespace Cert.Opt.AdamMixOut

open Idealize.ShloMosaic Idealize.ShloMosaic.TcCoe Idealize.ShloMosaic.StableHlo Idealize.SL.Sem
open Cert.AdamMixOutRefIdeal.Read

section Kernel

open Cert.AdamMixOutIdeal Cert.AdamMixOutIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamMixOutIdeal.Value.run_blocks m g)

end Kernel

section Reference

open Cert.AdamMixOutRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamMixOutRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamMixOut

end
-- ==== Proof.Opt.AdamQkv.lean ====
/-
  The optimiser's step on the weight to queries, keys and values: the kernel program's run and the reference's.
-/
module

public import proofs.«01_k».proof.Proof.Gen.AdamQkvIdeal.Value
public import proofs.«01_k».proof.Proof.Gen.AdamQkvRefIdeal.Read
public import proofs.«01_k».proof.Proof.Opt.Step

@[expose] public section

set_option maxRecDepth 16384

noncomputable section

namespace Cert.Opt.AdamQkv

open Idealize.ShloMosaic Idealize.ShloMosaic.TcCoe Idealize.ShloMosaic.StableHlo Idealize.SL.Sem
open Cert.AdamQkvRefIdeal.Read

section Kernel

open Cert.AdamQkvIdeal Cert.AdamQkvIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamQkvIdeal.Value.run_blocks m g)

end Kernel

section Reference

open Cert.AdamQkvRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamQkvRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamQkv

end
-- ==== Proof.Opt.AdamAttOut.lean ====
/-
  The optimiser's step on the weight out of the attention: the kernel program's run and the reference's.
-/
module

public import proofs.«01_k».proof.Proof.Gen.AdamAttOutIdeal.Value
public import proofs.«01_k».proof.Proof.Gen.AdamAttOutRefIdeal.Read
public import proofs.«01_k».proof.Proof.Opt.Step

@[expose] public section

set_option maxRecDepth 16384

noncomputable section

namespace Cert.Opt.AdamAttOut

open Idealize.ShloMosaic Idealize.ShloMosaic.TcCoe Idealize.ShloMosaic.StableHlo Idealize.SL.Sem
open Cert.AdamAttOutRefIdeal.Read

section Kernel

open Cert.AdamAttOutIdeal Cert.AdamAttOutIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = val_main_v24 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]; frame_out
  rw [val_main_v24_apply]
  refine (delta_cast κ rfl rfl _ _ _ _ _ y).trans ?_
  show _ = delta _ _ _ _
  blk_point [iblk, V, idx t]

theorem final_mean (c : Dev nD) : (dats m 0 c).arrAt 5 cfg0.N = val_main_v25 (F := Ideal) (m ((c.tc : Thread nD τ).loc main_arg1))
    (m ((c.tc : Thread nD τ).loc main_arg2)) := by
  refine (dats m 0 c).arrAt_eq_of_covers 5 _ (by decide +kernel) fun t hf y => ?_
  blk_simp
  rw [after0_5]; frame_out
  rw [val_main_v25_apply]
  refine (mean_cast _ _ _ y).trans ?_
  show _ = mean _ _
  blk_point [iblk, V, idx t]

theorem final_meanSq (c : Dev nD) : (dats m 0 c).arrAt 6 cfg0.N = val_main_v26 (F := Ideal) (m ((c.tc : Thread nD τ).loc main_arg1))
    (m ((c.tc : Thread nD τ).loc main_arg3)) := by
  refine (dats m 0 c).arrAt_eq_of_covers 6 _ (by decide +kernel) fun t hf y => ?_
  blk_simp
  rw [after0_6]; frame_out
  rw [val_main_v26_apply]
  refine (meanSq_cast _ _ _ y).trans ?_
  show _ = meanSq _ _
  blk_point [iblk, V, idx t]

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4_1) = val_main_v25 (F := Ideal) (m ((c.tc : Thread nD τ).loc main_arg1))
        (m ((c.tc : Thread nD τ).loc main_arg2))
      ∧ r.2.mem ((c.tc : Thread nD τ).loc main_v4_2) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_delta m c), (h c).2.1.trans (final_mean m c),
    (h c).2.2.1.trans (final_meanSq m c), (h c).2.2.2⟩) (Cert.AdamAttOutIdeal.Value.run_blocks m g)

end Kernel

section Reference

open Cert.AdamAttOutRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v25) = val_main_v25 (F := Ideal) (m ((c.tc : Thread nD τ).loc main_arg1))
        (m ((c.tc : Thread nD τ).loc main_arg2))
      ∧ r.2.mem ((c.tc : Thread nD τ).loc main_v26) = val_main_v26 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v24_eq _ _ _ _), (h c).2.1.trans (val_main_v25_eq _ _),
    (h c).2.2.1.trans (val_main_v26_eq _ _), (h c).2.2.2⟩) (Cert.AdamAttOutRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamAttOut

end
-- ==== Proof.Opt.AdamRel.lean ====
/-
  The optimiser's step on the bias of relative positions: the kernel program's run and the reference's.
-/
module

public import proofs.«01_k».proof.Proof.Gen.AdamRelIdeal.Value
public import proofs.«01_k».proof.Proof.Gen.AdamRelRefIdeal.Read
public import proofs.«01_k».proof.Proof.Opt.Step

@[expose] public section

set_option maxRecDepth 16384

noncomputable section

namespace Cert.Opt.AdamRel

open Idealize.ShloMosaic Idealize.ShloMosaic.TcCoe Idealize.ShloMosaic.StableHlo Idealize.SL.Sem
open Cert.AdamRelRefIdeal.Read

section Kernel

open Cert.AdamRelIdeal

/-- The kernel program's run: its results are the reference's over the arguments, which end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = val_main_v23 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v0_1) = val_main_v4 (F := Ideal) (m ((c.tc : Thread nD τ).loc main_arg1))
        (m ((c.tc : Thread nD τ).loc main_arg2))
      ∧ r.2.mem ((c.tc : Thread nD τ).loc main_v0_2) = val_main_v10 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => delta_kernel κ rfl rfl _ _ _ _), (h c).2.1.trans rfl,
    (h c).2.2.1.trans rfl, (h c).2.2.2⟩) (Cert.AdamRelIdeal.Value.run m g)

end Kernel

section Reference

open Cert.AdamRelRefIdeal

variable (m : (ℓ : Loc nD τ sig) → Buf (Elt Ideal) ℓ) (g : Dev nD → PrngReg)

/-- The reference's run: its results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v23) = val_main_v23 (F := Ideal) (m ((c.tc : Thread nD τ).loc main_arg0))
        (m ((c.tc : Thread nD τ).loc main_arg1)) (m ((c.tc : Thread nD τ).loc main_arg2))
        (m ((c.tc : Thread nD τ).loc main_arg3))
      ∧ r.2.mem ((c.tc : Thread nD τ).loc main_v4) = val_main_v4 (F := Ideal) (m ((c.tc : Thread nD τ).loc main_arg1))
        (m ((c.tc : Thread nD τ).loc main_arg2))
      ∧ r.2.mem ((c.tc : Thread nD τ).loc main_v10) = val_main_v10 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v23_eq _ _ _ _), (h c).2.1.trans (val_main_v4_eq _ _),
    (h c).2.2.1.trans (val_main_v10_eq _ _), (h c).2.2.2⟩) (Cert.AdamRelRefIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩)
    (reference_run m g)

end Reference

end Cert.Opt.AdamRel

end
-- ==== Proof.Att.Tile.lean ====
/-
  The attention gradient's kernel body, one head at a time: what a grid point computes from its tiles, written once over
  the tiles, and the run's stores found to be these.
-/
module

public import proofs.«01_k».proof.Proof.Gen.KernelIdeal.Frame

@[expose] public section

set_option maxRecDepth 16384

noncomputable section

namespace Cert.Att.Body

open Cert.KernelIdeal Cert.KernelIdeal.Gen Idealize.ShloMosaic

variable {F : FTy → Type} [FloatOps F]

/-- The tiles of one head: queries, keys, values, the output's gradient and the output, each 128 rows of the 128 lanes
    that hold two heads; and this head's bias, logarithm and its gradient. -/
structure Tiles (F : FTy → Type) where
  q : Vec F S128x128 .f32
  k : Vec F S128x128 .f32
  v : Vec F S128x128 .f32
  g : Vec F S128x128 .f32
  o : Vec F S128x128 .f32
  b : Vec F S1x128x128 .f32
  l : Vec F S1x128x128 .f32
  e : Vec F S1x128x128 .f32

/-- The lane of each column. -/
def lane : IVec S1x128 32 := iota .tc S1x128 32 [1] iota_S1x128_d1_w32

/-- Which lanes belong to the pair's head `w`. -/
def half (w : BitVec 32) : IVec S1x128 1 :=
  cmpi .eq
    (select
      (andi
        (cmpi .ne
          (subi (extui 32 (cmpi .sgt lane (broadcast S1x128 0#32)) natLt_1_32)
            (extui 32 (cmpi .slt lane (broadcast S1x128 0#32)) natLt_1_32))
          (broadcast S1x128 (Scalar.subi (Scalar.extui (Scalar.cmpi .sgt 64#32 0#32)) (Scalar.extui (Scalar.cmpi .slt 64#32 0#32)))))
        (cmpi .ne (remsi lane (broadcast S1x128 64#32)) (broadcast S1x128 0#32)))
      (subi (divsi lane (broadcast S1x128 64#32)) (broadcast S1x128 1#32))
      (divsi lane (broadcast S1x128 64#32)))
    (broadcast S1x128 w)

/-- The mask at every row. -/
def rows (M : IVec S1x128 1) : IVec S128x128 1 :=
  broadcastTo S128x128 M broadcasts_S1x128_S128x128

def plane (x : Vec F S1x128x128 .f32) : FVec F S128x128 .f32 := shapeCast S128x128 x shapeCasts_S1x128x128_S128x128

/-- Zero at every place, and an eighth. -/
def zeros : FVec F S128x128 .f32 := broadcast S128x128 (Scalar.ofBits .f32 0x00000000#32 : F .f32)
def eighths : FVec F S128x128 .f32 := broadcast S128x128 (Scalar.ofBits .f32 0x3E000000#32 : F .f32)

/-- Each row's sum, in every lane. -/
def rowSum (x : FVec F S128x128 .f32) : FVec F S128x128 .f32 :=
  broadcastTo S128x128 (shapeCast S128x1 (multiReduction .add [1] S128 x 0x00000000#32 reduces_S128x128_S128 (.inl rfl) rfl) shapeCasts_S128_S128x1)
    broadcasts_S128x1_S128x128

namespace Tiles

variable (M : IVec S1x128 1) (T : Tiles F)

/-- This head's queries: zero in the other head's lanes. -/
def qm : FVec F S128x128 .bf16 :=
  select (rows M) (truncf .bf16 T.q bitsLt_bf16_f32) (broadcast S128x128 (Scalar.ofBits .bf16 0x0000#16 : F .bf16))

def gf : FVec F S128x128 .f32 := select (rows M) T.g zeros

def gm : FVec F S128x128 .bf16 := truncf .bf16 (T.gf M) bitsLt_bf16_f32

def kb : FVec F S128x128 .bf16 := truncf .bf16 T.k bitsLt_bf16_f32
def vb : FVec F S128x128 .bf16 := truncf .bf16 T.v bitsLt_bf16_f32

/-- The softmax, from the logarithm kept. -/
def prob : FVec F S128x128 .f32 :=
  select (cmpi .sle (iota .tc S128x128 32 [1] iota_S128x128_d1_w32) (iota .tc S128x128 32 [0] iota_S128x128_d0_w32))
    (exp (minimumf (subf (addf (mulf (matmul dot_S128x128_S128x128_S128x128_1_1_0_0_n_n none (T.qm M) T.kb (constant S128x128 .f32 0x00000000#32)) eighths)
      (plane T.b)) (plane T.l)) zeros))
    zeros

/-- The gradient of the scores. -/
def ds : FVec F S128x128 .f32 :=
  mulf (T.prob M)
    (addf
      (subf (matmul dot_S128x128_S128x128_S128x128_1_1_0_0_n_n none (T.gm M) T.vb (constant S128x128 .f32 0x00000000#32))
        (rowSum (mulf (T.gf M) T.o)))
      (rowSum (plane T.e)))

def dsb : FVec F S128x128 .bf16 := truncf .bf16 (T.ds M) bitsLt_bf16_f32

/-- The gradients added to what came before. -/
def addQ (x : FVec F S128x128 .f32) : FVec F S128x128 .f32 :=
  addf x (mulf (select (rows M) (matmul dot_S128x128_S128x128_S128x128_1_0_0_1_n_n none (T.dsb M) T.kb (constant S128x128 .f32 0x00000000#32)) zeros) eighths)

def addK (x : FVec F S128x128 .f32) : FVec F S128x128 .f32 :=
  addf x (mulf (matmul dot_S128x128_S128x128_S128x128_0_0_1_1_n_n none (T.dsb M) (T.qm M) (constant S128x128 .f32 0x00000000#32)) eighths)

def addV (x : FVec F S128x128 .f32) : FVec F S128x128 .f32 :=
  addf x (matmul dot_S128x128_S128x128_S128x128_0_0_1_1_n_n none (truncf .bf16 (T.prob M) bitsLt_bf16_f32) (T.gm M) (constant S128x128 .f32 0x00000000#32))

def addB (x : Vec F S1x128x128 .f32) : FVec F S1x128x128 .f32 :=
  shapeCast S1x128x128 (addf (plane x) (T.ds M)) shapeCasts_S128x128_S1x128x128

end Tiles

/-! ### The tiles of a grid point -/

/-- The 128 lanes of a block from lane `a`. -/
abbrev lanes (x : Vec F S128x512 .f32) (a : ℕ) (h : ∀ i, (![0, a] : Fin 2 → ℕ) i + S128x128.size i ≤ S128x512.size i) : Vec F S128x128 .f32 :=
  View.ld x (Rect.unit ![0, a] S128x128.size h)

abbrev head (x : Vec F S8x128x128 .f32) (a : ℕ) (h : ∀ i, (![a, 0, 0] : Fin 3 → ℕ) i + S1x128x128.size i ≤ S8x128x128.size i) : Vec F S1x128x128 .f32 :=
  View.ld x (Rect.unit ![a, 0, 0] S1x128x128.size h)

abbrev headB (x : Vec F S8x128x256 .f32) (a : ℕ) (h : ∀ i, (![a, 0, 128] : Fin 3 → ℕ) i + S1x128x128.size i ≤ S8x128x256.size i) : Vec F S1x128x128 .f32 :=
  View.ld x (Rect.unit ![a, 0, 128] S1x128x128.size h)

/-- The blocks a grid point reads. -/
structure Blocks (F : FTy → Type) where
  q : Vec F S128x512 .f32
  k : Vec F S128x512 .f32
  v : Vec F S128x512 .f32
  g : Vec F S128x512 .f32
  o : Vec F S128x512 .f32
  b : Vec F S8x128x256 .f32
  l : Vec F S8x128x128 .f32
  e : Vec F S8x128x128 .f32

theorem lanes_le {p : ℕ} (hp : p < 4) : ∀ i, (![0, p * 128] : Fin 2 → ℕ) i + S128x128.size i ≤ S128x512.size i := fun i =>
  match i with
  | ⟨0, _⟩ => by show 0 + 128 ≤ 128; omega
  | ⟨1, _⟩ => by show p * 128 + 128 ≤ 512; omega

theorem head_le {h : ℕ} (hh : h < 8) : ∀ i, (![h, 0, 0] : Fin 3 → ℕ) i + S1x128x128.size i ≤ S8x128x128.size i := fun i =>
  match i with
  | ⟨0, _⟩ => by show h + 1 ≤ 8; omega
  | ⟨1, _⟩ => by show 0 + 128 ≤ 128; omega
  | ⟨2, _⟩ => by show 0 + 128 ≤ 128; omega

theorem headB_le {h : ℕ} (hh : h < 8) : ∀ i, (![h, 0, 128] : Fin 3 → ℕ) i + S1x128x128.size i ≤ S8x128x256.size i := fun i =>
  match i with
  | ⟨0, _⟩ => by show h + 1 ≤ 8; omega
  | ⟨1, _⟩ => by show 0 + 128 ≤ 128; omega
  | ⟨2, _⟩ => by show 128 + 128 ≤ 256; omega

/-- Head `h`'s tiles, lanes of pair `p`. -/
def Blocks.tiles (X : Blocks F) (p : Fin 4) (h : Fin 8) : Tiles F where
  q := lanes X.q (p.val * 128) (lanes_le p.isLt)
  k := lanes X.k (p.val * 128) (lanes_le p.isLt)
  v := lanes X.v (p.val * 128) (lanes_le p.isLt)
  g := lanes X.g (p.val * 128) (lanes_le p.isLt)
  o := lanes X.o (p.val * 128) (lanes_le p.isLt)
  b := headB X.b h.val (headB_le h.isLt)
  l := head X.l h.val (head_le h.isLt)
  e := head X.e h.val (head_le h.isLt)

variable (m : (ℓ : Loc nD τ sig) → Buf (Elt F) ℓ) (c : Dev nD) (t : Fin cfg0.N)

/-- What the point reads. -/
abbrev blocks : Blocks F where
  q := iblk m c 0 t
  k := iblk m c 2 t
  v := iblk m c 3 t
  g := iblk m c 4 t
  o := iblk m c 6 t
  l := iblk m c 8 t
  e := iblk m c 10 t
  b := iblk m c 12 t

end Cert.Att.Body
-- ==== Proof.Att.Pieces.lean ====
/-
  The stores a grid point makes, in the terms of the body of one head.
-/
module

public import proofs.«01_k».proof.Proof.Att.Tile
public import Idealize.ShloMosaic.Lib.Pipeline.Value
public import Idealize.ShloMosaic.Lib.Pointwise

@[expose] public section

set_option maxRecDepth 16384
set_option maxHeartbeats 4000000

noncomputable section

namespace Cert.Att.Body

open Cert.KernelIdeal Cert.KernelIdeal.Gen Idealize.ShloMosaic

variable {F : FTy → Type} [FloatOps F]

/-- The first and the second head of pair `p`. -/
abbrev left (p : Fin 4) : Fin 8 := ⟨2 * p.val, by omega⟩
abbrev right (p : Fin 4) : Fin 8 := ⟨2 * p.val + 1, by omega⟩

/-- Pair `p`'s gradients of queries, keys and values. -/
def pairQ (X : Blocks F) (p : Fin 4) : FVec F S128x128 .f32 :=
  (X.tiles p (right p)).addQ (half 1#32) ((X.tiles p (left p)).addQ (half 0#32) zeros)

def pairK (X : Blocks F) (p : Fin 4) : FVec F S128x128 .f32 :=
  (X.tiles p (right p)).addK (half 1#32) ((X.tiles p (left p)).addK (half 0#32) zeros)

def pairV (X : Blocks F) (p : Fin 4) : FVec F S128x128 .f32 :=
  (X.tiles p (right p)).addV (half 1#32) ((X.tiles p (left p)).addV (half 0#32) zeros)

/-- The store of pair `p`'s lanes. -/
def pairPiece (y : Fin 4 → FVec F S128x128 .f32) (p : Fin 4) : View.Piece (Elt F) S128x512 .f32 :=
  ⟨Rect.unit ![0, p.val * 128] S128x128.size (lanes_le p.isLt), y p⟩

/-- Four stores, last first. -/
abbrev pairPieces (y : Fin 4 → FVec F S128x128 .f32) : List (View.Piece (Elt F) S128x512 .f32) :=
  [pairPiece y 3, pairPiece y 2, pairPiece y 1, pairPiece y 0]

/-- The store of a head's bias gradient. -/
def headPiece (h : Fin 8) (y : FVec F S1x128x128 .f32) : View.Piece (Elt F) S8x128x256 .f32 :=
  ⟨Rect.unit ![h.val, 0, 128] S1x128x128.size (headB_le h.isLt), y⟩

/-- The eight stores of the bias's gradient over what it held, last first. -/
def biasPieces (X : Blocks F) (x : Vec F S8x128x256 .f32) : List (View.Piece (Elt F) S8x128x256 .f32) :=
  [headPiece 7 ((X.tiles 3 7).addB (half 1#32) (headB x 7 (headB_le (by decide)))),
   headPiece 6 ((X.tiles 3 6).addB (half 0#32) (headB x 6 (headB_le (by decide)))),
   headPiece 5 ((X.tiles 2 5).addB (half 1#32) (headB x 5 (headB_le (by decide)))),
   headPiece 4 ((X.tiles 2 4).addB (half 0#32) (headB x 4 (headB_le (by decide)))),
   headPiece 3 ((X.tiles 1 3).addB (half 1#32) (headB x 3 (headB_le (by decide)))),
   headPiece 2 ((X.tiles 1 2).addB (half 0#32) (headB x 2 (headB_le (by decide)))),
   headPiece 1 ((X.tiles 0 1).addB (half 1#32) (headB x 1 (headB_le (by decide)))),
   headPiece 0 ((X.tiles 0 0).addB (half 0#32) (headB x 0 (headB_le (by decide))))]

/-- The zero fill of the bias's gradient. -/
def biasFill : View.Piece (Elt F) S8x128x256 .f32 := ⟨Rect.unit ![0, 0, 0] S8x128x256.size inb_S8x128x256_S8x128x256_0_0_0, k0_pay3⟩

/-- A load away from the last store reads what was there before it. -/
theorem readCov_skip {S : Shape} (v : View sig .tc .vmem S .f32) {o s o' s' : Fin S.rank → ℕ} {inb : ∀ a, o a + s a ≤ S.size a}
    {inb' : ∀ a, o' a + s' a ≤ S.size a} (w : (Rect.unit o s inb).shape.Idx → Elt F .f32) (L : List (View.Piece (Elt F) S .f32))
    (a : Fin S.rank) (h : o' a + s' a ≤ o a ∨ o a + s a ≤ o' a) :
    v.readCov (⟨Rect.unit o s inb, w⟩ :: L) (Rect.unit o' s' inb').toLoadRect = v.readCov L (Rect.unit o' s' inb').toLoadRect := by
  rw [View.readCov_eq_canon', View.readCov_eq_canon']
  funext j
  refine View.canon_cons_of_not_mem _ _ fun hm => ?_
  have h1 := ((Rect.mem_set_unit (inb := inb)).1 hm) a
  have h2 : (((Rect.unit o' s' inb').toLoadRect.idx j) a : ℕ) = o' a + 1 * (j a).val := rfl
  have h3 : (j a).val < s' a := (j a).isLt
  omega

theorem skip_lanes (v : View sig .tc .vmem S128x512 .f32) {a b : ℕ} {inb : ∀ i, (![0, a] : Fin 2 → ℕ) i + (![128, 128] : Fin 2 → ℕ) i ≤ S128x512.size i}
    {inb' : ∀ i, (![0, b] : Fin 2 → ℕ) i + (![128, 128] : Fin 2 → ℕ) i ≤ S128x512.size i}
    (w : S128x128.Idx → Elt F .f32) (L : List (View.Piece (Elt F) S128x512 .f32)) (h : b + 128 ≤ a ∨ a + 128 ≤ b) :
    v.readCov (⟨Rect.unit ![0, a] ![128, 128] inb, w⟩ :: L) (Rect.unit ![0, b] ![128, 128] inb').toLoadRect
      = v.readCov L (Rect.unit ![0, b] ![128, 128] inb').toLoadRect :=
  readCov_skip v w L 1 h

theorem skip_head (v : View sig .tc .vmem S8x128x256 .f32) {a b : ℕ}
    {inb : ∀ i, (![a, 0, 128] : Fin 3 → ℕ) i + (![1, 128, 128] : Fin 3 → ℕ) i ≤ S8x128x256.size i}
    {inb' : ∀ i, (![b, 0, 128] : Fin 3 → ℕ) i + (![1, 128, 128] : Fin 3 → ℕ) i ≤ S8x128x256.size i}
    (w : S1x128x128.Idx → Elt F .f32) (L : List (View.Piece (Elt F) S8x128x256 .f32)) (h : b + 1 ≤ a ∨ a + 1 ≤ b) :
    v.readCov (⟨Rect.unit ![a, 0, 128] ![1, 128, 128] inb, w⟩ :: L) (Rect.unit ![b, 0, 128] ![1, 128, 128] inb').toLoadRect
      = v.readCov L (Rect.unit ![b, 0, 128] ![1, 128, 128] inb').toLoadRect :=
  readCov_skip v w L 0 h

theorem fill_lanes (v : View sig .tc .vmem S128x512 .f32) {inb : ∀ i, (![0, 0] : Fin 2 → ℕ) i + (![128, 512] : Fin 2 → ℕ) i ≤ S128x512.size i}
    (B : LoadRect S128x512) :
    v.readCov ([⟨Rect.unit ![0, 0] ![128, 512] inb, k0_pay4⟩] : List (View.Piece (Elt F) S128x512 .f32)) B
      = fun _ => (Scalar.ofBits .f32 0x00000000#32 : Elt F .f32) := by
  have e : (![0, 0] : Fin 2 → ℕ) = fun _ => 0 := by decide
  rw [View.readCov_eq_canon']
  funext j
  exact congrFun (View.canon_unit_zero (S := S128x512) e inb _) (B.idx j)

theorem fill_head (v : View sig .tc .vmem S8x128x256 .f32) {inb : ∀ i, (![0, 0, 0] : Fin 3 → ℕ) i + (![8, 128, 256] : Fin 3 → ℕ) i ≤ S8x128x256.size i}
    (B : LoadRect S8x128x256) :
    v.readCov ([⟨Rect.unit ![0, 0, 0] ![8, 128, 256] inb, k0_pay3⟩] : List (View.Piece (Elt F) S8x128x256 .f32)) B
      = fun _ => (Scalar.ofBits .f32 0x00000000#32 : Elt F .f32) := by
  have e : (![0, 0, 0] : Fin 3 → ℕ) = fun _ => 0 := by decide
  rw [View.readCov_eq_canon']
  funext j
  exact congrFun (View.canon_unit_zero (S := S8x128x256) e inb _) (B.idx j)

variable (m : (ℓ : Loc nD τ sig) → Buf (Elt F) ℓ) (c : Dev nD) (t : Fin cfg0.N)

/-- The stores of a point that starts: those of the four results. -/
theorem runA (h0 : t.val % 16 = 0) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1 = pairPieces (pairQ (blocks m c t)) ∧
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1 = pairPieces (pairK (blocks m c t)) ∧
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.1 = pairPieces (pairV (blocks m c t)) ∧
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.1 = biasPieces (blocks m c t) (fun _ => (Scalar.ofBits .f32 0x00000000#32 : F .f32)) ++ [biasFill] := by
  unfold kernelRun0_A
  dsimp only
  sl_unfold_words
  simp (disch := decide) only [View.readAt_eq_ld, Memref.IsWhole.read_unread, ↓skip_lanes, ↓skip_head, ↓fill_head, ↓fill_lanes]
  unfold_payloads
  dsimp only [pairPieces, pairPiece, pairQ, pairK, pairV, biasPieces, headPiece, biasFill, List.cons_append, List.nil_append,
    Tiles.addQ, Tiles.addK, Tiles.addV, Tiles.addB, Tiles.dsb, Tiles.ds, Tiles.qm, Tiles.gm, Tiles.gf, Tiles.kb, Tiles.vb,
    Tiles.prob, Blocks.tiles, rows, plane, zeros, eighths, rowSum, half, lane, lanes, head, headB]
  simp only [shapeCast_self]
  exact ⟨rfl, rfl, rfl, rfl⟩

/-- The stores of a point that continues: those of the four results. -/
theorem runB (h0 : ¬ t.val % 16 = 0) (xo : Vec F S8x128x256 .f32) :
    (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo).1 = pairPieces (pairQ (blocks m c t)) ∧
    (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo).2.1 = pairPieces (pairK (blocks m c t)) ∧
    (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo).2.2.1 = pairPieces (pairV (blocks m c t)) ∧
    (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xo).2.2.2.1 = biasPieces (blocks m c t) xo := by
  unfold kernelRun0_B
  dsimp only
  sl_unfold_words
  simp (disch := decide) only [View.readAt_eq_ld, Memref.IsWhole.read_unread, ↓skip_lanes, ↓fill_lanes]
  unfold_payloads
  dsimp only [pairPieces, pairPiece, pairQ, pairK, pairV, biasPieces, headPiece, biasFill, List.cons_append, List.nil_append,
    Tiles.addQ, Tiles.addK, Tiles.addV, Tiles.addB, Tiles.dsb, Tiles.ds, Tiles.qm, Tiles.gm, Tiles.gf, Tiles.kb, Tiles.vb,
    Tiles.prob, Blocks.tiles, rows, plane, zeros, eighths, rowSum, half, lane, lanes, head, headB]
  simp only [shapeCast_self]
  exact ⟨rfl, rfl, rfl, rfl⟩

end Cert.Att.Body
-- ==== Proof.Att.Row.lean ====
/-
  One row of the attention, in the real numbers: the softmax over the keys a query sees, its logarithm, and the gradient
  of both, first as reals and then as the extended reals that the two programs compute with.
-/
module

public import Idealize.ShloMosaic.PureOps.Ideal
public import Idealize.ShloMosaic.PureOps.Ideal.Laws
public import Mathlib.Analysis.SpecialFunctions.Log.Basic

@[expose] public section

noncomputable section

namespace Cert.Att

open Idealize.ShloMosaic

/-! ### Extended reals that are reals -/

/-- A finite sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals that are each a real. -/
theorem sum_eq_coe {ι : Type*} (s : Finset ι) (x : ι → EReal) (f : ι → ℝ) (h : ∀ i ∈ s, x i = (f i : EReal)) :
    ∑ i ∈ s, x i = ((∑ i ∈ s, f i : ℝ) : EReal) := by
  rw [coe_sum]; exact Finset.sum_congr rfl h

theorem exp_coe (r : ℝ) : Ideal.exp (r : EReal) = (Real.exp r : EReal) := rfl
theorem exp_bot : Ideal.exp ⊥ = 0 := rfl

theorem log_coe {r : ℝ} (h : 0 < r) : Ideal.log (r : EReal) = (Real.log r : EReal) := by
  show (if r ≤ 0 then (⊥ : EReal) else (Real.log r : EReal)) = _
  rw [if_neg (not_le.2 h)]

theorem div_coe_coe (x : ℝ) {y : ℝ} (h : y ≠ 0) : Ideal.div (x : EReal) (y : EReal) = ((x / y : ℝ) : EReal) := by
  rw [Ideal.div_coe h, ← EReal.coe_mul, mul_one_div]

theorem min_coe (x y : ℝ) : min (x : EReal) (y : EReal) = ((min x y : ℝ) : EReal) :=
  (EReal.coe_strictMono.monotone.map_min).symm

/-! ### The row -/

section Row

variable {κ : Type} [Fintype κ] (ok : κ → Prop) [DecidablePred ok] (s : κ → ℝ)

/-- The scores that count: those of the keys the query sees. -/
def seen : Finset κ := Finset.univ.filter ok

/-- The greatest score that counts. -/
def top (h : (seen ok).Nonempty) : ℝ := (seen ok).sup' h s

variable (h : (seen ok).Nonempty)

/-- The row's exponentials, zero at the keys the query does not see. -/
def ex (k : κ) : ℝ := if ok k then Real.exp (s k - top ok s h) else 0

/-- The softmax's denominator. -/
def den : ℝ := ∑ k, ex ok s h k

/-- The softmax. -/
def soft (k : κ) : ℝ := ex ok s h k / den ok s h

/-- The logarithm of the sum of the exponentials of the scores. -/
def lse : ℝ := top ok s h + Real.log (den ok s h)

theorem ex_nonneg (k : κ) : 0 ≤ ex ok s h k := by
  unfold ex; split_ifs
  · exact (Real.exp_pos _).le
  · exact le_rfl

theorem den_pos : 0 < den ok s h := by
  obtain ⟨k, hk⟩ := h
  have hk' : ok k := (Finset.mem_filter.1 hk).2
  refine Finset.sum_pos' (fun k _ => ex_nonneg ok s _ k) ⟨k, Finset.mem_univ _, ?_⟩
  unfold ex; rw [if_pos hk']; exact Real.exp_pos _

theorem soft_not (k : κ) (hk : ¬ ok k) : soft ok s h k = 0 := by
  unfold soft ex; rw [if_neg hk, zero_div]

/-- The masked scores: minus infinity at the keys the query does not see. -/
def masked (k : κ) : EReal := if ok k then (s k : EReal) else ⊥

/-- The greatest masked score. -/
theorem fold_max : (Finset.univ : Finset κ).fold max ⊥ (masked ok s) = (top ok s h : EReal) := by
  classical
  have e : (Finset.univ : Finset κ).fold max ⊥ (masked ok s) = (Finset.univ : Finset κ).sup (masked ok s) := rfl
  rw [e]
  apply le_antisymm
  · refine Finset.sup_le fun k _ => ?_
    unfold masked
    split_ifs with hk
    · exact EReal.coe_le_coe_iff.2 (Finset.le_sup' s (Finset.mem_filter.2 ⟨Finset.mem_univ _, hk⟩))
    · exact bot_le
  · obtain ⟨k, hk, hm⟩ := Finset.exists_mem_eq_sup' h s
    have hk' : ok k := (Finset.mem_filter.1 hk).2
    unfold top
    rw [hm]
    have : masked ok s k = (s k : EReal) := if_pos hk'
    rw [← this]
    exact Finset.le_sup (f := masked ok s) (Finset.mem_univ k)

/-- The exponential of a masked score less the greatest. -/
theorem exp_masked (k : κ) : Ideal.exp (masked ok s k - (top ok s h : EReal)) = (ex ok s h k : EReal) := by
  unfold masked ex
  split_ifs with hk
  · rw [← EReal.coe_sub, exp_coe]
  · rw [EReal.bot_sub, exp_bot]; rfl

/-- A score less the logarithm is never positive where it counts, and its exponential is the softmax. -/
theorem exp_min (k : κ) (hk : ok k) :
    Ideal.exp (min ((s k : EReal) - (lse ok s h : EReal)) 0) = (soft ok s h k : EReal) := by
  have hd := den_pos ok s h
  have e : Real.exp (s k - lse ok s h) = soft ok s h k := by
    unfold soft ex lse
    rw [if_pos hk, ← sub_sub, Real.exp_sub, Real.exp_log hd]
  have hle : soft ok s h k ≤ 1 := by
    unfold soft
    rw [div_le_one hd]
    exact Finset.single_le_sum (f := ex ok s h) (fun k _ => ex_nonneg ok s h k) (Finset.mem_univ k)
  have hneg : s k - lse ok s h ≤ 0 := by
    rw [← e] at hle
    exact Real.exp_le_one_iff.1 hle
  rw [← EReal.coe_sub, ← EReal.coe_zero, min_coe, min_eq_left hneg, exp_coe, e]

/-! ### Its gradient -/

variable (dp : κ → ℝ) (dl : ℝ)

/-- The gradient of the row's scores, from that of the softmax (`dp`) and that of the logarithm (`dl`). -/
def ds (k : κ) : ℝ := soft ok s h k * (dp k - ∑ j, soft ok s h j * dp j + dl)

theorem ds_not (k : κ) (hk : ¬ ok k) : ds ok s h dp dl k = 0 := by
  unfold ds; rw [soft_not ok s h k hk, zero_mul]

/-- The shift that every exponential's gradient takes, as the reference computes it. -/
def shift : ℝ := dl / den ok s h + -(∑ k, dp k * (1 / (den ok s h * den ok s h)) * ex ok s h k)

theorem grad_ex (k : κ) : (dp k / den ok s h + shift ok s h dp dl) * ex ok s h k = ds ok s h dp dl k := by
  have hd := (den_pos ok s h).ne'
  have e : ∑ j, dp j * (1 / (den ok s h * den ok s h)) * ex ok s h j
      = (∑ j, soft ok s h j * dp j) / den ok s h := by
    rw [Finset.sum_div]
    refine Finset.sum_congr rfl fun j _ => ?_
    unfold soft; field_simp
  unfold shift ds
  rw [e]
  unfold soft
  field_simp
  ring

/-- The gradient of the greatest score is zero: the softmax and its logarithm are both free of it. -/
theorem grad_top : dl + ∑ k, -((dp k / den ok s h + shift ok s h dp dl) * ex ok s h k) = 0 := by
  have hd := (den_pos ok s h).ne'
  have hs : ∑ k, soft ok s h k = 1 := by
    unfold soft; rw [← Finset.sum_div]; exact div_self hd
  simp only [grad_ex, Finset.sum_neg_distrib]
  unfold ds
  have : ∑ k, soft ok s h k * (dp k - ∑ j, soft ok s h j * dp j + dl)
      = ∑ k, (soft ok s h k * dp k) - (∑ k, soft ok s h k) * (∑ j, soft ok s h j * dp j) + (∑ k, soft ok s h k) * dl := by
    rw [Finset.sum_mul, Finset.sum_mul, ← Finset.sum_sub_distrib, ← Finset.sum_add_distrib]
    exact Finset.sum_congr rfl fun k _ => by ring
  rw [this, hs]; ring

end Row

end Cert.Att

end
-- ==== Proof.Att.Spec.lean ====
/-
  The gradient of the dilated attention of one head group, in the real numbers: sixteen residues of the positions, eight
  heads, 128 queries and keys in each residue. The 256 keys of a query are the previous block's 128, which do not exist
  here and which no query sees, and its own block's 128.
-/
module

public import proofs.«01_k».proof.Proof.Att.Row

@[expose] public section

noncomputable section

namespace Cert.Att

/-- The arguments as real arrays: the projections `p` (queries, keys and values side by side), the bias, and the gradients
    of the attention's output and of its logarithm. -/
structure Args where
  p : Fin 2048 → Fin 1536 → ℝ
  b : Fin 8 → Fin 128 → Fin 256 → ℝ
  o : Fin 2048 → Fin 512 → ℝ
  l : Fin 8 → Fin 2048 → Fin 128 → ℝ

/-- Position `i` of residue `r`. -/
def tok (r : Fin 16) (i : Fin 128) : Fin 2048 := ⟨i.val * 16 + r.val, by omega⟩

/-- Feature `d` of head `h` of projection `j`. -/
def col (j : Fin 3) (h : Fin 8) (d : Fin 64) : Fin 1536 := ⟨j.val * 512 + (h.val * 64 + d.val), by omega⟩

/-- Feature `d` of head `h`. -/
def feat (h : Fin 8) (d : Fin 64) : Fin 512 := ⟨h.val * 64 + d.val, by omega⟩

/-- The key of its block that key `k` of the 256 is. -/
def keyOf (k : Fin 256) : Fin 128 := ⟨k.val % 128, by omega⟩

/-- Key `k` of the query's own block, among the 256. -/
def own (k : Fin 128) : Fin 256 := ⟨128 + k.val, by omega⟩

/-- The keys a query sees: those of its own block up to its own position. -/
def sees (q : Fin 128) (k : Fin 256) : Prop := 128 ≤ k.val ∧ (keyOf k).val ≤ q.val

instance (q : Fin 128) : DecidablePred (sees q) := fun k => by unfold sees; infer_instance

theorem sees_own (q k : Fin 128) : sees q (own k) ↔ k.val ≤ q.val := by
  unfold sees keyOf own
  have := k.isLt
  show (128 ≤ 128 + k.val ∧ (128 + k.val) % 128 ≤ q.val) ↔ _
  omega

theorem seen_nonempty (q : Fin 128) : (seen (sees q)).Nonempty :=
  ⟨own q, Finset.mem_filter.2 ⟨Finset.mem_univ _, (sees_own q q).2 le_rfl⟩⟩

namespace Args

variable (A : Args)

/-- Queries, keys and values; a key or value of the previous block is zero. -/
def Q (r : Fin 16) (h : Fin 8) (i : Fin 128) (d : Fin 64) : ℝ := A.p (tok r i) (col 0 h d)
def K (r : Fin 16) (h : Fin 8) (k : Fin 256) (d : Fin 64) : ℝ := if 128 ≤ k.val then A.p (tok r (keyOf k)) (col 1 h d) else 0
def V (r : Fin 16) (h : Fin 8) (k : Fin 256) (d : Fin 64) : ℝ := if 128 ≤ k.val then A.p (tok r (keyOf k)) (col 2 h d) else 0
/-- The gradient of the attention's output. -/
def dO (r : Fin 16) (h : Fin 8) (i : Fin 128) (d : Fin 64) : ℝ := A.o (tok r i) (feat h d)
/-- The gradient of the logarithm, which every one of 128 lanes holds a share of. -/
def dL (r : Fin 16) (h : Fin 8) (i : Fin 128) : ℝ := ∑ j, A.l h (tok r i) j

def score (r : Fin 16) (h : Fin 8) (q : Fin 128) (k : Fin 256) : ℝ := (∑ d, A.Q r h q d * A.K r h k d) * (1 / 8) + A.b h q k
def M (r : Fin 16) (h : Fin 8) (q : Fin 128) : ℝ := top (sees q) (A.score r h q) (seen_nonempty q)
def E (r : Fin 16) (h : Fin 8) (q : Fin 128) (k : Fin 256) : ℝ := ex (sees q) (A.score r h q) (seen_nonempty q) k
def D (r : Fin 16) (h : Fin 8) (q : Fin 128) : ℝ := den (sees q) (A.score r h q) (seen_nonempty q)
def P (r : Fin 16) (h : Fin 8) (q : Fin 128) (k : Fin 256) : ℝ := soft (sees q) (A.score r h q) (seen_nonempty q) k
def L (r : Fin 16) (h : Fin 8) (q : Fin 128) : ℝ := lse (sees q) (A.score r h q) (seen_nonempty q)
/-- The attention's output. -/
def O (r : Fin 16) (h : Fin 8) (q : Fin 128) (d : Fin 64) : ℝ := ∑ k, A.P r h q k * A.V r h k d
def dP (r : Fin 16) (h : Fin 8) (q : Fin 128) (k : Fin 256) : ℝ := ∑ d, A.dO r h q d * A.V r h k d
/-- The gradient of the scores. -/
def dS (r : Fin 16) (h : Fin 8) (q : Fin 128) (k : Fin 256) : ℝ :=
  ds (sees q) (A.score r h q) (seen_nonempty q) (A.dP r h q) (A.dL r h q) k

/-- The gradients of the queries, the keys, the values and the bias. -/
def dQ (r : Fin 16) (h : Fin 8) (q : Fin 128) (d : Fin 64) : ℝ := ∑ k, A.dS r h q k * (1 / 8) * A.K r h k d
def dK (r : Fin 16) (h : Fin 8) (k : Fin 128) (d : Fin 64) : ℝ := ∑ q, A.dS r h q (own k) * (1 / 8) * A.Q r h q d
def dV (r : Fin 16) (h : Fin 8) (k : Fin 128) (d : Fin 64) : ℝ := ∑ q, A.dO r h q d * A.P r h q (own k)
def dB (h : Fin 8) (q : Fin 128) (k : Fin 256) : ℝ := ∑ r, A.dS r h q k

theorem P_def (r : Fin 16) (h : Fin 8) (q : Fin 128) (k : Fin 256) : A.P r h q k = A.E r h q k / A.D r h q := rfl
theorem D_ne (r : Fin 16) (h : Fin 8) (q : Fin 128) : A.D r h q ≠ 0 := (den_pos _ _ _).ne'
theorem D_def (r : Fin 16) (h : Fin 8) (q : Fin 128) : A.D r h q = ∑ k, A.E r h q k := rfl

/-- What a query's output weighs with its gradient: the softmax weighed with its own. -/
theorem delta (r : Fin 16) (h : Fin 8) (q : Fin 128) :
    ∑ d, A.dO r h q d * A.O r h q d = ∑ k, A.P r h q k * A.dP r h q k := by
  unfold O dP
  simp only [Finset.mul_sum]
  rw [Finset.sum_comm]
  exact Finset.sum_congr rfl fun k _ => Finset.sum_congr rfl fun d _ => by ring

theorem dS_eq (r : Fin 16) (h : Fin 8) (q : Fin 128) (k : Fin 256) :
    A.dS r h q k = A.P r h q k * (A.dP r h q k - ∑ d, A.dO r h q d * A.O r h q d + A.dL r h q) := by
  rw [delta]; rfl

theorem dS_not (r : Fin 16) (h : Fin 8) (q : Fin 128) (k : Fin 256) (hk : ¬ sees q k) : A.dS r h q k = 0 := ds_not _ _ _ _ _ _ hk

end Args

/-- A sum over the 256 keys of what is zero at the previous block's is the sum over the own block's. -/
theorem sum_own (f : Fin 256 → ℝ) (h : ∀ k, k.val < 128 → f k = 0) : ∑ k, f k = ∑ k, f (own k) := by
  have e : (∑ k : Fin (128 + 128), f k) = _ := Fin.sum_univ_add (a := 128) (b := 128) f
  have e1 : ∑ i : Fin 128, f (Fin.castAdd 128 i) = 0 := Finset.sum_eq_zero fun i _ => h _ i.isLt
  rw [e1, zero_add] at e
  exact e

end Cert.Att

end
-- ==== Proof.Att.Body.lean ====
/-
  The body of one head in the real numbers: from tiles that hold real values, the softmax, the gradient of the scores and
  what each product adds.
-/
module

public import proofs.«01_k».proof.Proof.Att.Pieces
public import proofs.«01_k».proof.Proof.Att.Spec

@[expose] public section

set_option maxRecDepth 16384

noncomputable section

namespace Cert.Att.Body

open Cert.KernelIdeal Cert.KernelIdeal.Gen Idealize.ShloMosaic

/-! ### The lanes of a pair -/

/-- The head of lane `x` of pair `p`, its feature, and the lane of feature `d` of the pair's head `w`. -/
def hd (p : Fin 4) (x : Fin 128) : Fin 8 := ⟨2 * p.val + x.val / 64, by omega⟩
def ft (x : Fin 128) : Fin 64 := ⟨x.val % 64, by omega⟩
def place (w : Fin 2) (d : Fin 64) : Fin 128 := ⟨w.val * 64 + d.val, by omega⟩
/-- The pair's head `w`. -/
def pick (p : Fin 4) (w : Fin 2) : Fin 8 := ⟨2 * p.val + w.val, by omega⟩

/-- Lane `x` is the pair's head `w`'s. -/
abbrev mine (w : Fin 2) (x : Fin 128) : Prop := x.val / 64 = w.val

theorem hd_mine (p : Fin 4) (w : Fin 2) (x : Fin 128) (h : mine w x) : hd p x = pick p w :=
  Fin.ext (by show 2 * p.val + x.val / 64 = 2 * p.val + w.val; omega)
theorem hd_place (p : Fin 4) (w : Fin 2) (d : Fin 64) : hd p (place w d) = pick p w :=
  Fin.ext (by show 2 * p.val + (w.val * 64 + d.val) / 64 = 2 * p.val + w.val; omega)
theorem ft_place (w : Fin 2) (d : Fin 64) : ft (place w d) = d :=
  Fin.ext (by show (w.val * 64 + d.val) % 64 = d.val; omega)

/-- A sum over the lanes of what is zero off a head's lanes is the sum over the head's features. -/
theorem sum_lanes (w : Fin 2) (f : Fin 128 → ℝ) : ∑ x, (if mine w x then f x else 0) = ∑ d, f (place w d) := by
  rw [← Finset.sum_filter]
  refine Finset.sum_bij' (fun x _ => ft x) (fun d _ => place w d) (fun _ _ => Finset.mem_univ _) (fun d _ => ?_) (fun x hx => ?_)
    (fun d _ => ft_place w d) (fun x hx => ?_)
  · refine Finset.mem_filter.2 ⟨Finset.mem_univ _, ?_⟩
    show (w.val * 64 + d.val) / 64 = w.val
    omega
  · have h : x.val / 64 = w.val := (Finset.mem_filter.1 hx).2
    exact Fin.ext (by show w.val * 64 + x.val % 64 = x.val; omega)
  · have h : x.val / 64 = w.val := (Finset.mem_filter.1 hx).2
    exact congrArg f (Fin.ext (by show x.val = w.val * 64 + x.val % 64; omega))

/-- The mask of head `w`. -/
abbrev mask (w : Fin 2) : IVec S1x128 1 := half (BitVec.ofNat 32 w.val)

theorem mask_apply (w : Fin 2) (x : Fin 128) : mask w (ix2 0 x) = if mine w x then 1#1 else 0#1 := by
  revert w x
  decide +kernel

theorem rows_apply (w : Fin 2) (i k : Fin 128) : rows (mask w) (ix2 i k) = if mine w k then 1#1 else 0#1 := by
  refine Eq.trans ?_ (mask_apply w k)
  unfold rows
  pointwise

/-! ### The operations at an index -/

theorem mm_nt (x y : FVec Ideal S128x128 .bf16) (i k : Fin 128) :
    matmul dot_S128x128_S128x128_S128x128_1_1_0_0_n_n none x y (constant S128x128 .f32 0x00000000#32) (ix2 i k)
      = ∑ a : Fin 128, x (ix2 i a) * y (ix2 k a) := by
  pointwise

theorem mm_nn (x y : FVec Ideal S128x128 .bf16) (i k : Fin 128) :
    matmul dot_S128x128_S128x128_S128x128_1_0_0_1_n_n none x y (constant S128x128 .f32 0x00000000#32) (ix2 i k)
      = ∑ a : Fin 128, x (ix2 i a) * y (ix2 a k) := by
  pointwise

theorem mm_tn (x y : FVec Ideal S128x128 .bf16) (i k : Fin 128) :
    matmul dot_S128x128_S128x128_S128x128_0_0_1_1_n_n none x y (constant S128x128 .f32 0x00000000#32) (ix2 i k)
      = ∑ a : Fin 128, x (ix2 a i) * y (ix2 a k) := by
  pointwise

theorem rowSum_apply (x : FVec Ideal S128x128 .f32) (i k : Fin 128) :
    rowSum x (ix2 i k) = ∑ a : Fin 128, x (ix2 i a) := by
  unfold rowSum
  pointwise

theorem plane_apply (x : Vec Ideal S1x128x128 .f32) (i k : Fin 128) : plane x (ix2 i k) = x (ix3 0 i k) := by
  unfold plane
  pointwise

theorem zeros_apply (j : S128x128.Idx) : zeros (F := Ideal) j = ((0 : ℝ) : EReal) := by
  unfold zeros
  exact Ideal.ofBits_zero_f32

theorem eighths_apply (j : S128x128.Idx) : eighths (F := Ideal) j = ((1 / 8 : ℝ) : EReal) := by
  show Ideal.ieee 8 23 (0x3E000000#32) = _
  unfold Ideal.ieee
  rw [if_neg (by decide), if_neg (by decide), if_neg (by decide)]
  norm_num [Nat.shiftRight_eq_div_pow]

theorem select_apply {s : Shape} (M : IVec s 1) (x y : s.Idx → EReal) (j : s.Idx) (P : Prop) [Decidable P] (h : M j = if P then 1#1 else 0#1) :
    select M x y j = if P then x j else y j := by
  show (if M j = 1 then x j else y j) = _
  rw [h]
  by_cases hp : P
  · rw [if_pos hp, if_pos hp]; exact if_pos rfl
  · rw [if_neg hp, if_neg hp]; exact if_neg (by decide)

theorem causal_apply (i k : Fin 128) :
    cmpi .sle (iota .tc S128x128 32 [1] iota_S128x128_d1_w32) (iota .tc S128x128 32 [0] iota_S128x128_d0_w32) (ix2 i k)
      = if k.val ≤ i.val then 1#1 else 0#1 := by
  revert i k
  decide +kernel

/-! ### The body -/

/-- Tiles of the pair `p`'s head `w` in residue `r` that hold the arguments' values. -/
structure Tiles.Holds (T : Tiles Ideal) (A : Args) (r : Fin 16) (p : Fin 4) (w : Fin 2) : Prop where
  q : ∀ i x : Fin 128, T.q (ix2 i x) = (A.Q r (hd p x) i (ft x) : EReal)
  k : ∀ i x : Fin 128, T.k (ix2 i x) = (A.K r (hd p x) (own i) (ft x) : EReal)
  v : ∀ i x : Fin 128, T.v (ix2 i x) = (A.V r (hd p x) (own i) (ft x) : EReal)
  g : ∀ i x : Fin 128, T.g (ix2 i x) = (A.dO r (hd p x) i (ft x) : EReal)
  o : ∀ i x : Fin 128, T.o (ix2 i x) = (A.O r (hd p x) i (ft x) : EReal)
  b : ∀ i k : Fin 128, T.b (ix3 0 i k) = (A.b (pick p w) i (own k) : EReal)
  l : ∀ i x : Fin 128, T.l (ix3 0 i x) = (A.L r (pick p w) i : EReal)
  e : ∀ i x : Fin 128, T.e (ix3 0 i x) = (A.l (pick p w) (tok r i) x : EReal)

section

variable {T : Tiles Ideal} {A : Args} {r : Fin 16} {p : Fin 4} {w : Fin 2} (H : T.Holds A r p w)

/-- What a lane of the head holds, and zero in the other head's lanes. -/
abbrev only (w : Fin 2) (p : Fin 4) (f : Fin 8 → Fin 64 → ℝ) (x : Fin 128) : ℝ := if mine w x then f (hd p x) (ft x) else 0

include H

theorem qm_apply (i x : Fin 128) : T.qm (mask w) (ix2 i x) = (only w p (fun h d => A.Q r h i d) x : EReal) := by
  unfold Tiles.qm
  rw [select_apply _ _ _ _ _ (rows_apply w i x)]
  unfold only
  split_ifs with h
  · exact H.q i x
  · exact Ideal.ofBits_zero_bf16

theorem gf_apply (i x : Fin 128) : T.gf (mask w) (ix2 i x) = (only w p (fun h d => A.dO r h i d) x : EReal) := by
  unfold Tiles.gf
  rw [select_apply _ _ _ _ _ (rows_apply w i x)]
  unfold only
  split_ifs with h
  · exact H.g i x
  · exact zeros_apply _

theorem gm_apply (i x : Fin 128) : T.gm (mask w) (ix2 i x) = (only w p (fun h d => A.dO r h i d) x : EReal) := gf_apply H i x

omit H in
/-- A sum over the lanes of a product of two heads' arrays, one of them masked. -/
theorem sum_only (f g : Fin 8 → Fin 64 → ℝ) :
    ∑ x, only w p f x * g (hd p x) (ft x) = ∑ d, f (pick p w) d * g (pick p w) d := by
  have e : ∀ x, only w p f x * g (hd p x) (ft x) = if mine w x then f (hd p x) (ft x) * g (hd p x) (ft x) else 0 := fun x => by
    unfold only; split_ifs
    · rfl
    · exact zero_mul _
  simp only [e]
  rw [sum_lanes w fun x => f (hd p x) (ft x) * g (hd p x) (ft x)]
  simp only [hd_place, ft_place]

theorem prob_apply (i k : Fin 128) : T.prob (mask w) (ix2 i k) = (A.P r (pick p w) i (own k) : EReal) := by
  unfold Tiles.prob
  rw [select_apply _ _ _ _ _ (causal_apply i k)]
  split_ifs with h
  · refine Eq.trans ?_ (exp_min (sees i) (A.score r (pick p w) i) (seen_nonempty i) (own k) ((sees_own _ _).2 h))
    show Ideal.exp (min (matmul dot_S128x128_S128x128_S128x128_1_1_0_0_n_n none (T.qm (mask w)) T.kb (constant S128x128 .f32 0x00000000#32) (ix2 i k)
      * eighths (F := Ideal) (ix2 i k) + plane T.b (ix2 i k) - plane T.l (ix2 i k)) (zeros (F := Ideal) (ix2 i k))) = _
    rw [mm_nt, eighths_apply, plane_apply, plane_apply, zeros_apply, H.b, H.l,
      sum_eq_coe _ _ (fun x => only w p (fun h d => A.Q r h i d) x * A.K r (hd p x) (own k) (ft x)) fun x _ => by
        rw [qm_apply H, EReal.coe_mul]; exact congrArg _ (H.k k x),
      sum_only (fun h d => A.Q r h i d) (fun h d => A.K r h (own k) d), ← EReal.coe_mul, ← EReal.coe_add]
    rfl
  · refine (zeros_apply _).trans (congrArg _ ?_)
    exact (soft_not _ _ _ _ fun hs => h ((sees_own _ _).1 hs)).symm

theorem ds_apply (i k : Fin 128) : T.ds (mask w) (ix2 i k) = (A.dS r (pick p w) i (own k) : EReal) := by
  unfold Tiles.ds
  show T.prob (mask w) (ix2 i k) * (matmul dot_S128x128_S128x128_S128x128_1_1_0_0_n_n none (T.gm (mask w)) T.vb (constant S128x128 .f32 0x00000000#32) (ix2 i k)
    - rowSum (mulf (T.gf (mask w)) T.o) (ix2 i k) + rowSum (plane T.e) (ix2 i k)) = _
  rw [prob_apply H, mm_nt, rowSum_apply, rowSum_apply,
    sum_eq_coe _ _ (fun x => only w p (fun h d => A.dO r h i d) x * A.V r (hd p x) (own k) (ft x)) fun x _ => by
      rw [gm_apply H, EReal.coe_mul]; exact congrArg _ (H.v k x),
    sum_eq_coe _ _ (fun x => only w p (fun h d => A.dO r h i d) x * A.O r (hd p x) i (ft x)) fun x _ => by
      rw [EReal.coe_mul]; exact congrArg₂ (· * ·) (gf_apply H i x) (H.o i x),
    sum_eq_coe _ _ (fun x => A.l (pick p w) (tok r i) x) fun x _ => by
      rw [plane_apply, H.e],
    sum_only (fun h d => A.dO r h i d) (fun h d => A.V r h (own k) d),
    sum_only (fun h d => A.dO r h i d) (fun h d => A.O r h i d),
    ← EReal.coe_sub, ← EReal.coe_add, ← EReal.coe_mul, A.dS_eq]
  rfl

/-- The products add the head's gradients in its own lanes, and nothing in the other's. -/
theorem addQ_apply (y : FVec Ideal S128x128 .f32) (i x : Fin 128) :
    T.addQ (mask w) y (ix2 i x) = y (ix2 i x) + (only w p (fun h d => A.dQ r h i d) x : EReal) := by
  unfold Tiles.addQ
  show y (ix2 i x) + select (rows (mask w)) _ _ (ix2 i x) * eighths (F := Ideal) (ix2 i x) = _
  rw [select_apply _ _ _ _ _ (rows_apply w i x), eighths_apply]
  refine congrArg (y (ix2 i x) + ·) ?_
  unfold only
  split_ifs with h
  · rw [mm_nn, sum_eq_coe _ _ (fun k => A.dS r (pick p w) i (own k) * A.K r (hd p x) (own k) (ft x)) fun k _ => by
        rw [EReal.coe_mul]; exact congrArg₂ (· * ·) (ds_apply H i k) (H.k k x),
      ← EReal.coe_mul, hd_mine p w x h]
    refine congrArg _ ?_
    unfold Args.dQ
    dsimp only
    rw [sum_own _ fun k hk => by unfold Args.K; rw [if_neg (by omega), mul_zero], Finset.sum_mul]
    exact Finset.sum_congr rfl fun k _ => by ring
  · rw [zeros_apply, ← EReal.coe_mul, zero_mul]

theorem addK_apply (y : FVec Ideal S128x128 .f32) (i x : Fin 128) :
    T.addK (mask w) y (ix2 i x) = y (ix2 i x) + (only w p (fun h d => A.dK r h i d) x : EReal) := by
  unfold Tiles.addK
  show y (ix2 i x) + matmul dot_S128x128_S128x128_S128x128_0_0_1_1_n_n none (T.dsb (mask w)) (T.qm (mask w)) (constant S128x128 .f32 0x00000000#32) (ix2 i x)
    * eighths (F := Ideal) (ix2 i x) = _
  refine congrArg (y (ix2 i x) + ·) ?_
  rw [mm_tn, eighths_apply,
    sum_eq_coe _ _ (fun k => A.dS r (pick p w) k (own i) * only w p (fun h d => A.Q r h k d) x) fun k _ => by
      rw [EReal.coe_mul]; exact congrArg₂ (· * ·) (ds_apply H k i) (qm_apply H k x),
    ← EReal.coe_mul]
  refine congrArg _ ?_
  unfold only
  split_ifs with h
  · unfold Args.dK
    rw [hd_mine p w x h, Finset.sum_mul]
    exact Finset.sum_congr rfl fun k _ => by ring
  · simp

theorem addV_apply (y : FVec Ideal S128x128 .f32) (i x : Fin 128) :
    T.addV (mask w) y (ix2 i x) = y (ix2 i x) + (only w p (fun h d => A.dV r h i d) x : EReal) := by
  unfold Tiles.addV
  show y (ix2 i x) + matmul dot_S128x128_S128x128_S128x128_0_0_1_1_n_n none (truncf .bf16 (T.prob (mask w)) bitsLt_bf16_f32) (T.gm (mask w))
    (constant S128x128 .f32 0x00000000#32) (ix2 i x) = _
  refine congrArg (y (ix2 i x) + ·) ?_
  rw [mm_tn,
    sum_eq_coe _ _ (fun k => A.P r (pick p w) k (own i) * only w p (fun h d => A.dO r h k d) x) fun k _ => by
      rw [EReal.coe_mul]; exact congrArg₂ (· * ·) (prob_apply H k i) (gm_apply H k x)]
  refine congrArg _ ?_
  unfold only
  split_ifs with h
  · unfold Args.dV
    rw [hd_mine p w x h]
    exact Finset.sum_congr rfl fun k _ => by ring
  · simp

theorem addB_apply (y : Vec Ideal S1x128x128 .f32) (i k : Fin 128) :
    T.addB (mask w) y (ix3 0 i k) = y (ix3 0 i k) + (A.dS r (pick p w) i (own k) : EReal) := by
  have e : T.addB (mask w) y (ix3 0 i k) = y (ix3 0 i k) + T.ds (mask w) (ix2 i k) := by
    unfold Tiles.addB plane
    pointwise
  rw [e, ds_apply H]

end

end Cert.Att.Body
-- ==== Proof.Att.Blocks.lean ====
/-
  What a grid point computes from blocks that hold real values: its blocks of the gradients of the queries, the keys and the
  values, and what it adds to the gradient of the bias.
-/
module

public import proofs.«01_k».proof.Proof.Att.Body

@[expose] public section

set_option maxRecDepth 16384

noncomputable section

namespace Cert.Att.Body

open Cert.KernelIdeal Cert.KernelIdeal.Gen Idealize.ShloMosaic

/-- The head and the feature of column `y` of 512. -/
def hOf (y : Fin 512) : Fin 8 := ⟨y.val / 64, by omega⟩
def dOf (y : Fin 512) : Fin 64 := ⟨y.val % 64, by omega⟩
/-- Lane `x` of pair `p`. -/
def wide (p : Fin 4) (x : Fin 128) : Fin 512 := ⟨p.val * 128 + x.val, by omega⟩

theorem hOf_wide (p : Fin 4) (x : Fin 128) : hOf (wide p x) = hd p x :=
  Fin.ext (by show (p.val * 128 + x.val) / 64 = 2 * p.val + x.val / 64; omega)
theorem dOf_wide (p : Fin 4) (x : Fin 128) : dOf (wide p x) = ft x :=
  Fin.ext (by show (p.val * 128 + x.val) % 64 = x.val % 64; omega)

/-- The pair of a head and its place in it. -/
def pairOf (h : Fin 8) : Fin 4 := ⟨h.val / 2, by omega⟩
def placeOf (h : Fin 8) : Fin 2 := ⟨h.val % 2, by omega⟩
theorem pick_pairOf (h : Fin 8) : pick (pairOf h) (placeOf h) = h :=
  Fin.ext (by show 2 * (h.val / 2) + h.val % 2 = h.val; omega)

/-- Blocks that hold the arguments' values in residue `r`. -/
structure Blocks.Holds (X : Blocks Ideal) (A : Args) (r : Fin 16) : Prop where
  q : ∀ (i : Fin 128) (y : Fin 512), X.q (ix2 i y) = (A.Q r (hOf y) i (dOf y) : EReal)
  k : ∀ (i : Fin 128) (y : Fin 512), X.k (ix2 i y) = (A.K r (hOf y) (own i) (dOf y) : EReal)
  v : ∀ (i : Fin 128) (y : Fin 512), X.v (ix2 i y) = (A.V r (hOf y) (own i) (dOf y) : EReal)
  g : ∀ (i : Fin 128) (y : Fin 512), X.g (ix2 i y) = (A.dO r (hOf y) i (dOf y) : EReal)
  o : ∀ (i : Fin 128) (y : Fin 512), X.o (ix2 i y) = (A.O r (hOf y) i (dOf y) : EReal)
  b : ∀ (h : Fin 8) (i : Fin 128) (k : Fin 256), X.b (ix3 h i k) = (A.b h i k : EReal)
  l : ∀ (h : Fin 8) (i x : Fin 128), X.l (ix3 h i x) = (A.L r h i : EReal)
  e : ∀ (h : Fin 8) (i x : Fin 128), X.e (ix3 h i x) = (A.l h (tok r i) x : EReal)

theorem lanes_apply (x : Vec Ideal S128x512 .f32) (p : Fin 4) (i l : Fin 128) :
    lanes x (p.val * 128) (lanes_le p.isLt) (ix2 i l) = x (ix2 i (wide p l)) := by
  refine congrArg x (funext fun a => Fin.ext ?_)
  match a with
  | ⟨0, _⟩ => show 0 + 1 * i.val = i.val; omega
  | ⟨1, _⟩ => show p.val * 128 + 1 * l.val = p.val * 128 + l.val; omega

theorem head_apply (x : Vec Ideal S8x128x128 .f32) (h : Fin 8) (i l : Fin 128) :
    head x h.val (head_le h.isLt) (ix3 0 i l) = x (ix3 h i l) := by
  refine congrArg x (funext fun a => Fin.ext ?_)
  match a with
  | ⟨0, _⟩ => show h.val + 1 * 0 = h.val; omega
  | ⟨1, _⟩ => show 0 + 1 * i.val = i.val; omega
  | ⟨2, _⟩ => show 0 + 1 * l.val = l.val; omega

theorem headB_apply (x : Vec Ideal S8x128x256 .f32) (h : Fin 8) (i l : Fin 128) :
    headB x h.val (headB_le h.isLt) (ix3 0 i l) = x (ix3 h i (own l)) := by
  refine congrArg x (funext fun a => Fin.ext ?_)
  match a with
  | ⟨0, _⟩ => show h.val + 1 * 0 = h.val; omega
  | ⟨1, _⟩ => show 0 + 1 * i.val = i.val; omega
  | ⟨2, _⟩ => show 128 + 1 * l.val = 128 + l.val; omega

section

variable {X : Blocks Ideal} {A : Args} {r : Fin 16} (H : X.Holds A r)

include H

theorem tiles_holds (p : Fin 4) (w : Fin 2) : (X.tiles p (pick p w)).Holds A r p w where
  q i x := by rw [← hOf_wide, ← dOf_wide]; exact (lanes_apply X.q p i x).trans (H.q _ _)
  k i x := by rw [← hOf_wide, ← dOf_wide]; exact (lanes_apply X.k p i x).trans (H.k _ _)
  v i x := by rw [← hOf_wide, ← dOf_wide]; exact (lanes_apply X.v p i x).trans (H.v _ _)
  g i x := by rw [← hOf_wide, ← dOf_wide]; exact (lanes_apply X.g p i x).trans (H.g _ _)
  o i x := by rw [← hOf_wide, ← dOf_wide]; exact (lanes_apply X.o p i x).trans (H.o _ _)
  b i k := (headB_apply X.b (pick p w) i k).trans (H.b _ _ _)
  l i x := (head_apply X.l (pick p w) i x).trans (H.l _ _ _)
  e i x := (head_apply X.e (pick p w) i x).trans (H.e _ _ _)

omit H in
/-- The two heads' shares of a lane. -/
theorem both (p : Fin 4) (f : Fin 8 → Fin 64 → ℝ) (x : Fin 128) :
    ((0 : ℝ) : EReal) + (only 0 p f x : EReal) + (only 1 p f x : EReal) = (f (hd p x) (ft x) : EReal) := by
  rw [← EReal.coe_add, ← EReal.coe_add]
  refine congrArg _ ?_
  unfold only mine
  have hx := x.isLt
  by_cases h : x.val / 64 = 0
  · rw [if_pos (show x.val / 64 = (0 : Fin 2).val from h), if_neg (show ¬ x.val / 64 = (1 : Fin 2).val by rw [h]; decide), zero_add, add_zero]
  · rw [if_neg (show ¬ x.val / 64 = (0 : Fin 2).val from h), if_pos (show x.val / 64 = (1 : Fin 2).val by show x.val / 64 = 1; omega), zero_add, zero_add]

theorem pairQ_apply (p : Fin 4) (i x : Fin 128) : pairQ X p (ix2 i x) = (A.dQ r (hd p x) i (ft x) : EReal) := by
  unfold pairQ
  refine (addQ_apply (tiles_holds H p 1) _ i x).trans ?_
  rw [show (X.tiles p (left p)).addQ (half 0#32) zeros (ix2 i x) = _ from addQ_apply (tiles_holds H p 0) _ i x, zeros_apply]
  exact both p (fun h d => A.dQ r h i d) x

theorem pairK_apply (p : Fin 4) (i x : Fin 128) : pairK X p (ix2 i x) = (A.dK r (hd p x) i (ft x) : EReal) := by
  unfold pairK
  refine (addK_apply (tiles_holds H p 1) _ i x).trans ?_
  rw [show (X.tiles p (left p)).addK (half 0#32) zeros (ix2 i x) = _ from addK_apply (tiles_holds H p 0) _ i x, zeros_apply]
  exact both p (fun h d => A.dK r h i d) x

theorem pairV_apply (p : Fin 4) (i x : Fin 128) : pairV X p (ix2 i x) = (A.dV r (hd p x) i (ft x) : EReal) := by
  unfold pairV
  refine (addV_apply (tiles_holds H p 1) _ i x).trans ?_
  rw [show (X.tiles p (left p)).addV (half 0#32) zeros (ix2 i x) = _ from addV_apply (tiles_holds H p 0) _ i x, zeros_apply]
  exact both p (fun h d => A.dV r h i d) x

omit H in
/-- Four stores that hold each its lanes of an array hold the array. -/
theorem pairs_apply (y : Fin 4 → FVec Ideal S128x128 .f32) (f : Fin 8 → Fin 128 → Fin 64 → ℝ)
    (hy : ∀ p i x, y p (ix2 i x) = (f (hd p x) i (ft x) : EReal)) (i : Fin 128) (z : Fin 512) :
    View.canon (pairPieces y) (ix2 i z) = (f (hOf z) i (dOf z) : EReal) := by
  refine View.canon_apply_of_pieces (fun j => (f (hOf (j 1)) (j 0) (dOf (j 1)) : EReal)) (pairPieces y) (fun q hq x => ?_) (ix2 i z) ?_
  · obtain ⟨p, -, rfl⟩ : ∃ p ∈ [3, 2, 1, 0], pairPiece y p = q := List.mem_map.1 hq
    change S128x128.Idx at x
    have e : (Rect.unit (s := S128x512) ![0, p.val * 128] S128x128.size (lanes_le p.isLt)).emb x = ix2 (x 0) (wide p (x 1)) := by
      funext a
      refine Fin.ext ?_
      match a with
      | ⟨0, _⟩ => show 0 + 1 * (x 0).val = (x 0).val; omega
      | ⟨1, _⟩ => show p.val * 128 + 1 * (x 1).val = p.val * 128 + (x 1).val; omega
    show y p x = (fun j : S128x512.Idx => (f (hOf (j 1)) (j 0) (dOf (j 1)) : EReal)) ((Rect.unit (s := S128x512) ![0, p.val * 128] S128x128.size (lanes_le p.isLt)).emb x)
    rw [e]
    have ex : x = ix2 (x 0) (x 1) := by funext a; match a with | ⟨0, _⟩ => rfl | ⟨1, _⟩ => rfl
    refine (congrArg (y p) ex).trans ((hy p (x 0) (x 1)).trans ?_)
    exact congrArg₂ (fun a b => ((f a (x 0) b : ℝ) : EReal)) (hOf_wide p (x 1)).symm (dOf_wide p (x 1)).symm
  · refine ⟨pairPiece y ⟨z.val / 128, by omega⟩, List.mem_map.2 ⟨_, (by decide : ∀ p : Fin 4, p ∈ ([3, 2, 1, 0] : List (Fin 4))) _, rfl⟩, ?_⟩
    refine (Rect.mem_set_unit (inb := lanes_le (p := z.val / 128) (by omega))).2 fun a => ?_
    match a with
    | ⟨0, _⟩ => show 0 ≤ i.val ∧ i.val < 0 + 128; omega
    | ⟨1, _⟩ => show z.val / 128 * 128 ≤ z.val ∧ z.val < z.val / 128 * 128 + 128; omega

/-- A head's store of the bias's gradient. -/
abbrev biasOf (X : Blocks Ideal) (x : Vec Ideal S8x128x256 .f32) (h : Fin 8) : FVec Ideal S1x128x128 .f32 :=
  (X.tiles (pairOf h) h).addB (mask (placeOf h)) (headB x h.val (headB_le h.isLt))

omit H in
theorem biasPieces_eq (X : Blocks Ideal) (x : Vec Ideal S8x128x256 .f32) :
    biasPieces X x = [7, 6, 5, 4, 3, 2, 1, 0].map fun h => headPiece h (biasOf X x h) := rfl

theorem bias_mem (x : Vec Ideal S8x128x256 .f32) (q : View.Piece (Elt Ideal) S8x128x256 .f32) (hq : q ∈ biasPieces X x) (j : q.1.shape.Idx) :
    q.2 j = (fun y : S8x128x256.Idx => x y + (A.dS r (y 0) (y 1) (y 2) : EReal)) (q.1.emb j) := by
  rw [biasPieces_eq] at hq
  obtain ⟨h, -, rfl⟩ := List.mem_map.1 hq
  change S1x128x128.Idx at j
  have e : (Rect.unit (s := S8x128x256) ![h.val, 0, 128] S1x128x128.size (headB_le h.isLt)).emb j = ix3 h (j 1) (own (j 2)) := by
    funext a
    refine Fin.ext ?_
    match a with
    | ⟨0, _⟩ => have := (j 0).isLt
                show h.val + 1 * (j 0).val = h.val
                have h1 : (j 0).val < 1 := this
                omega
    | ⟨1, _⟩ => show 0 + 1 * (j 1).val = (j 1).val; omega
    | ⟨2, _⟩ => show 128 + 1 * (j 2).val = 128 + (j 2).val; omega
  show biasOf X x h j = (fun y : S8x128x256.Idx => x y + (A.dS r (y 0) (y 1) (y 2) : EReal)) ((Rect.unit (s := S8x128x256) ![h.val, 0, 128] S1x128x128.size (headB_le h.isLt)).emb j)
  rw [e]
  have ej : j = ix3 0 (j 1) (j 2) := by
    funext a
    match a with
    | ⟨0, _⟩ => exact Fin.ext (by have h1 : (j 0).val < 1 := (j 0).isLt; show (j 0).val = 0; omega)
    | ⟨1, _⟩ => rfl
    | ⟨2, _⟩ => rfl
  have hT : (X.tiles (pairOf h) h).Holds A r (pairOf h) (placeOf h) := by
    have := tiles_holds H (pairOf h) (placeOf h)
    rwa [pick_pairOf] at this
  refine (congrArg (biasOf X x h) ej).trans ((addB_apply hT _ (j 1) (j 2)).trans ?_)
  exact congrArg₂ (fun a (b : Fin 8) => a + ((A.dS r b (j 1) (own (j 2)) : ℝ) : EReal)) (headB_apply x h (j 1) (j 2)) (pick_pairOf h)

omit H in
theorem bias_cover (x : Vec Ideal S8x128x256 .f32) (h : Fin 8) (i : Fin 128) (k : Fin 256) (hk : 128 ≤ k.val) :
    ∃ q ∈ biasPieces X x, (ix3 h i k : S8x128x256.Idx) ∈ q.1.set := by
  rw [biasPieces_eq]
  refine ⟨headPiece h (biasOf X x h), List.mem_map.2 ⟨h, by revert h; decide, rfl⟩, (Rect.mem_set_unit (inb := headB_le h.isLt)).2 fun a => ?_⟩
  have := k.isLt
  match a with
  | ⟨0, _⟩ => show h.val ≤ h.val ∧ h.val < h.val + 1; omega
  | ⟨1, _⟩ => show 0 ≤ i.val ∧ i.val < 0 + 128; omega
  | ⟨2, _⟩ => show 128 ≤ k.val ∧ k.val < 128 + 128; omega

omit H in
theorem bias_off (x : Vec Ideal S8x128x256 .f32) (h : Fin 8) (i : Fin 128) (k : Fin 256) (hk : ¬ 128 ≤ k.val)
    (q : View.Piece (Elt Ideal) S8x128x256 .f32) (hq : q ∈ biasPieces X x) : (ix3 h i k : S8x128x256.Idx) ∉ q.1.set := by
  rw [biasPieces_eq] at hq
  obtain ⟨h', -, rfl⟩ := List.mem_map.1 hq
  intro hm
  have := ((Rect.mem_set_unit (inb := headB_le h'.isLt)).1 hm) 2
  have h1 : 128 ≤ k.val := this.1
  exact hk h1

/-- Over what held `x`, the stores leave `x` and the gradient of the scores. -/
theorem bias_over (v : View sig .tc .vmem S8x128x256 .f32) (f : v.ty.Contents (Elt Ideal)) (x : Vec Ideal S8x128x256 .f32)
    (hf : v.read (Elt Ideal) f = x) (h : Fin 8) (i : Fin 128) (k : Fin 256) :
    v.read (Elt Ideal) (v.writes (Elt Ideal) f (biasPieces X x)) (ix3 h i k) = x (ix3 h i k) + (A.dS r h i k : EReal) := by
  by_cases hk : 128 ≤ k.val
  · rw [View.read_writes_apply_eq_canon v f (ix3 h i k) (biasPieces X x) (bias_cover x h i k hk)]
    exact View.canon_apply_of_pieces (fun y : S8x128x256.Idx => x y + (A.dS r (y 0) (y 1) (y 2) : EReal)) (biasPieces X x) (bias_mem H x)
      (ix3 h i k) (bias_cover x h i k hk)
  · rw [View.read_writes_apply_of_forall_not_mem v f (ix3 h i k) (biasPieces X x) (bias_off x h i k hk), hf, A.dS_not r h i k fun hs => hk hs.1, EReal.coe_zero, add_zero]

/-- Over the zero fill. -/
theorem bias_fill (v : View sig .tc .vmem S8x128x256 .f32) (f : v.ty.Contents (Elt Ideal)) (h : Fin 8) (i : Fin 128) (k : Fin 256) :
    v.read (Elt Ideal) (v.writes (Elt Ideal) f (biasPieces X (fun _ => (Scalar.ofBits .f32 0x00000000#32 : Ideal .f32)) ++ [biasFill])) (ix3 h i k)
      = (A.dS r h i k : EReal) := by
  have e0 : (Scalar.ofBits .f32 0x00000000#32 : Ideal .f32) = 0 := Ideal.ofBits_zero_f32
  have e1 : v.read (Elt Ideal) (v.writes (Elt Ideal) f [biasFill]) = fun _ => (Scalar.ofBits .f32 0x00000000#32 : Ideal .f32) := by
    have ez : (![0, 0, 0] : Fin 3 → ℕ) = fun _ => 0 := by decide
    rw [View.read_writes_eq_canon]
    · exact View.canon_unit_zero (S := S8x128x256) ez _ _
    · refine fun y => ⟨biasFill, List.mem_singleton.2 rfl, (Rect.mem_set_unit (inb := inb_S8x128x256_S8x128x256_0_0_0)).2 fun a => ?_⟩
      rw [ez]
      exact ⟨Nat.zero_le _, by rw [zero_add]; exact (y a).isLt⟩
  refine (bias_over H v (v.writes (Elt Ideal) f [biasFill]) _ e1 h i k).trans ?_
  rw [e0, zero_add]

end

end Cert.Att.Body
-- ==== Proof.Att.HostValue.lean ====
/-
  What the kernel program's host lines leave in the five arrays its call reads, in terms of the reference's forward lines:
  the two programs run the same lines, the kernel program then lays each array out residue class by residue class.
-/
module

public import proofs.«01_k».proof.Proof.Gen.KernelIdeal.Frame.Runs
public import proofs.«01_k».proof.Proof.Gen.ReferenceIdeal.Read
public import Idealize.ShloMosaic.Lib.StableHlo.RunRead
public import Idealize.ShloMosaic.Lib.Pipeline.Frame

@[expose] public section

set_option maxRecDepth 16384
set_option maxHeartbeats 1600000

noncomputable section

namespace Cert.Att.HostSide

open Cert.KernelIdeal Cert.KernelIdeal.Gen Idealize.ShloMosaic Idealize.ShloMosaic.TcCoe Idealize.ShloMosaic.StableHlo
open Cert.ReferenceIdeal.Read

/-- Buffer contents over the ideal floats. -/
abbrev Vals := Valuation τ sig (Elt Ideal)

variable {W : Vals} {x0 : (⟨S2048x1536, .f32⟩ : BufTy).Contents (Elt Ideal)} {x1 : (⟨S8x128x256, .f32⟩ : BufTy).Contents (Elt Ideal)}
  {x2 : (⟨S2048x512, .f32⟩ : BufTy).Contents (Elt Ideal)} {x3 : (⟨S8x2048x128, .f32⟩ : BufTy).Contents (Elt Ideal)}

/-- A key block that lies behind nothing. -/
abbrev joined (a : (⟨S1x16x1x128x8x64, .f32⟩ : BufTy).Contents (Elt Ideal)) (b : (⟨S1x16x0x128x8x64, .f32⟩ : BufTy).Contents (Elt Ideal)) :
    (⟨S1x16x1x128x8x64, .f32⟩ : BufTy).Contents (Elt Ideal) :=
  concatenate S1x16x1x128x8x64 2 [⟨S1x16x1x128x8x64, a⟩, ⟨S1x16x0x128x8x64, b⟩]
    concatenates_S1x16x1x128x8x64_S1x16x0x128x8x64_S1x16x1x128x8x64_d2

/-- A key block behind the block before it. -/
abbrev behind (a b : (⟨S1x16x1x128x8x64, .f32⟩ : BufTy).Contents (Elt Ideal)) : (⟨S1x16x1x256x8x64, .f32⟩ : BufTy).Contents (Elt Ideal) :=
  concatenate S1x16x1x256x8x64 3 [⟨S1x16x1x128x8x64, a⟩, ⟨S1x16x1x128x8x64, b⟩]
    concatenates_S1x16x1x128x8x64_S1x16x1x128x8x64_S1x16x1x256x8x64_d3

/-- The arguments. -/
structure Start (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_arg0 : W (Proc.devRef .tc main_arg0) = x0
  at_arg1 : W (Proc.devRef .tc main_arg1) = x1
  at_arg2 : W (Proc.devRef .tc main_arg2) = x2
  at_arg3 : W (Proc.devRef .tc main_arg3) = x3

/-- After the first line: the band, and the arrays split into heads. -/
structure AfterSplit (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_arg0 : W (Proc.devRef .tc main_arg0) = x0
  at_arg1 : W (Proc.devRef .tc main_arg1) = x1
  at_arg2 : W (Proc.devRef .tc main_arg2) = x2
  at_arg3 : W (Proc.devRef .tc main_arg3) = x3
  at_v16 : W (Proc.devRef .tc main_v16) = val_main_v16 (F := Ideal)
  at_v18 : W (Proc.devRef .tc main_v18) = val_main_v18 (F := Ideal) x0
  at_v19 : W (Proc.devRef .tc main_v19) = val_main_v19 (F := Ideal) x0
  at_v21 : W (Proc.devRef .tc main_v21) = val_main_v21 (F := Ideal) x0
  at_c_2 : W (Proc.devRef .tc main_c_2) = (constantI S_ 32 0#32)

theorem AfterSplit.of (h : Start W x0 x1 x2 x3) : AfterSplit (after hostOps0 W) x0 x1 x2 x3 where
  at_arg0 := by after_reads_simp; exact h.at_arg0
  at_arg1 := by after_reads_simp; exact h.at_arg1
  at_arg2 := by after_reads_simp; exact h.at_arg2
  at_arg3 := by after_reads_simp; exact h.at_arg3
  at_v16 := by after_reads_simp; rfl
  at_v18 := by after_reads_simp; simp only [h.at_arg0]; rfl
  at_v19 := by after_reads_simp; simp only [h.at_arg0]; rfl
  at_v21 := by after_reads_simp; simp only [h.at_arg0]; rfl
  at_c_2 := by after_reads_simp

/-- After the queries are padded by nothing. -/
structure AfterQuery (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_arg0 : W (Proc.devRef .tc main_arg0) = x0
  at_arg1 : W (Proc.devRef .tc main_arg1) = x1
  at_arg2 : W (Proc.devRef .tc main_arg2) = x2
  at_arg3 : W (Proc.devRef .tc main_arg3) = x3
  at_v16 : W (Proc.devRef .tc main_v16) = val_main_v16 (F := Ideal)
  at_v18 : W (Proc.devRef .tc main_v18) = val_main_v18 (F := Ideal) x0
  at_v19 : W (Proc.devRef .tc main_v19) = val_main_v19 (F := Ideal) x0
  at_v22 : W (Proc.devRef .tc main_v22) = val_main_v22_0 (F := Ideal) x0

theorem AfterQuery.of (h : AfterSplit W x0 x1 x2 x3) : AfterQuery (after hostOps0_1 W) x0 x1 x2 x3 where
  at_arg0 := by after_reads_simp; exact h.at_arg0
  at_arg1 := by after_reads_simp; exact h.at_arg1
  at_arg2 := by after_reads_simp; exact h.at_arg2
  at_arg3 := by after_reads_simp; exact h.at_arg3
  at_v16 := by after_reads_simp; exact h.at_v16
  at_v18 := by after_reads_simp; exact h.at_v18
  at_v19 := by after_reads_simp; exact h.at_v19
  at_v22 := by after_reads_simp; simp only [h.at_v21, h.at_c_2]; rfl

/-- After the queries are cut into blocks and the keys into residue classes. -/
structure AfterKey (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_arg0 : W (Proc.devRef .tc main_arg0) = x0
  at_arg1 : W (Proc.devRef .tc main_arg1) = x1
  at_arg2 : W (Proc.devRef .tc main_arg2) = x2
  at_arg3 : W (Proc.devRef .tc main_arg3) = x3
  at_v16 : W (Proc.devRef .tc main_v16) = val_main_v16 (F := Ideal)
  at_v19 : W (Proc.devRef .tc main_v19) = val_main_v19 (F := Ideal) x0
  at_v23 : W (Proc.devRef .tc main_v23) = val_main_v23 (F := Ideal) x0
  at_v25 : W (Proc.devRef .tc main_v25) = val_main_v25 (F := Ideal) x0
  at_c_3 : W (Proc.devRef .tc main_c_3) = (constantI S_ 32 0#32)

theorem AfterKey.of (h : AfterQuery W x0 x1 x2 x3) : AfterKey (after hostOps0_2 W) x0 x1 x2 x3 where
  at_arg0 := by after_reads_simp; exact h.at_arg0
  at_arg1 := by after_reads_simp; exact h.at_arg1
  at_arg2 := by after_reads_simp; exact h.at_arg2
  at_arg3 := by after_reads_simp; exact h.at_arg3
  at_v16 := by after_reads_simp; exact h.at_v16
  at_v19 := by after_reads_simp; exact h.at_v19
  at_v23 := by after_reads_simp; simp only [h.at_v22]; rfl
  at_v25 := by after_reads_simp; simp only [h.at_v18]; rfl
  at_c_3 := by after_reads_simp

/-- After the keys are padded by nothing. -/
structure AfterKeyPad (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_arg0 : W (Proc.devRef .tc main_arg0) = x0
  at_arg1 : W (Proc.devRef .tc main_arg1) = x1
  at_arg2 : W (Proc.devRef .tc main_arg2) = x2
  at_arg3 : W (Proc.devRef .tc main_arg3) = x3
  at_v16 : W (Proc.devRef .tc main_v16) = val_main_v16 (F := Ideal)
  at_v19 : W (Proc.devRef .tc main_v19) = val_main_v19 (F := Ideal) x0
  at_v23 : W (Proc.devRef .tc main_v23) = val_main_v23 (F := Ideal) x0
  at_v26 : W (Proc.devRef .tc main_v26) = val_main_v26_0 (F := Ideal) x0

theorem AfterKeyPad.of (h : AfterKey W x0 x1 x2 x3) : AfterKeyPad (after hostOps0_3 W) x0 x1 x2 x3 where
  at_arg0 := by after_reads_simp; exact h.at_arg0
  at_arg1 := by after_reads_simp; exact h.at_arg1
  at_arg2 := by after_reads_simp; exact h.at_arg2
  at_arg3 := by after_reads_simp; exact h.at_arg3
  at_v16 := by after_reads_simp; exact h.at_v16
  at_v19 := by after_reads_simp; exact h.at_v19
  at_v23 := by after_reads_simp; exact h.at_v23
  at_v26 := by after_reads_simp; simp only [h.at_v25, h.at_c_3]; rfl

/-- After each key block is put behind the block before it. -/
structure AfterKeyPrev (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_arg0 : W (Proc.devRef .tc main_arg0) = x0
  at_arg1 : W (Proc.devRef .tc main_arg1) = x1
  at_arg2 : W (Proc.devRef .tc main_arg2) = x2
  at_arg3 : W (Proc.devRef .tc main_arg3) = x3
  at_v16 : W (Proc.devRef .tc main_v16) = val_main_v16 (F := Ideal)
  at_v23 : W (Proc.devRef .tc main_v23) = val_main_v23 (F := Ideal) x0
  at_v31 : W (Proc.devRef .tc main_v31) = val_main_v32 (F := Ideal) x0
  at_v33 : W (Proc.devRef .tc main_v33) = val_main_v34 (F := Ideal) x0
  at_c_4 : W (Proc.devRef .tc main_c_4) = (constantI S_ 32 0#32)

theorem AfterKeyPrev.of (h : AfterKeyPad W x0 x1 x2 x3) : AfterKeyPrev (after hostOps0_4 W) x0 x1 x2 x3 where
  at_arg0 := by after_reads_simp; exact h.at_arg0
  at_arg1 := by after_reads_simp; exact h.at_arg1
  at_arg2 := by after_reads_simp; exact h.at_arg2
  at_arg3 := by after_reads_simp; exact h.at_arg3
  at_v16 := by after_reads_simp; exact h.at_v16
  at_v23 := by after_reads_simp; exact h.at_v23
  at_v31 := by
    have hz : upto hostOps0_4 W 4 (Proc.devRef .tc main_v28) = val_main_v28 (F := Ideal) := by after_reads_simp; rfl
    have hs : upto hostOps0_4 W 4 (Proc.devRef .tc main_v29) = val_main_v29 (F := Ideal) x0 := by
      after_reads_simp; simp only [h.at_v26]; rfl
    have hb : upto hostOps0_4 W 5 (Proc.devRef .tc main_v27) = val_main_v27 (F := Ideal) x0 := by
      after_reads_simp; simp only [h.at_v26]; rfl
    have ha : upto hostOps0_4 W 5 (Proc.devRef .tc main_v30) = val_main_v30 (F := Ideal) x0 :=
      (upto_last_write (i := 4) [] rfl rfl (by decide) W).trans ((binary_result' ..).trans
        (congrArg₂ joined hz hs))
    exact (after_last_write (i := 5) [main_v32, main_v33, main_c_4]
      rfl rfl (by decide) W).trans ((binary_result' ..).trans (congrArg₂ behind ha hb))
  at_v33 := by after_reads_simp; simp only [h.at_v19]; rfl
  at_c_4 := by after_reads_simp

/-- After the values are padded by nothing. -/
structure AfterValuePad (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_arg0 : W (Proc.devRef .tc main_arg0) = x0
  at_arg1 : W (Proc.devRef .tc main_arg1) = x1
  at_arg2 : W (Proc.devRef .tc main_arg2) = x2
  at_arg3 : W (Proc.devRef .tc main_arg3) = x3
  at_v16 : W (Proc.devRef .tc main_v16) = val_main_v16 (F := Ideal)
  at_v23 : W (Proc.devRef .tc main_v23) = val_main_v23 (F := Ideal) x0
  at_v31 : W (Proc.devRef .tc main_v31) = val_main_v32 (F := Ideal) x0
  at_v34 : W (Proc.devRef .tc main_v34) = val_main_v35_0 (F := Ideal) x0

theorem AfterValuePad.of (h : AfterKeyPrev W x0 x1 x2 x3) : AfterValuePad (after hostOps0_5 W) x0 x1 x2 x3 where
  at_arg0 := by after_reads_simp; exact h.at_arg0
  at_arg1 := by after_reads_simp; exact h.at_arg1
  at_arg2 := by after_reads_simp; exact h.at_arg2
  at_arg3 := by after_reads_simp; exact h.at_arg3
  at_v16 := by after_reads_simp; exact h.at_v16
  at_v23 := by after_reads_simp; exact h.at_v23
  at_v31 := by after_reads_simp; exact h.at_v31
  at_v34 := by after_reads_simp; simp only [h.at_v33, h.at_c_4]; rfl

/-- After the scores and the mask are made. -/
structure AfterScores (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_arg0 : W (Proc.devRef .tc main_arg0) = x0
  at_arg1 : W (Proc.devRef .tc main_arg1) = x1
  at_arg2 : W (Proc.devRef .tc main_arg2) = x2
  at_arg3 : W (Proc.devRef .tc main_arg3) = x3
  at_v39 : W (Proc.devRef .tc main_v39) = val_main_v41 (F := Ideal) x0
  at_v45 : W (Proc.devRef .tc main_v45) = val_main_v47 (F := Ideal) x0 x1
  at_v59 : W (Proc.devRef .tc main_v59) = val_main_v61 (F := Ideal)
  at_cst_9 : W (Proc.devRef .tc main_cst_9) = val_main_cst_11 (F := Ideal)

theorem AfterScores.of (h : AfterValuePad W x0 x1 x2 x3) : AfterScores (after hostOps0_6 W) x0 x1 x2 x3 where
  at_arg0 := by after_reads_simp; exact h.at_arg0
  at_arg1 := by after_reads_simp; exact h.at_arg1
  at_arg2 := by after_reads_simp; exact h.at_arg2
  at_arg3 := by after_reads_simp; exact h.at_arg3
  at_v39 := by
    have hz : upto hostOps0_6 W 4 (Proc.devRef .tc main_v36) = val_main_v37 (F := Ideal) := by after_reads_simp; rfl
    have hs : upto hostOps0_6 W 4 (Proc.devRef .tc main_v37) = val_main_v38 (F := Ideal) x0 := by
      after_reads_simp; simp only [h.at_v34]; rfl
    have hb : upto hostOps0_6 W 5 (Proc.devRef .tc main_v35) = val_main_v36 (F := Ideal) x0 := by
      after_reads_simp; simp only [h.at_v34]; rfl
    have ha : upto hostOps0_6 W 5 (Proc.devRef .tc main_v38) = val_main_v39 (F := Ideal) x0 :=
      (upto_last_write (i := 4) [] rfl rfl (by decide) W).trans ((binary_result' ..).trans
        (congrArg₂ joined hz hs))
    exact (after_last_write (i := 5) [main_v40, main_cst_6, main_v41, main_v42, main_v43, main_v44, main_v45, main_v46, main_v47, main_c_7, main_v48, main_v49, main_v50, main_c_8, main_v51, main_v52, main_v53, main_v54, main_v55, main_v56, main_v57, main_v58, main_v59, main_cst_9]
      rfl rfl (by decide) W).trans ((binary_result' ..).trans (congrArg₂ behind ha hb))
  at_v45 := by after_reads_simp; simp only [h.at_v23, h.at_v31, h.at_arg1]; rfl
  at_v59 := by after_reads_simp; simp only [h.at_v16]; rfl
  at_cst_9 := by after_reads_simp; rfl

/-- After the scores are masked. -/
structure AfterMask (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_arg0 : W (Proc.devRef .tc main_arg0) = x0
  at_arg1 : W (Proc.devRef .tc main_arg1) = x1
  at_arg2 : W (Proc.devRef .tc main_arg2) = x2
  at_arg3 : W (Proc.devRef .tc main_arg3) = x3
  at_v39 : W (Proc.devRef .tc main_v39) = val_main_v41 (F := Ideal) x0
  at_v60 : W (Proc.devRef .tc main_v60) = val_main_v62_0 (F := Ideal) x0 x1

theorem AfterMask.of (h : AfterScores W x0 x1 x2 x3) : AfterMask (after hostOps0_7 W) x0 x1 x2 x3 where
  at_arg0 := by after_reads_simp; exact h.at_arg0
  at_arg1 := by after_reads_simp; exact h.at_arg1
  at_arg2 := by after_reads_simp; exact h.at_arg2
  at_arg3 := by after_reads_simp; exact h.at_arg3
  at_v39 := by after_reads_simp; exact h.at_v39
  at_v60 := by after_reads_simp; simp only [h.at_v59, h.at_v45, h.at_cst_9]; rfl

/-- Rows of 512 put residue class by residue class. -/
def classes512 (x : (⟨S2048x512, .f32⟩ : BufTy).Contents (Elt Ideal)) : (⟨S2048x512, .f32⟩ : BufTy).Contents (Elt Ideal) :=
  shapeCast S2048x512 (transpose S16x128x512 [1, 0, 2] (shapeCast S128x16x512 x shapeCasts_S2048x512_S128x16x512)
    transposes_S128x16x512_S16x128x512_1_0_2) shapeCasts_S16x128x512_S2048x512

/-- Rows of 1536 put residue class by residue class. -/
def classes1536 (x : (⟨S2048x1536, .f32⟩ : BufTy).Contents (Elt Ideal)) : (⟨S2048x1536, .f32⟩ : BufTy).Contents (Elt Ideal) :=
  shapeCast S2048x1536 (transpose S16x128x1536 [1, 0, 2] (shapeCast S128x16x1536 x shapeCasts_S2048x1536_S128x16x1536)
    transposes_S128x16x1536_S16x128x1536_1_0_2) shapeCasts_S16x128x1536_S2048x1536

/-- Each head's rows put residue class by residue class. -/
def classesHead (x : (⟨S8x2048x128, .f32⟩ : BufTy).Contents (Elt Ideal)) : (⟨S8x2048x128, .f32⟩ : BufTy).Contents (Elt Ideal) :=
  shapeCast S8x2048x128 (transpose S8x16x128x128 [0, 2, 1, 3] (shapeCast S8x128x16x128 x shapeCasts_S8x2048x128_S8x128x16x128)
    transposes_S8x128x16x128_S8x16x128x128_0_2_1_3) shapeCasts_S8x16x128x128_S8x2048x128

/-- The kernel program's way of repeating each row's log sum in every lane is the reference's. -/
theorem lanes_eq (x0 : (⟨S2048x1536, .f32⟩ : BufTy).Contents (Elt Ideal)) (x1 : (⟨S8x128x256, .f32⟩ : BufTy).Contents (Elt Ideal)) :
    broadcastInDim S8x2048x128 ![0, 1, 2] bcast_S8x2048x1_S8x2048x128_0_1_2
      (transpose S8x2048x1 [2, 1, 0] (val_main_v91 (F := Ideal) x0 x1) transposes_S1x2048x8_S8x2048x1_2_1_0) =
    val_main_v96 (F := Ideal) x0 x1 := by
  funext j
  rw [val_main_v96_apply, val_main_v95_apply, val_main_v94_apply, val_main_v93_apply]
  refine congrArg (val_main_v91 (F := Ideal) x0 x1) (funext fun a => Fin.ext ?_)
  have h0 : (j 0).val < 8 := (j 0).isLt
  have h1 : (j 1).val < 2048 := (j 1).isLt
  match a with
  | ⟨0, _⟩ => rfl
  | ⟨1, _⟩ => show (j 1).val = ((j 1).val * 8 + (j 0).val) / 8 % 2048; omega
  | ⟨2, _⟩ => show (j 0).val = ((j 1).val * 8 + (j 0).val) % 8; omega

/-- What the call reads. -/
structure AtCall (W : Vals) (x0 : (⟨S2048x1536, .f32⟩ : BufTy).Contents (Elt Ideal)) (x1 : (⟨S8x128x256, .f32⟩ : BufTy).Contents (Elt Ideal))
    (x2 : (⟨S2048x512, .f32⟩ : BufTy).Contents (Elt Ideal)) (x3 : (⟨S8x2048x128, .f32⟩ : BufTy).Contents (Elt Ideal)) : Prop where
  at_v87 : W (Proc.devRef .tc main_v87) = classes1536 x0
  at_v90 : W (Proc.devRef .tc main_v90) = classes512 (val_main_v92 (F := Ideal) x0 x1)
  at_v93 : W (Proc.devRef .tc main_v93) = classesHead (val_main_v96 (F := Ideal) x0 x1)
  at_v96 : W (Proc.devRef .tc main_v96) = classes512 x2
  at_v99 : W (Proc.devRef .tc main_v99) = classesHead x3
  at_arg1 : W (Proc.devRef .tc main_arg1) = x1

theorem AtCall.of (h : AfterMask W x0 x1 x2 x3) : AtCall (after hostOps0_8 W) x0 x1 x2 x3 where
  at_v87 := by after_reads_simp; simp only [h.at_arg0]; rfl
  at_v90 := by after_reads_simp; simp only [h.at_v39, h.at_v60]; rfl
  at_v93 := by after_reads_simp; simp only [h.at_v60]; exact congrArg classesHead (lanes_eq x0 x1)
  at_v96 := by after_reads_simp; simp only [h.at_arg2]; rfl
  at_v99 := by after_reads_simp; simp only [h.at_arg3]; rfl
  at_arg1 := by after_reads_simp; exact h.at_arg1

theorem atCall (h : Start W x0 x1 x2 x3) : AtCall (after (List.flatten [hostOps0, hostOps0_1, hostOps0_2, hostOps0_3,
    hostOps0_4, hostOps0_5, hostOps0_6, hostOps0_7, hostOps0_8]) W) x0 x1 x2 x3 := by
  simp only [List.flatten_cons, List.flatten_nil, List.append_nil, after_append]
  exact AtCall.of (AfterMask.of (AfterScores.of (AfterValuePad.of (AfterKeyPrev.of (AfterKeyPad.of (AfterKey.of
    (AfterQuery.of (AfterSplit.of h))))))))

end Cert.Att.HostSide
-- ==== Proof.Att.Layout.lean ====
/-
  The arrangements the two programs share, read at an index: positions laid out by residue, heads split off the features,
  the previous block put before a block, and the way back.
-/
module

public import Idealize.ShloMosaic.Lib.Pipeline.Value
public import Idealize.ShloMosaic.Lib.ValueIdx
public import Idealize.ShloMosaic.Lib.ValueIdxRank6
public import Idealize.ShloMosaic.Lib.KernelVsHost
public import Idealize.ShloMosaic.Lib.Pointwise
public import Idealize.ShloMosaic.PureOps.Ideal.Laws
public import proofs.«01_k».proof.Proof.Att.Spec

@[expose] public section

set_option maxRecDepth 16384

noncomputable section

namespace Cert.Att

open Idealize.ShloMosaic

abbrev A2 : Shape := ⟨2, ![2048, 512]⟩
abbrev A3 : Shape := ⟨3, ![1, 2048, 512]⟩
abbrev A4 : Shape := ⟨4, ![1, 128, 16, 512]⟩
abbrev A4' : Shape := ⟨4, ![1, 16, 128, 512]⟩
abbrev A5' : Shape := ⟨5, ![1, 16, 1, 128, 512]⟩
abbrev H4 : Shape := ⟨4, ![1, 2048, 8, 64]⟩
abbrev H5 : Shape := ⟨5, ![1, 128, 16, 8, 64]⟩
abbrev B5 : Shape := ⟨5, ![1, 16, 128, 8, 64]⟩
abbrev B6 : Shape := ⟨6, ![1, 16, 1, 128, 8, 64]⟩
abbrev Z6 : Shape := ⟨6, ![1, 16, 0, 128, 8, 64]⟩
abbrev C6 : Shape := ⟨6, ![1, 16, 1, 256, 8, 64]⟩

abbrev R5 : Shape := ⟨5, ![1, 16, 1, 8, 128]⟩
abbrev R6 : Shape := ⟨6, ![1, 16, 1, 8, 128, 1]⟩
abbrev W5 : Shape := ⟨5, ![1, 1, 8, 128, 256]⟩
abbrev W6 : Shape := ⟨6, ![1, 1, 1, 8, 128, 256]⟩

/-- A pad by nothing is the array itself. -/
theorem pad_nothing {s u : Shape} {α : Type} (lo hi interior : Fin s.rank → Nat) (x : s.Idx → α) (v : u.Idx → α)
    (h : s.Pads lo hi interior s) (hu : 0 < u.numel) (hl : ∀ a, lo a = 0) (hi' : ∀ a, interior a = 0) (j : s.Idx) :
    pad s lo hi interior x v h hu j = x j :=
  pad_apply_of_inside lo hi interior x v h hu j j fun a => by rw [hl a, hi' a]; show (j a).val = _; omega

/-- A block of 128 positions given its place among one block. -/
theorem cast_B6 (x : B5.Idx → EReal) (h : B5.ShapeCasts B6) (i : B6.Idx) :
    shapeCast B6 x h i = x (ix5 (n0 := 1) (n1 := 16) (n2 := 128) (n3 := 8) (n4 := 64) 0 (i 1) (i 3) (i 4) (i 5)) := by
  refine shapeCast_apply x h i _ ?_
  have h0 : (i 0).val < 1 := (i 0).isLt
  have h2 : (i 2).val < 1 := (i 2).isLt
  rw [Shape.rowMajor_val_five, Shape.rowMajor_val_six]
  show ((((0 * 16 + (i 1).val) * 128 + (i 3).val) * 8 + (i 4).val) * 64 + (i 5).val) =
    ((((((i 0).val * 16 + (i 1).val) * 1 + (i 2).val) * 128 + (i 3).val) * 8 + (i 4).val) * 64 + (i 5).val)
  omega

/-- The same the other way. -/
theorem cast_B5 (x : B6.Idx → EReal) (h : B6.ShapeCasts B5) (i : B5.Idx) :
    shapeCast B5 x h i = x (ix6 (n0 := 1) (n1 := 16) (n2 := 1) (n3 := 128) (n4 := 8) (n5 := 64) 0 (i 1) 0 (i 2) (i 3) (i 4)) := by
  refine shapeCast_apply x h i _ ?_
  have h0 : (i 0).val < 1 := (i 0).isLt
  rw [Shape.rowMajor_val_five, Shape.rowMajor_val_six]
  show ((((((0 * 16 + (i 1).val) * 1 + 0) * 128 + (i 2).val) * 8 + (i 3).val) * 64 + (i 4).val)) =
    (((((i 0).val * 16 + (i 1).val) * 128 + (i 2).val) * 8 + (i 3).val) * 64 + (i 4).val)
  omega

/-- One value of each row given a last axis of one. -/
theorem cast_R6 (x : R5.Idx → EReal) (h : R5.ShapeCasts R6) (i : R6.Idx) :
    shapeCast R6 x h i = x (ix5 (n0 := 1) (n1 := 16) (n2 := 1) (n3 := 8) (n4 := 128) 0 (i 1) 0 (i 3) (i 4)) := by
  refine shapeCast_apply x h i _ ?_
  have h0 : (i 0).val < 1 := (i 0).isLt
  have h2 : (i 2).val < 1 := (i 2).isLt
  have h5 : (i 5).val < 1 := (i 5).isLt
  rw [Shape.rowMajor_val_five, Shape.rowMajor_val_six]
  show ((((0 * 16 + (i 1).val) * 1 + 0) * 8 + (i 3).val) * 128 + (i 4).val) =
    ((((((i 0).val * 16 + (i 1).val) * 1 + (i 2).val) * 8 + (i 3).val) * 128 + (i 4).val) * 1 + (i 5).val)
  omega

/-- The same the other way. -/
theorem cast_R5 (x : R6.Idx → EReal) (h : R6.ShapeCasts R5) (i : R5.Idx) :
    shapeCast R5 x h i = x (ix6 (n0 := 1) (n1 := 16) (n2 := 1) (n3 := 8) (n4 := 128) (n5 := 1) 0 (i 1) 0 (i 3) (i 4) 0) := by
  refine shapeCast_apply x h i _ ?_
  have h0 : (i 0).val < 1 := (i 0).isLt
  have h2 : (i 2).val < 1 := (i 2).isLt
  rw [Shape.rowMajor_val_five, Shape.rowMajor_val_six]
  show (((((0 * 16 + (i 1).val) * 1 + 0) * 8 + (i 3).val) * 128 + (i 4).val) * 1 + 0) =
    (((((i 0).val * 16 + (i 1).val) * 1 + (i 2).val) * 8 + (i 3).val) * 128 + (i 4).val)
  omega

/-- The bias's gradient given one more leading axis of one. -/
theorem cast_W6 (x : W5.Idx → EReal) (h : W5.ShapeCasts W6) (i : W6.Idx) :
    shapeCast W6 x h i = x (ix5 (n0 := 1) (n1 := 1) (n2 := 8) (n3 := 128) (n4 := 256) 0 0 (i 3) (i 4) (i 5)) := by
  refine shapeCast_apply x h i _ ?_
  have h0 : (i 0).val < 1 := (i 0).isLt
  have h1 : (i 1).val < 1 := (i 1).isLt
  have h2 : (i 2).val < 1 := (i 2).isLt
  rw [Shape.rowMajor_val_five, Shape.rowMajor_val_six]
  show ((((0 * 1 + 0) * 8 + (i 3).val) * 128 + (i 4).val) * 256 + (i 5).val) =
    ((((((i 0).val * 1 + (i 1).val) * 1 + (i 2).val) * 8 + (i 3).val) * 128 + (i 4).val) * 256 + (i 5).val)
  omega

/-- The previous block, which is all zeros, put before a block. -/
theorem with_prev (z y : B6.Idx → EReal) (w : Z6.Idx → EReal) (h1 : Shape.Concatenates [B6, Z6] B6 2)
    (h2 : Shape.Concatenates [B6, B6] C6 3) (hz : ∀ i, z i = 0) (i : C6.Idx) :
    concatenate C6 3 [⟨B6, concatenate B6 2 [⟨B6, z⟩, ⟨Z6, w⟩] h1⟩, ⟨B6, y⟩] h2 i
      = if 128 ≤ (i 3).val then
          y (ix6 (n0 := 1) (n1 := 16) (n2 := 1) (n3 := 128) (n4 := 8) (n5 := 64) 0 (i 1) 0 (keyOf (i 3)) (i 4) (i 5))
        else 0 := by
  have h0 : (i 0).val < 1 := (i 0).isLt
  have h2' : (i 2).val < 1 := (i 2).isLt
  have h3' : (i 3).val < 256 := (i 3).isLt
  by_cases hk : 128 ≤ (i 3).val
  · rw [if_pos hk]
    refine concatenate_pair_apply_right 3 _ _ h2 i rfl rfl _ (fun b hb => ?_) ?_
    · match b, hb with
      | ⟨0, _⟩, _ => show 0 = (i 0).val; omega
      | ⟨1, _⟩, _ => rfl
      | ⟨2, _⟩, _ => show 0 = (i 2).val; omega
      | ⟨3, _⟩, hb => exact absurd rfl hb
      | ⟨4, _⟩, _ => rfl
      | ⟨5, _⟩, _ => rfl
    · show (i 3).val % 128 + 128 = (i 3).val; omega
  · rw [if_neg hk]
    have hlt : (i 3).val < 128 := by omega
    rw [concatenate_pair_apply_left 3 _ _ h2 i rfl
      (ix6 (n0 := 1) (n1 := 16) (n2 := 1) (n3 := 128) (n4 := 8) (n5 := 64) 0 (i 1) 0 ⟨(i 3).val, hlt⟩ (i 4) (i 5)) (fun b => ?_)]
    · rw [concatenate_pair_apply_left 2 _ _ h1 _ rfl
        (ix6 (n0 := 1) (n1 := 16) (n2 := 1) (n3 := 128) (n4 := 8) (n5 := 64) 0 (i 1) 0 ⟨(i 3).val, hlt⟩ (i 4) (i 5)) (fun b => rfl)]
      exact hz _
    · match b with
      | ⟨0, _⟩ => show 0 = (i 0).val; omega
      | ⟨1, _⟩ => rfl
      | ⟨2, _⟩ => show 0 = (i 2).val; omega
      | ⟨3, _⟩ => rfl
      | ⟨4, _⟩ => rfl
      | ⟨5, _⟩ => rfl

/-- A sum over axes of one entry each is the entry. -/
theorem reduceAdd_unit {s t u : Shape} {axes : List (Fin s.rank)} (x : FVec Ideal s .f32) (init : u.Idx → Ideal .f32)
    (h : s.ReducesTo axes t) (hu : 0 < u.numel) (j : t.Idx) (i : s.Idx) (h0 : init (Shape.Idx.first hu) = 0)
    (hi : h.drop i = j) (hu' : ∀ i', h.drop i' = j → i' = i) : Host.reduceAdd x init h hu j = x i := by
  show init (Shape.Idx.first hu) + ∑ i' ∈ Finset.univ.filter (fun i' => h.drop i' = j), x i' = _
  rw [h0, zero_add]
  have : Finset.univ.filter (fun i' => h.drop i' = j) = {i} := by
    ext i'; simp only [Finset.mem_filter, Finset.mem_univ, true_and, Finset.mem_singleton]
    exact ⟨hu' i', fun e => e ▸ hi⟩
  rw [this, Finset.sum_singleton]

/-- The way the reference lays a gradient out: from blocks back to positions and again into blocks by residue. -/
def outBlocks (y : B5.Idx → EReal) (z z' : (⟨0, ![]⟩ : Shape).Idx → EReal) : A2.Idx → EReal :=
  shapeCast A2 (shapeCast A5' (pad A4' ![0, 0, 0, 0] ![0, 0, 0, 0] ![0, 0, 0, 0]
    (transpose A4' [0, 2, 1, 3] (shapeCast A4 (broadcastInDim A3 ![1, 2] (by decide)
      (shapeCast A2 (shapeCast H4 (transpose H5 [0, 2, 1, 3, 4] (extractStridedSlice B5 ![0, 0, 0, 0, 0]
        (pad B5 ![0, 0, 0, 0, 0] ![0, 0, 0, 0, 0] ![0, 0, 0, 0, 0] y z (by decide) (by decide)) (by decide)) (by decide)) (by decide)) (by decide)))
      (by decide)) (by decide)) z' (by decide) (by decide)) (by decide)) (by decide)

theorem outBlocks_apply (y : B5.Idx → EReal) (z z' : (⟨0, ![]⟩ : Shape).Idx → EReal) (i : A2.Idx) :
    outBlocks y z z' i = y (ix5 (n0 := 1) (n1 := 16) (n2 := 128) (n3 := 8) (n4 := 64) 0 ⟨(i 0).val / 128, by have : (i 0).val < 2048 := (i 0).isLt; omega⟩
      ⟨(i 0).val % 128, by omega⟩ ⟨(i 1).val / 64, by have : (i 1).val < 512 := (i 1).isLt; omega⟩ ⟨(i 1).val % 64, by omega⟩) := by
  unfold outBlocks
  have h0 : (i 0).val < 2048 := (i 0).isLt
  have h1 : (i 1).val < 512 := (i 1).isLt
  pointwise
  rw [dif_pos ⟨by omega, by omega⟩, dif_pos ⟨by omega, by omega, by omega, by omega⟩]
  congr 1
  ext a
  match a with
  | ⟨0, _⟩ => rfl
  | ⟨1, _⟩ => show ((i 0).val % 128 * 16 + (i 0).val / 128) % 16 = (i 0).val / 128; omega
  | ⟨2, _⟩ => show ((i 0).val % 128 * 16 + (i 0).val / 128) / 16 = (i 0).val % 128; omega
  | ⟨3, _⟩ => rfl
  | ⟨4, _⟩ => rfl

end Cert.Att

end
-- ==== Proof.Att.RefValue.lean ====
/-
  The reference program's forward lines read at the real arguments: scores, mask, softmax, its logarithm, and the output.
-/
module

public import proofs.«01_k».proof.Proof.Gen.ReferenceIdeal.Read
public import proofs.«01_k».proof.Proof.Att.Layout

@[expose] public section

set_option maxRecDepth 16384

noncomputable section

namespace Cert.Att.Ref

open Cert.ReferenceIdeal Cert.ReferenceIdeal.Gen Cert.ReferenceIdeal.Read Idealize.ShloMosaic

/-- A coordinate, as a number below `n`. -/
abbrev fin (n : ℕ) (a : Fin n) : Fin n := a

/-- The arrays hold the real arguments. -/
structure Holds (A : Args) (x0 : S2048x1536.Idx → EReal) (x1 : S8x128x256.Idx → EReal) (x2 : S2048x512.Idx → EReal)
    (x3 : S8x2048x128.Idx → EReal) : Prop where
  p : ∀ i, x0 i = (A.p (i 0) (i 1) : EReal)
  b : ∀ i, x1 i = (A.b (i 0) (i 1) (i 2) : EReal)
  o : ∀ i, x2 i = (A.o (i 0) (i 1) : EReal)
  l : ∀ i, x3 i = (A.l (i 0) (i 1) (i 2) : EReal)

theorem eighth : (FloatOps.ofBits .f32 0x3E000000#32 : Ideal .f32) = ((1 / 8 : ℝ) : EReal) := by
  show Ideal.ieee 8 23 (0x3E000000#32) = _
  unfold Ideal.ieee
  rw [if_neg (by decide), if_neg (by decide), if_neg (by decide)]
  norm_num [Nat.shiftRight_eq_div_pow]

theorem f32_zero : (FloatOps.ofBits .f32 0x00000000#32 : Ideal .f32) = 0 := Ideal.ofBits_zero_f32

theorem f32_one : (FloatOps.ofBits .f32 0x3F800000#32 : Ideal .f32) = ((1 : ℝ) : EReal) := by
  show Ideal.ieee 8 23 (0x3F800000#32) = _
  unfold Ideal.ieee
  rw [if_neg (by decide), if_neg (by decide), if_neg (by decide)]
  norm_num [Nat.shiftRight_eq_div_pow]

theorem f32_bot : (FloatOps.ofBits .f32 0xFF800000#32 : Ideal .f32) = ⊥ := by
  show Ideal.ieee 8 23 (0xFF800000#32) = _
  unfold Ideal.ieee
  rw [if_pos (by decide)]
  exact if_pos (by decide)

variable {A : Args} {x0 : S2048x1536.Idx → EReal} {x1 : S8x128x256.Idx → EReal} {x2 : S2048x512.Idx → EReal}
  {x3 : S8x2048x128.Idx → EReal} (H : Holds A x0 x1 x2 x3)

section Forward

include H

/-! ### Queries, keys and values in blocks -/

theorem v21 (i : S1x16x128x8x64.Idx) : val_main_v21 (F := Ideal) x0 i = (A.p (tok (i 1) (i 2)) (col 0 (i 3) (i 4)) : EReal) := by
  rw [val_main_v21_apply, val_main_v20_apply, val_main_v17_apply, val_main_v0_apply, H.p]
  have h0 : (i 0).val < 1 := (i 0).isLt
  have h1 : (i 1).val < 16 := (i 1).isLt
  have h2 : (i 2).val < 128 := (i 2).isLt
  have h3 : (i 3).val < 8 := (i 3).isLt
  have h4 : (i 4).val < 64 := (i 4).isLt
  congr 2
  · exact Fin.ext (by simp [tok]; omega)
  · exact Fin.ext (by simp [col]; omega)

theorem v25 (i : S1x16x128x8x64.Idx) : val_main_v25 (F := Ideal) x0 i = (A.p (tok (i 1) (i 2)) (col 1 (i 3) (i 4)) : EReal) := by
  rw [val_main_v25_apply, val_main_v24_apply, val_main_v18_apply, val_main_v1_apply, H.p]
  have h0 : (i 0).val < 1 := (i 0).isLt
  have h1 : (i 1).val < 16 := (i 1).isLt
  have h2 : (i 2).val < 128 := (i 2).isLt
  have h3 : (i 3).val < 8 := (i 3).isLt
  have h4 : (i 4).val < 64 := (i 4).isLt
  congr 2
  · exact Fin.ext (by simp [tok]; omega)
  · exact Fin.ext (by simp [col]; omega)

theorem v34 (i : S1x16x128x8x64.Idx) : val_main_v34 (F := Ideal) x0 i = (A.p (tok (i 1) (i 2)) (col 2 (i 3) (i 4)) : EReal) := by
  rw [val_main_v34_apply, val_main_v33_apply, val_main_v19_apply, val_main_v2_apply, H.p]
  have h0 : (i 0).val < 1 := (i 0).isLt
  have h1 : (i 1).val < 16 := (i 1).isLt
  have h2 : (i 2).val < 128 := (i 2).isLt
  have h3 : (i 3).val < 8 := (i 3).isLt
  have h4 : (i 4).val < 64 := (i 4).isLt
  congr 2
  · exact Fin.ext (by simp [tok]; omega)
  · exact Fin.ext (by simp [col]; omega)

theorem v23 (i : S1x16x1x128x8x64.Idx) : val_main_v23 (F := Ideal) x0 i = (A.Q (i 1) (i 4) (i 3) (i 5) : EReal) := by
  unfold val_main_v23 val_main_v22_0
  rw [cast_B6, pad_nothing _ _ _ _ _ _ _ (by decide) (by decide), v21 H]
  rfl

theorem v27 (i : S1x16x1x128x8x64.Idx) :
    val_main_v27 (F := Ideal) x0 i = (A.p (tok (i 1) (i 3)) (col 1 (i 4) (i 5)) : EReal) := by
  unfold val_main_v27 val_main_v26_0
  rw [cast_B6, pad_nothing _ _ _ _ _ _ _ (by decide) (by decide), v25 H]
  rfl

theorem v36 (i : S1x16x1x128x8x64.Idx) :
    val_main_v36 (F := Ideal) x0 i = (A.p (tok (i 1) (i 3)) (col 2 (i 4) (i 5)) : EReal) := by
  unfold val_main_v36 val_main_v35_0
  rw [cast_B6, pad_nothing _ _ _ _ _ _ _ (by decide) (by decide), v34 H]
  rfl

theorem v32 (i : S1x16x1x256x8x64.Idx) : val_main_v32 (F := Ideal) x0 i = (A.K (i 1) (i 4) (i 3) (i 5) : EReal) := by
  unfold val_main_v32 val_main_v30
  rw [with_prev _ _ _ _ _ fun i => by rw [val_main_v28_apply, val_main_cst_apply, f32_zero]]
  unfold Args.K
  split_ifs with h
  · rw [v27 H]; rfl
  · rfl

theorem v41 (i : S1x16x1x256x8x64.Idx) : val_main_v41 (F := Ideal) x0 i = (A.V (i 1) (i 4) (i 3) (i 5) : EReal) := by
  unfold val_main_v41 val_main_v39
  rw [with_prev _ _ _ _ _ fun i => by rw [val_main_v37_apply, val_main_cst_6_apply, f32_zero]]
  unfold Args.V
  split_ifs with h
  · rw [v36 H]; rfl
  · rfl

/-! ### The scores and the softmax -/

theorem v47 (i : S1x16x1x8x128x256.Idx) :
    val_main_v47 (F := Ideal) x0 x1 i = (A.score (i 1) (i 3) (i 4) (i 5) : EReal) := by
  rw [val_main_v47_apply, val_main_v44_apply, val_main_v43_apply, val_main_cst_8_apply, eighth, val_main_v46_apply,
    val_main_v45_apply, H.b, val_main_v42_apply,
    sum_eq_coe _ _ (fun d => A.Q (i 1) (i 3) (i 4) d * A.K (i 1) (i 3) (i 5) d) fun d _ => by
      rw [v23 H, v32 H, ← EReal.coe_mul]; rfl]
  unfold Args.score
  rw [EReal.coe_add, EReal.coe_mul]
  rfl

omit H in
/-- The reference's mask, as words: not after the query, no more than 128 before it, and not in the previous block. -/
theorem mask_word : ∀ (q : Fin 128) (k : Fin 256),
    IntOp.andi (IntOp.andi
        (IntOp.cmpi .sge (IntOp.subi (IntOp.addi 128#32 (BitVec.ofNat 32 q.val)) (BitVec.ofNat 32 k.val)) 0#32)
        (IntOp.cmpi .sle (IntOp.subi (IntOp.addi 128#32 (BitVec.ofNat 32 q.val)) (BitVec.ofNat 32 k.val)) 128#32))
      (IntOp.ori (IntOp.cmpi .sgt (BitVec.ofNat 32 0) 0#32) (IntOp.cmpi .sge (BitVec.ofNat 32 k.val) 128#32))
      = if sees q k then 1#1 else 0#1 := by
  decide +kernel

omit H in
theorem v62_1 (i : S1x16x1x8x128x256.Idx) : val_main_v62_1 (F := Ideal) i = if sees (fin 128 (i 4)) (fin 256 (i 5)) then 1#1 else 0#1 := by
  refine Eq.trans ?_ (mask_word (fin 128 (i 4)) (fin 256 (i 5)))
  rw [val_main_v62_1_apply, val_main_v61_apply, val_main_v60_apply, val_main_v58_apply, val_main_v16_apply,
    val_main_v13_apply, val_main_v15_apply, val_main_v11_apply, val_main_v9_apply, val_main_v8_apply, val_main_v7_apply,
    val_main_c_apply, val_main_v4_apply, val_main_v3_apply, val_main_v10_apply, val_main_v6_apply, val_main_v5_apply,
    val_main_v12_apply, val_main_c_0_apply, val_main_v14_apply, val_main_c_1_apply, val_main_v59_apply, val_main_v57_apply,
    val_main_v56_apply, val_main_v52_apply, val_main_v51_apply, val_main_v49_apply, val_main_v50_apply, val_main_c_9_apply,
    val_main_v55_apply, val_main_v54_apply, val_main_v48_apply, val_main_v53_apply, val_main_c_10_apply]

theorem v62_0 (i : S1x16x1x8x128x256.Idx) :
    val_main_v62_0 (F := Ideal) x0 x1 i = masked (sees (fin 128 (i 4))) (A.score (i 1) (i 3) (fin 128 (i 4))) (fin 256 (i 5)) := by
  rw [val_main_v62_0_apply, v62_1, v47 H, val_main_call3_v2_apply]
  unfold masked
  split_ifs with h
  · rfl
  · exact f32_bot

theorem v63 (i : S1x16x1x8x128.Idx) : val_main_v63 (F := Ideal) x0 x1 i = (A.M (i 1) (i 3) (i 4) : EReal) := by
  unfold val_main_v63
  rw [Host.reduce_eq_fold_single _ _ _ _ (by decide) _ i]
  rw [val_main_cst_12_apply, f32_bot]
  rw [show (A.M (i 1) (i 3) (i 4) : EReal) = _ from (fold_max (sees (fin 128 (i 4))) (A.score (i 1) (i 3) (fin 128 (i 4))) (seen_nonempty (fin 128 (i 4)))).symm]
  refine congrArg (Finset.fold max ⊥ · Finset.univ) (funext fun k => ?_)
  exact v62_0 H _

theorem v72 (i : S1x16x1x8x128x256.Idx) : val_main_v72 (F := Ideal) x0 x1 i = (A.E (i 1) (i 3) (i 4) (i 5) : EReal) := by
  rw [val_main_v72_apply, val_main_v71_apply, v62_0 H, val_main_v70_apply, val_main_v69_apply, v63 H]
  exact exp_masked (sees (fin 128 (i 4))) (A.score (i 1) (i 3) (fin 128 (i 4))) (seen_nonempty (fin 128 (i 4))) (fin 256 (i 5))

theorem v74 (i : S1x16x1x8x128x1.Idx) : val_main_v74 (F := Ideal) x0 x1 i = (A.D (i 1) (i 3) (i 4) : EReal) := by
  rw [val_main_v74_apply, val_main_v73_apply, val_main_cst_14_apply, f32_zero, zero_add,
    sum_eq_coe _ _ (fun k => A.E (i 1) (i 3) (i 4) k) fun k _ => by rw [v72 H]; rfl]
  rfl

theorem v76 (i : S1x16x1x8x128x256.Idx) : val_main_v76 (F := Ideal) x0 x1 i = (A.P (i 1) (i 3) (i 4) (i 5) : EReal) := by
  rw [val_main_v76_apply, v72 H, val_main_v75_apply, v74 H]
  exact div_coe_coe _ (A.D_ne _ _ _)

theorem v79 (i : S1x16x1x8x128x1.Idx) : val_main_v79 (F := Ideal) x0 x1 i
    = ((1 / (A.D (i 1) (i 3) (i 4) * A.D (i 1) (i 3) (i 4)) : ℝ) : EReal) := by
  rw [val_main_v79_apply, val_main_v78_apply, val_main_cst_15_apply, f32_one, val_main_v77_apply, v74 H]
  exact div_coe_coe _ (mul_ne_zero (A.D_ne _ _ _) (A.D_ne _ _ _))

/-! ### The output and the logarithm -/

theorem v81 (i : S1x16x1x128x8x64.Idx) : val_main_v81 (F := Ideal) x0 x1 i = (A.O (i 1) (i 4) (i 3) (i 5) : EReal) := by
  rw [val_main_v81_apply, val_main_v80_apply,
    sum_eq_coe _ _ (fun k => A.P (i 1) (i 4) (i 3) k * A.V (i 1) (i 4) k (i 5)) fun k _ => by
      rw [v41 H, v76 H, ← EReal.coe_mul, mul_comm]; rfl]
  rfl

theorem v92 (i : S2048x512.Idx) (r : Fin 16) (q : Fin 128) (h : Fin 8) (d : Fin 64) (hr : i 0 = tok r q) (hc : i 1 = feat h d) :
    val_main_v92 (F := Ideal) x0 x1 i = (A.O r h q d : EReal) := by
  have e0 : (i 0).val = q.val * 16 + r.val := congrArg Fin.val hr
  have e1 : (i 1).val = h.val * 64 + d.val := congrArg Fin.val hc
  rw [val_main_v92_apply, val_main_v88_apply, val_main_v87_apply]
  unfold val_main_v86
  rw [cast_B5, v81 H]
  congr 2
  all_goals exact Fin.ext (by simp [ix6]; omega)

theorem v83 (i : S1x16x1x8x128x1.Idx) : val_main_v83 (F := Ideal) x0 x1 i = (A.L (i 1) (i 3) (i 4) : EReal) := by
  rw [val_main_v83_apply, val_main_v69_apply, v63 H, val_main_v82_apply, v74 H]
  show ((A.M (i 1) (i 3) (i 4) : ℝ) : EReal) + Ideal.log ((A.D (i 1) (i 3) (i 4) : ℝ) : EReal) = _
  exact (congrArg (((A.M (i 1) (i 3) (i 4) : ℝ) : EReal) + ·)
    (log_coe (den_pos (sees (fin 128 (i 4))) (A.score (i 1) (i 3) (fin 128 (i 4))) (seen_nonempty (fin 128 (i 4)))))).trans (EReal.coe_add _ _).symm

theorem v96 (i : S8x2048x128.Idx) (r : Fin 16) (q : Fin 128) (hr : i 1 = tok r q) :
    val_main_v96 (F := Ideal) x0 x1 i = (A.L r (i 0) q : EReal) := by
  have e0 : (i 1).val = q.val * 16 + r.val := congrArg Fin.val hr
  have h0 : (i 0).val < 8 := (i 0).isLt
  have s4 : ((r.val * 128 + q.val) * 8 + (i 0).val % 8) / 1024 % 16 = r.val := by omega
  have s5 : ((r.val * 128 + q.val) * 8 + (i 0).val % 8) / 8 % 128 = q.val := by omega
  have s1 : ((i 1).val * 8 + (i 0).val) / 8 % 2048 * 8 + (i 0).val % 8 = (q.val * 16 + r.val) * 8 + (i 0).val := by omega
  have s2 : ((q.val * 16 + r.val) * 8 + (i 0).val) / 8 % 16 = r.val := by omega
  have s3 : ((q.val * 16 + r.val) * 8 + (i 0).val) / 128 % 128 = q.val := by omega
  rw [val_main_v96_apply, val_main_v95_apply, val_main_v94_apply, val_main_v93_apply, val_main_v91_apply, val_main_v90_apply,
    val_main_v89_apply, val_main_v85_apply]
  unfold val_main_v84
  rw [cast_R5, v83 H]
  congr 2
  all_goals exact Fin.ext (by simp [ix6]; first | omega | (rw [s1, s2, s3]; first | exact s4 | exact s5))

end Forward

end Cert.Att.Ref

end
-- ==== Proof.Att.Inputs.lean ====
/-
  What each grid point reads: point `r`'s blocks are residue `r`'s rows of the arrays the host lines leave, and these hold
  the real arguments and the forward pass's values of them.
-/
module

public import proofs.«01_k».proof.Proof.Att.Blocks
public import proofs.«01_k».proof.Proof.Att.HostValue
public import proofs.«01_k».proof.Proof.Att.RefValue

@[expose] public section

set_option maxRecDepth 16384
set_option maxHeartbeats 4000000

noncomputable section

namespace Cert.Att.HostSide

open Cert.KernelIdeal Cert.KernelIdeal.Gen Idealize.ShloMosaic Idealize.ShloMosaic.TcCoe Cert.Att.Body
open Cert.ReferenceIdeal.Read (val_main_v92 val_main_v96)

/-- Row `i` of residue `r`'s rows, laid out residue class by residue class. -/
def row (r : Fin 16) (i : Fin 128) : Fin 2048 := ⟨r.val * 128 + i.val, by omega⟩

theorem classes512_apply (x : S2048x512.Idx → EReal) (r : Fin 16) (i : Fin 128) (y : Fin 512) :
    classes512 x (ix2 (row r i) y) = x (ix2 (tok r i) y) := by
  unfold classes512
  refine (shapeCast_apply _ _ _ (ix3 r i y) ?_).trans ((transpose_apply _ _ _ _ (ix3 i r y) fun b => ?_).trans
    (shapeCast_apply _ _ _ (ix2 (tok r i) y) ?_))
  · rw [Shape.rowMajor_val_three, Shape.rowMajor_val_two]; rfl
  · match b with
    | ⟨0, _⟩ => rfl
    | ⟨1, _⟩ => rfl
    | ⟨2, _⟩ => rfl
  · rw [Shape.rowMajor_val_three, Shape.rowMajor_val_two]; rfl

theorem classes1536_apply (x : S2048x1536.Idx → EReal) (r : Fin 16) (i : Fin 128) (y : Fin 1536) :
    classes1536 x (ix2 (row r i) y) = x (ix2 (tok r i) y) := by
  unfold classes1536
  refine (shapeCast_apply _ _ _ (ix3 r i y) ?_).trans ((transpose_apply _ _ _ _ (ix3 i r y) fun b => ?_).trans
    (shapeCast_apply _ _ _ (ix2 (tok r i) y) ?_))
  · rw [Shape.rowMajor_val_three, Shape.rowMajor_val_two]; rfl
  · match b with
    | ⟨0, _⟩ => rfl
    | ⟨1, _⟩ => rfl
    | ⟨2, _⟩ => rfl
  · rw [Shape.rowMajor_val_three, Shape.rowMajor_val_two]; rfl

theorem classesHead_apply (x : S8x2048x128.Idx → EReal) (h : Fin 8) (r : Fin 16) (i : Fin 128) (y : Fin 128) :
    classesHead x (ix3 h (row r i) y) = x (ix3 h (tok r i) y) := by
  unfold classesHead
  refine (shapeCast_apply _ _ _ (ix4 h r i y) ?_).trans ((transpose_apply _ _ _ _ (ix4 h i r y) fun b => ?_).trans
    (shapeCast_apply _ _ _ (ix3 h (tok r i) y) ?_))
  · rw [Shape.rowMajor_val_four, Shape.rowMajor_val_three]
    show ((h.val * 16 + r.val) * 128 + i.val) * 128 + y.val = (h.val * 2048 + (r.val * 128 + i.val)) * 128 + y.val; omega
  · match b with
    | ⟨0, _⟩ => rfl
    | ⟨1, _⟩ => rfl
    | ⟨2, _⟩ => rfl
    | ⟨3, _⟩ => rfl
  · rw [Shape.rowMajor_val_four, Shape.rowMajor_val_three]
    show (h.val * 2048 + (i.val * 16 + r.val)) * 128 + y.val = ((h.val * 128 + i.val) * 16 + r.val) * 128 + y.val; omega

/-! ### A window's block of its array -/

variable (m : (ℓ : Loc nD τ sig) → Buf (Elt Ideal) ℓ) (c : Dev nD)

/-- The residue a grid point handles. -/
def resid (t : Fin cfg0.N) : Fin 16 := ⟨t.val, t.isLt.trans_eq N_0⟩

theorem at0 : ∀ t : Fin cfg0.N, win0_0.index t 0 = t.val ∧ win0_0.index t 1 = 0 :=
  (by decide +kernel : ∀ t : Fin grid0.N, win0_0.index t 0 = t.val ∧ win0_0.index t 1 = 0)
theorem at2 : ∀ t : Fin cfg0.N, win0_2.index t 0 = t.val ∧ win0_2.index t 1 = 1 :=
  (by decide +kernel : ∀ t : Fin grid0.N, win0_2.index t 0 = t.val ∧ win0_2.index t 1 = 1)
theorem at3 : ∀ t : Fin cfg0.N, win0_3.index t 0 = t.val ∧ win0_3.index t 1 = 2 :=
  (by decide +kernel : ∀ t : Fin grid0.N, win0_3.index t 0 = t.val ∧ win0_3.index t 1 = 2)
theorem at4 : ∀ t : Fin cfg0.N, win0_4.index t 0 = t.val ∧ win0_4.index t 1 = 0 :=
  (by decide +kernel : ∀ t : Fin grid0.N, win0_4.index t 0 = t.val ∧ win0_4.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)
theorem at8 : ∀ t : Fin cfg0.N, win0_8.index t 0 = 0 ∧ win0_8.index t 1 = t.val ∧ win0_8.index t 2 = 0 :=
  (by decide +kernel : ∀ t : Fin grid0.N, win0_8.index t 0 = 0 ∧ win0_8.index t 1 = t.val ∧ win0_8.index t 2 = 0)
theorem at10 : ∀ t : Fin cfg0.N, win0_10.index t 0 = 0 ∧ win0_10.index t 1 = t.val ∧ win0_10.index t 2 = 0 :=
  (by decide +kernel : ∀ t : Fin grid0.N, win0_10.index t 0 = 0 ∧ win0_10.index t 1 = t.val ∧ win0_10.index t 2 = 0)
theorem at12 : ∀ t : Fin cfg0.N, win0_12.index t 0 = 0 ∧ win0_12.index t 1 = 0 ∧ win0_12.index t 2 = 0 :=
  (by decide +kernel : ∀ t : Fin grid0.N, win0_12.index t 0 = 0 ∧ win0_12.index t 1 = 0 ∧ win0_12.index t 2 = 0)

theorem view0 (f : S2048x1536.Idx → EReal) (t : Fin cfg0.N) (i : Fin 128) (y : Fin 512) :
    ((cfg0.win 0).blk t).view.read (Elt Ideal) f (ix2 i y) = f (ix2 (row (resid t) i) ⟨y.val, by omega⟩) := by
  rw [View.read_apply]
  refine congrArg f (funext fun a => Fin.ext ?_)
  match a with
  | ⟨0, _⟩ => show win0_0.index t 0 * 128 + 1 * i.val = t.val * 128 + i.val; rw [(at0 t).1]; omega
  | ⟨1, _⟩ => show win0_0.index t 1 * 512 + 1 * y.val = y.val; rw [(at0 t).2]; omega

theorem view2 (f : S2048x1536.Idx → EReal) (t : Fin cfg0.N) (i : Fin 128) (y : Fin 512) :
    ((cfg0.win 2).blk t).view.read (Elt Ideal) f (ix2 i y) = f (ix2 (row (resid t) i) ⟨512 + y.val, by omega⟩) := by
  rw [View.read_apply]
  refine congrArg f (funext fun a => Fin.ext ?_)
  match a with
  | ⟨0, _⟩ => show win0_2.index t 0 * 128 + 1 * i.val = t.val * 128 + i.val; rw [(at2 t).1]; omega
  | ⟨1, _⟩ => show win0_2.index t 1 * 512 + 1 * y.val = 512 + y.val; rw [(at2 t).2]; omega

theorem view3 (f : S2048x1536.Idx → EReal) (t : Fin cfg0.N) (i : Fin 128) (y : Fin 512) :
    ((cfg0.win 3).blk t).view.read (Elt Ideal) f (ix2 i y) = f (ix2 (row (resid t) i) ⟨1024 + y.val, by omega⟩) := by
  rw [View.read_apply]
  refine congrArg f (funext fun a => Fin.ext ?_)
  match a with
  | ⟨0, _⟩ => show win0_3.index t 0 * 128 + 1 * i.val = t.val * 128 + i.val; rw [(at3 t).1]; omega
  | ⟨1, _⟩ => show win0_3.index t 1 * 512 + 1 * y.val = 1024 + y.val; rw [(at3 t).2]; omega

theorem view4 (f : S2048x512.Idx → EReal) (t : Fin cfg0.N) (i : Fin 128) (y : Fin 512) :
    ((cfg0.win 4).blk t).view.read (Elt Ideal) f (ix2 i y) = f (ix2 (row (resid t) i) y) := by
  rw [View.read_apply]
  refine congrArg f (funext fun a => Fin.ext ?_)
  match a with
  | ⟨0, _⟩ => show win0_4.index t 0 * 128 + 1 * i.val = t.val * 128 + i.val; rw [(at4 t).1]; omega
  | ⟨1, _⟩ => show win0_4.index t 1 * 512 + 1 * y.val = y.val; rw [(at4 t).2]; omega

theorem view6 (f : S2048x512.Idx → EReal) (t : Fin cfg0.N) (i : Fin 128) (y : Fin 512) :
    ((cfg0.win 6).blk t).view.read (Elt Ideal) f (ix2 i y) = f (ix2 (row (resid t) i) y) := by
  rw [View.read_apply]
  refine congrArg f (funext fun a => Fin.ext ?_)
  match a with
  | ⟨0, _⟩ => show win0_6.index t 0 * 128 + 1 * i.val = t.val * 128 + i.val; rw [(at6 t).1]; omega
  | ⟨1, _⟩ => show win0_6.index t 1 * 512 + 1 * y.val = y.val; rw [(at6 t).2]; omega

theorem view8 (f : S8x2048x128.Idx → EReal) (t : Fin cfg0.N) (h : Fin 8) (i : Fin 128) (y : Fin 128) :
    ((cfg0.win 8).blk t).view.read (Elt Ideal) f (ix3 h i y) = f (ix3 h (row (resid t) i) y) := by
  rw [View.read_apply]
  refine congrArg f (funext fun a => Fin.ext ?_)
  match a with
  | ⟨0, _⟩ => show win0_8.index t 0 * 8 + 1 * h.val = h.val; rw [(at8 t).1]; omega
  | ⟨1, _⟩ => show win0_8.index t 1 * 128 + 1 * i.val = t.val * 128 + i.val; rw [(at8 t).2.1]; omega
  | ⟨2, _⟩ => show win0_8.index t 2 * 128 + 1 * y.val = y.val; rw [(at8 t).2.2]; omega

theorem view10 (f : S8x2048x128.Idx → EReal) (t : Fin cfg0.N) (h : Fin 8) (i : Fin 128) (y : Fin 128) :
    ((cfg0.win 10).blk t).view.read (Elt Ideal) f (ix3 h i y) = f (ix3 h (row (resid t) i) y) := by
  rw [View.read_apply]
  refine congrArg f (funext fun a => Fin.ext ?_)
  match a with
  | ⟨0, _⟩ => show win0_10.index t 0 * 8 + 1 * h.val = h.val; rw [(at10 t).1]; omega
  | ⟨1, _⟩ => show win0_10.index t 1 * 128 + 1 * i.val = t.val * 128 + i.val; rw [(at10 t).2.1]; omega
  | ⟨2, _⟩ => show win0_10.index t 2 * 128 + 1 * y.val = y.val; rw [(at10 t).2.2]; omega

theorem view12 (f : S8x128x256.Idx → EReal) (t : Fin cfg0.N) (h : Fin 8) (i : Fin 128) (y : Fin 256) :
    ((cfg0.win 12).blk t).view.read (Elt Ideal) f (ix3 h i y) = f (ix3 h i y) := by
  rw [View.read_apply]
  refine congrArg f (funext fun a => Fin.ext ?_)
  match a with
  | ⟨0, _⟩ => show win0_12.index t 0 * 8 + 1 * h.val = h.val; rw [(at12 t).1]; omega
  | ⟨1, _⟩ => show win0_12.index t 1 * 128 + 1 * i.val = i.val; rw [(at12 t).2.1]; omega
  | ⟨2, _⟩ => show win0_12.index t 2 * 256 + 1 * y.val = y.val; rw [(at12 t).2.2]; omega

/-! ### The blocks hold the real values -/

variable {A : Args} {x0 : S2048x1536.Idx → EReal} {x1 : S8x128x256.Idx → EReal} {x2 : S2048x512.Idx → EReal}
  {x3 : S8x2048x128.Idx → EReal}

theorem own_ge (i : Fin 128) : 128 ≤ (own i).val := Nat.le_add_right _ _
theorem keyOf_own (i : Fin 128) : keyOf (own i) = i := Fin.ext (by show (128 + i.val) % 128 = i.val; omega)

/-- Point `t`'s blocks of arrays laid out residue class by residue class hold residue `t`'s real values. -/
theorem cut_hold (H : Ref.Holds A x0 x1 x2 x3) (t : Fin cfg0.N) (X : Blocks Ideal)
    (hq : X.q = ((cfg0.win 0).blk t).view.read (Elt Ideal) (classes1536 x0))
    (hk : X.k = ((cfg0.win 2).blk t).view.read (Elt Ideal) (classes1536 x0))
    (hv : X.v = ((cfg0.win 3).blk t).view.read (Elt Ideal) (classes1536 x0))
    (hg : X.g = ((cfg0.win 4).blk t).view.read (Elt Ideal) (classes512 x2))
    (ho : X.o = ((cfg0.win 6).blk t).view.read (Elt Ideal) (classes512 (val_main_v92 x0 x1)))
    (hl : X.l = ((cfg0.win 8).blk t).view.read (Elt Ideal) (classesHead (val_main_v96 x0 x1)))
    (he : X.e = ((cfg0.win 10).blk t).view.read (Elt Ideal) (classesHead x3))
    (hb : X.b = ((cfg0.win 12).blk t).view.read (Elt Ideal) x1) : X.Holds A (resid t) where
  q i y := by
    rw [hq]
    refine (view0 _ t i y).trans ((classes1536_apply _ _ _ _).trans ((H.p _).trans (congrArg _ (congrArg (A.p _) (Fin.ext ?_)))))
    show y.val = 0 * 512 + (y.val / 64 * 64 + y.val % 64); omega
  k i y := by
    rw [hk]
    refine (view2 _ t i y).trans ((classes1536_apply _ _ _ _).trans ((H.p _).trans (congrArg _ ?_)))
    unfold Args.K
    rw [if_pos (own_ge i), keyOf_own]
    refine congrArg (A.p _) (Fin.ext ?_)
    show 512 + y.val = 1 * 512 + (y.val / 64 * 64 + y.val % 64); omega
  v i y := by
    rw [hv]
    refine (view3 _ t i y).trans ((classes1536_apply _ _ _ _).trans ((H.p _).trans (congrArg _ ?_)))
    unfold Args.V
    rw [if_pos (own_ge i), keyOf_own]
    refine congrArg (A.p _) (Fin.ext ?_)
    show 1024 + y.val = 2 * 512 + (y.val / 64 * 64 + y.val % 64); omega
  g i y := by
    rw [hg]
    refine (view4 _ t i y).trans ((classes512_apply _ _ _ _).trans ((H.o _).trans (congrArg _ (congrArg (A.o _) (Fin.ext ?_)))))
    show y.val = y.val / 64 * 64 + y.val % 64; omega
  o i y := by
    rw [ho]
    refine (view6 _ t i y).trans ((classes512_apply _ _ _ _).trans (Ref.v92 H _ (resid t) i (hOf y) (dOf y) rfl (Fin.ext ?_)))
    show y.val = y.val / 64 * 64 + y.val % 64; omega
  b h i k := by
    rw [hb]
    exact (view12 _ t h i k).trans (H.b _)
  l h i x := by
    rw [hl]
    exact (view8 _ t h i x).trans ((classesHead_apply _ _ _ _ _).trans (Ref.v96 H _ (resid t) i rfl))
  e h i x := by
    rw [he]
    exact (view10 _ t h i x).trans ((classesHead_apply _ _ _ _ _).trans (H.l _))

variable {W : Vals} (hW : W = StableHlo.after (List.flatten [hostOps0, hostOps0_1, hostOps0_2, hostOps0_3, hostOps0_4, hostOps0_5,
    hostOps0_6, hostOps0_7, hostOps0_8]) fun b => m (c, b))
include hW

/-- A window's block, read off the values its array holds when the grid starts. -/
theorem iblk_at (w : Fin cfg0.W) (t : Fin cfg0.N) :
    iblk m c w t = ((cfg0.win w).blk t).view.read (Elt Ideal) (W (Proc.devRef .tc (Pipeline.arrRef spec0 w))) := by
  subst hW; rfl

theorem input_q (hV : AtCall W x0 x1 x2 x3) (t : Fin cfg0.N) :
    (blocks m c t).q = ((cfg0.win 0).blk t).view.read (Elt Ideal) (classes1536 x0) :=
  (iblk_at m c hW 0 t).trans (congrArg (View.read (Elt Ideal) ((cfg0.win 0).blk t).view)
    (show (W (Proc.devRef .tc (Pipeline.arrRef spec0 0)) : S2048x1536.Idx → EReal) = _ from hV.at_v87))

theorem input_k (hV : AtCall W x0 x1 x2 x3) (t : Fin cfg0.N) :
    (blocks m c t).k = ((cfg0.win 2).blk t).view.read (Elt Ideal) (classes1536 x0) :=
  (iblk_at m c hW 2 t).trans (congrArg (View.read (Elt Ideal) ((cfg0.win 2).blk t).view)
    (show (W (Proc.devRef .tc (Pipeline.arrRef spec0 2)) : S2048x1536.Idx → EReal) = _ from hV.at_v87))

theorem input_v (hV : AtCall W x0 x1 x2 x3) (t : Fin cfg0.N) :
    (blocks m c t).v = ((cfg0.win 3).blk t).view.read (Elt Ideal) (classes1536 x0) :=
  (iblk_at m c hW 3 t).trans (congrArg (View.read (Elt Ideal) ((cfg0.win 3).blk t).view)
    (show (W (Proc.devRef .tc (Pipeline.arrRef spec0 3)) : S2048x1536.Idx → EReal) = _ from hV.at_v87))

theorem input_g (hV : AtCall W x0 x1 x2 x3) (t : Fin cfg0.N) :
    (blocks m c t).g = ((cfg0.win 4).blk t).view.read (Elt Ideal) (classes512 x2) :=
  (iblk_at m c hW 4 t).trans (congrArg (View.read (Elt Ideal) ((cfg0.win 4).blk t).view)
    (show (W (Proc.devRef .tc (Pipeline.arrRef spec0 4)) : S2048x512.Idx → EReal) = _ from hV.at_v96))

theorem input_o (hV : AtCall W x0 x1 x2 x3) (t : Fin cfg0.N) :
    (blocks m c t).o = ((cfg0.win 6).blk t).view.read (Elt Ideal) (classes512 (val_main_v92 (F := Ideal) x0 x1)) :=
  (iblk_at m c hW 6 t).trans (congrArg (View.read (Elt Ideal) ((cfg0.win 6).blk t).view)
    (show (W (Proc.devRef .tc (Pipeline.arrRef spec0 6)) : S2048x512.Idx → EReal) = _ from hV.at_v90))

theorem input_l (hV : AtCall W x0 x1 x2 x3) (t : Fin cfg0.N) :
    (blocks m c t).l = ((cfg0.win 8).blk t).view.read (Elt Ideal) (classesHead (val_main_v96 (F := Ideal) x0 x1)) :=
  (iblk_at m c hW 8 t).trans (congrArg (View.read (Elt Ideal) ((cfg0.win 8).blk t).view)
    (show (W (Proc.devRef .tc (Pipeline.arrRef spec0 8)) : S8x2048x128.Idx → EReal) = _ from hV.at_v93))

theorem input_e (hV : AtCall W x0 x1 x2 x3) (t : Fin cfg0.N) :
    (blocks m c t).e = ((cfg0.win 10).blk t).view.read (Elt Ideal) (classesHead x3) :=
  (iblk_at m c hW 10 t).trans (congrArg (View.read (Elt Ideal) ((cfg0.win 10).blk t).view)
    (show (W (Proc.devRef .tc (Pipeline.arrRef spec0 10)) : S8x2048x128.Idx → EReal) = _ from hV.at_v99))

theorem input_b (hV : AtCall W x0 x1 x2 x3) (t : Fin cfg0.N) :
    (blocks m c t).b = ((cfg0.win 12).blk t).view.read (Elt Ideal) (x1) :=
  (iblk_at m c hW 12 t).trans (congrArg (View.read (Elt Ideal) ((cfg0.win 12).blk t).view)
    (show (W (Proc.devRef .tc (Pipeline.arrRef spec0 12)) : S8x128x256.Idx → EReal) = _ from hV.at_arg1))

/-- Point `t`'s blocks, as the grid finds them, hold residue `t`'s real values. -/
theorem blocks_hold (H : Ref.Holds A x0 x1 x2 x3) (hV : AtCall W x0 x1 x2 x3) (t : Fin cfg0.N) :
    (blocks m c t).Holds A (resid t) :=
  cut_hold H t _ (input_q m c hW hV t) (input_k m c hW hV t) (input_v m c hW hV t) (input_g m c hW hV t) (input_o m c hW hV t) (input_l m c hW hV t) (input_e m c hW hV t) (input_b m c hW hV t)

end Cert.Att.HostSide

end
-- ==== Proof.Att.Outputs.lean ====
/-
  What the grid leaves in its four result arrays: after point `r`, the three row blocks hold residue `r`'s gradients of
  its queries, keys and values, and the last block the sum of the first residues' gradients of the bias.
-/
module

public import proofs.«01_k».proof.Proof.Att.Inputs
public import proofs.«01_k».proof.Proof.Gen.KernelIdeal.Value
public import Idealize.ShloMosaic.Lib.Pipeline.ValueKit.Geometry

@[expose] public section

set_option maxRecDepth 16384

noncomputable section

namespace Cert.Att.HostSide

open Cert.KernelIdeal Cert.KernelIdeal.Gen Idealize.ShloMosaic Idealize.ShloMosaic.TcCoe Cert.Att.Body
open Idealize.ShloMosaic.Pipeline

variable (m : (ℓ : Loc nD τ sig) → Buf (Elt Ideal) ℓ) (c : Dev nD) {A : Args}

/-! ### One point -/

theorem dq_at {t : Fin cfg0.N} {r : Fin 16} (H : (blocks m c t).Holds A r) (i : Fin 128) (z : Fin 512) :
    (outsAt0 m c t.val t.isLt).1 (ix2 i z) = (A.dQ r (hOf z) i (dOf z) : EReal) := by
  by_cases h0 : t.val % 16 = 0
  · rw [outsAt0_A m c t h0]
    dsimp only
    unfold out0_A_13
    rw [View.read_writes_eq_canon _ _ _ (fun _ => cover0_A_13 ..), (runA m c t h0).1]
    exact pairs_apply _ (A.dQ r) (fun p i x => pairQ_apply H p i x) i z
  · rw [outsAt0_B m c t h0]
    dsimp only
    unfold out0_B_13
    rw [View.read_writes_eq_canon _ _ _ (fun _ => cover0_B_13 ..), (runB m c t h0 _).1]
    exact pairs_apply _ (A.dQ r) (fun p i x => pairQ_apply H p i x) i z

theorem dk_at {t : Fin cfg0.N} {r : Fin 16} (H : (blocks m c t).Holds A r) (i : Fin 128) (z : Fin 512) :
    (outsAt0 m c t.val t.isLt).2.1 (ix2 i z) = (A.dK r (hOf z) i (dOf z) : EReal) := by
  by_cases h0 : t.val % 16 = 0
  · rw [outsAt0_A m c t h0]
    dsimp only
    unfold out0_A_14
    rw [View.read_writes_eq_canon _ _ _ (fun _ => cover0_A_14 ..), (runA m c t h0).2.1]
    exact pairs_apply _ (A.dK r) (fun p i x => pairK_apply H p i x) i z
  · rw [outsAt0_B m c t h0]
    dsimp only
    unfold out0_B_14
    rw [View.read_writes_eq_canon _ _ _ (fun _ => cover0_B_14 ..), (runB m c t h0 _).2.1]
    exact pairs_apply _ (A.dK r) (fun p i x => pairK_apply H p i x) i z

theorem dv_at {t : Fin cfg0.N} {r : Fin 16} (H : (blocks m c t).Holds A r) (i : Fin 128) (z : Fin 512) :
    (outsAt0 m c t.val t.isLt).2.2.1 (ix2 i z) = (A.dV r (hOf z) i (dOf z) : EReal) := by
  by_cases h0 : t.val % 16 = 0
  · rw [outsAt0_A m c t h0]
    dsimp only
    unfold out0_A_15
    rw [View.read_writes_eq_canon _ _ _ (fun _ => cover0_A_15 ..), (runA m c t h0).2.2.1]
    exact pairs_apply _ (A.dV r) (fun p i x => pairV_apply H p i x) i z
  · rw [outsAt0_B m c t h0]
    dsimp only
    unfold out0_B_15
    rw [View.read_writes_eq_canon _ _ _ (fun _ => cover0_B_15 ..), (runB m c t h0 _).2.2.1]
    exact pairs_apply _ (A.dV r) (fun p i x => pairV_apply H p i x) i z

theorem dbias_first {t : Fin cfg0.N} (h0 : t.val % 16 = 0) {r : Fin 16} (H : (blocks m c t).Holds A r) (h : Fin 8) (i : Fin 128)
    (k : Fin 256) : (outsAt0 m c t.val t.isLt).2.2.2 (ix3 h i k) = (A.dS r h i k : EReal) := by
  rw [outsAt0_A m c t h0]
  dsimp only
  unfold out0_A_16
  rw [(runA m c t h0).2.2.2]
  exact bias_fill H _ _ h i k

theorem dbias_next {t : Fin cfg0.N} (h0 : ¬ t.val % 16 = 0) {r : Fin 16} (H : (blocks m c t).Holds A r) (h : Fin 8) (i : Fin 128)
    (k : Fin 256) : (outsAt0 m c t.val t.isLt).2.2.2 (ix3 h i k)
      = (outsAt0 m c (t.val - 1) (Nat.lt_of_le_of_lt (Nat.sub_le _ _) t.isLt)).2.2.2 (ix3 h i k) + (A.dS r h i k : EReal) := by
  rw [outsAt0_B m c t h0]
  dsimp only
  unfold out0_B_16
  rw [(runB m c t h0 _).2.2.2]
  exact bias_over H _ _ _ (Memref.IsWhole.read_unread _ _) h i k

/-! ### The bias' gradient, summed over the points -/

theorem upTo_zero (f : Fin 16 → ℝ) : f 0 = ∑ r : Fin 16 with r.val ≤ 0, f r := by
  rw [show (Finset.univ.filter fun r : Fin 16 => r.val ≤ 0) = {0} from by decide, Finset.sum_singleton]

theorem upTo_succ (f : Fin 16 → ℝ) (n : ℕ) (hn : n + 1 < 16) :
    ∑ r : Fin 16 with r.val ≤ n + 1, f r = (∑ r : Fin 16 with r.val ≤ n, f r) + f ⟨n + 1, hn⟩ := by
  rw [show (Finset.univ.filter fun r : Fin 16 => r.val ≤ n + 1)
      = insert (⟨n + 1, hn⟩ : Fin 16) (Finset.univ.filter fun r : Fin 16 => r.val ≤ n) from ?_,
    Finset.sum_insert (show (⟨n + 1, hn⟩ : Fin 16) ∉ (Finset.univ.filter fun r : Fin 16 => r.val ≤ n) from
      fun h => Nat.not_succ_le_self n (Finset.mem_filter.1 h).2), add_comm]
  ext r
  rw [Finset.mem_insert, Finset.mem_filter, Finset.mem_filter, Fin.ext_iff]
  show _ ∧ r.val ≤ n + 1 ↔ r.val = n + 1 ∨ _ ∧ r.val ≤ n
  exact ⟨fun ⟨_, h⟩ => (Nat.le_succ_iff.1 h).elim (fun h => .inr ⟨Finset.mem_univ _, h⟩) .inl,
    fun h => ⟨Finset.mem_univ _, h.elim (fun h => h.le) fun h => Nat.le_succ_of_le h.2⟩⟩

variable (HB : ∀ t, (blocks m c t).Holds A (resid t))
include HB

theorem dbias_at (h : Fin 8) (i : Fin 128) (k : Fin 256) : ∀ (n : ℕ) (hn : n < cfg0.N),
    (outsAt0 m c n hn).2.2.2 (ix3 h i k) = ((∑ r : Fin 16 with r.val ≤ n, A.dS r h i k : ℝ) : EReal)
  | 0, hn => by
    refine (dbias_first m c (t := ⟨0, hn⟩) rfl (HB _) h i k).trans (congrArg _ ?_)
    exact upTo_zero fun r => A.dS r h i k
  | n + 1, hn => by
    have hN : n + 1 < 16 := hn.trans_eq N_0
    refine (dbias_next m c (t := ⟨n + 1, hn⟩) (by show ¬ (n + 1) % 16 = 0; omega) (HB _) h i k).trans ?_
    show (outsAt0 m c n _).2.2.2 (ix3 h i k) + _ = _
    rw [dbias_at h i k n, ← EReal.coe_add]
    exact congrArg _ (upTo_succ (fun r => A.dS r h i k) n hN).symm

/-! ### The arrays -/

/-- A gradient's value at row `ρ`, column `z` of an array laid out residue class by residue class. -/
def laid (f : Fin 16 → Fin 8 → Fin 128 → Fin 64 → ℝ) (ρ : Fin 2048) (z : Fin 512) : EReal :=
  (f ⟨ρ.val / 128, by omega⟩ (hOf z) ⟨ρ.val % 128, by omega⟩ (dOf z) : EReal)

omit HB in
theorem laid_row (f : Fin 16 → Fin 8 → Fin 128 → Fin 64 → ℝ) (r : Fin 16) (i : Fin 128) (z : Fin 512) {ρ : Fin 2048} {y : Fin 512}
    (hρ : ρ.val = r.val * 128 + i.val) (hy : y.val = z.val) : laid f ρ y = (f r (hOf z) i (dOf z) : EReal) := by
  obtain rfl := Fin.ext hy
  unfold laid
  rw [show (⟨ρ.val / 128, by omega⟩ : Fin 16) = r from Fin.ext (by show ρ.val / 128 = _; omega),
    show (⟨ρ.val % 128, by omega⟩ : Fin 128) = i from Fin.ext (by show ρ.val % 128 = _; omega)]

omit HB in
theorem at13 : ∀ t : Fin cfg0.N, win0_13.index t 0 = t.val ∧ win0_13.index t 1 = 0 :=
  (by decide +kernel : ∀ t : Fin grid0.N, win0_13.index t 0 = t.val ∧ win0_13.index t 1 = 0)

theorem final_dq : (dats m 0 c).arrAt 13 cfg0.N = fun j : S2048x512.Idx => laid A.dQ (j 0) (j 1) := by
  refine (dats m 0 c).arrAt_eq_of_covers 13 _ (by decide +kernel) fun t _ y => ?_
  show (dats m 0 c).after 13 t _ = _
  rw [after0_13]
  have h0 : (y 0).val < 128 := (y 0).isLt
  have h1 : (y 1).val < 512 := (y 1).isLt
  refine Eq.trans (congrArg (outsAt0 m c t.val t.isLt).1 ?_) ((dq_at m c (HB t) ⟨(y 0).val, h0⟩ ⟨(y 1).val, h1⟩).trans
    (laid_row A.dQ (resid t) ⟨(y 0).val, h0⟩ ⟨(y 1).val, h1⟩ ?_ ?_).symm)
  · exact funext fun a => match a with
      | ⟨0, _⟩ => rfl
      | ⟨1, _⟩ => rfl
  · show win0_13.index t 0 * 128 + 1 * (y 0).val = t.val * 128 + (y 0).val
    rw [(at13 t).1]; omega
  · show win0_13.index t 1 * 512 + 1 * (y 1).val = (y 1).val
    rw [(at13 t).2]; omega

omit HB in
theorem at14 : ∀ t : Fin cfg0.N, win0_14.index t 0 = t.val ∧ win0_14.index t 1 = 0 :=
  (by decide +kernel : ∀ t : Fin grid0.N, win0_14.index t 0 = t.val ∧ win0_14.index t 1 = 0)

theorem final_dk : (dats m 0 c).arrAt 14 cfg0.N = fun j : S2048x512.Idx => laid A.dK (j 0) (j 1) := by
  refine (dats m 0 c).arrAt_eq_of_covers 14 _ (by decide +kernel) fun t _ y => ?_
  show (dats m 0 c).after 14 t _ = _
  rw [after0_14]
  have h0 : (y 0).val < 128 := (y 0).isLt
  have h1 : (y 1).val < 512 := (y 1).isLt
  refine Eq.trans (congrArg (outsAt0 m c t.val t.isLt).2.1 ?_) ((dk_at m c (HB t) ⟨(y 0).val, h0⟩ ⟨(y 1).val, h1⟩).trans
    (laid_row A.dK (resid t) ⟨(y 0).val, h0⟩ ⟨(y 1).val, h1⟩ ?_ ?_).symm)
  · exact funext fun a => match a with
      | ⟨0, _⟩ => rfl
      | ⟨1, _⟩ => rfl
  · show win0_14.index t 0 * 128 + 1 * (y 0).val = t.val * 128 + (y 0).val
    rw [(at14 t).1]; omega
  · show win0_14.index t 1 * 512 + 1 * (y 1).val = (y 1).val
    rw [(at14 t).2]; omega

omit HB in
theorem at15 : ∀ t : Fin cfg0.N, win0_15.index t 0 = t.val ∧ win0_15.index t 1 = 0 :=
  (by decide +kernel : ∀ t : Fin grid0.N, win0_15.index t 0 = t.val ∧ win0_15.index t 1 = 0)

theorem final_dv : (dats m 0 c).arrAt 15 cfg0.N = fun j : S2048x512.Idx => laid A.dV (j 0) (j 1) := by
  refine (dats m 0 c).arrAt_eq_of_covers 15 _ (by decide +kernel) fun t _ y => ?_
  show (dats m 0 c).after 15 t _ = _
  rw [after0_15]
  have h0 : (y 0).val < 128 := (y 0).isLt
  have h1 : (y 1).val < 512 := (y 1).isLt
  refine Eq.trans (congrArg (outsAt0 m c t.val t.isLt).2.2.1 ?_) ((dv_at m c (HB t) ⟨(y 0).val, h0⟩ ⟨(y 1).val, h1⟩).trans
    (laid_row A.dV (resid t) ⟨(y 0).val, h0⟩ ⟨(y 1).val, h1⟩ ?_ ?_).symm)
  · exact funext fun a => match a with
      | ⟨0, _⟩ => rfl
      | ⟨1, _⟩ => rfl
  · show win0_15.index t 0 * 128 + 1 * (y 0).val = t.val * 128 + (y 0).val
    rw [(at15 t).1]; omega
  · show win0_15.index t 1 * 512 + 1 * (y 1).val = (y 1).val
    rw [(at15 t).2]; omega

/-- The last grid point. -/
def lastPt : Fin cfg0.N := ⟨15, (by decide : 15 < 16).trans_eq N_0.symm⟩

theorem final_dbias : (dats m 0 c).arrAt 16 cfg0.N = fun j : S8x128x256.Idx => (A.dB (j 0) (j 1) (j 2) : EReal) := by
  refine (dats m 0 c).arrAt_eq_of_after_last 16 lastPt (by decide +kernel) _ fun j => ?_
  show (dats m 0 c).after 16 lastPt _ = _
  rw [after0_16]
  refine Eq.trans (congrArg (outsAt0 m c lastPt.val lastPt.isLt).2.2.2 ?_) ((dbias_at m c HB (j 0) (j 1) (j 2) 15 lastPt.isLt).trans
    (congrArg _ (Finset.sum_congr (Finset.filter_true_of_mem fun r _ => by omega) fun _ _ => rfl)))
  exact funext fun a => match a with
    | ⟨0, _⟩ => rfl
    | ⟨1, _⟩ => rfl
    | ⟨2, _⟩ => rfl

end Cert.Att.HostSide

end
-- ==== Proof.Att.RefGrad.lean ====
/-
  The reference program's backward lines read at the real arguments, up to the four gradients it returns.
-/
module

public import proofs.«01_k».proof.Proof.Att.RefValue

@[expose] public section

set_option maxRecDepth 16384

noncomputable section

namespace Cert.Att.Ref

open Cert.ReferenceIdeal Cert.ReferenceIdeal.Gen Cert.ReferenceIdeal.Read Idealize.ShloMosaic

variable {A : Args} {x0 : S2048x1536.Idx → EReal} {x1 : S8x128x256.Idx → EReal} {x2 : S2048x512.Idx → EReal}
  {x3 : S8x2048x128.Idx → EReal} (H : Holds A x0 x1 x2 x3)

include H

/-! ### The gradients given -/

theorem v108 (i : S1x16x1x128x8x64.Idx) : val_main_v108 (F := Ideal) x2 i = (A.dO (i 1) (i 4) (i 3) (i 5) : EReal) := by
  unfold val_main_v108
  rw [cast_B6, val_main_v107_apply, val_main_v106_apply, val_main_v102_apply, H.o]
  have h1 : (i 1).val < 16 := (i 1).isLt
  have h3 : (i 3).val < 128 := (i 3).isLt
  have h4 : (i 4).val < 8 := (i 4).isLt
  have h5 : (i 5).val < 64 := (i 5).isLt
  unfold Args.dO
  congr 2
  · exact Fin.ext (by simp [tok, ix5]; omega)
  · exact Fin.ext (by simp [feat, ix5]; omega)

theorem v112 (i : S1x16x1x8x64x128.Idx) : val_main_v112 (F := Ideal) x2 i = (A.dO (i 1) (i 3) (i 5) (i 4) : EReal) := by
  rw [val_main_v112_apply, v108 H]; rfl

theorem v97 (i : S8x2048.Idx) : val_main_v97 (F := Ideal) x3 i = ((∑ j, A.l (i 0) (i 1) j : ℝ) : EReal) := by
  rw [val_main_v97_apply, val_main_cst_16_apply, f32_zero, zero_add,
    sum_eq_coe _ _ (fun j => A.l (i 0) (i 1) j) fun j _ => H.l _]

theorem v99 (i : S8x2048.Idx) : val_main_v99 (F := Ideal) x3 i = ((∑ j, A.l (i 0) (i 1) j : ℝ) : EReal) := by
  rw [val_main_v99_apply, val_main_cst_17_apply, f32_zero, zero_add, Fin.sum_univ_one, val_main_v98_apply, v97 H]; rfl

omit H in
/-- A row's sum, by the head's and the token's numbers. -/
theorem rowSum {h h' : Fin 8} {t t' : Fin 2048} (eh : h.val = h'.val) (et : t.val = t'.val) :
    ((∑ j, A.l h t j : ℝ) : EReal) = ((∑ j, A.l h' t' j : ℝ) : EReal) := by
  obtain rfl := Fin.ext eh; obtain rfl := Fin.ext et; rfl

theorem v103 (i : S1x128x16x8.Idx) :
    val_main_v103 (F := Ideal) x3 i = ((∑ j, A.l (i 3) (tok (i 2) (i 1)) j : ℝ) : EReal) := by
  rw [val_main_v103_apply, val_main_v101_apply, val_main_v100_apply, v99 H]
  have h0 : (i 0).val < 1 := (i 0).isLt
  have h1 : (i 1).val < 128 := (i 1).isLt
  have h2 : (i 2).val < 16 := (i 2).isLt
  have h3 : (i 3).val < 8 := (i 3).isLt
  refine rowSum ?_ ?_
  · show ((((i 0).val * 128 + (i 1).val) * 16 + (i 2).val) * 8 + (i 3).val) % 8 = (i 3).val; omega
  · show ((((i 0).val * 128 + (i 1).val) * 16 + (i 2).val) * 8 + (i 3).val) / 8 % 2048 = (i 1).val * 16 + (i 2).val; omega

theorem v105 (i : S1x16x1x128x8.Idx) :
    val_main_v105 (F := Ideal) x3 i = ((∑ j, A.l (i 4) (tok (i 1) (i 3)) j : ℝ) : EReal) := by
  rw [val_main_v105_apply, val_main_v104_apply, v103 H]
  have h0 : (i 0).val < 1 := (i 0).isLt
  have h1 : (i 1).val < 16 := (i 1).isLt
  have h2 : (i 2).val < 1 := (i 2).isLt
  have h3 : (i 3).val < 128 := (i 3).isLt
  have h4 : (i 4).val < 8 := (i 4).isLt
  refine rowSum ?_ ?_
  · show (((((i 0).val * 16 + (i 1).val) * 1 + (i 2).val) * 128 + (i 3).val) * 8 + (i 4).val) % 8 = (i 4).val; omega
  · have e1 : (((((i 0).val * 16 + (i 1).val) * 1 + (i 2).val) * 128 + (i 3).val) * 8 + (i 4).val) / 1024 % 16 = (i 1).val := by omega
    have e2 : (((((i 0).val * 16 + (i 1).val) * 1 + (i 2).val) * 128 + (i 3).val) * 8 + (i 4).val) / 8 % 128 = (i 3).val := by omega
    exact congrArg₂ (fun a b => b * 16 + a) e1 e2

theorem v110 (i : S1x16x1x8x128x1.Idx) : val_main_v110 (F := Ideal) x3 i = (A.dL (i 1) (i 3) (i 4) : EReal) := by
  rw [val_main_v110_apply, val_main_v109_apply, v105 H]
  have h0 : (i 0).val < 1 := (i 0).isLt
  have h1 : (i 1).val < 16 := (i 1).isLt
  have h2 : (i 2).val < 1 := (i 2).isLt
  have h3 : (i 3).val < 8 := (i 3).isLt
  have h4 : (i 4).val < 128 := (i 4).isLt
  refine rowSum ?_ ?_ <;> simp [tok]

/-! ### The scores' gradient -/

theorem v113 (i : S1x16x1x8x128x256.Idx) : val_main_v113 (F := Ideal) x0 x2 i = (A.dP (i 1) (i 3) (i 4) (i 5) : EReal) := by
  rw [val_main_v113_apply,
    sum_eq_coe _ _ (fun d => A.dO (i 1) (i 3) (i 4) d * A.V (i 1) (i 3) (i 5) d) fun d _ => by
      rw [v112 H, v41 H, ← EReal.coe_mul]; rfl]
  rfl

/-- The shift of a row's exponentials' gradient. -/
def Sh (A : Args) (r : Fin 16) (h : Fin 8) (q : Fin 128) : ℝ :=
  shift (sees q) (A.score r h q) (seen_nonempty q) (A.dP r h q) (A.dL r h q)

theorem v119 (i : S1x16x1x8x128.Idx) : val_main_v119 (F := Ideal) x0 x1 x2 i
    = ((∑ k, A.dP (i 1) (i 3) (i 4) k * (1 / (A.D (i 1) (i 3) (i 4) * A.D (i 1) (i 3) (i 4))) * A.E (i 1) (i 3) (i 4) k : ℝ) : EReal) := by
  rw [val_main_v119_apply, val_main_cst_18_apply, f32_zero, zero_add,
    sum_eq_coe _ _ (fun k => A.dP (i 1) (i 3) (i 4) k * (1 / (A.D (i 1) (i 3) (i 4) * A.D (i 1) (i 3) (i 4))) * A.E (i 1) (i 3) (i 4) k)
      fun k _ => by
        rw [val_main_v118_apply, val_main_v117_apply, v113 H, val_main_v116_apply, v79 H, v72 H, EReal.coe_mul, EReal.coe_mul]
        rfl]

theorem v122 (i : S1x16x1x8x128x1.Idx) : val_main_v122 (F := Ideal) x0 x1 x2 x3 i = (Sh A (i 1) (i 3) (i 4) : EReal) := by
  rw [val_main_v122_apply, val_main_v111_apply, v110 H, v74 H, val_main_v121_apply]
  unfold val_main_v120
  rw [cast_R6, v119 H]
  unfold Sh shift
  rw [EReal.coe_add, EReal.coe_neg]
  exact congrArg₂ (· + ·) (div_coe_coe _ (A.D_ne _ _ _)) rfl

omit H in
/-- A sum over the three axes of one entry each. -/
theorem sum_unit (x : S1x16x1x8x128x1.Idx → EReal) (init : S_.Idx → EReal) (h0 : init (Shape.Idx.first h_S_) = 0) (j : S16x8x128.Idx) :
    Host.reduceAdd (F := Ideal) (φ := .f32) x init reducesTo_S1x16x1x8x128x1_S16x8x128_d0_2_5 h_S_ j
      = x (ix6 (n0 := 1) (n1 := 16) (n2 := 1) (n3 := 8) (n4 := 128) (n5 := 1) 0 (j 0) 0 (j 1) (j 2) 0) := by
  refine reduceAdd_unit _ _ _ _ _ _ h0 ?_ fun i' e => ?_
  · funext b
    match b with
    | ⟨0, _⟩ => exact Fin.ext (Shape.ReducesTo.drop_apply_val _ _ _)
    | ⟨1, _⟩ => exact Fin.ext (Shape.ReducesTo.drop_apply_val _ _ _)
    | ⟨2, _⟩ => exact Fin.ext (Shape.ReducesTo.drop_apply_val _ _ _)
  · subst e
    have h0 : (i' 0).val < 1 := (i' 0).isLt
    have h2 : (i' 2).val < 1 := (i' 2).isLt
    have h5 : (i' 5).val < 1 := (i' 5).isLt
    funext a
    match a with
    | ⟨0, _⟩ => exact Fin.ext (by show (i' 0).val = 0; omega)
    | ⟨1, _⟩ => exact Fin.ext (Shape.ReducesTo.drop_apply_val reducesTo_S1x16x1x8x128x1_S16x8x128_d0_2_5 i' 0).symm
    | ⟨2, _⟩ => exact Fin.ext (by show (i' 2).val = 0; omega)
    | ⟨3, _⟩ => exact Fin.ext (Shape.ReducesTo.drop_apply_val reducesTo_S1x16x1x8x128x1_S16x8x128_d0_2_5 i' 1).symm
    | ⟨4, _⟩ => exact Fin.ext (Shape.ReducesTo.drop_apply_val reducesTo_S1x16x1x8x128x1_S16x8x128_d0_2_5 i' 2).symm
    | ⟨5, _⟩ => exact Fin.ext (by show (i' 5).val = 0; omega)

omit H in
theorem ds_line (A : Args) (r : Fin 16) (h : Fin 8) (q : Fin 128) (k : Fin 256) :
    FloatOps.mulf (F := Ideal) (φ := .f32) (FloatOps.addf (F := Ideal) (φ := .f32)
      (FloatOps.hostDivf (F := Ideal) (φ := .f32) (A.dP r h q k : EReal) (A.D r h q : EReal)) (Sh A r h q : EReal)) (A.E r h q k : EReal)
      = (A.dS r h q k : EReal) := by
  unfold Args.dS
  rw [← grad_ex, EReal.coe_mul, EReal.coe_add]
  exact congrArg₂ (· * ·) (congrArg₂ (· + ·) (div_coe_coe _ (A.D_ne _ _ _)) rfl) rfl

theorem v129 (i : S1x16x1x8x128x256.Idx) : val_main_v129 (F := Ideal) x0 x1 x2 x3 i = (A.dS (i 1) (i 3) (i 4) (i 5) : EReal) := by
  rw [val_main_v129_apply, val_main_v128_apply, val_main_v124_apply, v113 H, val_main_v123_apply, v74 H, val_main_v127_apply,
    val_main_v126_apply]
  unfold val_main_v125
  rw [sum_unit _ _ (by rw [val_main_cst_19_apply, f32_zero]), v122 H, v72 H]
  exact ds_line A _ _ _ _

theorem v135 (i : S1x16x1x8x128.Idx) : val_main_v135 (F := Ideal) x0 x1 x2 x3 i = 0 := by
  rw [val_main_v135_apply]
  unfold val_main_v134
  rw [sum_unit _ _ (by rw [val_main_cst_21_apply, f32_zero]), val_main_v133_apply, v110 H]
  unfold val_main_v132
  rw [cast_R6, val_main_v131_apply, val_main_cst_20_apply, f32_zero, zero_add,
    sum_eq_coe _ _ (fun k => -A.dS (i 1) (i 3) (i 4) k) fun k _ => by
      rw [val_main_v130_apply, v129 H, EReal.coe_neg]; rfl]
  have e := grad_top (sees (fin 128 (i 4))) (A.score (i 1) (i 3) (fin 128 (i 4))) (seen_nonempty (fin 128 (i 4))) (A.dP (i 1) (i 3) (i 4)) (A.dL (i 1) (i 3) (i 4))
  simp only [grad_ex] at e
  exact (EReal.coe_add _ _).symm.trans (congrArg ((↑) : ℝ → EReal) e)

/-- Whether a score is the greatest, as a number. -/
theorem v67 (i : S1x16x1x8x128x256.Idx) : ∃ n : ℕ, val_main_v67 (F := Ideal) x0 x1 i = ((n : ℝ) : EReal) ∧
    (A.M (i 1) (i 3) (i 4) = A.score (i 1) (i 3) (fin 128 (i 4)) (fin 256 (i 5)) → sees (fin 128 (i 4)) (fin 256 (i 5)) → n = 1) := by
  refine ⟨_, by rw [val_main_v67_apply]; rfl, fun e hs => ?_⟩
  rw [val_main_v66_apply, v62_0 H, val_main_v65_apply]
  unfold val_main_v64
  rw [cast_R6, v63 H]
  show ((Ideal.cmp .oeq (masked (sees (fin 128 (i 4))) (A.score (i 1) (i 3) (fin 128 (i 4))) (fin 256 (i 5))) (A.M (i 1) (i 3) (i 4) : EReal)) : BitVec 1).toNat = 1
  unfold masked
  rw [if_pos hs, e]
  simp [Ideal.cmp]

theorem v68 (i : S1x16x1x8x128.Idx) : ∃ c : ℝ, c ≠ 0 ∧ val_main_v68 (F := Ideal) x0 x1 i = (c : EReal) := by
  choose n hn hm using fun k => v67 H (A := A) (idx_main_v68 i k)
  refine ⟨∑ k, (n k : ℝ), ?_, ?_⟩
  · obtain ⟨k, hk, e⟩ := Finset.exists_mem_eq_sup' (seen_nonempty (fin 128 (i 4))) (A.score (i 1) (i 3) (fin 128 (i 4)))
    have h1 : n k = 1 := hm k e (Finset.mem_filter.1 hk).2
    have h2 : (1 : ℝ) ≤ ∑ k, (n k : ℝ) := by
      have := Finset.single_le_sum (f := fun k => (n k : ℝ)) (fun k _ => Nat.cast_nonneg _) (Finset.mem_univ k)
      rwa [h1, Nat.cast_one] at this
    linarith
  · rw [val_main_v68_apply, val_main_cst_13_apply, f32_zero, zero_add]
    exact sum_eq_coe _ _ _ fun k _ => hn k

theorem v138 (i : S1x16x1x8x128x256.Idx) : val_main_v138 (F := Ideal) x0 x1 x2 x3 i = 0 := by
  obtain ⟨c, hc, e⟩ := v68 H (idx_main_v137 i)
  rw [val_main_v138_apply, val_main_v137_apply, val_main_v136_apply, v135 H, e]
  have : (FloatOps.hostDivf (0 : Ideal .f32) (c : EReal)) = (0 : EReal) := by
    have := div_coe_coe 0 hc
    rwa [zero_div] at this
  rw [this]
  exact zero_mul _

theorem v140 (i : S1x16x1x8x128x256.Idx) : val_main_v140 (F := Ideal) x0 x1 x2 x3 i = (A.dS (i 1) (i 3) (i 4) (i 5) : EReal) := by
  rw [val_main_v140_apply, v62_1, val_main_v139_apply, v129 H, v138 H, val_main_call4_v0_apply, val_main_call4_cst_apply, f32_zero]
  split_ifs with h
  · exact add_zero _
  · have z : A.dS (i 1) (i 3) (i 4) (i 5) = 0 := A.dS_not _ _ _ _ h
    exact EReal.coe_zero.symm.trans (congrArg ((↑) : ℝ → EReal) z.symm)

/-! ### The bias -/

theorem v143 (i : S8x128x256.Idx) : val_main_v143 (F := Ideal) x0 x1 x2 x3 i = (A.dB (i 0) (i 1) (i 2) : EReal) := by
  unfold val_main_v143
  rw [reduceAdd_unit _ _ _ _ i (ix6 (n0 := 1) (n1 := 1) (n2 := 1) (n3 := 8) (n4 := 128) (n5 := 256) 0 0 0 (i 0) (i 1) (i 2))
    (by rw [val_main_cst_23_apply, f32_zero]) ?_ fun i' e => ?_]
  · unfold val_main_v142
    rw [cast_W6, val_main_v141_apply, val_main_cst_22_apply, f32_zero, zero_add,
      sum_eq_coe _ _ (fun r => A.dS r (i 0) (i 1) (i 2)) fun r _ => by rw [v140 H]; rfl]
    rfl
  · funext b
    match b with
    | ⟨0, _⟩ => exact Fin.ext (Shape.ReducesTo.drop_apply_val _ _ _)
    | ⟨1, _⟩ => exact Fin.ext (Shape.ReducesTo.drop_apply_val _ _ _)
    | ⟨2, _⟩ => exact Fin.ext (Shape.ReducesTo.drop_apply_val _ _ _)
  · subst e
    have h0 : (i' 0).val < 1 := (i' 0).isLt
    have h1 : (i' 1).val < 1 := (i' 1).isLt
    have h2 : (i' 2).val < 1 := (i' 2).isLt
    funext a
    match a with
    | ⟨0, _⟩ => exact Fin.ext (by show (i' 0).val = 0; omega)
    | ⟨1, _⟩ => exact Fin.ext (by show (i' 1).val = 0; omega)
    | ⟨2, _⟩ => exact Fin.ext (by show (i' 2).val = 0; omega)
    | ⟨3, _⟩ => exact Fin.ext (Shape.ReducesTo.drop_apply_val reducesTo_S1x1x1x8x128x256_S8x128x256_d0_1_2 i' 0).symm
    | ⟨4, _⟩ => exact Fin.ext (Shape.ReducesTo.drop_apply_val reducesTo_S1x1x1x8x128x256_S8x128x256_d0_1_2 i' 1).symm
    | ⟨5, _⟩ => exact Fin.ext (Shape.ReducesTo.drop_apply_val reducesTo_S1x1x1x8x128x256_S8x128x256_d0_1_2 i' 2).symm

/-! ### The queries, the keys and the values -/

theorem v145 (i : S1x16x1x8x128x256.Idx) :
    val_main_v145 (F := Ideal) x0 x1 x2 x3 i = ((A.dS (i 1) (i 3) (i 4) (i 5) * (1 / 8) : ℝ) : EReal) := by
  rw [val_main_v145_apply, v140 H, val_main_v144_apply, val_main_cst_24_apply, eighth, EReal.coe_mul]
  rfl

theorem v170 (i : S1x16x128x8x64.Idx) : val_main_v170 (F := Ideal) x0 x1 x2 x3 i = (A.dQ (i 1) (i 3) (i 2) (i 4) : EReal) := by
  unfold val_main_v170
  rw [cast_B5, val_main_v149_apply, val_main_v148_apply,
    sum_eq_coe _ _ (fun k => A.dS (i 1) (i 3) (i 2) k * (1 / 8) * A.K (i 1) (i 3) k (i 4)) fun k _ => by
      rw [v145 H, v32 H, ← EReal.coe_mul]; rfl]
  rfl

theorem v166 (i : S1x16x128x8x64.Idx) : val_main_v166 (F := Ideal) x0 x1 x2 x3 i = (A.dK (i 1) (i 3) (i 2) (i 4) : EReal) := by
  unfold val_main_v166
  rw [cast_B5, val_main_v165_apply]
  unfold val_main_v164
  rw [pad_apply_of_not_inside _ _ _ _ _ _ _ _ 2 fun h => Nat.not_lt_zero _ h.2.2, val_main_cst_26_apply, f32_zero, val_main_v161_apply,
    val_main_v147_apply, val_main_v146_apply,
    sum_eq_coe _ _ (fun q => A.dS (i 1) (i 3) q (own (i 2)) * (1 / 8) * A.Q (i 1) (i 3) q (i 4)) fun q _ => by
      rw [v145 H, v23 H, ← EReal.coe_mul]; rfl]
  exact add_zero _

theorem v156 (i : S1x16x128x8x64.Idx) : val_main_v156 (F := Ideal) x0 x1 x2 i = (A.dV (i 1) (i 3) (i 2) (i 4) : EReal) := by
  unfold val_main_v156
  rw [cast_B5, val_main_v155_apply]
  unfold val_main_v154
  rw [pad_apply_of_not_inside _ _ _ _ _ _ _ _ 2 fun h => Nat.not_lt_zero _ h.2.2, val_main_cst_25_apply, f32_zero, val_main_v151_apply,
    val_main_v115_apply, val_main_v114_apply,
    sum_eq_coe _ _ (fun q => A.dO (i 1) (i 3) q (i 4) * A.P (i 1) (i 3) q (own (i 2))) fun q _ => by
      rw [v112 H, v76 H, ← EReal.coe_mul]; rfl]
  exact add_zero _

/-! ### As returned: row `r * 128 + q` is position `q` of residue `r` -/

def rowR (i : Fin 2048) : Fin 16 := ⟨i.val / 128, by omega⟩
def rowQ (i : Fin 2048) : Fin 128 := ⟨i.val % 128, by omega⟩
def colH (j : Fin 512) : Fin 8 := ⟨j.val / 64, by omega⟩
def colD (j : Fin 512) : Fin 64 := ⟨j.val % 64, by omega⟩

omit H in
theorem v182_eq : val_main_v182 (F := Ideal) x0 x1 x2 x3
    = outBlocks (val_main_v170 (F := Ideal) x0 x1 x2 x3) (val_main_call7_cst (F := Ideal)) (val_main_call8_v0 (F := Ideal)) := rfl
omit H in
theorem v188_eq : val_main_v188 (F := Ideal) x0 x1 x2 x3
    = outBlocks (val_main_v166 (F := Ideal) x0 x1 x2 x3) (val_main_call6_cst (F := Ideal)) (val_main_call9_v0 (F := Ideal)) := rfl
omit H in
theorem v194_eq : val_main_v194 (F := Ideal) x0 x1 x2
    = outBlocks (val_main_v156 (F := Ideal) x0 x1 x2) (val_main_call5_cst (F := Ideal)) (val_main_call10_v0 (F := Ideal)) := rfl

theorem v182 (i : S2048x512.Idx) : val_main_v182 (F := Ideal) x0 x1 x2 x3 i
    = (A.dQ (rowR (i 0)) (colH (i 1)) (rowQ (i 0)) (colD (i 1)) : EReal) := by
  rw [v182_eq, outBlocks_apply, v170 H]; rfl
theorem v188 (i : S2048x512.Idx) : val_main_v188 (F := Ideal) x0 x1 x2 x3 i
    = (A.dK (rowR (i 0)) (colH (i 1)) (rowQ (i 0)) (colD (i 1)) : EReal) := by
  rw [v188_eq, outBlocks_apply, v166 H]; rfl
theorem v194 (i : S2048x512.Idx) : val_main_v194 (F := Ideal) x0 x1 x2 i
    = (A.dV (rowR (i 0)) (colH (i 1)) (rowQ (i 0)) (colD (i 1)) : EReal) := by
  rw [v194_eq, outBlocks_apply, v156 H]; rfl

end Cert.Att.Ref

end
-- ==== Proof.Att.Agree.lean ====
/-
  The two programs side by side: what the kernel program's run leaves in its four results, and what the reference's run
  leaves in its four, in terms of the reference's lines over the arguments.
-/
module

public import proofs.«01_k».proof.Proof.Att.Outputs
public import proofs.«01_k».proof.Proof.Att.RefGrad
public import proofs.«01_k».proof.Proof.Gen.ReferenceIdeal.Run

@[expose] public section

set_option maxRecDepth 16384

noncomputable section

namespace Cert.Att

open Idealize.ShloMosaic Idealize.ShloMosaic.TcCoe Idealize.ShloMosaic.StableHlo Idealize.SL.Sem
open Cert.ReferenceIdeal.Read

/-! ### The kernel program -/

section Kernel

open Cert.KernelIdeal Cert.KernelIdeal.Gen Cert.Att.HostSide Cert.Att.Body

variable (m : (ℓ : Loc nD τ sig) → Buf (Elt Ideal) ℓ) (c : Dev nD) {A : Args}
  {x0 : (⟨S2048x1536, .f32⟩ : BufTy).Contents (Elt Ideal)} {x1 : (⟨S8x128x256, .f32⟩ : BufTy).Contents (Elt Ideal)}
  {x2 : (⟨S2048x512, .f32⟩ : BufTy).Contents (Elt Ideal)} {x3 : (⟨S8x2048x128, .f32⟩ : BufTy).Contents (Elt Ideal)}

/-- Every grid point reads the blocks of the real arguments. -/
theorem every_block (H : Ref.Holds A x0 x1 x2 x3) (hs : Start (fun b => m (c, b)) x0 x1 x2 x3) (t : Fin cfg0.N) :
    (blocks m c t).Holds A (resid t) :=
  blocks_hold m c (W := after (List.flatten [hostOps0, hostOps0_1, hostOps0_2, hostOps0_3, hostOps0_4, hostOps0_5,
    hostOps0_6, hostOps0_7, hostOps0_8]) fun b => m (c, b)) rfl H (atCall hs) t

theorem kernel_dq (H : Ref.Holds A x0 x1 x2 x3) (hs : Start (fun b => m (c, b)) x0 x1 x2 x3) :
    (dats m 0 c).arrAt 13 cfg0.N = val_main_v182 (F := Ideal) x0 x1 x2 x3 :=
  (final_dq m c (every_block m c H hs)).trans (funext fun j => (Ref.v182 H j).symm)

theorem kernel_dk (H : Ref.Holds A x0 x1 x2 x3) (hs : Start (fun b => m (c, b)) x0 x1 x2 x3) :
    (dats m 0 c).arrAt 14 cfg0.N = val_main_v188 (F := Ideal) x0 x1 x2 x3 :=
  (final_dk m c (every_block m c H hs)).trans (funext fun j => (Ref.v188 H j).symm)

theorem kernel_dv (H : Ref.Holds A x0 x1 x2 x3) (hs : Start (fun b => m (c, b)) x0 x1 x2 x3) :
    (dats m 0 c).arrAt 15 cfg0.N = val_main_v194 (F := Ideal) x0 x1 x2 :=
  (final_dv m c (every_block m c H hs)).trans (funext fun j => (Ref.v194 H j).symm)

theorem kernel_dbias (H : Ref.Holds A x0 x1 x2 x3) (hs : Start (fun b => m (c, b)) x0 x1 x2 x3) :
    (dats m 0 c).arrAt 16 cfg0.N = val_main_v143 (F := Ideal) x0 x1 x2 x3 :=
  (final_dbias m c (every_block m c H hs)).trans (funext fun j => (Ref.v143 H j).symm)

end Kernel

/-! ### The reference -/

section Reference

open Cert.ReferenceIdeal

variable (m : (ℓ : Loc nD τ sig) → Buf (Elt Ideal) ℓ) (g : Dev nD → PrngReg)

/-- The reference's run: its four results are its lines over the arguments, which end unchanged. -/
theorem reference_run : θ_run (defs (F := Ideal)) (onTc (τ := τ) (main (F := Ideal))) ⟨m, fun _ => 0, g⟩ fun r => ∀ c : Dev nD,
      r.2.mem ((c.tc : Thread nD τ).loc main_v182) = val_main_v182 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v188) = val_main_v188 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v194) = val_main_v194 (F := Ideal) (m ((c.tc : Thread nD τ).loc main_arg0))
        (m ((c.tc : Thread nD τ).loc main_arg1)) (m ((c.tc : Thread nD τ).loc main_arg2))
      ∧ r.2.mem ((c.tc : Thread nD τ).loc main_v143) = val_main_v143 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v182_eq (launchContents m c)),
      (h c).2.1.trans (val_main_v188_eq (launchContents m c)), (h c).2.2.1.trans (val_main_v194_eq (launchContents m c)),
      (h c).2.2.2.1.trans (val_main_v143_eq (launchContents m c)), (h c).2.2.2.2⟩)
    (Cert.ReferenceIdeal.Value.run (F := Ideal) m g)

/-- The reference runs, its arguments end unchanged, and every counter ends at zero. -/
theorem reference_quiet : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2.2, Idealize.ShloMosaic.sem_eq_zero_of_no_sems (by decide) r.2⟩)
    (reference_run m g)

end Reference

end Cert.Att

end
-- ==== Proof.Att.Finite.lean ====
/-
  What the precondition gives: when every argument is finite, the arguments are real numbers.
-/
module

public import proofs.«01_k».proof.Pre_finite
public import proofs.«01_k».proof.Proof.Att.RefValue
public import Idealize.ShloMosaic.Lib.ReduceAll

@[expose] public section

set_option maxRecDepth 16384

noncomputable section

namespace Cert.Att.Finite

open Idealize.ShloMosaic

instance facts : Cert.Pre_finite.Facts where
  bcast_S_S2048x1536 := by decide
  reducesTo_S2048x1536_S_d0_1 := by decide
  h_S_ := by decide
  bcast_S_S8x128x256 := by decide
  reducesTo_S8x128x256_S_d0_1_2 := by decide
  bcast_S_S2048x512 := by decide
  reducesTo_S2048x512_S_d0_1 := by decide
  bcast_S_S8x2048x128 := by decide
  reducesTo_S8x2048x128_S_d0_1_2 := by decide

/-- The bound of the comparison is the greatest extended real. -/
theorem bound : (FloatOps.ofBits .f32 0x7F800000#32 : Ideal .f32) = (⊤ : EReal) := by
  show Ideal.ieee 8 23 (0x7F800000#32) = _
  unfold Ideal.ieee
  simp

/-- An extended real below the bound in absolute value is a real number. -/
theorem real_of_lt {x : EReal} (h : max x (-x) < ⊤) : x = ((x.toReal : ℝ) : EReal) := by
  refine (EReal.coe_toReal ?_ ?_).symm
  · rintro rfl; simp at h
  · rintro rfl; simp at h

/-- An array the test accepts is an array of real numbers. -/
theorem real_of_test {S : Shape} {T : Shape} [Subsingleton T.Idx] {axes : List (Fin S.rank)} (x : S.Idx → EReal) (y : S.Idx → EReal)
    (hy : ∀ i, y i = ⊤)
    (init : T.Idx → BitVec 1) (h : S.ReducesTo axes T) (hu : 0 < T.numel) (j : T.Idx)
    (e : Host.reduce IntOp.andi (cmpf (F := Ideal) (φ := .f32) .olt (Host.absf (F := Ideal) (φ := .f32) x) y) init h hu j = 1#1) (i : S.Idx) :
    x i = (((x i).toReal : ℝ) : EReal) := by
  have hi : BitVec.ofBool (decide (max (x i) (-(x i)) < y i)) = 1#1 := Host.reduce_andi_all _ init h hu j e i
  refine real_of_lt ?_
  by_contra hn
  rw [hy i, decide_eq_false hn] at hi
  exact absurd hi (by decide)

/-- Two tests are both passed when their conjunction is. -/
theorem both {a b : BitVec 1} (h : IntOp.andi a b = 1#1) : a = 1#1 ∧ b = 1#1 := IntOp.andi_eq_one.1 h

/-- The arguments as real numbers. -/
def args (x0 : Cert.ReferenceIdeal.S2048x1536.Idx → EReal) (x1 : Cert.ReferenceIdeal.S8x128x256.Idx → EReal)
    (x2 : Cert.ReferenceIdeal.S2048x512.Idx → EReal) (x3 : Cert.ReferenceIdeal.S8x2048x128.Idx → EReal) : Args where
  p t z := (x0 (ix2 t z)).toReal
  b h i k := (x1 (ix3 h i k)).toReal
  o t z := (x2 (ix2 t z)).toReal
  l h t j := (x3 (ix3 h t j)).toReal

/-- Arguments that pass the test are real numbers. -/
theorem holds_of_test (x0 : Cert.ReferenceIdeal.S2048x1536.Idx → EReal) (x1 : Cert.ReferenceIdeal.S8x128x256.Idx → EReal)
    (x2 : Cert.ReferenceIdeal.S2048x512.Idx → EReal) (x3 : Cert.ReferenceIdeal.S8x2048x128.Idx → EReal)
    (h : Cert.Pre_finite.fn (F := Ideal) x0 x1 x2 x3 = fun _ => 1#1) : Ref.Holds (args x0 x1 x2 x3) x0 x1 x2 x3 := by
  have h := congrFun h default
  obtain ⟨h, h3⟩ := both h
  obtain ⟨h, h2⟩ := both h
  obtain ⟨h0, h1⟩ := both h
  exact
    { p := fun i => (real_of_test x0 _ (fun _ => bound) _ _ _ _ h0 i).trans
        (congrArg (fun j => (((x0 j).toReal : ℝ) : EReal)) (funext fun a => match a with | ⟨0, _⟩ => rfl | ⟨1, _⟩ => rfl))
      b := fun i => (real_of_test x1 _ (fun _ => bound) _ _ _ _ h1 i).trans
        (congrArg (fun j => (((x1 j).toReal : ℝ) : EReal)) (funext fun a => match a with | ⟨0, _⟩ => rfl | ⟨1, _⟩ => rfl | ⟨2, _⟩ => rfl))
      o := fun i => (real_of_test x2 _ (fun _ => bound) _ _ _ _ h2 i).trans
        (congrArg (fun j => (((x2 j).toReal : ℝ) : EReal)) (funext fun a => match a with | ⟨0, _⟩ => rfl | ⟨1, _⟩ => rfl))
      l := fun i => (real_of_test x3 _ (fun _ => bound) _ _ _ _ h3 i).trans
        (congrArg (fun j => (((x3 j).toReal : ℝ) : EReal)) (funext fun a => match a with | ⟨0, _⟩ => rfl | ⟨1, _⟩ => rfl | ⟨2, _⟩ => rfl)) }

end Cert.Att.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GateGrad
public import proofs.«01_k».proof.Proof.Gen.GateGrad.Skeleton
public import proofs.«01_k».proof.Proof.Gen.GateGrad.Launch
public import proofs.«01_k».proof.Proof.Gen.GateGrad.Points
public import proofs.«01_k».proof.Proof.Gen.GateGrad.Frame
public import proofs.«01_k».proof.Proof.Gen.GateGradIdeal
public import proofs.«01_k».proof.Proof.Gen.GateGradIdeal.Skeleton
public import proofs.«01_k».proof.Proof.Gen.GateGradIdeal.Launch
public import proofs.«01_k».proof.Proof.Gen.GateGradIdeal.Points
public import proofs.«01_k».proof.Proof.Gen.GateGradIdeal.Frame
public import proofs.«01_k».proof.Proof.Gen.GateGradIdeal.Value
public import proofs.«01_k».proof.Proof.Gen.GateGradRefIdeal
public import proofs.«01_k».proof.Proof.Gen.GateGradRefIdeal.Run
public import proofs.«01_k».proof.Proof.Gen.GateGradRefIdeal.Read
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.InGradRefIdeal.Read
public import proofs.«01_k».proof.Proof.Gen.UpGrad
public import proofs.«01_k».proof.Proof.Gen.UpGrad.Skeleton
public import proofs.«01_k».proof.Proof.Gen.UpGrad.Launch
public import proofs.«01_k».proof.Proof.Gen.UpGrad.Points
public import proofs.«01_k».proof.Proof.Gen.UpGrad.Frame
public import proofs.«01_k».proof.Proof.Gen.UpGradIdeal
public import proofs.«01_k».proof.Proof.Gen.UpGradIdeal.Skeleton
public import proofs.«01_k».proof.Proof.Gen.UpGradIdeal.Launch
public import proofs.«01_k».proof.Proof.Gen.UpGradIdeal.Points
public import proofs.«01_k».proof.Proof.Gen.UpGradIdeal.Frame
public import proofs.«01_k».proof.Proof.Gen.UpGradIdeal.Value
public import proofs.«01_k».proof.Proof.Gen.UpGradRefIdeal
public import proofs.«01_k».proof.Proof.Gen.UpGradRefIdeal.Run
public import proofs.«01_k».proof.Proof.Gen.UpGradRefIdeal.Read
public import proofs.«01_k».proof.Proof.Gen.DownGrad
public import proofs.«01_k».proof.Proof.Gen.DownGrad.Skeleton
public import proofs.«01_k».proof.Proof.Gen.DownGrad.Launch
public import proofs.«01_k».proof.Proof.Gen.DownGrad.Points
public import proofs.«01_k».proof.Proof.Gen.DownGrad.Frame
public import proofs.«01_k».proof.Proof.Gen.DownGradIdeal
public import proofs.«01_k».proof.Proof.Gen.DownGradIdeal.Skeleton
public import proofs.«01_k».proof.Proof.Gen.DownGradIdeal.Launch
public import proofs.«01_k».proof.Proof.Gen.DownGradIdeal.Points
public import proofs.«01_k».proof.Proof.Gen.DownGradIdeal.Frame
public import proofs.«01_k».proof.Proof.Gen.DownGradIdeal.Value
public import proofs.«01_k».proof.Proof.Gen.DownGradRefIdeal
public import proofs.«01_k».proof.Proof.Gen.DownGradRefIdeal.Run
public import proofs.«01_k».proof.Proof.Gen.DownGradRefIdeal.Read
public import proofs.«01_k».proof.Proof.Gen.QkvInGrad
public import proofs.«01_k».proof.Proof.Gen.QkvInGrad.Skeleton
public import proofs.«01_k».proof.Proof.Gen.QkvInGrad.Launch
public import proofs.«01_k».proof.Proof.Gen.QkvInGrad.Points
public import proofs.«01_k».proof.Proof.Gen.QkvInGrad.Frame
public import proofs.«01_k».proof.Proof.Gen.QkvInGradIdeal
public import proofs.«01_k».proof.Proof.Gen.QkvInGradIdeal.Skeleton
public import proofs.«01_k».proof.Proof.Gen.QkvInGradIdeal.Launch
public import proofs.«01_k».proof.Proof.Gen.QkvInGradIdeal.Points
public import proofs.«01_k».proof.Proof.Gen.QkvInGradIdeal.Frame
public import proofs.«01_k».proof.Proof.Gen.QkvInGradIdeal.Value
public import proofs.«01_k».proof.Proof.Gen.QkvInGradRefIdeal
public import proofs.«01_k».proof.Proof.Gen.QkvInGradRefIdeal.Run
public import proofs.«01_k».proof.Proof.Gen.QkvInGradRefIdeal.Read
public import proofs.«01_k».proof.Proof.Gen.QkvGrad
public import proofs.«01_k».proof.Proof.Gen.QkvGrad.Skeleton
public import proofs.«01_k».proof.Proof.Gen.QkvGrad.Launch
public import proofs.«01_k».proof.Proof.Gen.QkvGrad.Points
public import proofs.«01_k».proof.Proof.Gen.QkvGrad.Frame
public import proofs.«01_k».proof.Proof.Gen.QkvGradIdeal
public import proofs.«01_k».proof.Proof.Gen.QkvGradIdeal.Skeleton
public import proofs.«01_k».proof.Proof.Gen.QkvGradIdeal.Launch
public import proofs.«01_k».proof.Proof.Gen.QkvGradIdeal.Points
public import proofs.«01_k».proof.Proof.Gen.QkvGradIdeal.Frame
public import proofs.«01_k».proof.Proof.Gen.QkvGradIdeal.Value
public import proofs.«01_k».proof.Proof.Gen.QkvGradRefIdeal
public import proofs.«01_k».proof.Proof.Gen.QkvGradRefIdeal.Run
public import proofs.«01_k».proof.Proof.Gen.QkvGradRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.AdamMlp
public import proofs.«01_k».proof.Proof.Gen.AdamMlp.Skeleton
public import proofs.«01_k».proof.Proof.Gen.AdamMlp.Launch
public import proofs.«01_k».proof.Proof.Gen.AdamMlp.Points
public import proofs.«01_k».proof.Proof.Gen.AdamMlp.Frame
public import proofs.«01_k».proof.Proof.Gen.AdamMlpIdeal
public import proofs.«01_k».proof.Proof.Gen.AdamMlpIdeal.Skeleton
public import proofs.«01_k».proof.Proof.Gen.AdamMlpIdeal.Launch
public import proofs.«01_k».proof.Proof.Gen.AdamMlpIdeal.Points
public import proofs.«01_k».proof.Proof.Gen.AdamMlpIdeal.Frame
public import proofs.«01_k».proof.Proof.Gen.AdamMlpIdeal.Value
public import proofs.«01_k».proof.Proof.Gen.AdamMlpRefIdeal
public import proofs.«01_k».proof.Proof.Gen.AdamMlpRefIdeal.Run
public import proofs.«01_k».proof.Proof.Gen.AdamMlpRefIdeal.Read
public import proofs.«01_k».proof.Proof.Gen.AdamRow
public import proofs.«01_k».proof.Proof.Gen.AdamRow.Skeleton
public import proofs.«01_k».proof.Proof.Gen.AdamRow.Launch
public import proofs.«01_k».proof.Proof.Gen.AdamRow.Points
public import proofs.«01_k».proof.Proof.Gen.AdamRow.Frame
public import proofs.«01_k».proof.Proof.Gen.AdamRowIdeal
public import proofs.«01_k».proof.Proof.Gen.AdamRowIdeal.Skeleton
public import proofs.«01_k».proof.Proof.Gen.AdamRowIdeal.Launch
public import proofs.«01_k».proof.Proof.Gen.AdamRowIdeal.Points
public import proofs.«01_k».proof.Proof.Gen.AdamRowIdeal.Frame
public import proofs.«01_k».proof.Proof.Gen.AdamRowIdeal.Value
public import proofs.«01_k».proof.Proof.Gen.AdamRowRefIdeal
public import proofs.«01_k».proof.Proof.Gen.AdamRowRefIdeal.Run
public import proofs.«01_k».proof.Proof.Gen.AdamRowRefIdeal.Read
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormRefIdeal
public import proofs.«01_k».proof.Proof.Gen.AdamNormRefIdeal.Run
public import proofs.«01_k».proof.Proof.Gen.AdamNormRefIdeal.Read
public import proofs.«01_k».proof.Proof.Gen.AdamRank
public import proofs.«01_k».proof.Proof.Gen.AdamRank.Skeleton
public import proofs.«01_k».proof.Proof.Gen.AdamRank.Launch
public import proofs.«01_k».proof.Proof.Gen.AdamRank.Points
public import proofs.«01_k».proof.Proof.Gen.AdamRank.Frame
public import proofs.«01_k».proof.Proof.Gen.AdamRankIdeal
public import proofs.«01_k».proof.Proof.Gen.AdamRankIdeal.Skeleton
public import proofs.«01_k».proof.Proof.Gen.AdamRankIdeal.Launch
public import proofs.«01_k».proof.Proof.Gen.AdamRankIdeal.Points
public import proofs.«01_k».proof.Proof.Gen.AdamRankIdeal.Frame
public import proofs.«01_k».proof.Proof.Gen.AdamRankIdeal.Value
public import proofs.«01_k».proof.Proof.Gen.AdamRankRefIdeal
public import proofs.«01_k».proof.Proof.Gen.AdamRankRefIdeal.Run
public import proofs.«01_k».proof.Proof.Gen.AdamRankRefIdeal.Read
public import proofs.«01_k».proof.Proof.Gen.AdamCond
public import proofs.«01_k».proof.Proof.Gen.AdamCond.Skeleton
public import proofs.«01_k».proof.Proof.Gen.AdamCond.Launch
public import proofs.«01_k».proof.Proof.Gen.AdamCond.Points
public import proofs.«01_k».proof.Proof.Gen.AdamCond.Frame
public import proofs.«01_k».proof.Proof.Gen.AdamCondIdeal
public import proofs.«01_k».proof.Proof.Gen.AdamCondIdeal.Skeleton
public import proofs.«01_k».proof.Proof.Gen.AdamCondIdeal.Launch
public import proofs.«01_k».proof.Proof.Gen.AdamCondIdeal.Points
public import proofs.«01_k».proof.Proof.Gen.AdamCondIdeal.Frame
public import proofs.«01_k».proof.Proof.Gen.AdamCondIdeal.Value
public import proofs.«01_k».proof.Proof.Gen.AdamCondRefIdeal
public import proofs.«01_k».proof.Proof.Gen.AdamCondRefIdeal.Run
public import proofs.«01_k».proof.Proof.Gen.AdamCondRefIdeal.Read
public import proofs.«01_k».proof.Proof.Gen.AdamShift
public import proofs.«01_k».proof.Proof.Gen.AdamShift.Skeleton
public import proofs.«01_k».proof.Proof.Gen.AdamShift.Launch
public import proofs.«01_k».proof.Proof.Gen.AdamShift.Points
public import proofs.«01_k».proof.Proof.Gen.AdamShift.Frame
public import proofs.«01_k».proof.Proof.Gen.AdamShiftIdeal
public import proofs.«01_k».proof.Proof.Gen.AdamShiftIdeal.Skeleton
public import proofs.«01_k».proof.Proof.Gen.AdamShiftIdeal.Launch
public import proofs.«01_k».proof.Proof.Gen.AdamShiftIdeal.Points
public import proofs.«01_k».proof.Proof.Gen.AdamShiftIdeal.Frame
public import proofs.«01_k».proof.Proof.Gen.AdamShiftIdeal.Value
public import proofs.«01_k».proof.Proof.Gen.AdamShiftRefIdeal
public import proofs.«01_k».proof.Proof.Gen.AdamShiftRefIdeal.Run
public import proofs.«01_k».proof.Proof.Gen.AdamShiftRefIdeal.Read
public import proofs.«01_k».proof.Proof.Gen.AdamMixIn
public import proofs.«01_k».proof.Proof.Gen.AdamMixIn.Skeleton
public import proofs.«01_k».proof.Proof.Gen.AdamMixIn.Launch
public import proofs.«01_k».proof.Proof.Gen.AdamMixIn.Points
public import proofs.«01_k».proof.Proof.Gen.AdamMixIn.Frame
public import proofs.«01_k».proof.Proof.Gen.AdamMixInIdeal
public import proofs.«01_k».proof.Proof.Gen.AdamMixInIdeal.Skeleton
public import proofs.«01_k».proof.Proof.Gen.AdamMixInIdeal.Launch
public import proofs.«01_k».proof.Proof.Gen.AdamMixInIdeal.Points
public import proofs.«01_k».proof.Proof.Gen.AdamMixInIdeal.Frame
public import proofs.«01_k».proof.Proof.Gen.AdamMixInIdeal.Value
public import proofs.«01_k».proof.Proof.Gen.AdamMixInRefIdeal
public import proofs.«01_k».proof.Proof.Gen.AdamMixInRefIdeal.Run
public import proofs.«01_k».proof.Proof.Gen.AdamMixInRefIdeal.Read
public import proofs.«01_k».proof.Proof.Gen.AdamMix
public import proofs.«01_k».proof.Proof.Gen.AdamMix.Skeleton
public import proofs.«01_k».proof.Proof.Gen.AdamMix.Launch
public import proofs.«01_k».proof.Proof.Gen.AdamMix.Points
public import proofs.«01_k».proof.Proof.Gen.AdamMix.Frame
public import proofs.«01_k».proof.Proof.Gen.AdamMixIdeal
public import proofs.«01_k».proof.Proof.Gen.AdamMixIdeal.Skeleton
public import proofs.«01_k».proof.Proof.Gen.AdamMixIdeal.Launch
public import proofs.«01_k».proof.Proof.Gen.AdamMixIdeal.Points
public import proofs.«01_k».proof.Proof.Gen.AdamMixIdeal.Frame
public import proofs.«01_k».proof.Proof.Gen.AdamMixIdeal.Value
public import proofs.«01_k».proof.Proof.Gen.AdamMixRefIdeal
public import proofs.«01_k».proof.Proof.Gen.AdamMixRefIdeal.Run
public import proofs.«01_k».proof.Proof.Gen.AdamMixRefIdeal.Read
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamGateRefIdeal.Read
public import proofs.«01_k».proof.Proof.Gen.AdamBonus
public import proofs.«01_k».proof.Proof.Gen.AdamBonus.Skeleton
public import proofs.«01_k».proof.Proof.Gen.AdamBonus.Launch
public import proofs.«01_k».proof.Proof.Gen.AdamBonus.Points
public import proofs.«01_k».proof.Proof.Gen.AdamBonus.Frame
public import proofs.«01_k».proof.Proof.Gen.AdamBonusIdeal
public import proofs.«01_k».proof.Proof.Gen.AdamBonusIdeal.Skeleton
public import proofs.«01_k».proof.Proof.Gen.AdamBonusIdeal.Launch
public import proofs.«01_k».proof.Proof.Gen.AdamBonusIdeal.Points
public import proofs.«01_k».proof.Proof.Gen.AdamBonusIdeal.Frame
public import proofs.«01_k».proof.Proof.Gen.AdamBonusIdeal.Value
public import proofs.«01_k».proof.Proof.Gen.AdamBonusRefIdeal
public import proofs.«01_k».proof.Proof.Gen.AdamBonusRefIdeal.Run
public import proofs.«01_k».proof.Proof.Gen.AdamBonusRefIdeal.Read
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.Gen.AdamMixOut
public import proofs.«01_k».proof.Proof.Gen.AdamMixOut.Skeleton
public import proofs.«01_k».proof.Proof.Gen.AdamMixOut.Launch
public import proofs.«01_k».proof.Proof.Gen.AdamMixOut.Points
public import proofs.«01_k».proof.Proof.Gen.AdamMixOut.Frame
public import proofs.«01_k».proof.Proof.Gen.AdamMixOutIdeal
public import proofs.«01_k».proof.Proof.Gen.AdamMixOutIdeal.Skeleton
public import proofs.«01_k».proof.Proof.Gen.AdamMixOutIdeal.Launch
public import proofs.«01_k».proof.Proof.Gen.AdamMixOutIdeal.Points
public import proofs.«01_k».proof.Proof.Gen.AdamMixOutIdeal.Frame
public import proofs.«01_k».proof.Proof.Gen.AdamMixOutIdeal.Value
public import proofs.«01_k».proof.Proof.Gen.AdamMixOutRefIdeal
public import proofs.«01_k».proof.Proof.Gen.AdamMixOutRefIdeal.Run
public import proofs.«01_k».proof.Proof.Gen.AdamMixOutRefIdeal.Read
public import proofs.«01_k».proof.Proof.Gen.AdamQkv
public import proofs.«01_k».proof.Proof.Gen.AdamQkv.Skeleton
public import proofs.«01_k».proof.Proof.Gen.AdamQkv.Launch
public import proofs.«01_k».proof.Proof.Gen.AdamQkv.Points
public import proofs.«01_k».proof.Proof.Gen.AdamQkv.Frame
public import proofs.«01_k».proof.Proof.Gen.AdamQkvIdeal
public import proofs.«01_k».proof.Proof.Gen.AdamQkvIdeal.Skeleton
public import proofs.«01_k».proof.Proof.Gen.AdamQkvIdeal.Launch
public import proofs.«01_k».proof.Proof.Gen.AdamQkvIdeal.Points
public import proofs.«01_k».proof.Proof.Gen.AdamQkvIdeal.Frame
public import proofs.«01_k».proof.Proof.Gen.AdamQkvIdeal.Value
public import proofs.«01_k».proof.Proof.Gen.AdamQkvRefIdeal
public import proofs.«01_k».proof.Proof.Gen.AdamQkvRefIdeal.Run
public import proofs.«01_k».proof.Proof.Gen.AdamQkvRefIdeal.Read
public import proofs.«01_k».proof.Proof.Gen.AdamAttOut
public import proofs.«01_k».proof.Proof.Gen.AdamAttOut.Skeleton
public import proofs.«01_k».proof.Proof.Gen.AdamAttOut.Launch
public import proofs.«01_k».proof.Proof.Gen.AdamAttOut.Points
public import proofs.«01_k».proof.Proof.Gen.AdamAttOut.Frame
public import proofs.«01_k».proof.Proof.Gen.AdamAttOutIdeal
public import proofs.«01_k».proof.Proof.Gen.AdamAttOutIdeal.Skeleton
public import proofs.«01_k».proof.Proof.Gen.AdamAttOutIdeal.Launch
public import proofs.«01_k».proof.Proof.Gen.AdamAttOutIdeal.Points
public import proofs.«01_k».proof.Proof.Gen.AdamAttOutIdeal.Frame
public import proofs.«01_k».proof.Proof.Gen.AdamAttOutIdeal.Value
public import proofs.«01_k».proof.Proof.Gen.AdamAttOutRefIdeal
public import proofs.«01_k».proof.Proof.Gen.AdamAttOutRefIdeal.Run
public import proofs.«01_k».proof.Proof.Gen.AdamAttOutRefIdeal.Read
public import proofs.«01_k».proof.Proof.Gen.AdamRel
public import proofs.«01_k».proof.Proof.Gen.AdamRel.Skeleton
public import proofs.«01_k».proof.Proof.Gen.AdamRel.Launch
public import proofs.«01_k».proof.Proof.Gen.AdamRel.Points
public import proofs.«01_k».proof.Proof.Gen.AdamRel.Frame
public import proofs.«01_k».proof.Proof.Gen.AdamRelIdeal
public import proofs.«01_k».proof.Proof.Gen.AdamRelIdeal.Skeleton
public import proofs.«01_k».proof.Proof.Gen.AdamRelIdeal.Launch
public import proofs.«01_k».proof.Proof.Gen.AdamRelIdeal.Points
public import proofs.«01_k».proof.Proof.Gen.AdamRelIdeal.Frame
public import proofs.«01_k».proof.Proof.Gen.AdamRelIdeal.Value
public import proofs.«01_k».proof.Proof.Gen.AdamRelRefIdeal
public import proofs.«01_k».proof.Proof.Gen.AdamRelRefIdeal.Run
public import proofs.«01_k».proof.Proof.Gen.AdamRelRefIdeal.Read
public import proofs.«01_k».proof.Proof.Mlp.GateGrad
public import proofs.«01_k».proof.Proof.Mlp.InGrad
public import proofs.«01_k».proof.Proof.Mlp.UpGrad
public import proofs.«01_k».proof.Proof.Mlp.DownGrad
public import proofs.«01_k».proof.Proof.Mlp.QkvInGrad
public import proofs.«01_k».proof.Proof.Mlp.QkvGrad
public import proofs.«01_k».proof.Proof.Mlp.Up
public import proofs.«01_k».proof.Proof.Mlp.Down
public import proofs.«01_k».proof.Proof.Mlp.Qkv
public import proofs.«01_k».proof.Proof.Opt.AdamMlp
public import proofs.«01_k».proof.Proof.Opt.AdamRow
public import proofs.«01_k».proof.Proof.Opt.AdamNorm
public import proofs.«01_k».proof.Proof.Opt.AdamRank
public import proofs.«01_k».proof.Proof.Opt.AdamCond
public import proofs.«01_k».proof.Proof.Opt.AdamShift
public import proofs.«01_k».proof.Proof.Opt.AdamMixIn
public import proofs.«01_k».proof.Proof.Opt.AdamMix
public import proofs.«01_k».proof.Proof.Opt.AdamGate
public import proofs.«01_k».proof.Proof.Opt.AdamBonus
public import proofs.«01_k».proof.Proof.Opt.AdamConv
public import proofs.«01_k».proof.Proof.Opt.AdamMixOut
public import proofs.«01_k».proof.Proof.Opt.AdamQkv
public import proofs.«01_k».proof.Proof.Opt.AdamAttOut
public import proofs.«01_k».proof.Proof.Opt.AdamRel
public import proofs.«01_k».proof.Proof.Att.Agree
public import proofs.«01_k».proof.Proof.Att.Finite
public import Idealize.ShloMosaic.Adequacy
public import Idealize.ShloMosaic.Init

@[expose] public section

set_option maxHeartbeats 4000000

noncomputable section

namespace Cert.Proof

open Idealize.ShloMosaic Idealize.SL.Sem Cert.Att

/-- The arguments the kernel program's host lines start from. -/
theorem start (m : (ℓ : Loc Cert.KernelIdeal.nD Cert.KernelIdeal.τ Cert.KernelIdeal.sig) → Buf (Elt Ideal) ℓ) (c : Dev Cert.KernelIdeal.nD) :
    HostSide.Start (fun b => m (c, b)) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) := ⟨rfl, rfl, rfl, rfl⟩

/-- Over real arguments the kernel program's four gradients are the reference's. -/
theorem algebraic : algebraic_KernelIdeal_ReferenceIdeal_pre_finite (hKernelIdeal := Cert.KernelIdeal.Gen.facts)
    (hReferenceIdeal := Cert.ReferenceIdeal.Gen.facts) (hPre_finite := Finite.facts) := by
  intro m g m' g' pre same
  have H := fun c => Finite.holds_of_test _ _ _ _ (pre c)
  refine ⟨fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    Cert.KernelIdeal.Value.run_blocks m g, (θ_run _ _ _).mono (fun r h c => ?_) (reference_run m' g')⟩
  obtain ⟨q, k, v, b, rest⟩ := h c
  obtain ⟨s0, s1, s2, s3⟩ := same c
  rw [s0, s1, s2, s3] at q k b
  rw [s0, s1, s2] at v
  exact ⟨q.trans (kernel_dq m c (H c) (start m c)).symm, k.trans (kernel_dk m c (H c) (start m c)).symm,
    v.trans (kernel_dv m c (H c) (start m c)).symm, b.trans (kernel_dbias m c (H c) (start m c)).symm, rest⟩

/-- The two reciprocals that the optimiser's calls name, wherever a program's table has them. -/
theorem named (κ : String → Option EReal) (a : κ "c1" = some ((8388608 / 5463681 : ℝ) : EReal))
    (b : κ "c2" = some ((268435456 / 2672307 : ℝ) : EReal)) :
    IdealRules.named_const.Statement κ "c1" .f32 0x3FC48605#32 ((8388608 / 5463681 : ℝ) : EReal)
    ∧ IdealRules.named_const.Statement κ "c2" .f32 0x42C8E6D3#32 ((268435456 / 2672307 : ℝ) : EReal) :=
  ⟨IdealRules.named_const.statement _ _ _ _ _ a, IdealRules.named_const.statement _ _ _ _ _ b⟩

/-- The value claim of `GateGrad`. -/
theorem algebraic_GateGrad : algebraic_GateGradIdeal_GateGradRefIdeal (hGateGradIdeal := Cert.GateGradIdeal.Gen.facts)
    (hGateGradRefIdeal := Cert.GateGradRefIdeal.Gen.facts) := by
  intro m g m' g' _ same
  refine ⟨_, Cert.Mlp.GateGrad.kernel_run m g, (θ_run _ _ _).mono (fun r h c => ?_) (Cert.Mlp.GateGrad.reference_run m' g')⟩
  obtain ⟨s0, s1, s2⟩ := same c
  obtain ⟨v, rest⟩ := h c
  rw [s0, s1, s2] at v
  exact ⟨v, rest⟩

/-- The value claim of `InGrad`. -/
theorem algebraic_InGrad : algebraic_InGradIdeal_InGradRefIdeal (hInGradIdeal := Cert.InGradIdeal.Gen.facts)
    (hInGradRefIdeal := Cert.InGradRefIdeal.Gen.facts) := by
  intro m g m' g' _ same
  refine ⟨_, Cert.Mlp.InGrad.kernel_run m g, (θ_run _ _ _).mono (fun r h c => ?_) (Cert.Mlp.InGrad.reference_run m' g')⟩
  obtain ⟨s0, s1⟩ := same c
  obtain ⟨v, rest⟩ := h c
  rw [s0, s1] at v
  exact ⟨v, rest⟩

/-- The value claim of `UpGrad`. -/
theorem algebraic_UpGrad : algebraic_UpGradIdeal_UpGradRefIdeal (hUpGradIdeal := Cert.UpGradIdeal.Gen.facts)
    (hUpGradRefIdeal := Cert.UpGradRefIdeal.Gen.facts) := by
  intro m g m' g' _ same
  refine ⟨_, Cert.Mlp.UpGrad.kernel_run m g, (θ_run _ _ _).mono (fun r h c => ?_) (Cert.Mlp.UpGrad.reference_run m' g')⟩
  obtain ⟨s0, s1⟩ := same c
  obtain ⟨v, rest⟩ := h c
  rw [s0, s1] at v
  exact ⟨v, rest⟩

/-- The value claim of `DownGrad`. -/
theorem algebraic_DownGrad : algebraic_DownGradIdeal_DownGradRefIdeal (hDownGradIdeal := Cert.DownGradIdeal.Gen.facts)
    (hDownGradRefIdeal := Cert.DownGradRefIdeal.Gen.facts) := by
  intro m g m' g' _ same
  refine ⟨_, Cert.Mlp.DownGrad.kernel_run m g, (θ_run _ _ _).mono (fun r h c => ?_) (Cert.Mlp.DownGrad.reference_run m' g')⟩
  obtain ⟨s0, s1⟩ := same c
  obtain ⟨v, rest⟩ := h c
  rw [s0, s1] at v
  exact ⟨v, rest⟩

/-- The value claim of `QkvInGrad`. -/
theorem algebraic_QkvInGrad : algebraic_QkvInGradIdeal_QkvInGradRefIdeal (hQkvInGradIdeal := Cert.QkvInGradIdeal.Gen.facts)
    (hQkvInGradRefIdeal := Cert.QkvInGradRefIdeal.Gen.facts) := by
  intro m g m' g' _ same
  refine ⟨_, Cert.Mlp.QkvInGrad.kernel_run m g, (θ_run _ _ _).mono (fun r h c => ?_) (Cert.Mlp.QkvInGrad.reference_run m' g')⟩
  obtain ⟨s0, s1⟩ := same c
  obtain ⟨v, rest⟩ := h c
  rw [s0, s1] at v
  exact ⟨v, rest⟩

/-- The value claim of `QkvGrad`. -/
theorem algebraic_QkvGrad : algebraic_QkvGradIdeal_QkvGradRefIdeal (hQkvGradIdeal := Cert.QkvGradIdeal.Gen.facts)
    (hQkvGradRefIdeal := Cert.QkvGradRefIdeal.Gen.facts) := by
  intro m g m' g' _ same
  refine ⟨_, Cert.Mlp.QkvGrad.kernel_run m g, (θ_run _ _ _).mono (fun r h c => ?_) (Cert.Mlp.QkvGrad.reference_run m' g')⟩
  obtain ⟨s0, s1⟩ := same c
  obtain ⟨v, rest⟩ := h c
  rw [s0, s1] at v
  exact ⟨v, rest⟩

/-- The value claim of `Up`. -/
theorem algebraic_Up : algebraic_UpIdeal_UpRefIdeal (hUpIdeal := Cert.UpIdeal.Gen.facts)
    (hUpRefIdeal := Cert.UpRefIdeal.Gen.facts) := by
  intro m g m' g' _ same
  refine ⟨_, _, Cert.Mlp.Up.kernel_run m g, (θ_run _ _ _).mono (fun r h c => ?_) (Cert.Mlp.Up.reference_run m' g')⟩
  obtain ⟨s0, s1⟩ := same c
  obtain ⟨v, w, rest⟩ := h c
  rw [s0, s1] at v w
  exact ⟨v, w, rest⟩

/-- The value claim of `Down`. -/
theorem algebraic_Down : algebraic_DownIdeal_DownRefIdeal (hDownIdeal := Cert.DownIdeal.Gen.facts)
    (hDownRefIdeal := Cert.DownRefIdeal.Gen.facts) := by
  intro m g m' g' _ same
  refine ⟨_, Cert.Mlp.Down.kernel_run m g, (θ_run _ _ _).mono (fun r h c => ?_) (Cert.Mlp.Down.reference_run m' g')⟩
  obtain ⟨s0, s1⟩ := same c
  obtain ⟨v, rest⟩ := h c
  rw [s0, s1] at v
  exact ⟨v, rest⟩

/-- The value claim of `Qkv`. -/
theorem algebraic_Qkv : algebraic_QkvIdeal_QkvRefIdeal (hQkvIdeal := Cert.QkvIdeal.Gen.facts)
    (hQkvRefIdeal := Cert.QkvRefIdeal.Gen.facts) := by
  intro m g m' g' _ same
  refine ⟨_, Cert.Mlp.Qkv.kernel_run m g, (θ_run _ _ _).mono (fun r h c => ?_) (Cert.Mlp.Qkv.reference_run m' g')⟩
  obtain ⟨s0, s1⟩ := same c
  obtain ⟨v, rest⟩ := h c
  rw [s0, s1] at v
  exact ⟨v, rest⟩

/-- The value claim of `AdamMlp`. -/
theorem algebraic_AdamMlp : algebraic_AdamMlpIdeal_AdamMlpRefIdeal (hAdamMlpIdeal := Cert.AdamMlpIdeal.Gen.facts)
    (hAdamMlpRefIdeal := Cert.AdamMlpRefIdeal.Gen.facts) := by
  intro m g m' g' _ same
  refine ⟨_, _, _, Cert.Opt.AdamMlp.kernel_run m g, (θ_run _ _ _).mono (fun r h c => ?_) (Cert.Opt.AdamMlp.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamRow`. -/
theorem algebraic_AdamRow : algebraic_AdamRowIdeal_AdamRowRefIdeal (hAdamRowIdeal := Cert.AdamRowIdeal.Gen.facts)
    (hAdamRowRefIdeal := Cert.AdamRowRefIdeal.Gen.facts) := by
  intro m g m' g' _ same
  refine ⟨_, _, _, Cert.Opt.AdamRow.kernel_run m g, (θ_run _ _ _).mono (fun r h c => ?_) (Cert.Opt.AdamRow.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamNorm`. -/
theorem algebraic_AdamNorm : algebraic_AdamNormIdeal_AdamNormRefIdeal (hAdamNormIdeal := Cert.AdamNormIdeal.Gen.facts)
    (hAdamNormRefIdeal := Cert.AdamNormRefIdeal.Gen.facts) := by
  intro m g m' g' _ same
  refine ⟨_, _, _, Cert.Opt.AdamNorm.kernel_run m g, (θ_run _ _ _).mono (fun r h c => ?_) (Cert.Opt.AdamNorm.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamRank`. -/
theorem algebraic_AdamRank : algebraic_AdamRankIdeal_AdamRankRefIdeal (hAdamRankIdeal := Cert.AdamRankIdeal.Gen.facts)
    (hAdamRankRefIdeal := Cert.AdamRankRefIdeal.Gen.facts) := by
  intro m g m' g' _ same
  refine ⟨_, _, _, Cert.Opt.AdamRank.kernel_run m g, (θ_run _ _ _).mono (fun r h c => ?_) (Cert.Opt.AdamRank.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamCond`. -/
theorem algebraic_AdamCond : algebraic_AdamCondIdeal_AdamCondRefIdeal (hAdamCondIdeal := Cert.AdamCondIdeal.Gen.facts)
    (hAdamCondRefIdeal := Cert.AdamCondRefIdeal.Gen.facts) := by
  intro m g m' g' _ same
  refine ⟨_, _, _, Cert.Opt.AdamCond.kernel_run m g, (θ_run _ _ _).mono (fun r h c => ?_) (Cert.Opt.AdamCond.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamShift`. -/
theorem algebraic_AdamShift : algebraic_AdamShiftIdeal_AdamShiftRefIdeal (hAdamShiftIdeal := Cert.AdamShiftIdeal.Gen.facts)
    (hAdamShiftRefIdeal := Cert.AdamShiftRefIdeal.Gen.facts) := by
  intro m g m' g' _ same
  refine ⟨_, _, _, Cert.Opt.AdamShift.kernel_run m g, (θ_run _ _ _).mono (fun r h c => ?_) (Cert.Opt.AdamShift.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamMixIn`. -/
theorem algebraic_AdamMixIn : algebraic_AdamMixInIdeal_AdamMixInRefIdeal (hAdamMixInIdeal := Cert.AdamMixInIdeal.Gen.facts)
    (hAdamMixInRefIdeal := Cert.AdamMixInRefIdeal.Gen.facts) := by
  intro m g m' g' _ same
  refine ⟨_, _, _, Cert.Opt.AdamMixIn.kernel_run m g, (θ_run _ _ _).mono (fun r h c => ?_) (Cert.Opt.AdamMixIn.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamMix`. -/
theorem algebraic_AdamMix : algebraic_AdamMixIdeal_AdamMixRefIdeal (hAdamMixIdeal := Cert.AdamMixIdeal.Gen.facts)
    (hAdamMixRefIdeal := Cert.AdamMixRefIdeal.Gen.facts) := by
  intro m g m' g' _ same
  refine ⟨_, _, _, Cert.Opt.AdamMix.kernel_run m g, (θ_run _ _ _).mono (fun r h c => ?_) (Cert.Opt.AdamMix.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamGate`. -/
theorem algebraic_AdamGate : algebraic_AdamGateIdeal_AdamGateRefIdeal (hAdamGateIdeal := Cert.AdamGateIdeal.Gen.facts)
    (hAdamGateRefIdeal := Cert.AdamGateRefIdeal.Gen.facts) := by
  intro m g m' g' _ same
  refine ⟨_, _, _, Cert.Opt.AdamGate.kernel_run m g, (θ_run _ _ _).mono (fun r h c => ?_) (Cert.Opt.AdamGate.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamBonus`. -/
theorem algebraic_AdamBonus : algebraic_AdamBonusIdeal_AdamBonusRefIdeal (hAdamBonusIdeal := Cert.AdamBonusIdeal.Gen.facts)
    (hAdamBonusRefIdeal := Cert.AdamBonusRefIdeal.Gen.facts) := by
  intro m g m' g' _ same
  refine ⟨_, _, _, Cert.Opt.AdamBonus.kernel_run m g, (θ_run _ _ _).mono (fun r h c => ?_) (Cert.Opt.AdamBonus.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamConv`. -/
theorem algebraic_AdamConv : algebraic_AdamConvIdeal_AdamConvRefIdeal (hAdamConvIdeal := Cert.AdamConvIdeal.Gen.facts)
    (hAdamConvRefIdeal := Cert.AdamConvRefIdeal.Gen.facts) := by
  intro m g m' g' _ same
  refine ⟨_, _, _, Cert.Opt.AdamConv.kernel_run m g, (θ_run _ _ _).mono (fun r h c => ?_) (Cert.Opt.AdamConv.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamMixOut`. -/
theorem algebraic_AdamMixOut : algebraic_AdamMixOutIdeal_AdamMixOutRefIdeal (hAdamMixOutIdeal := Cert.AdamMixOutIdeal.Gen.facts)
    (hAdamMixOutRefIdeal := Cert.AdamMixOutRefIdeal.Gen.facts) := by
  intro m g m' g' _ same
  refine ⟨_, _, _, Cert.Opt.AdamMixOut.kernel_run m g, (θ_run _ _ _).mono (fun r h c => ?_) (Cert.Opt.AdamMixOut.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamQkv`. -/
theorem algebraic_AdamQkv : algebraic_AdamQkvIdeal_AdamQkvRefIdeal (hAdamQkvIdeal := Cert.AdamQkvIdeal.Gen.facts)
    (hAdamQkvRefIdeal := Cert.AdamQkvRefIdeal.Gen.facts) := by
  intro m g m' g' _ same
  refine ⟨_, _, _, Cert.Opt.AdamQkv.kernel_run m g, (θ_run _ _ _).mono (fun r h c => ?_) (Cert.Opt.AdamQkv.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamAttOut`. -/
theorem algebraic_AdamAttOut : algebraic_AdamAttOutIdeal_AdamAttOutRefIdeal (hAdamAttOutIdeal := Cert.AdamAttOutIdeal.Gen.facts)
    (hAdamAttOutRefIdeal := Cert.AdamAttOutRefIdeal.Gen.facts) := by
  intro m g m' g' _ same
  refine ⟨_, _, _, Cert.Opt.AdamAttOut.kernel_run m g, (θ_run _ _ _).mono (fun r h c => ?_) (Cert.Opt.AdamAttOut.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

/-- The value claim of `AdamRel`. -/
theorem algebraic_AdamRel : algebraic_AdamRelIdeal_AdamRelRefIdeal (hAdamRelIdeal := Cert.AdamRelIdeal.Gen.facts)
    (hAdamRelRefIdeal := Cert.AdamRelRefIdeal.Gen.facts) := by
  intro m g m' g' _ same
  refine ⟨_, _, _, Cert.Opt.AdamRel.kernel_run m g, (θ_run _ _ _).mono (fun r h c => ?_) (Cert.Opt.AdamRel.reference_run m' g')⟩
  obtain ⟨s0, s1, s2, s3⟩ := same c
  obtain ⟨u, v, w, rest⟩ := h c
  rw [s0, s1, s2, s3] at u
  rw [s1, s2] at v
  rw [s1, s3] at w
  exact ⟨u, v, w, rest⟩

theorem claim : Cert.Claim := ⟨Cert.Kernel.Gen.facts, Cert.KernelIdeal.Gen.facts, Cert.ReferenceIdeal.Gen.facts, Cert.GateGrad.Gen.facts,
  Cert.GateGradIdeal.Gen.facts, Cert.GateGradRefIdeal.Gen.facts, Cert.InGrad.Gen.facts,
  Cert.InGradIdeal.Gen.facts, Cert.InGradRefIdeal.Gen.facts, Cert.UpGrad.Gen.facts,
  Cert.UpGradIdeal.Gen.facts, Cert.UpGradRefIdeal.Gen.facts, Cert.DownGrad.Gen.facts,
  Cert.DownGradIdeal.Gen.facts, Cert.DownGradRefIdeal.Gen.facts, Cert.QkvInGrad.Gen.facts,
  Cert.QkvInGradIdeal.Gen.facts, Cert.QkvInGradRefIdeal.Gen.facts, Cert.QkvGrad.Gen.facts,
  Cert.QkvGradIdeal.Gen.facts, Cert.QkvGradRefIdeal.Gen.facts, Cert.Up.Gen.facts, Cert.UpIdeal.Gen.facts,
  Cert.UpRefIdeal.Gen.facts, Cert.Down.Gen.facts, Cert.DownIdeal.Gen.facts, Cert.DownRefIdeal.Gen.facts,
  Cert.Qkv.Gen.facts, Cert.QkvIdeal.Gen.facts, Cert.QkvRefIdeal.Gen.facts, Cert.AdamMlp.Gen.facts,
  Cert.AdamMlpIdeal.Gen.facts, Cert.AdamMlpRefIdeal.Gen.facts, Cert.AdamRow.Gen.facts,
  Cert.AdamRowIdeal.Gen.facts, Cert.AdamRowRefIdeal.Gen.facts, Cert.AdamNorm.Gen.facts,
  Cert.AdamNormIdeal.Gen.facts, Cert.AdamNormRefIdeal.Gen.facts, Cert.AdamRank.Gen.facts,
  Cert.AdamRankIdeal.Gen.facts, Cert.AdamRankRefIdeal.Gen.facts, Cert.AdamCond.Gen.facts,
  Cert.AdamCondIdeal.Gen.facts, Cert.AdamCondRefIdeal.Gen.facts, Cert.AdamShift.Gen.facts,
  Cert.AdamShiftIdeal.Gen.facts, Cert.AdamShiftRefIdeal.Gen.facts, Cert.AdamMixIn.Gen.facts,
  Cert.AdamMixInIdeal.Gen.facts, Cert.AdamMixInRefIdeal.Gen.facts, Cert.AdamMix.Gen.facts,
  Cert.AdamMixIdeal.Gen.facts, Cert.AdamMixRefIdeal.Gen.facts, Cert.AdamGate.Gen.facts,
  Cert.AdamGateIdeal.Gen.facts, Cert.AdamGateRefIdeal.Gen.facts, Cert.AdamBonus.Gen.facts,
  Cert.AdamBonusIdeal.Gen.facts, Cert.AdamBonusRefIdeal.Gen.facts, Cert.AdamConv.Gen.facts,
  Cert.AdamConvIdeal.Gen.facts, Cert.AdamConvRefIdeal.Gen.facts, Cert.AdamMixOut.Gen.facts,
  Cert.AdamMixOutIdeal.Gen.facts, Cert.AdamMixOutRefIdeal.Gen.facts, Cert.AdamQkv.Gen.facts,
  Cert.AdamQkvIdeal.Gen.facts, Cert.AdamQkvRefIdeal.Gen.facts, Cert.AdamAttOut.Gen.facts,
  Cert.AdamAttOutIdeal.Gen.facts, Cert.AdamAttOutRefIdeal.Gen.facts, Cert.AdamRel.Gen.facts,
  Cert.AdamRelIdeal.Gen.facts, Cert.AdamRelRefIdeal.Gen.facts, Finite.facts,
  fun m g _ => Cert.Kernel.Gen.frame m g,
  fun m g _ => Cert.KernelIdeal.Gen.frame m g,
  fun m g _ => Cert.KernelIdeal.Gen.frame m g,
  fun m g _ => reference_quiet m g,
  fun m g _ => reference_quiet m g,
  fun m g _ => Cert.GateGrad.Gen.frame m g,
  fun m g _ => Cert.GateGradIdeal.Gen.frame m g,
  fun m g _ => Cert.Mlp.GateGrad.reference_quiet m g,
  fun m g _ => Cert.InGrad.Gen.frame m g,
  fun m g _ => Cert.InGradIdeal.Gen.frame m g,
  fun m g _ => Cert.Mlp.InGrad.reference_quiet m g,
  fun m g _ => Cert.UpGrad.Gen.frame m g,
  fun m g _ => Cert.UpGradIdeal.Gen.frame m g,
  fun m g _ => Cert.Mlp.UpGrad.reference_quiet m g,
  fun m g _ => Cert.DownGrad.Gen.frame m g,
  fun m g _ => Cert.DownGradIdeal.Gen.frame m g,
  fun m g _ => Cert.Mlp.DownGrad.reference_quiet m g,
  fun m g _ => Cert.QkvInGrad.Gen.frame m g,
  fun m g _ => Cert.QkvInGradIdeal.Gen.frame m g,
  fun m g _ => Cert.Mlp.QkvInGrad.reference_quiet m g,
  fun m g _ => Cert.QkvGrad.Gen.frame m g,
  fun m g _ => Cert.QkvGradIdeal.Gen.frame m g,
  fun m g _ => Cert.Mlp.QkvGrad.reference_quiet m g,
  fun m g _ => Cert.Up.Gen.frame m g,
  fun m g _ => Cert.UpIdeal.Gen.frame m g,
  fun m g _ => Cert.Mlp.Up.reference_quiet m g,
  fun m g _ => Cert.Down.Gen.frame m g,
  fun m g _ => Cert.DownIdeal.Gen.frame m g,
  fun m g _ => Cert.Mlp.Down.reference_quiet m g,
  fun m g _ => Cert.Qkv.Gen.frame m g,
  fun m g _ => Cert.QkvIdeal.Gen.frame m g,
  fun m g _ => Cert.Mlp.Qkv.reference_quiet m g,
  fun m g _ => Cert.AdamMlp.Gen.frame m g,
  fun m g _ => Cert.AdamMlpIdeal.Gen.frame m g,
  fun m g _ => Cert.Opt.AdamMlp.reference_quiet m g,
  fun m g _ => Cert.AdamRow.Gen.frame m g,
  fun m g _ => Cert.AdamRowIdeal.Gen.frame m g,
  fun m g _ => Cert.Opt.AdamRow.reference_quiet m g,
  fun m g _ => Cert.AdamNorm.Gen.frame m g,
  fun m g _ => Cert.AdamNormIdeal.Gen.frame m g,
  fun m g _ => Cert.Opt.AdamNorm.reference_quiet m g,
  fun m g _ => Cert.AdamRank.Gen.frame m g,
  fun m g _ => Cert.AdamRankIdeal.Gen.frame m g,
  fun m g _ => Cert.Opt.AdamRank.reference_quiet m g,
  fun m g _ => Cert.AdamCond.Gen.frame m g,
  fun m g _ => Cert.AdamCondIdeal.Gen.frame m g,
  fun m g _ => Cert.Opt.AdamCond.reference_quiet m g,
  fun m g _ => Cert.AdamShift.Gen.frame m g,
  fun m g _ => Cert.AdamShiftIdeal.Gen.frame m g,
  fun m g _ => Cert.Opt.AdamShift.reference_quiet m g,
  fun m g _ => Cert.AdamMixIn.Gen.frame m g,
  fun m g _ => Cert.AdamMixInIdeal.Gen.frame m g,
  fun m g _ => Cert.Opt.AdamMixIn.reference_quiet m g,
  fun m g _ => Cert.AdamMix.Gen.frame m g,
  fun m g _ => Cert.AdamMixIdeal.Gen.frame m g,
  fun m g _ => Cert.Opt.AdamMix.reference_quiet m g,
  fun m g _ => Cert.AdamGate.Gen.frame m g,
  fun m g _ => Cert.AdamGateIdeal.Gen.frame m g,
  fun m g _ => Cert.Opt.AdamGate.reference_quiet m g,
  fun m g _ => Cert.AdamBonus.Gen.frame m g,
  fun m g _ => Cert.AdamBonusIdeal.Gen.frame m g,
  fun m g _ => Cert.Opt.AdamBonus.reference_quiet m g,
  fun m g _ => Cert.AdamConv.Gen.frame m g,
  fun m g _ => Cert.AdamConvIdeal.Gen.frame m g,
  fun m g _ => Cert.Opt.AdamConv.reference_quiet m g,
  fun m g _ => Cert.AdamMixOut.Gen.frame m g,
  fun m g _ => Cert.AdamMixOutIdeal.Gen.frame m g,
  fun m g _ => Cert.Opt.AdamMixOut.reference_quiet m g,
  fun m g _ => Cert.AdamQkv.Gen.frame m g,
  fun m g _ => Cert.AdamQkvIdeal.Gen.frame m g,
  fun m g _ => Cert.Opt.AdamQkv.reference_quiet m g,
  fun m g _ => Cert.AdamAttOut.Gen.frame m g,
  fun m g _ => Cert.AdamAttOutIdeal.Gen.frame m g,
  fun m g _ => Cert.Opt.AdamAttOut.reference_quiet m g,
  fun m g _ => Cert.AdamRel.Gen.frame m g,
  fun m g _ => Cert.AdamRelIdeal.Gen.frame m g,
  fun m g _ => Cert.Opt.AdamRel.reference_quiet m g,
  trivial,
  algebraic,
  trivial,
  algebraic_GateGrad,
  trivial,
  algebraic_InGrad,
  trivial,
  algebraic_UpGrad,
  trivial,
  algebraic_DownGrad,
  trivial,
  algebraic_QkvInGrad,
  trivial,
  algebraic_QkvGrad,
  trivial,
  algebraic_Up,
  trivial,
  algebraic_Down,
  trivial,
  algebraic_Qkv,
  named Cert.AdamMlpIdeal.κ rfl rfl,
  algebraic_AdamMlp,
  named Cert.AdamRowIdeal.κ rfl rfl,
  algebraic_AdamRow,
  named Cert.AdamNormIdeal.κ rfl rfl,
  algebraic_AdamNorm,
  named Cert.AdamRankIdeal.κ rfl rfl,
  algebraic_AdamRank,
  named Cert.AdamCondIdeal.κ rfl rfl,
  algebraic_AdamCond,
  named Cert.AdamShiftIdeal.κ rfl rfl,
  algebraic_AdamShift,
  named Cert.AdamMixInIdeal.κ rfl rfl,
  algebraic_AdamMixIn,
  named Cert.AdamMixIdeal.κ rfl rfl,
  algebraic_AdamMix,
  named Cert.AdamGateIdeal.κ rfl rfl,
  algebraic_AdamGate,
  named Cert.AdamBonusIdeal.κ rfl rfl,
  algebraic_AdamBonus,
  named Cert.AdamConvIdeal.κ rfl rfl,
  algebraic_AdamConv,
  named Cert.AdamMixOutIdeal.κ rfl rfl,
  algebraic_AdamMixOut,
  named Cert.AdamQkvIdeal.κ rfl rfl,
  algebraic_AdamQkv,
  named Cert.AdamAttOutIdeal.κ rfl rfl,
  algebraic_AdamAttOut,
  named Cert.AdamRelIdeal.κ rfl rfl,
  algebraic_AdamRel⟩

end Cert.Proof

end
